-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_in_sample [hPre_in_sample : Cert.Pre_in_sample.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_sample.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_sample [hPre_in_sample : Cert.Pre_in_sample.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_sample.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_projection [hPre_finite_projection : Cert.Pre_finite_projection.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_projection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite_projection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite_projection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite_projection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_projection [hPre_finite_projection : Cert.Pre_finite_projection.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_projection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite_projection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite_projection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite_projection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_pool [hPre_finite_pool : Cert.Pre_finite_pool.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_pool.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_pool [hPre_finite_pool : Cert.Pre_finite_pool.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_pool.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_router [hPre_finite_router : Cert.Pre_finite_router.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_router [hPre_finite_router : Cert.Pre_finite_router.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_conditioning [hPre_finite_conditioning : Cert.Pre_finite_conditioning.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_conditioning.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite_conditioning.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite_conditioning.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_conditioning [hPre_finite_conditioning : Cert.Pre_finite_conditioning.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_conditioning.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite_conditioning.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite_conditioning.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_in_sample [hKernel2Ideal : Cert.Kernel2Ideal.Facts] [hPre_in_sample : Cert.Pre_in_sample.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_in_sample m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_sample [hReference2Ideal : Cert.Reference2Ideal.Facts] [hPre_in_sample : Cert.Pre_in_sample.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_sample m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_projection [hKernel3Ideal : Cert.Kernel3Ideal.Facts] [hPre_finite_projection : Cert.Pre_finite_projection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_projection m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_projection [hReference3Ideal : Cert.Reference3Ideal.Facts] [hPre_finite_projection : Cert.Pre_finite_projection.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_projection m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_pool [hKernel4Ideal : Cert.Kernel4Ideal.Facts] [hPre_finite_pool : Cert.Pre_finite_pool.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_pool m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_pool [hReference4Ideal : Cert.Reference4Ideal.Facts] [hPre_finite_pool : Cert.Pre_finite_pool.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_pool m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_router [hKernel5Ideal : Cert.Kernel5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_router m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_router [hReference5Ideal : Cert.Reference5Ideal.Facts] [hPre_finite_router : Cert.Pre_finite_router.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_router m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_conditioning [hKernel6Ideal : Cert.Kernel6Ideal.Facts] [hPre_finite_conditioning : Cert.Pre_finite_conditioning.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_conditioning m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_conditioning [hReference6Ideal : Cert.Reference6Ideal.Facts] [hPre_finite_conditioning : Cert.Pre_finite_conditioning.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_conditioning m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "log2e_scale" .f32 0x3E8293EE#32 (((Real.log 2)⁻¹ * (Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_in_sample [hKernel2Ideal : Cert.Kernel2Ideal.Facts] [hReference2Ideal : Cert.Reference2Ideal.Facts] [hPre_in_sample : Cert.Pre_in_sample.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_in_sample m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "log2e_scale" .f32 0x3E8293EE#32 (((Real.log 2)⁻¹ * (Real.sqrt 32)⁻¹ : ℝ) : EReal)

def algebraic_Kernel3Ideal_Reference3Ideal_pre_finite_projection [hKernel3Ideal : Cert.Kernel3Ideal.Facts] [hReference3Ideal : Cert.Reference3Ideal.Facts] [hPre_finite_projection : Cert.Pre_finite_projection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_projection m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v70_0)) (v1 : (c : Dev Cert.Kernel3Ideal.nD) → Buf (Elt Ideal) ((c.tc : Thread Cert.Kernel3Ideal.nD Cert.Kernel3Ideal.τ).loc Cert.Kernel3Ideal.main_v70_1)) (v2 : (c : Dev Cert.Kernel3Ideal.nD) → Buf (Elt Ideal) ((c.tc : Thread Cert.Kernel3Ideal.nD Cert.Kernel3Ideal.τ).loc Cert.Kernel3Ideal.main_v70_2)) (v3 : (c : Dev Cert.Kernel3Ideal.nD) → Buf (Elt Ideal) ((c.tc : Thread Cert.Kernel3Ideal.nD Cert.Kernel3Ideal.τ).loc Cert.Kernel3Ideal.main_v70_3)) (v4 : (c : Dev Cert.Kernel3Ideal.nD) → Buf (Elt Ideal) ((c.tc : Thread Cert.Kernel3Ideal.nD Cert.Kernel3Ideal.τ).loc Cert.Kernel3Ideal.main_v70_4)) (v5 : (c : Dev Cert.Kernel3Ideal.nD) → Buf (Elt Ideal) ((c.tc : Thread Cert.Kernel3Ideal.nD Cert.Kernel3Ideal.τ).loc Cert.Kernel3Ideal.main_v70_5)) (v6 : (c : Dev Cert.Kernel3Ideal.nD) → Buf (Elt Ideal) ((c.tc : Thread Cert.Kernel3Ideal.nD Cert.Kernel3Ideal.τ).loc Cert.Kernel3Ideal.main_v70_6)) (v7 : (c : Dev Cert.Kernel3Ideal.nD) → Buf (Elt Ideal) ((c.tc : Thread Cert.Kernel3Ideal.nD Cert.Kernel3Ideal.τ).loc Cert.Kernel3Ideal.main_v70_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v70_0) = v0 c
          ∧ r.2.mem ((c.tc : Thread Cert.Kernel3Ideal.nD Cert.Kernel3Ideal.τ).loc Cert.Kernel3Ideal.main_v70_1) = v1 c
          ∧ r.2.mem ((c.tc : Thread Cert.Kernel3Ideal.nD Cert.Kernel3Ideal.τ).loc Cert.Kernel3Ideal.main_v70_2) = v2 c
          ∧ r.2.mem ((c.tc : Thread Cert.Kernel3Ideal.nD Cert.Kernel3Ideal.τ).loc Cert.Kernel3Ideal.main_v70_3) = v3 c
          ∧ r.2.mem ((c.tc : Thread Cert.Kernel3Ideal.nD Cert.Kernel3Ideal.τ).loc Cert.Kernel3Ideal.main_v70_4) = v4 c
          ∧ r.2.mem ((c.tc : Thread Cert.Kernel3Ideal.nD Cert.Kernel3Ideal.τ).loc Cert.Kernel3Ideal.main_v70_5) = v5 c
          ∧ r.2.mem ((c.tc : Thread Cert.Kernel3Ideal.nD Cert.Kernel3Ideal.τ).loc Cert.Kernel3Ideal.main_v70_6) = v6 c
          ∧ r.2.mem ((c.tc : Thread Cert.Kernel3Ideal.nD Cert.Kernel3Ideal.τ).loc Cert.Kernel3Ideal.main_v70_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v209) = v0 c
          ∧ r.2.mem ((c.tc : Thread Cert.Reference3Ideal.nD Cert.Reference3Ideal.τ).loc Cert.Reference3Ideal.main_v212) = v1 c
          ∧ r.2.mem ((c.tc : Thread Cert.Reference3Ideal.nD Cert.Reference3Ideal.τ).loc Cert.Reference3Ideal.main_v81) = v2 c
          ∧ r.2.mem ((c.tc : Thread Cert.Reference3Ideal.nD Cert.Reference3Ideal.τ).loc Cert.Reference3Ideal.main_v82) = v3 c
          ∧ r.2.mem ((c.tc : Thread Cert.Reference3Ideal.nD Cert.Reference3Ideal.τ).loc Cert.Reference3Ideal.main_v219) = v4 c
          ∧ r.2.mem ((c.tc : Thread Cert.Reference3Ideal.nD Cert.Reference3Ideal.τ).loc Cert.Reference3Ideal.main_v223) = v5 c
          ∧ r.2.mem ((c.tc : Thread Cert.Reference3Ideal.nD Cert.Reference3Ideal.τ).loc Cert.Reference3Ideal.main_v225) = v6 c
          ∧ r.2.mem ((c.tc : Thread Cert.Reference3Ideal.nD Cert.Reference3Ideal.τ).loc Cert.Reference3Ideal.main_v228) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_pool [hKernel4Ideal : Cert.Kernel4Ideal.Facts] [hReference4Ideal : Cert.Reference4Ideal.Facts] [hPre_finite_pool : Cert.Pre_finite_pool.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_pool m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v164) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_finite_router [hKernel5Ideal : Cert.Kernel5Ideal.Facts] [hReference5Ideal : Cert.Reference5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_router m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_conditioning [hKernel6Ideal : Cert.Kernel6Ideal.Facts] [hReference6Ideal : Cert.Reference6Ideal.Facts] [hPre_finite_conditioning : Cert.Pre_finite_conditioning.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_conditioning m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_in_sample : Cert.Pre_in_sample.Facts) (hPre_finite_projection : Cert.Pre_finite_projection.Facts) (hPre_finite_pool : Cert.Pre_finite_pool.Facts) (hPre_finite_router : Cert.Pre_finite_router.Facts) (hPre_finite_conditioning : Cert.Pre_finite_conditioning.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_in_sample (hKernel2Ideal := hKernel2Ideal) (hPre_in_sample := hPre_in_sample)
    ∧ quiescent_Reference2Ideal (hReference2Ideal := hReference2Ideal)
    ∧ quiescent_Reference2Ideal_pre_in_sample (hReference2Ideal := hReference2Ideal) (hPre_in_sample := hPre_in_sample)
    ∧ quiescent_Kernel3 (hKernel3 := hKernel3)
    ∧ quiescent_Kernel3Ideal (hKernel3Ideal := hKernel3Ideal)
    ∧ quiescent_Kernel3Ideal_pre_finite_projection (hKernel3Ideal := hKernel3Ideal) (hPre_finite_projection := hPre_finite_projection)
    ∧ quiescent_Reference3Ideal (hReference3Ideal := hReference3Ideal)
    ∧ quiescent_Reference3Ideal_pre_finite_projection (hReference3Ideal := hReference3Ideal) (hPre_finite_projection := hPre_finite_projection)
    ∧ quiescent_Kernel4 (hKernel4 := hKernel4)
    ∧ quiescent_Kernel4Ideal (hKernel4Ideal := hKernel4Ideal)
    ∧ quiescent_Kernel4Ideal_pre_finite_pool (hKernel4Ideal := hKernel4Ideal) (hPre_finite_pool := hPre_finite_pool)
    ∧ quiescent_Reference4Ideal (hReference4Ideal := hReference4Ideal)
    ∧ quiescent_Reference4Ideal_pre_finite_pool (hReference4Ideal := hReference4Ideal) (hPre_finite_pool := hPre_finite_pool)
    ∧ quiescent_Kernel5 (hKernel5 := hKernel5)
    ∧ quiescent_Kernel5Ideal (hKernel5Ideal := hKernel5Ideal)
    ∧ quiescent_Kernel5Ideal_pre_finite_router (hKernel5Ideal := hKernel5Ideal) (hPre_finite_router := hPre_finite_router)
    ∧ quiescent_Reference5Ideal (hReference5Ideal := hReference5Ideal)
    ∧ quiescent_Reference5Ideal_pre_finite_router (hReference5Ideal := hReference5Ideal) (hPre_finite_router := hPre_finite_router)
    ∧ quiescent_Kernel6 (hKernel6 := hKernel6)
    ∧ quiescent_Kernel6Ideal (hKernel6Ideal := hKernel6Ideal)
    ∧ quiescent_Kernel6Ideal_pre_finite_conditioning (hKernel6Ideal := hKernel6Ideal) (hPre_finite_conditioning := hPre_finite_conditioning)
    ∧ quiescent_Reference6Ideal (hReference6Ideal := hReference6Ideal)
    ∧ quiescent_Reference6Ideal_pre_finite_conditioning (hReference6Ideal := hReference6Ideal) (hPre_finite_conditioning := hPre_finite_conditioning)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_in_sample (hKernel2Ideal := hKernel2Ideal) (hReference2Ideal := hReference2Ideal) (hPre_in_sample := hPre_in_sample)
    ∧ preserves_Kernel3_Kernel3Ideal
    ∧ algebraic_Kernel3Ideal_Reference3Ideal_pre_finite_projection (hKernel3Ideal := hKernel3Ideal) (hReference3Ideal := hReference3Ideal) (hPre_finite_projection := hPre_finite_projection)
    ∧ preserves_Kernel4_Kernel4Ideal
    ∧ algebraic_Kernel4Ideal_Reference4Ideal_pre_finite_pool (hKernel4Ideal := hKernel4Ideal) (hReference4Ideal := hReference4Ideal) (hPre_finite_pool := hPre_finite_pool)
    ∧ preserves_Kernel5_Kernel5Ideal
    ∧ algebraic_Kernel5Ideal_Reference5Ideal_pre_finite_router (hKernel5Ideal := hKernel5Ideal) (hReference5Ideal := hReference5Ideal) (hPre_finite_router := hPre_finite_router)
    ∧ preserves_Kernel6_Kernel6Ideal
    ∧ algebraic_Kernel6Ideal_Reference6Ideal_pre_finite_conditioning (hKernel6Ideal := hKernel6Ideal) (hReference6Ideal := hReference6Ideal) (hPre_finite_conditioning := hPre_finite_conditioning)
-- ==== Pre_finite.lean ====
abbrev S2x16384x256 : Shape := ⟨3, ![2, 16384, 256]⟩
abbrev S2x256x256 : Shape := ⟨3, ![2, 256, 256]⟩
abbrev S4x32 : Shape := ⟨2, ![4, 32]⟩
abbrev S64 : Shape := ⟨1, ![64]⟩
abbrev S_ : Shape := ⟨0, ![]⟩

class Facts : Prop where
  bcast_S_S2x16384x256 : S_.BroadcastsInDim S2x16384x256 (![] : Fin 0 → Fin S2x16384x256.rank)
  bcast_S_S2x256x256 : S_.BroadcastsInDim S2x256x256 (![] : Fin 0 → Fin S2x256x256.rank)
  bcast_S_S4x32 : S_.BroadcastsInDim S4x32 (![] : Fin 0 → Fin S4x32.rank)

variable [Facts]

def fn_part1 {F : FTy → Type} [FloatOps F] (main_arg3 : FVec F S2x256x256 .f32) (main_arg4 : FVec F S2x256x256 .f32) (main_arg5 : FVec F S4x32 .f32) (main_v4 : IVec S2x16384x256 1) (main_v9 : IVec S2x16384x256 1) (main_v14 : IVec S2x16384x256 1) (main_v16 : IVec S2x256x256 1) : IVec S2x16384x256 1 × IVec S2x16384x256 1 × IVec S2x16384x256 1 × IVec S2x256x256 1 × IVec S2x256x256 1 × IVec S4x32 1 :=
  let main_cst_6 : FVec F S_ .f32 := constant S_ .f32 0x7F800000#32
  let main_v17 : FVec F S2x256x256 .f32 := broadcastInDim S2x256x256 ![] bcast_S_S2x256x256 main_cst_6
  let main_v18 : IVec S2x256x256 1 := cmpf .olt main_arg3 main_v17
  let main_v19 : IVec S2x256x256 1 := andi main_v16 main_v18
  let main_cst_7 : FVec F S_ .f32 := constant S_ .f32 0xFF800000#32
  let main_v20 : FVec F S2x256x256 .f32 := broadcastInDim S2x256x256 ![] bcast_S_S2x256x256 main_cst_7
  let main_v21 : IVec S2x256x256 1 := cmpf .ogt main_arg4 main_v20
  let main_cst_8 : FVec F S_ .f32 := constant S_ .f32 0x7F800000#32
  let main_v22 : FVec F S2x256x256 .f32 := broadcastInDim S2x256x256 ![] bcast_S_S2x256x256 main_cst_8
  let main_v23 : IVec S2x256x256 1 := cmpf .olt main_arg4 main_v22
  let main_v24 : IVec S2x256x256 1 := andi main_v21 main_v23
  let main_cst_9 : FVec F S_ .f32 := constant S_ .f32 0xFF800000#32
  let main_v25 : FVec F S4x32 .f32 := broadcastInDim S4x32 ![] bcast_S_S4x32 main_cst_9
  let main_v26 : IVec S4x32 1 := cmpf .ogt main_arg5 main_v25
  let main_cst_10 : FVec F S_ .f32 := constant S_ .f32 0x7F800000#32
  let main_v27 : FVec F S4x32 .f32 := broadcastInDim S4x32 ![] bcast_S_S4x32 main_cst_10
  let main_v28 : IVec S4x32 1 := cmpf .olt main_arg5 main_v27
  let main_v29 : IVec S4x32 1 := andi main_v26 main_v28
  (main_v4, main_v9, main_v14, main_v19, main_v24, main_v29)

def fn {F : FTy → Type} [FloatOps F] (main_arg0 : FVec F S2x16384x256 .f32) (main_arg1 : FVec F S2x16384x256 .f32) (main_arg2 : FVec F S2x16384x256 .f32) (main_arg3 : FVec F S2x256x256 .f32) (main_arg4 : FVec F S2x256x256 .f32) (main_arg5 : FVec F S4x32 .f32) (main_arg6 : FVec F S64 .f32) : IVec S2x16384x256 1 × IVec S2x16384x256 1 × IVec S2x16384x256 1 × IVec S2x256x256 1 × IVec S2x256x256 1 × IVec S4x32 1 :=
  let main_cst : FVec F S_ .f32 := constant S_ .f32 0xFF800000#32
  let main_v0 : FVec F S2x16384x256 .f32 := broadcastInDim S2x16384x256 ![] bcast_S_S2x16384x256 main_cst
  let main_v1 : IVec S2x16384x256 1 := cmpf .ogt main_arg0 main_v0
  let main_cst_0 : FVec F S_ .f32 := constant S_ .f32 0x7F800000#32
  let main_v2 : FVec F S2x16384x256 .f32 := broadcastInDim S2x16384x256 ![] bcast_S_S2x16384x256 main_cst_0
  let main_v3 : IVec S2x16384x256 1 := cmpf .olt main_arg0 main_v2
  let main_v4 : IVec S2x16384x256 1 := andi main_v1 main_v3
  let main_cst_1 : FVec F S_ .f32 := constant S_ .f32 0xFF800000#32
  let main_v5 : FVec F S2x16384x256 .f32 := broadcastInDim S2x16384x256 ![] bcast_S_S2x16384x256 main_cst_1
  let main_v6 : IVec S2x16384x256 1 := cmpf .ogt main_arg1 main_v5
  let main_cst_2 : FVec F S_ .f32 := constant S_ .f32 0x7F800000#32
  let main_v7 : FVec F S2x16384x256 .f32 := broadcastInDim S2x16384x256 ![] bcast_S_S2x16384x256 main_cst_2
  let main_v8 : IVec S2x16384x256 1 := cmpf .olt main_arg1 main_v7
  let main_v9 : IVec S2x16384x256 1 := andi main_v6 main_v8
  let main_cst_3 : FVec F S_ .f32 := constant S_ .f32 0xFF800000#32
  let main_v10 : FVec F S2x16384x256 .f32 := broadcastInDim S2x16384x256 ![] bcast_S_S2x16384x256 main_cst_3
  let main_v11 : IVec S2x16384x256 1 := cmpf .ogt main_arg2 main_v10
  let main_cst_4 : FVec F S_ .f32 := constant S_ .f32 0x7F800000#32
  let main_v12 : FVec F S2x16384x256 .f32 := broadcastInDim S2x16384x256 ![] bcast_S_S2x16384x256 main_cst_4
  let main_v13 : IVec S2x16384x256 1 := cmpf .olt main_arg2 main_v12
  let main_v14 : IVec S2x16384x256 1 := andi main_v11 main_v13
  let main_cst_5 : FVec F S_ .f32 := constant S_ .f32 0xFF800000#32
  let main_v15 : FVec F S2x256x256 .f32 := broadcastInDim S2x256x256 ![] bcast_S_S2x256x256 main_cst_5
  let main_v16 : IVec S2x256x256 1 := cmpf .ogt main_arg3 main_v15
  fn_part1 (F := F) main_arg3 main_arg4 main_arg5 main_v4 main_v9 main_v14 main_v16
-- ==== Pre_finite_conditioning.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024x6144 : Shape := ⟨3, ![1, 1024, 6144]⟩
abbrev S1024x6144 : Shape := ⟨2, ![1024, 6144]⟩
abbrev S_ : Shape := ⟨0, ![]⟩

class Facts : Prop where
  slices_S2x1024x6144_S1x1024x6144_0_0_0 : S2x1024x6144.Slices ![0, 0, 0] S1x1024x6144
  shapeCasts_S1x1024x6144_S1024x6144 : S1x1024x6144.ShapeCasts S1024x6144
  bcast_S_S2x1024 : S_.BroadcastsInDim S2x1024 (![] : Fin 0 → Fin S2x1024.rank)
  bcast_S_S1024 : S_.BroadcastsInDim S1024 (![] : Fin 0 → Fin S1024.rank)
  bcast_S_S1024x6144 : S_.BroadcastsInDim S1024x6144 (![] : Fin 0 → Fin S1024x6144.rank)

variable [Facts]

def fn {F : FTy → Type} [FloatOps F] (main_arg0 : FVec F S2x1024 .f32) (main_arg1 : FVec F S1024 .f32) (main_arg2 : FVec F S2x1024x6144 .f32) (main_arg3 : FVec F S2x6144 .f32) : IVec S2x1024 1 × IVec S1024 1 × IVec S1024x6144 1 :=
  let main_v0 : FVec F S1x1024x6144 .f32 := (extractStridedSlice S1x1024x6144 ![0, 0, 0] · slices_S2x1024x6144_S1x1024x6144_0_0_0) main_arg2
  let main_v1 : FVec F S1024x6144 .f32 := shapeCast S1024x6144 main_v0 shapeCasts_S1x1024x6144_S1024x6144
  let main_cst : FVec F S_ .f32 := constant S_ .f32 0xFF800000#32
  let main_v2 : FVec F S2x1024 .f32 := broadcastInDim S2x1024 ![] bcast_S_S2x1024 main_cst
  let main_v3 : IVec S2x1024 1 := cmpf .ogt main_arg0 main_v2
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_arg0 main_v4
  let main_v6 : IVec S2x1024 1 := andi main_v3 main_v5
  let main_cst_1 : FVec F S_ .f32 := constant S_ .f32 0xFF800000#32
  let main_v7 : FVec F S1024 .f32 := broadcastInDim S1024 ![] bcast_S_S1024 main_cst_1
  let main_v8 : IVec S1024 1 := cmpf .ogt main_arg1 main_v7
  let main_cst_2 : FVec F S_ .f32 := constant S_ .f32 0x7F800000#32
  let main_v9 : FVec F S1024 .f32 := broadcastInDim S1024 ![] bcast_S_S1024 main_cst_2
  let main_v10 : IVec S1024 1 := cmpf .olt main_arg1 main_v9
  let main_v11 : IVec S1024 1 := andi main_v8 main_v10
  let main_cst_3 : FVec F S_ .f32 := constant S_ .f32 0xFF800000#32
  let main_v12 : FVec F S1024x6144 .f32 := broadcastInDim S1024x6144 ![] bcast_S_S1024x6144 main_cst_3
  let main_v13 : IVec S1024x6144 1 := cmpf .ogt main_v1 main_v12
  let main_cst_4 : FVec F S_ .f32 := constant S_ .f32 0x7F800000#32
  let main_v14 : FVec F S1024x6144 .f32 := broadcastInDim S1024x6144 ![] bcast_S_S1024x6144 main_cst_4
  let main_v15 : IVec S1024x6144 1 := cmpf .olt main_v1 main_v14
  let main_v16 : IVec S1024x6144 1 := andi main_v13 main_v15
  (main_v6, main_v11, main_v16)
-- ==== Pre_finite_pool.lean ====
abbrev S2x16384x1024 : Shape := ⟨3, ![2, 16384, 1024]⟩
abbrev S2x1x1024 : Shape := ⟨3, ![2, 1, 1024]⟩
abbrev S2x16384x256 : Shape := ⟨3, ![2, 16384, 256]⟩
abbrev S2x16384x4096 : Shape := ⟨3, ![2, 16384, 4096]⟩
abbrev S4x64x64 : Shape := ⟨3, ![4, 64, 64]⟩
abbrev S256 : Shape := ⟨1, ![256]⟩
abbrev S256x256 : Shape := ⟨2, ![256, 256]⟩
abbrev S4x256x1024 : Shape := ⟨3, ![4, 256, 1024]⟩
abbrev S1024x1024 : Shape := ⟨2, ![1024, 1024]⟩
abbrev S_ : Shape := ⟨0, ![]⟩

class Facts : Prop where
  bcast_S_S2x16384x256 : S_.BroadcastsInDim S2x16384x256 (![] : Fin 0 → Fin S2x16384x256.rank)

variable [Facts]

def fn {F : FTy → Type} [FloatOps F] (main_arg0 : FVec F S2x16384x1024 .f32) (main_arg1 : FVec F S2x1x1024 .f32) (main_arg2 : FVec F S2x16384x256 .f32) (main_arg3 : FVec F S2x16384x256 .f32) (main_arg4 : FVec F S2x16384x256 .f32) (main_arg5 : FVec F S2x16384x256 .f32) (main_arg6 : FVec F S2x16384x4096 .f32) (main_arg7 : FVec F S4x64x64 .f32) (main_arg8 : FVec F S256 .f32) (main_arg9 : FVec F S256x256 .f32) (main_arg10 : FVec F S4x256x1024 .f32) (main_arg11 : FVec F S1024x1024 .f32) : IVec S2x16384x256 1 :=
  let main_cst : FVec F S_ .f32 := constant S_ .f32 0xFF800000#32
  let main_v0 : FVec F S2x16384x256 .f32 := broadcastInDim S2x16384x256 ![] bcast_S_S2x16384x256 main_cst
  let main_v1 : IVec S2x16384x256 1 := cmpf .ogt main_arg4 main_v0
  let main_cst_0 : FVec F S_ .f32 := constant S_ .f32 0x7F800000#32
  let main_v2 : FVec F S2x16384x256 .f32 := broadcastInDim S2x16384x256 ![] bcast_S_S2x16384x256 main_cst_0
  let main_v3 : IVec S2x16384x256 1 := cmpf .olt main_arg4 main_v2
  let main_v4 : IVec S2x16384x256 1 := andi main_v1 main_v3
  main_v4
-- ==== Pre_finite_projection.lean ====
abbrev S2x16384x1024 : Shape := ⟨3, ![2, 16384, 1024]⟩
abbrev S2x1x1024 : Shape := ⟨3, ![2, 1, 1024]⟩
abbrev S1024 : Shape := ⟨1, ![1024]⟩
abbrev S1024x6144 : Shape := ⟨2, ![1024, 6144]⟩
abbrev S64 : Shape := ⟨1, ![64]⟩
abbrev S32 : Shape := ⟨1, ![32]⟩
abbrev S_ : Shape := ⟨0, ![]⟩

class Facts : Prop where
  bcast_S_S2x1x1024 : S_.BroadcastsInDim S2x1x1024 (![] : Fin 0 → Fin S2x1x1024.rank)
  bcast_S_S1024 : S_.BroadcastsInDim S1024 (![] : Fin 0 → Fin S1024.rank)
  bcast_S_S1024x6144 : S_.BroadcastsInDim S1024x6144 (![] : Fin 0 → Fin S1024x6144.rank)

variable [Facts]

def fn_part1 {F : FTy → Type} [FloatOps F] (main_arg4 : FVec F S1024x6144 .f32) (main_v4 : IVec S2x1x1024 1) (main_v9 : IVec S2x1x1024 1) (main_v14 : IVec S1024 1) (main_v16 : IVec S1024x6144 1) : IVec S2x1x1024 1 × IVec S2x1x1024 1 × IVec S1024 1 × IVec S1024x6144 1 :=
  let main_cst_6 : FVec F S_ .f32 := constant S_ .f32 0x7F800000#32
  let main_v17 : FVec F S1024x6144 .f32 := broadcastInDim S1024x6144 ![] bcast_S_S1024x6144 main_cst_6
  let main_v18 : IVec S1024x6144 1 := cmpf .olt main_arg4 main_v17
  let main_v19 : IVec S1024x6144 1 := andi main_v16 main_v18
  (main_v4, main_v9, main_v14, main_v19)

def fn {F : FTy → Type} [FloatOps F] (main_arg0 : FVec F S2x16384x1024 .f32) (main_arg1 : FVec F S2x1x1024 .f32) (main_arg2 : FVec F S2x1x1024 .f32) (main_arg3 : FVec F S1024 .f32) (main_arg4 : FVec F S1024x6144 .f32) (main_arg5 : FVec F S64 .f32) (main_arg6 : FVec F S64 .f32) (main_arg7 : FVec F S32 .f32) (main_arg8 : FVec F S32 .f32) : IVec S2x1x1024 1 × IVec S2x1x1024 1 × IVec S1024 1 × IVec S1024x6144 1 :=
  let main_cst : FVec F S_ .f32 := constant S_ .f32 0xFF800000#32
  let main_v0 : FVec F S2x1x1024 .f32 := broadcastInDim S2x1x1024 ![] bcast_S_S2x1x1024 main_cst
  let main_v1 : IVec S2x1x1024 1 := cmpf .ogt main_arg1 main_v0
  let main_cst_0 : FVec F S_ .f32 := constant S_ .f32 0x7F800000#32
  let main_v2 : FVec F S2x1x1024 .f32 := broadcastInDim S2x1x1024 ![] bcast_S_S2x1x1024 main_cst_0
  let main_v3 : IVec S2x1x1024 1 := cmpf .olt main_arg1 main_v2
  let main_v4 : IVec S2x1x1024 1 := andi main_v1 main_v3
  let main_cst_1 : FVec F S_ .f32 := constant S_ .f32 0xFF800000#32
  let main_v5 : FVec F S2x1x1024 .f32 := broadcastInDim S2x1x1024 ![] bcast_S_S2x1x1024 main_cst_1
  let main_v6 : IVec S2x1x1024 1 := cmpf .ogt main_arg2 main_v5
  let main_cst_2 : FVec F S_ .f32 := constant S_ .f32 0x7F800000#32
  let main_v7 : FVec F S2x1x1024 .f32 := broadcastInDim S2x1x1024 ![] bcast_S_S2x1x1024 main_cst_2
  let main_v8 : IVec S2x1x1024 1 := cmpf .olt main_arg2 main_v7
  let main_v9 : IVec S2x1x1024 1 := andi main_v6 main_v8
  let main_cst_3 : FVec F S_ .f32 := constant S_ .f32 0xFF800000#32
  let main_v10 : FVec F S1024 .f32 := broadcastInDim S1024 ![] bcast_S_S1024 main_cst_3
  let main_v11 : IVec S1024 1 := cmpf .ogt main_arg3 main_v10
  let main_cst_4 : FVec F S_ .f32 := constant S_ .f32 0x7F800000#32
  let main_v12 : FVec F S1024 .f32 := broadcastInDim S1024 ![] bcast_S_S1024 main_cst_4
  let main_v13 : IVec S1024 1 := cmpf .olt main_arg3 main_v12
  let main_v14 : IVec S1024 1 := andi main_v11 main_v13
  let main_cst_5 : FVec F S_ .f32 := constant S_ .f32 0xFF800000#32
  let main_v15 : FVec F S1024x6144 .f32 := broadcastInDim S1024x6144 ![] bcast_S_S1024x6144 main_cst_5
  let main_v16 : IVec S1024x6144 1 := cmpf .ogt main_arg4 main_v15
  fn_part1 (F := F) main_arg4 main_v4 main_v9 main_v14 main_v16
-- ==== Pre_finite_router.lean ====
abbrev S2x16384x1024 : Shape := ⟨3, ![2, 16384, 1024]⟩
abbrev S2x1x1024 : Shape := ⟨3, ![2, 1, 1024]⟩
abbrev S1024 : Shape := ⟨1, ![1024]⟩
abbrev S1024x16 : Shape := ⟨2, ![1024, 16]⟩
abbrev S_ : Shape := ⟨0, ![]⟩

class Facts : Prop where
  bcast_S_S2x1x1024 : S_.BroadcastsInDim S2x1x1024 (![] : Fin 0 → Fin S2x1x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn_part1 {F : FTy → Type} [FloatOps F] (main_arg4 : FVec F S1024x16 .f32) (main_v4 : IVec S2x1x1024 1) (main_v9 : IVec S2x1x1024 1) (main_v14 : IVec S1024 1) (main_v16 : IVec S1024x16 1) : IVec S2x1x1024 1 × IVec S2x1x1024 1 × IVec S1024 1 × IVec S1024x16 1 :=
  let main_cst_6 : FVec F S_ .f32 := constant S_ .f32 0x7F800000#32
  let main_v17 : FVec F S1024x16 .f32 := broadcastInDim S1024x16 ![] bcast_S_S1024x16 main_cst_6
  let main_v18 : IVec S1024x16 1 := cmpf .olt main_arg4 main_v17
  let main_v19 : IVec S1024x16 1 := andi main_v16 main_v18
  (main_v4, main_v9, main_v14, main_v19)

def fn {F : FTy → Type} [FloatOps F] (main_arg0 : FVec F S2x16384x1024 .f32) (main_arg1 : FVec F S2x1x1024 .f32) (main_arg2 : FVec F S2x1x1024 .f32) (main_arg3 : FVec F S1024 .f32) (main_arg4 : FVec F S1024x16 .f32) : IVec S2x1x1024 1 × IVec S2x1x1024 1 × IVec S1024 1 × IVec S1024x16 1 :=
  let main_cst : FVec F S_ .f32 := constant S_ .f32 0xFF800000#32
  let main_v0 : FVec F S2x1x1024 .f32 := broadcastInDim S2x1x1024 ![] bcast_S_S2x1x1024 main_cst
  let main_v1 : IVec S2x1x1024 1 := cmpf .ogt main_arg1 main_v0
  let main_cst_0 : FVec F S_ .f32 := constant S_ .f32 0x7F800000#32
  let main_v2 : FVec F S2x1x1024 .f32 := broadcastInDim S2x1x1024 ![] bcast_S_S2x1x1024 main_cst_0
  let main_v3 : IVec S2x1x1024 1 := cmpf .olt main_arg1 main_v2
  let main_v4 : IVec S2x1x1024 1 := andi main_v1 main_v3
  let main_cst_1 : FVec F S_ .f32 := constant S_ .f32 0xFF800000#32
  let main_v5 : FVec F S2x1x1024 .f32 := broadcastInDim S2x1x1024 ![] bcast_S_S2x1x1024 main_cst_1
  let main_v6 : IVec S2x1x1024 1 := cmpf .ogt main_arg2 main_v5
  let main_cst_2 : FVec F S_ .f32 := constant S_ .f32 0x7F800000#32
  let main_v7 : FVec F S2x1x1024 .f32 := broadcastInDim S2x1x1024 ![] bcast_S_S2x1x1024 main_cst_2
  let main_v8 : IVec S2x1x1024 1 := cmpf .olt main_arg2 main_v7
  let main_v9 : IVec S2x1x1024 1 := andi main_v6 main_v8
  let main_cst_3 : FVec F S_ .f32 := constant S_ .f32 0xFF800000#32
  let main_v10 : FVec F S1024 .f32 := broadcastInDim S1024 ![] bcast_S_S1024 main_cst_3
  let main_v11 : IVec S1024 1 := cmpf .ogt main_arg3 main_v10
  let main_cst_4 : FVec F S_ .f32 := constant S_ .f32 0x7F800000#32
  let main_v12 : FVec F S1024 .f32 := broadcastInDim S1024 ![] bcast_S_S1024 main_cst_4
  let main_v13 : IVec S1024 1 := cmpf .olt main_arg3 main_v12
  let main_v14 : IVec S1024 1 := andi main_v11 main_v13
  let main_cst_5 : FVec F S_ .f32 := constant S_ .f32 0xFF800000#32
  let main_v15 : FVec F S1024x16 .f32 := broadcastInDim S1024x16 ![] bcast_S_S1024x16 main_cst_5
  let main_v16 : IVec S1024x16 1 := cmpf .ogt main_arg4 main_v15
  fn_part1 (F := F) main_arg4 main_v4 main_v9 main_v14 main_v16
-- ==== Pre_in_sample.lean ====
abbrev S2x16384x1024 : Shape := ⟨3, ![2, 16384, 1024]⟩
abbrev S2x16x2048 : Shape := ⟨3, ![2, 16, 2048]⟩
abbrev S2x16x1024x1408 : Shape := ⟨4, ![2, 16, 1024, 1408]⟩
abbrev S2x16x1408x1024 : Shape := ⟨4, ![2, 16, 1408, 1024]⟩
abbrev S_ : Shape := ⟨0, ![]⟩

class Facts : Prop where
  bcast_S_S2x16x2048 : S_.BroadcastsInDim S2x16x2048 (![] : Fin 0 → Fin S2x16x2048.rank)

variable [Facts]

def fn {F : FTy → Type} [FloatOps F] (main_arg0 : FVec F S2x16384x1024 .f32) (main_arg1 : IVec S2x16x2048 32) (main_arg2 : FVec F S2x16x2048 .f32) (main_arg3 : FVec F S2x16x1024x1408 .f32) (main_arg4 : FVec F S2x16x1024x1408 .f32) (main_arg5 : FVec F S2x16x1408x1024 .f32) : IVec S2x16x2048 1 :=
  let main_c : IVec S_ 32 := constantI S_ 32 0#32
  let main_v0 : IVec S2x16x2048 32 := broadcastInDim S2x16x2048 ![] bcast_S_S2x16x2048 main_c
  let main_v1 : IVec S2x16x2048 1 := cmpi .sge main_arg1 main_v0
  let main_c_0 : IVec S_ 32 := constantI S_ 32 16384#32
  let main_v2 : IVec S2x16x2048 32 := broadcastInDim S2x16x2048 ![] bcast_S_S2x16x2048 main_c_0
  let main_v3 : IVec S2x16x2048 1 := cmpi .slt main_arg1 main_v2
  let main_v4 : IVec S2x16x2048 1 := andi main_v1 main_v3
  main_v4
-- ==== Kernel.lean ====
abbrev S2x16384x256 : Shape := ⟨3, ![2, 16384, 256]⟩
abbrev S2x256x256 : Shape := ⟨3, ![2, 256, 256]⟩
abbrev S4x32 : Shape := ⟨2, ![4, 32]⟩
abbrev S64 : Shape := ⟨1, ![64]⟩
abbrev S2x256x16384 : Shape := ⟨3, ![2, 256, 16384]⟩
abbrev S2x16640x256 : Shape := ⟨3, ![2, 16640, 256]⟩
abbrev S2x256x16640 : Shape := ⟨3, ![2, 256, 16640]⟩
abbrev S64x1 : Shape := ⟨2, ![64, 1]⟩
abbrev S1x256x2048 : Shape := ⟨3, ![1, 256, 2048]⟩
abbrev S1x16640x256 : Shape := ⟨3, ![1, 16640, 256]⟩
abbrev S1x64x16640 : Shape := ⟨3, ![1, 64, 16640]⟩
abbrev S1x64x2048 : Shape := ⟨3, ![1, 64, 2048]⟩
abbrev S2x256x2048 : Shape := ⟨3, ![2, 256, 2048]⟩
abbrev S2x1x2048 : Shape := ⟨3, ![2, 1, 2048]⟩
abbrev S2x8x2048 : Shape := ⟨3, ![2, 8, 2048]⟩
abbrev S2x64x2048 : Shape := ⟨3, ![2, 64, 2048]⟩
abbrev S256x2048 : Shape := ⟨2, ![256, 2048]⟩
abbrev S1x3328x256 : Shape := ⟨3, ![1, 3328, 256]⟩
abbrev S3328x256 : Shape := ⟨2, ![3328, 256]⟩
abbrev S1x64x3328 : Shape := ⟨3, ![1, 64, 3328]⟩
abbrev S64x3328 : Shape := ⟨2, ![64, 3328]⟩
abbrev S3328x2048 : Shape := ⟨2, ![3328, 2048]⟩
abbrev S1x8x2048 : Shape := ⟨3, ![1, 8, 2048]⟩
abbrev S8x2048 : Shape := ⟨2, ![8, 2048]⟩
abbrev S416x8x2048 : Shape := ⟨3, ![416, 8, 2048]⟩
abbrev S64x2048 : Shape := ⟨2, ![64, 2048]⟩
abbrev S1x32 : Shape := ⟨2, ![1, 32]⟩
abbrev S1 : Shape := ⟨1, ![1]⟩
abbrev S1x1 : Shape := ⟨2, ![1, 1]⟩
abbrev S2048 : Shape := ⟨1, ![2048]⟩
abbrev S1x2048 : Shape := ⟨2, ![1, 2048]⟩

abbrev nBuf : Space → Nat
  | .hbm => 19
  | .vmem => 13
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x256x256, .f32⟩
  | .hbm, ⟨4, _⟩ => ⟨S2x256x256, .f32⟩
  | .hbm, ⟨5, _⟩ => ⟨S4x32, .f32⟩
  | .hbm, ⟨6, _⟩ => ⟨S64, .f32⟩
  | .hbm, ⟨7, _⟩ => ⟨S2x256x16384, .f32⟩
  | .hbm, ⟨8, _⟩ => ⟨S2x256x16384, .bf16⟩
  | .hbm, ⟨9, _⟩ => ⟨S2x16384x256, .bf16⟩
  | .hbm, ⟨10, _⟩ => ⟨S2x256x256, .bf16⟩
  | .hbm, ⟨11, _⟩ => ⟨S2x16640x256, .bf16⟩
  | .hbm, ⟨12, _⟩ => ⟨S2x256x16384, .f32⟩
  | .hbm, ⟨13, _⟩ => ⟨S2x256x16384, .bf16⟩
  | .hbm, ⟨14, _⟩ => ⟨S2x256x256, .f32⟩
  | .hbm, ⟨15, _⟩ => ⟨S2x256x256, .bf16⟩
  | .hbm, ⟨16, _⟩ => ⟨S2x256x16640, .bf16⟩
  | .hbm, ⟨17, _⟩ => ⟨S64x1, .f32⟩
  | .hbm, ⟨18, _⟩ => ⟨S2x256x16384, .f32⟩
  | .local _ .vmem, ⟨0, _⟩ => ⟨S4x32, .f32⟩
  | .local _ .vmem, ⟨1, _⟩ => ⟨S64x1, .f32⟩
  | .local _ .vmem, ⟨2, _⟩ => ⟨S1x256x2048, .bf16⟩
  | .local _ .vmem, ⟨3, _⟩ => ⟨S1x256x2048, .bf16⟩
  | .local _ .vmem, ⟨4, _⟩ => ⟨S1x16640x256, .bf16⟩
  | .local _ .vmem, ⟨5, _⟩ => ⟨S1x64x16640, .bf16⟩
  | .local _ .vmem, ⟨6, _⟩ => ⟨S1x64x16640, .bf16⟩
  | .local _ .vmem, ⟨7, _⟩ => ⟨S1x64x2048, .f32⟩
  | .local _ .vmem, ⟨8, _⟩ => ⟨S1x64x2048, .f32⟩
  | .local _ .vmem, ⟨9, _⟩ => ⟨S2x256x2048, .bf16⟩
  | .local _ .vmem, ⟨10, _⟩ => ⟨S2x1x2048, .f32⟩
  | .local _ .vmem, ⟨11, _⟩ => ⟨S2x8x2048, .f32⟩
  | .local _ .vmem, ⟨12, _⟩ => ⟨S2x64x2048, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![2, 4, 8], ![false, false, false]⟩

@[reducible] def k0_t1_loop : Scf.Loop 32 :=
  let c0_i32_28 : BitVec 32 := 0#32
  let c5_i32 : BitVec 32 := 5#32
  let v61 : BitVec 32 := Scalar.addi c0_i32_28 c5_i32
  let c1_i32_29 : BitVec 32 := 1#32
  ⟨c0_i32_28, v61, c1_i32_29⟩
def k0_mult1 (k0_t1 : Fin k0_t1_loop.trips) : BitVec 32 :=
  let c0_i32_28 : BitVec 32 := 0#32
  let c1_i32_29 : BitVec 32 := 1#32
  let arg13 : BitVec 32 := Scf.iv c0_i32_28 c1_i32_29 k0_t1
  let c3328_i32 : BitVec 32 := 3328#32
  let v116 : BitVec 32 := Scalar.muli arg13 c3328_i32
  v116
def k0_off1 (k0_t1 : Fin k0_t1_loop.trips) : Fin 3 → Nat :=
  let c0_59 : Index := 0#32
  let c0_i32_28 : BitVec 32 := 0#32
  let c1_i32_29 : BitVec 32 := 1#32
  let arg13 : BitVec 32 := Scf.iv c0_i32_28 c1_i32_29 k0_t1
  let c3328_i32 : BitVec 32 := 3328#32
  let v116 : BitVec 32 := Scalar.muli arg13 c3328_i32
  let v117 : BitVec 32 := v116
  let v118 : Index := Scalar.indexCast v117
  let c0_60 : Index := 0#32
  ![0, v118.toNat, 0]
def k0_off2 (k0_t1 : Fin k0_t1_loop.trips) : Fin 3 → Nat :=
  let c0_61 : Index := 0#32
  let c0_62 : Index := 0#32
  let c0_i32_28 : BitVec 32 := 0#32
  let c1_i32_29 : BitVec 32 := 1#32
  let arg13 : BitVec 32 := Scf.iv c0_i32_28 c1_i32_29 k0_t1
  let c3328_i32 : BitVec 32 := 3328#32
  let v116 : BitVec 32 := Scalar.muli arg13 c3328_i32
  let v117 : BitVec 32 := v116
  let v121 : Index := Scalar.indexCast v117
  ![0, 0, v121.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x16640x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x64x16640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e_scale" => some (((Real.log 2)⁻¹ * (Real.sqrt 32)⁻¹ : ℝ) : EReal)
  | _ => none
-- ==== ReferenceIdeal.lean ====
abbrev S2x16384x256 : Shape := ⟨3, ![2, 16384, 256]⟩
abbrev S2x256x256 : Shape := ⟨3, ![2, 256, 256]⟩
abbrev S4x32 : Shape := ⟨2, ![4, 32]⟩
abbrev S64 : Shape := ⟨1, ![64]⟩
abbrev S1x32 : Shape := ⟨2, ![1, 32]⟩
abbrev S32 : Shape := ⟨1, ![32]⟩
abbrev S_ : Shape := ⟨0, ![]⟩
abbrev S2x16384x4x2x32 : Shape := ⟨5, ![2, 16384, 4, 2, 32]⟩
abbrev S2x16640x256 : Shape := ⟨3, ![2, 16640, 256]⟩
abbrev S2x16640x4x2x32 : Shape := ⟨5, ![2, 16640, 4, 2, 32]⟩
abbrev S2x16640x4x64 : Shape := ⟨4, ![2, 16640, 4, 64]⟩
abbrev S2x4x2x16384x16640 : Shape := ⟨5, ![2, 4, 2, 16384, 16640]⟩
abbrev S2x4x2x16384 : Shape := ⟨4, ![2, 4, 2, 16384]⟩
abbrev S2x4x2x16384x1 : Shape := ⟨5, ![2, 4, 2, 16384, 1]⟩
abbrev S2x4x1x16384x16640 : Shape := ⟨5, ![2, 4, 1, 16384, 16640]⟩
abbrev S2x4x16384x16640 : Shape := ⟨4, ![2, 4, 16384, 16640]⟩
abbrev S2x4x64x16384 : Shape := ⟨4, ![2, 4, 64, 16384]⟩
abbrev S2x16384x4x64 : Shape := ⟨4, ![2, 16384, 4, 64]⟩
abbrev S2x16384x4 : Shape := ⟨3, ![2, 16384, 4]⟩
abbrev S2x16384x4x1 : Shape := ⟨4, ![2, 16384, 4, 1]⟩
abbrev S1x1x1x64 : Shape := ⟨4, ![1, 1, 1, 64]⟩
abbrev S2x256x16384 : Shape := ⟨3, ![2, 256, 16384]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x256x256, .f32⟩
  | .hbm, ⟨4, _⟩ => ⟨S2x256x256, .f32⟩
  | .hbm, ⟨5, _⟩ => ⟨S4x32, .f32⟩
  | .hbm, ⟨6, _⟩ => ⟨S64, .f32⟩
  | .hbm, ⟨7, _⟩ => ⟨S1x32, .f32⟩
  | .hbm, ⟨8, _⟩ => ⟨S32, .f32⟩
  | .hbm, ⟨9, _⟩ => ⟨S1x32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x16384x4x2x32, .f32⟩
  | .hbm, ⟨27, _⟩ => ⟨S2x16640x256, .f32⟩
  | .hbm, ⟨28, _⟩ => ⟨S2x16640x4x2x32, .f32⟩
  | .hbm, ⟨29, _⟩ => ⟨S2x16640x256, .f32⟩
  | .hbm, ⟨30, _⟩ => ⟨S2x16640x4x64, .f32⟩
  | .hbm, ⟨31, _⟩ => ⟨S2x4x2x16384x16640, .f32⟩
  | .hbm, ⟨32, _⟩ => ⟨S_, .f32⟩
  | .hbm, ⟨33, _⟩ => ⟨S_, .f32⟩
  | .hbm, ⟨34, _⟩ => ⟨S2x4x2x16384x16640, .f32⟩
  | .hbm, ⟨35, _⟩ => ⟨S2x4x2x16384x16640, .f32⟩
  | .hbm, ⟨36, _⟩ => ⟨S_, .f32⟩
  | .hbm, ⟨37, _⟩ => ⟨S2x4x2x16384, .f32⟩
  | .hbm, ⟨38, _⟩ => ⟨S_, .f32⟩
  | .hbm, ⟨39, _⟩ => ⟨S2x4x2x16384, .f32⟩
  | .hbm, ⟨40, _⟩ => ⟨S2x4x2x16384, .f32⟩
  | .hbm, ⟨41, _⟩ => ⟨S2x4x2x16384x1, .f32⟩
  | .hbm, ⟨42, _⟩ => ⟨S2x4x2x16384x16640, .f32⟩
  | .hbm, ⟨43, _⟩ => ⟨S2x4x2x16384x16640, .f32⟩
  | .hbm, ⟨44, _⟩ => ⟨S2x4x2x16384x16640, .f32⟩
  | .hbm, ⟨45, _⟩ => ⟨S_, .f32⟩
  | .hbm, ⟨46, _⟩ => ⟨S2x4x2x16384, .f32⟩
  | .hbm, ⟨47, _⟩ => ⟨S2x4x2x16384x1, .f32⟩
  | .hbm, ⟨48, _⟩ => ⟨S2x4x2x16384x16640, .f32⟩
  | .hbm, ⟨49, _⟩ => ⟨S2x4x2x16384x16640, .f32⟩
  | .hbm, ⟨50, _⟩ => ⟨S2x4x1x16384x16640, .f32⟩
  | .hbm, ⟨51, _⟩ => ⟨S2x4x16384x16640, .f32⟩
  | .hbm, ⟨52, _⟩ => ⟨S2x4x1x16384x16640, .f32⟩
  | .hbm, ⟨53, _⟩ => ⟨S2x4x16384x16640, .f32⟩
  | .hbm, ⟨54, _⟩ => ⟨S2x4x16384x16640, .f32⟩
  | .hbm, ⟨55, _⟩ => ⟨S2x4x16384x16640, .f32⟩
  | .hbm, ⟨56, _⟩ => ⟨S2x4x16384x16640, .f32⟩
  | .hbm, ⟨57, _⟩ => ⟨S2x4x64x16384, .f32⟩
  | .hbm, ⟨58, _⟩ => ⟨S2x16384x4x64, .f32⟩
  | .hbm, ⟨59, _⟩ => ⟨S2x16384x4x64, .f32⟩
  | .hbm, ⟨60, _⟩ => ⟨S_, .f32⟩
  | .hbm, ⟨61, _⟩ => ⟨S2x16384x4, .f32⟩
  | .hbm, ⟨62, _⟩ => ⟨S2x16384x4x1, .f32⟩
  | .hbm, ⟨63, _⟩ => ⟨S_, .f32⟩
  | .hbm, ⟨64, _⟩ => ⟨S2x16384x4x1, .f32⟩
  | .hbm, ⟨65, _⟩ => ⟨S2x16384x4x1, .f32⟩
  | .hbm, ⟨66, _⟩ => ⟨S_, .f32⟩
  | .hbm, ⟨67, _⟩ => ⟨S2x16384x4x1, .f32⟩
  | .hbm, ⟨68, _⟩ => ⟨S2x16384x4x1, .f32⟩
  | .hbm, ⟨69, _⟩ => ⟨S2x16384x4x1, .f32⟩
  | .hbm, ⟨70, _⟩ => ⟨S2x16384x4x64, .f32⟩
  | .hbm, ⟨71, _⟩ => ⟨S2x16384x4x64, .f32⟩
  | .hbm, ⟨72, _⟩ => ⟨S1x1x1x64, .f32⟩
  | .hbm, ⟨73, _⟩ => ⟨S2x16384x4x64, .f32⟩
  | .hbm, ⟨74, _⟩ => ⟨S2x16384x4x64, .f32⟩
  | .hbm, ⟨75, _⟩ => ⟨S_, .f32⟩
  | .hbm, ⟨76, _⟩ => ⟨S2x16384x4x64, .f32⟩
  | .hbm, ⟨77, _⟩ => ⟨S2x16384x4x64, .f32⟩
  | .hbm, ⟨78, _⟩ => ⟨S2x16384x256, .f32⟩
  | .hbm, ⟨79, _⟩ => ⟨S2x256x16384, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16x2048 : Shape := ⟨3, ![2, 16, 2048]⟩
abbrev S2x16x1024x1408 : Shape := ⟨4, ![2, 16, 1024, 1408]⟩
abbrev S2x16x1408x1024 : Shape := ⟨4, ![2, 16, 1408, 1024]⟩
abbrev S2 : Shape := ⟨1, ![2]⟩
abbrev S_ : Shape := ⟨0, ![]⟩
abbrev S2x1x1 : Shape := ⟨3, ![2, 1, 1]⟩
abbrev S65536 : Shape := ⟨1, ![65536]⟩
abbrev S32768x1024 : Shape := ⟨2, ![32768, 1024]⟩
abbrev S65536x1 : Shape := ⟨2, ![65536, 1]⟩
abbrev S65536x1024 : Shape := ⟨2, ![65536, 1024]⟩
abbrev S2x16x2048x1024 : Shape := ⟨4, ![2, 16, 2048, 1024]⟩
abbrev S2x16x1x2048 : Shape := ⟨4, ![2, 16, 1, 2048]⟩
abbrev S1x1x512x1024 : Shape := ⟨4, ![1, 1, 512, 1024]⟩
abbrev S1x1x1x512 : Shape := ⟨4, ![1, 1, 1, 512]⟩
abbrev S1x1x1024x1408 : Shape := ⟨4, ![1, 1, 1024, 1408]⟩
abbrev S1x1x1408x1024 : Shape := ⟨4, ![1, 1, 1408, 1024]⟩
abbrev S512x1024 : Shape := ⟨2, ![512, 1024]⟩
abbrev S1x1x1024x512 : Shape := ⟨4, ![1, 1, 1024, 512]⟩
abbrev S1024x512 : Shape := ⟨2, ![1024, 512]⟩
abbrev S512x512 : Shape := ⟨2, ![512, 512]⟩
abbrev S1x1x1024x384 : Shape := ⟨4, ![1, 1, 1024, 384]⟩
abbrev S1024x384 : Shape := ⟨2, ![1024, 384]⟩
abbrev S512x384 : Shape := ⟨2, ![512, 384]⟩
abbrev S1x1x384x1024 : Shape := ⟨4, ![1, 1, 384, 1024]⟩
abbrev S384x1024 : Shape := ⟨2, ![384, 1024]⟩
abbrev S1x512 : Shape := ⟨2, ![1, 512]⟩
abbrev S8x512 : Shape := ⟨2, ![8, 512]⟩
abbrev S512x8 : Shape := ⟨2, ![512, 8]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x16x2048, .i32⟩
  | .hbm, ⟨2, _⟩ => ⟨S2x16x2048, .f32⟩
  | .hbm, ⟨3, _⟩ => ⟨S2x16x1024x1408, .f32⟩
  | .hbm, ⟨4, _⟩ => ⟨S2x16x1024x1408, .f32⟩
  | .hbm, ⟨5, _⟩ => ⟨S2x16x1408x1024, .f32⟩
  | .hbm, ⟨6, _⟩ => ⟨S2x16384x1024, .bf16⟩
  | .hbm, ⟨7, _⟩ => ⟨S2, .i32⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2x1x1, .i32⟩
  | .hbm, ⟨12, _⟩ => ⟨S2x16x2048, .i32⟩
  | .hbm, ⟨13, _⟩ => ⟨S2x16x2048, .i32⟩
  | .hbm, ⟨14, _⟩ => ⟨S65536, .i32⟩
  | .hbm, ⟨15, _⟩ => ⟨S32768x1024, .bf16⟩
  | .hbm, ⟨16, _⟩ => ⟨S65536x1, .i32⟩
  | .hbm, ⟨17, _⟩ => ⟨S65536x1024, .bf16⟩
  | .hbm, ⟨18, _⟩ => ⟨S2x16x2048x1024, .bf16⟩
  | .hbm, ⟨19, _⟩ => ⟨S2x16x1x2048, .f32⟩
  | .hbm, ⟨20, _⟩ => ⟨S2x16x2048x1024, .bf16⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x1x512, .f32⟩
  | .local _ .vmem, ⟨3, _⟩ => ⟨S1x1x1x512, .f32⟩
  | .local _ .vmem, ⟨4, _⟩ => ⟨S1x1x1024x1408, .f32⟩
  | .local _ .vmem, ⟨5, _⟩ => ⟨S1x1x1024x1408, .f32⟩
  | .local _ .vmem, ⟨6, _⟩ => ⟨S1x1x1024x1408, .f32⟩
  | .local _ .vmem, ⟨7, _⟩ => ⟨S1x1x1024x1408, .f32⟩
  | .local _ .vmem, ⟨8, _⟩ => ⟨S1x1x1408x1024, .f32⟩
  | .local _ .vmem, ⟨9, _⟩ => ⟨S1x1x1408x1024, .f32⟩
  | .local _ .vmem, ⟨10, _⟩ => ⟨S1x1x512x1024, .bf16⟩
  | .local _ .vmem, ⟨11, _⟩ => ⟨S1x1x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S2x16384x1024 : Shape := ⟨3, ![2, 16384, 1024]⟩
abbrev S2x16x2048 : Shape := ⟨3, ![2, 16, 2048]⟩
abbrev S2x16x1024x1408 : Shape := ⟨4, ![2, 16, 1024, 1408]⟩
abbrev S2x16x1408x1024 : Shape := ⟨4, ![2, 16, 1408, 1024]⟩
abbrev S1x16x1024x1408 : Shape := ⟨4, ![1, 16, 1024, 1408]⟩
abbrev S16x1024x1408 : Shape := ⟨3, ![16, 1024, 1408]⟩
abbrev S1x16x1408x1024 : Shape := ⟨4, ![1, 16, 1408, 1024]⟩
abbrev S16x1408x1024 : Shape := ⟨3, ![16, 1408, 1024]⟩
abbrev S2 : Shape := ⟨1, ![2]⟩
abbrev S2x1x1 : Shape := ⟨3, ![2, 1, 1]⟩
abbrev S_ : Shape := ⟨0, ![]⟩
abbrev S2x16x2048x1 : Shape := ⟨4, ![2, 16, 2048, 1]⟩
abbrev S2x16x2048x2 : Shape := ⟨4, ![2, 16, 2048, 2]⟩
abbrev S2x16x2048x1024 : Shape := ⟨4, ![2, 16, 2048, 1024]⟩
abbrev S16x1408x2x2048 : Shape := ⟨4, ![16, 1408, 2, 2048]⟩
abbrev S2x16x2048x1408 : Shape := ⟨4, ![2, 16, 2048, 1408]⟩
abbrev S16x1024x2x2048 : Shape := ⟨4, ![16, 1024, 2, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16x2048, .i32⟩
  | .hbm, ⟨2, _⟩ => ⟨S2x16x2048, .f32⟩
  | .hbm, ⟨3, _⟩ => ⟨S2x16x1024x1408, .f32⟩
  | .hbm, ⟨4, _⟩ => ⟨S2x16x1024x1408, .f32⟩
  | .hbm, ⟨5, _⟩ => ⟨S2x16x1408x1024, .f32⟩
  | .hbm, ⟨6, _⟩ => ⟨S1x16x1024x1408, .f32⟩
  | .hbm, ⟨7, _⟩ => ⟨S16x1024x1408, .f32⟩
  | .hbm, ⟨8, _⟩ => ⟨S1x16x1024x1408, .f32⟩
  | .hbm, ⟨9, _⟩ => ⟨S16x1024x1408, .f32⟩
  | .hbm, ⟨10, _⟩ => ⟨S1x16x1408x1024, .f32⟩
  | .hbm, ⟨11, _⟩ => ⟨S16x1408x1024, .f32⟩
  | .hbm, ⟨12, _⟩ => ⟨S2, .i32⟩
  | .hbm, ⟨13, _⟩ => ⟨S2x1x1, .i32⟩
  | .hbm, ⟨14, _⟩ => ⟨S_, .i32⟩
  | .hbm, ⟨15, _⟩ => ⟨S2x1x1, .i32⟩
  | .hbm, ⟨16, _⟩ => ⟨S2x1x1, .i1⟩
  | .hbm, ⟨17, _⟩ => ⟨S_, .i32⟩
  | .hbm, ⟨18, _⟩ => ⟨S2x1x1, .i32⟩
  | .hbm, ⟨19, _⟩ => ⟨S2x1x1, .i32⟩
  | .hbm, ⟨20, _⟩ => ⟨S2x1x1, .i32⟩
  | .hbm, ⟨21, _⟩ => ⟨S_, .i32⟩
  | .hbm, ⟨22, _⟩ => ⟨S2x16x2048, .i32⟩
  | .hbm, ⟨23, _⟩ => ⟨S2x16x2048, .i1⟩
  | .hbm, ⟨24, _⟩ => ⟨S_, .i32⟩
  | .hbm, ⟨25, _⟩ => ⟨S2x16x2048, .i32⟩
  | .hbm, ⟨26, _⟩ => ⟨S2x16x2048, .i32⟩
  | .hbm, ⟨27, _⟩ => ⟨S2x16x2048, .i32⟩
  | .hbm, ⟨28, _⟩ => ⟨S2x16x2048, .i32⟩
  | .hbm, ⟨29, _⟩ => ⟨S2x16x2048x1, .i32⟩
  | .hbm, ⟨30, _⟩ => ⟨S2x16x2048x1, .i32⟩
  | .hbm, ⟨31, _⟩ => ⟨S2x16x2048x2, .i32⟩
  | .hbm, ⟨32, _⟩ => ⟨S2x16x2048x1024, .f32⟩
  | .hbm, ⟨33, _⟩ => ⟨S16x1408x2x2048, .f32⟩
  | .hbm, ⟨34, _⟩ => ⟨S2x16x2048x1408, .f32⟩
  | .hbm, ⟨35, _⟩ => ⟨S2x16x2048x1408, .f32⟩
  | .hbm, ⟨36, _⟩ => ⟨S2x16x2048x1408, .f32⟩
  | .hbm, ⟨37, _⟩ => ⟨S_, .f32⟩
  | .hbm, ⟨38, _⟩ => ⟨S2x16x2048x1408, .f32⟩
  | .hbm, ⟨39, _⟩ => ⟨S2x16x2048x1408, .f32⟩
  | .hbm, ⟨40, _⟩ => ⟨S_, .f32⟩
  | .hbm, ⟨41, _⟩ => ⟨S2x16x2048x1408, .f32⟩
  | .hbm, ⟨42, _⟩ => ⟨S2x16x2048x1408, .f32⟩
  | .hbm, ⟨43, _⟩ => ⟨S2x16x2048x1408, .f32⟩
  | .hbm, ⟨44, _⟩ => ⟨S16x1408x2x2048, .f32⟩
  | .hbm, ⟨45, _⟩ => ⟨S2x16x2048x1408, .f32⟩
  | .hbm, ⟨46, _⟩ => ⟨S2x16x2048x1408, .f32⟩
  | .hbm, ⟨47, _⟩ => ⟨S16x1024x2x2048, .f32⟩
  | .hbm, ⟨48, _⟩ => ⟨S2x16x2048x1024, .f32⟩
  | .hbm, ⟨49, _⟩ => ⟨S2x16x2048x1, .f32⟩
  | .hbm, ⟨50, _⟩ => ⟨S2x16x2048x1024, .f32⟩
  | .hbm, ⟨51, _⟩ => ⟨S2x16x2048x1024, .f32⟩
  | .hbm, ⟨52, _⟩ => ⟨S2x16x2048x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1x1024 : Shape := ⟨3, ![2, 1, 1024]⟩
abbrev S1024 : Shape := ⟨1, ![1024]⟩
abbrev S1024x6144 : Shape := ⟨2, ![1024, 6144]⟩
abbrev S64 : Shape := ⟨1, ![64]⟩
abbrev S32 : Shape := ⟨1, ![32]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x32 : Shape := ⟨2, ![1, 32]⟩
abbrev S8x32 : Shape := ⟨2, ![8, 32]⟩
abbrev S1x1024 : Shape := ⟨2, ![1, 1024]⟩
abbrev S16384 : Shape := ⟨1, ![16384]⟩
abbrev S128 : Shape := ⟨1, ![128]⟩
abbrev S_ : Shape := ⟨0, ![]⟩
abbrev S1x128 : Shape := ⟨2, ![1, 128]⟩
abbrev S16384x1 : Shape := ⟨2, ![16384, 1]⟩
abbrev S16384x128 : Shape := ⟨2, ![16384, 128]⟩
abbrev S256x1 : Shape := ⟨2, ![256, 1]⟩
abbrev S256x256 : Shape := ⟨2, ![256, 256]⟩
abbrev S2x16384x256 : Shape := ⟨3, ![2, 16384, 256]⟩
abbrev S2x256x16384 : Shape := ⟨3, ![2, 256, 16384]⟩
abbrev S2x16384x4096 : Shape := ⟨3, ![2, 16384, 4096]⟩
abbrev S2x16384x512 : Shape := ⟨3, ![2, 16384, 512]⟩
abbrev S1x1024x1024 : Shape := ⟨3, ![1, 1024, 1024]⟩
abbrev S1x1x1024 : Shape := ⟨3, ![1, 1, 1024]⟩
abbrev S1024x128 : Shape := ⟨2, ![1024, 128]⟩
abbrev S1x1024x256 : Shape := ⟨3, ![1, 1024, 256]⟩
abbrev S1x256x1024 : Shape := ⟨3, ![1, 256, 1024]⟩
abbrev S1x1024x4096 : Shape := ⟨3, ![1, 1024, 4096]⟩
abbrev S1x1024x512 : Shape := ⟨3, ![1, 1024, 512]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩
abbrev S1024x512 : Shape := ⟨2, ![1024, 512]⟩

abbrev nBuf : Space → Nat
  | .hbm => 279
  | .vmem => 36
  | .smem => 0
  | _ => 0

abbrev hbmTy0_0 (i : Nat) : BufTy := match i % 128 with
  | 0 => ⟨S2x16384x1024, .f32⟩
  | 1 => ⟨S2x1x1024, .f32⟩
  | 2 => ⟨S2x1x1024, .f32⟩
  | 3 => ⟨S1024, .f32⟩
  | 4 => ⟨S1024x6144, .f32⟩
  | 5 => ⟨S64, .f32⟩
  | 6 => ⟨S64, .f32⟩
  | 7 => ⟨S32, .f32⟩
  | 8 => ⟨S32, .f32⟩
  | 9 => ⟨S1x64, .f32⟩
  | 10 => ⟨S4x64, .f32⟩
  | 11 => ⟨S256, .f32⟩
  | 12 => ⟨S1x256, .f32⟩
  | 13 => ⟨S1x64, .f32⟩
  | 14 => ⟨S4x64, .f32⟩
  | 15 => ⟨S256, .f32⟩
  | 16 => ⟨S1x256, .f32⟩
  | 17 => ⟨S1x32, .f32⟩
  | 18 => ⟨S8x32, .f32⟩
  | 19 => ⟨S256, .f32⟩
  | 20 => ⟨S1x256, .f32⟩
  | 21 => ⟨S1x32, .f32⟩
  | 22 => ⟨S8x32, .f32⟩
  | 23 => ⟨S256, .f32⟩
  | 24 => ⟨S1x256, .f32⟩
  | 25 => ⟨S1x1024, .f32⟩
  | 26 => ⟨S1024x6144, .bf16⟩
  | 27 => ⟨S16384, .i32⟩
  | 28 => ⟨S128, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S128, .i32⟩
  | 36 => ⟨S128, .i32⟩
  | 37 => ⟨S_, .i32⟩
  | 38 => ⟨S128, .i32⟩
  | 39 => ⟨S128, .i1⟩
  | 40 => ⟨S_, .i32⟩
  | 41 => ⟨S128, .i32⟩
  | 42 => ⟨S128, .i1⟩
  | 43 => ⟨S_, .i32⟩
  | 44 => ⟨S_, .i1⟩
  | 45 => ⟨S128, .i1⟩
  | 46 => ⟨S128, .i1⟩
  | 47 => ⟨S128, .i1⟩
  | 48 => ⟨S128, .i32⟩
  | 49 => ⟨S128, .i32⟩
  | 50 => ⟨S128, .i32⟩
  | 51 => ⟨S_, .i32⟩
  | 52 => ⟨S128, .i32⟩
  | 53 => ⟨S128, .i1⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S128, .i32⟩
  | 61 => ⟨S128, .i32⟩
  | 62 => ⟨S_, .i32⟩
  | 63 => ⟨S128, .i32⟩
  | 64 => ⟨S128, .i1⟩
  | 65 => ⟨S_, .i32⟩
  | 66 => ⟨S128, .i32⟩
  | 67 => ⟨S128, .i1⟩
  | 68 => ⟨S_, .i32⟩
  | 69 => ⟨S_, .i1⟩
  | 70 => ⟨S128, .i1⟩
  | 71 => ⟨S128, .i1⟩
  | 72 => ⟨S128, .i1⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S128, .i32⟩
  | 86 => ⟨S128, .i32⟩
  | 87 => ⟨S_, .i32⟩
  | 88 => ⟨S128, .i32⟩
  | 89 => ⟨S128, .i1⟩
  | 90 => ⟨S_, .i32⟩
  | 91 => ⟨S128, .i32⟩
  | 92 => ⟨S128, .i1⟩
  | 93 => ⟨S_, .i32⟩
  | 94 => ⟨S_, .i1⟩
  | 95 => ⟨S128, .i1⟩
  | 96 => ⟨S128, .i1⟩
  | 97 => ⟨S128, .i1⟩
  | 98 => ⟨S128, .i32⟩
  | 99 => ⟨S128, .i32⟩
  | 100 => ⟨S128, .i32⟩
  | 101 => ⟨S128, .f32⟩
  | 102 => ⟨S128, .f32⟩
  | 103 => ⟨S_, .f32⟩
  | 104 => ⟨S128, .f32⟩
  | 105 => ⟨S128, .f32⟩
  | 106 => ⟨S_, .f32⟩
  | 107 => ⟨S128, .f32⟩
  | 108 => ⟨S128, .f32⟩
  | 109 => ⟨S1x128, .i1⟩
  | 110 => ⟨S_, .i32⟩
  | 111 => ⟨S_, .i32⟩
  | 112 => ⟨S16384, .i32⟩
  | 113 => ⟨S16384, .i32⟩
  | 114 => ⟨S16384, .i32⟩
  | 115 => ⟨S_, .i32⟩
  | 116 => ⟨S16384, .i32⟩
  | 117 => ⟨S16384, .i1⟩
  | 118 => ⟨S16384, .i32⟩
  | 119 => ⟨S16384, .i32⟩
  | 120 => ⟨S_, .i32⟩
  | 121 => ⟨S16384, .i32⟩
  | 122 => ⟨S16384, .i1⟩
  | 123 => ⟨S16384, .i1⟩
  | 124 => ⟨S_, .i32⟩
  | 125 => ⟨S16384, .i32⟩
  | 126 => ⟨S16384, .i32⟩
  | 127 => ⟨S16384, .i32⟩
  | _ => ⟨S2x16384x1024, .f32⟩

abbrev hbmTy0_1 (i : Nat) : BufTy := match i % 128 with
  | 0 => ⟨S16384x1, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S16384, .i32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i1⟩
  | 15 => ⟨S_, .i32⟩
  | 16 => ⟨S_, .i1⟩
  | 17 => ⟨S16384, .i1⟩
  | 18 => ⟨S16384, .i1⟩
  | 19 => ⟨S16384, .i1⟩
  | 20 => ⟨S16384, .i32⟩
  | 21 => ⟨S16384, .i32⟩
  | 22 => ⟨S16384, .i32⟩
  | 23 => ⟨S16384x1, .i32⟩
  | 24 => ⟨S16384x128, .i1⟩
  | 25 => ⟨S16384x128, .i32⟩
  | 26 => ⟨S16384x128, .i32⟩
  | 27 => ⟨S16384x128, .i32⟩
  | 28 => ⟨S16384x128, .f32⟩
  | 29 => ⟨S1x128, .f32⟩
  | 30 => ⟨S16384x128, .f32⟩
  | 31 => ⟨S16384x128, .f32⟩
  | 32 => ⟨S16384x128, .f32⟩
  | 33 => ⟨S16384x128, .f32⟩
  | 34 => ⟨S1x128, .i1⟩
  | 35 => ⟨S16384x128, .f32⟩
  | 36 => ⟨S_, .f32⟩
  | 37 => ⟨S_, .f32⟩
  | 38 => ⟨S16384x128, .i1⟩
  | 39 => ⟨S16384x128, .f32⟩
  | 40 => ⟨S16384x128, .f32⟩
  | 41 => ⟨S1x128, .i1⟩
  | 42 => ⟨S_, .f32⟩
  | 43 => ⟨S_, .f32⟩
  | 44 => ⟨S16384x128, .i1⟩
  | 45 => ⟨S16384x128, .f32⟩
  | 46 => ⟨S16384x128, .f32⟩
  | 47 => ⟨S256, .i32⟩
  | 48 => ⟨S256x1, .i32⟩
  | 49 => ⟨S_, .i32⟩
  | 50 => ⟨S_, .i32⟩
  | 51 => ⟨S256x1, .i32⟩
  | 52 => ⟨S256x1, .i32⟩
  | 53 => ⟨S256x1, .i32⟩
  | 54 => ⟨S_, .i32⟩
  | 55 => ⟨S256x1, .i32⟩
  | 56 => ⟨S256x1, .i1⟩
  | 57 => ⟨S256x1, .i32⟩
  | 58 => ⟨S256x1, .i32⟩
  | 59 => ⟨S_, .i32⟩
  | 60 => ⟨S256x1, .i32⟩
  | 61 => ⟨S256x1, .i1⟩
  | 62 => ⟨S256x1, .i1⟩
  | 63 => ⟨S_, .i32⟩
  | 64 => ⟨S256x1, .i32⟩
  | 65 => ⟨S256x1, .i32⟩
  | 66 => ⟨S256x1, .i32⟩
  | 67 => ⟨S1x256, .i32⟩
  | 68 => ⟨S_, .i32⟩
  | 69 => ⟨S_, .i32⟩
  | 70 => ⟨S1x256, .i32⟩
  | 71 => ⟨S1x256, .i32⟩
  | 72 => ⟨S1x256, .i32⟩
  | 73 => ⟨S_, .i32⟩
  | 74 => ⟨S1x256, .i32⟩
  | 75 => ⟨S1x256, .i1⟩
  | 76 => ⟨S1x256, .i32⟩
  | 77 => ⟨S1x256, .i32⟩
  | 78 => ⟨S_, .i32⟩
  | 79 => ⟨S1x256, .i32⟩
  | 80 => ⟨S1x256, .i1⟩
  | 81 => ⟨S1x256, .i1⟩
  | 82 => ⟨S_, .i32⟩
  | 83 => ⟨S1x256, .i32⟩
  | 84 => ⟨S1x256, .i32⟩
  | 85 => ⟨S1x256, .i32⟩
  | 86 => ⟨S256x256, .i32⟩
  | 87 => ⟨S256x256, .i32⟩
  | 88 => ⟨S256x256, .i1⟩
  | 89 => ⟨S_, .f32⟩
  | 90 => ⟨S_, .f32⟩
  | 91 => ⟨S256x256, .f32⟩
  | 92 => ⟨S256x256, .f32⟩
  | 93 => ⟨S256x256, .f32⟩
  | 94 => ⟨S256x256, .bf16⟩
  | 95 => ⟨S256, .i32⟩
  | 96 => ⟨S256x1, .i32⟩
  | 97 => ⟨S_, .i32⟩
  | 98 => ⟨S_, .i32⟩
  | 99 => ⟨S256x1, .i32⟩
  | 100 => ⟨S256x1, .i32⟩
  | 101 => ⟨S256x1, .i32⟩
  | 102 => ⟨S_, .i32⟩
  | 103 => ⟨S256x1, .i32⟩
  | 104 => ⟨S256x1, .i1⟩
  | 105 => ⟨S256x1, .i32⟩
  | 106 => ⟨S256x1, .i32⟩
  | 107 => ⟨S_, .i32⟩
  | 108 => ⟨S256x1, .i32⟩
  | 109 => ⟨S256x1, .i1⟩
  | 110 => ⟨S256x1, .i1⟩
  | 111 => ⟨S_, .i32⟩
  | 112 => ⟨S256x1, .i32⟩
  | 113 => ⟨S256x1, .i32⟩
  | 114 => ⟨S256x1, .i32⟩
  | 115 => ⟨S1x256, .i32⟩
  | 116 => ⟨S_, .i32⟩
  | 117 => ⟨S_, .i32⟩
  | 118 => ⟨S1x256, .i32⟩
  | 119 => ⟨S1x256, .i32⟩
  | 120 => ⟨S1x256, .i32⟩
  | 121 => ⟨S_, .i32⟩
  | 122 => ⟨S1x256, .i32⟩
  | 123 => ⟨S1x256, .i1⟩
  | 124 => ⟨S1x256, .i32⟩
  | 125 => ⟨S1x256, .i32⟩
  | 126 => ⟨S_, .i32⟩
  | 127 => ⟨S1x256, .i32⟩
  | _ => ⟨S2x16384x1024, .f32⟩

abbrev hbmTy0_2 (i : Nat) : BufTy := match i % 128 with
  | 0 => ⟨S1x256, .i1⟩
  | 1 => ⟨S1x256, .i1⟩
  | 2 => ⟨S_, .i32⟩
  | 3 => ⟨S1x256, .i32⟩
  | 4 => ⟨S1x256, .i32⟩
  | 5 => ⟨S1x256, .i32⟩
  | 6 => ⟨S256x256, .i32⟩
  | 7 => ⟨S256x256, .i32⟩
  | 8 => ⟨S256x256, .i1⟩
  | 9 => ⟨S_, .f32⟩
  | 10 => ⟨S_, .f32⟩
  | 11 => ⟨S256x256, .f32⟩
  | 12 => ⟨S256x256, .f32⟩
  | 13 => ⟨S256x256, .f32⟩
  | 14 => ⟨S256x256, .bf16⟩
  | 15 => ⟨S2x16384x256, .bf16⟩
  | 16 => ⟨S2x256x16384, .bf16⟩
  | 17 => ⟨S2x16384x256, .f32⟩
  | 18 => ⟨S2x16384x256, .f32⟩
  | 19 => ⟨S2x16384x4096, .bf16⟩
  | 20 => ⟨S2x16384x512, .bf16⟩
  | 21 => ⟨S2x16384x256, .bf16⟩
  | 22 => ⟨S2x256x16384, .bf16⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6144, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1024x256, .bf16⟩
  | .local _ .vmem, ⟨21, _⟩ => ⟨S1x1024x256, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1024x256, .f32⟩
  | .local _ .vmem, ⟨25, _⟩ => ⟨S1x1024x256, .f32⟩
  | .local _ .vmem, ⟨26, _⟩ => ⟨S1x1024x256, .f32⟩
  | .local _ .vmem, ⟨27, _⟩ => ⟨S1x1024x256, .f32⟩
  | .local _ .vmem, ⟨28, _⟩ => ⟨S1x1024x4096, .bf16⟩
  | .local _ .vmem, ⟨29, _⟩ => ⟨S1x1024x4096, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x1024x256, .bf16⟩
  | .local _ .vmem, ⟨33, _⟩ => ⟨S1x1024x256, .bf16⟩
  | .local _ .vmem, ⟨34, _⟩ => ⟨S1x256x1024, .bf16⟩
  | .local _ .vmem, ⟨35, _⟩ => ⟨S1x256x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v20 : Ref sig .tc := ⟨.hbm, 50, rfl⟩
abbrev main_c_0 : Ref sig .tc := ⟨.hbm, 51, rfl⟩
abbrev main_v21 : Ref sig .tc := ⟨.hbm, 52, rfl⟩
abbrev main_v22 : Ref sig .tc := ⟨.hbm, 53, rfl⟩
abbrev main_c_1 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v23 : Ref sig .tc := ⟨.hbm, 75, rfl⟩
abbrev main_c_2 : Ref sig .tc := ⟨.hbm, 76, rfl⟩
abbrev main_v24 : Ref sig .tc := ⟨.hbm, 77, rfl⟩
abbrev main_v25 : Ref sig .tc := ⟨.hbm, 78, rfl⟩
abbrev main_c_3 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_cst : Ref sig .tc := ⟨.hbm, 103, rfl⟩
abbrev main_v29 : Ref sig .tc := ⟨.hbm, 104, rfl⟩
abbrev main_v30 : Ref sig .tc := ⟨.hbm, 105, rfl⟩
abbrev main_cst_4 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_c_5 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_c : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_0 : Ref sig .tc := ⟨.hbm, 124, rfl⟩
abbrev main_call3_v12 : Ref sig .tc := ⟨.hbm, 125, rfl⟩
abbrev main_call3_v13 : Ref sig .tc := ⟨.hbm, 126, rfl⟩
abbrev main_v34 : Ref sig .tc := ⟨.hbm, 127, rfl⟩
abbrev main_v35 : Ref sig .tc := ⟨.hbm, 128, rfl⟩
abbrev main_c_6 : Ref sig .tc := ⟨.hbm, 129, rfl⟩
abbrev main_call4_v0 : Ref sig .tc := ⟨.hbm, 130, rfl⟩
abbrev main_call4_c : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_c_1 : Ref sig .tc := ⟨.hbm, 137, rfl⟩
abbrev main_call4_v5 : Ref sig .tc := ⟨.hbm, 138, rfl⟩
abbrev main_call4_v6 : Ref sig .tc := ⟨.hbm, 139, rfl⟩
abbrev main_call4_c_2 : Ref sig .tc := ⟨.hbm, 140, rfl⟩
abbrev main_call4_v7 : Ref sig .tc := ⟨.hbm, 141, rfl⟩
abbrev main_call4_v8 : Ref sig .tc := ⟨.hbm, 142, rfl⟩
abbrev main_call4_c_3 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_v12 : Ref sig .tc := ⟨.hbm, 147, rfl⟩
abbrev main_call4_v13 : Ref sig .tc := ⟨.hbm, 148, rfl⟩
abbrev main_call4_v14 : Ref sig .tc := ⟨.hbm, 149, rfl⟩
abbrev main_v36 : Ref sig .tc := ⟨.hbm, 150, rfl⟩
abbrev main_v37 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_cst_7 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_v47 : Ref sig .tc := ⟨.hbm, 168, rfl⟩
abbrev main_v48 : Ref sig .tc := ⟨.hbm, 169, rfl⟩
abbrev main_cst_8 : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_c_9 : Ref sig .tc := ⟨.hbm, 177, rfl⟩
abbrev main_call8_v0 : Ref sig .tc := ⟨.hbm, 178, rfl⟩
abbrev main_call8_v1 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_call8_v5 : Ref sig .tc := ⟨.hbm, 183, rfl⟩
abbrev main_call8_v6 : Ref sig .tc := ⟨.hbm, 184, rfl⟩
abbrev main_call8_v7 : Ref sig .tc := ⟨.hbm, 185, rfl⟩
abbrev main_call8_v8 : Ref sig .tc := ⟨.hbm, 186, rfl⟩
abbrev main_call8_c : Ref sig .tc := ⟨.hbm, 187, rfl⟩
abbrev main_call8_v9 : Ref sig .tc := ⟨.hbm, 188, rfl⟩
abbrev main_call8_v10 : Ref sig .tc := ⟨.hbm, 189, rfl⟩
abbrev main_call8_v11 : Ref sig .tc := ⟨.hbm, 190, rfl⟩
abbrev main_call8_c_0 : Ref sig .tc := ⟨.hbm, 191, rfl⟩
abbrev main_call8_v12 : Ref sig .tc := ⟨.hbm, 192, rfl⟩
abbrev main_call8_v13 : Ref sig .tc := ⟨.hbm, 193, rfl⟩
abbrev main_v52 : Ref sig .tc := ⟨.hbm, 194, rfl⟩
abbrev main_v53 : Ref sig .tc := ⟨.hbm, 195, rfl⟩
abbrev main_c_10 : Ref sig .tc := ⟨.hbm, 196, rfl⟩
abbrev main_call9_v0 : Ref sig .tc := ⟨.hbm, 197, rfl⟩
abbrev main_call9_v1 : Ref sig .tc := ⟨.hbm, 198, rfl⟩
abbrev main_call9_v2 : Ref sig .tc := ⟨.hbm, 199, rfl⟩
abbrev main_call9_v3 : Ref sig .tc := ⟨.hbm, 200, rfl⟩
abbrev main_call9_v4 : Ref sig .tc := ⟨.hbm, 201, rfl⟩
abbrev main_call9_v5 : Ref sig .tc := ⟨.hbm, 202, rfl⟩
abbrev main_call9_v6 : Ref sig .tc := ⟨.hbm, 203, rfl⟩
abbrev main_call9_v7 : Ref sig .tc := ⟨.hbm, 204, rfl⟩
abbrev main_call9_v8 : Ref sig .tc := ⟨.hbm, 205, rfl⟩
abbrev main_call9_c : Ref sig .tc := ⟨.hbm, 206, rfl⟩
abbrev main_call9_v9 : Ref sig .tc := ⟨.hbm, 207, rfl⟩
abbrev main_call9_v10 : Ref sig .tc := ⟨.hbm, 208, rfl⟩
abbrev main_call9_v11 : Ref sig .tc := ⟨.hbm, 209, rfl⟩
abbrev main_call9_c_0 : Ref sig .tc := ⟨.hbm, 210, rfl⟩
abbrev main_call9_v12 : Ref sig .tc := ⟨.hbm, 211, rfl⟩
abbrev main_call9_v13 : Ref sig .tc := ⟨.hbm, 212, rfl⟩
abbrev main_v54 : Ref sig .tc := ⟨.hbm, 213, rfl⟩
abbrev main_v55 : Ref sig .tc := ⟨.hbm, 214, rfl⟩
abbrev main_v56 : Ref sig .tc := ⟨.hbm, 215, rfl⟩
abbrev main_v57 : Ref sig .tc := ⟨.hbm, 216, rfl⟩
abbrev main_cst_11 : Ref sig .tc := ⟨.hbm, 217, rfl⟩
abbrev main_cst_12 : Ref sig .tc := ⟨.hbm, 218, rfl⟩
abbrev main_call10_v0 : Ref sig .tc := ⟨.hbm, 219, rfl⟩
abbrev main_call10_v1 : Ref sig .tc := ⟨.hbm, 220, rfl⟩
abbrev main_v58 : Ref sig .tc := ⟨.hbm, 221, rfl⟩
abbrev main_v59 : Ref sig .tc := ⟨.hbm, 222, rfl⟩
abbrev main_v60 : Ref sig .tc := ⟨.hbm, 223, rfl⟩
abbrev main_v61 : Ref sig .tc := ⟨.hbm, 224, rfl⟩
abbrev main_c_13 : Ref sig .tc := ⟨.hbm, 225, rfl⟩
abbrev main_call11_v0 : Ref sig .tc := ⟨.hbm, 226, rfl⟩
abbrev main_call11_v1 : Ref sig .tc := ⟨.hbm, 227, rfl⟩
abbrev main_call11_v2 : Ref sig .tc := ⟨.hbm, 228, rfl⟩
abbrev main_call11_v3 : Ref sig .tc := ⟨.hbm, 229, rfl⟩
abbrev main_call11_v4 : Ref sig .tc := ⟨.hbm, 230, rfl⟩
abbrev main_call11_v5 : Ref sig .tc := ⟨.hbm, 231, rfl⟩
abbrev main_call11_v6 : Ref sig .tc := ⟨.hbm, 232, rfl⟩
abbrev main_call11_v7 : Ref sig .tc := ⟨.hbm, 233, rfl⟩
abbrev main_call11_v8 : Ref sig .tc := ⟨.hbm, 234, rfl⟩
abbrev main_call11_c : Ref sig .tc := ⟨.hbm, 235, rfl⟩
abbrev main_call11_v9 : Ref sig .tc := ⟨.hbm, 236, rfl⟩
abbrev main_call11_v10 : Ref sig .tc := ⟨.hbm, 237, rfl⟩
abbrev main_call11_v11 : Ref sig .tc := ⟨.hbm, 238, rfl⟩
abbrev main_call11_c_0 : Ref sig .tc := ⟨.hbm, 239, rfl⟩
abbrev main_call11_v12 : Ref sig .tc := ⟨.hbm, 240, rfl⟩
abbrev main_call11_v13 : Ref sig .tc := ⟨.hbm, 241, rfl⟩
abbrev main_v62 : Ref sig .tc := ⟨.hbm, 242, rfl⟩
abbrev main_v63 : Ref sig .tc := ⟨.hbm, 243, rfl⟩
abbrev main_c_14 : Ref sig .tc := ⟨.hbm, 244, rfl⟩
abbrev main_call12_v0 : Ref sig .tc := ⟨.hbm, 245, rfl⟩
abbrev main_call12_v1 : Ref sig .tc := ⟨.hbm, 246, rfl⟩
abbrev main_call12_v2 : Ref sig .tc := ⟨.hbm, 247, rfl⟩
abbrev main_call12_v3 : Ref sig .tc := ⟨.hbm, 248, rfl⟩
abbrev main_call12_v4 : Ref sig .tc := ⟨.hbm, 249, rfl⟩
abbrev main_call12_v5 : Ref sig .tc := ⟨.hbm, 250, rfl⟩
abbrev main_call12_v6 : Ref sig .tc := ⟨.hbm, 251, rfl⟩
abbrev main_call12_v7 : Ref sig .tc := ⟨.hbm, 252, rfl⟩
abbrev main_call12_v8 : Ref sig .tc := ⟨.hbm, 253, rfl⟩
abbrev main_call12_c : Ref sig .tc := ⟨.hbm, 254, rfl⟩
abbrev main_call12_v9 : Ref sig .tc := ⟨.hbm, 255, rfl⟩
abbrev main_call12_v10 : Ref sig .tc := ⟨.hbm, 256, rfl⟩
abbrev main_call12_v11 : Ref sig .tc := ⟨.hbm, 257, rfl⟩
abbrev main_call12_c_0 : Ref sig .tc := ⟨.hbm, 258, rfl⟩
abbrev main_call12_v12 : Ref sig .tc := ⟨.hbm, 259, rfl⟩
abbrev main_call12_v13 : Ref sig .tc := ⟨.hbm, 260, rfl⟩
abbrev main_v64 : Ref sig .tc := ⟨.hbm, 261, rfl⟩
abbrev main_v65 : Ref sig .tc := ⟨.hbm, 262, rfl⟩
abbrev main_v66 : Ref sig .tc := ⟨.hbm, 263, rfl⟩
abbrev main_v67 : Ref sig .tc := ⟨.hbm, 264, rfl⟩
abbrev main_cst_15 : Ref sig .tc := ⟨.hbm, 265, rfl⟩
abbrev main_cst_16 : Ref sig .tc := ⟨.hbm, 266, rfl⟩
abbrev main_call13_v0 : Ref sig .tc := ⟨.hbm, 267, rfl⟩
abbrev main_call13_v1 : Ref sig .tc := ⟨.hbm, 268, rfl⟩
abbrev main_v68 : Ref sig .tc := ⟨.hbm, 269, rfl⟩
abbrev main_v69 : Ref sig .tc := ⟨.hbm, 270, rfl⟩
abbrev main_v70_0 : Ref sig .tc := ⟨.hbm, 271, rfl⟩
abbrev main_v70_1 : Ref sig .tc := ⟨.hbm, 272, rfl⟩
abbrev main_v70_2 : Ref sig .tc := ⟨.hbm, 273, rfl⟩
abbrev main_v70_3 : Ref sig .tc := ⟨.hbm, 274, rfl⟩
abbrev main_v70_4 : Ref sig .tc := ⟨.hbm, 275, rfl⟩
abbrev main_v70_5 : Ref sig .tc := ⟨.hbm, 276, rfl⟩
abbrev main_v70_6 : Ref sig .tc := ⟨.hbm, 277, rfl⟩
abbrev main_v70_7 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Kernel3Ideal.lean ====
variable {F : FTy → Type} [FloatOps F] [Named F]
def κ : String → Option EReal := fun
  | "log2e_scale" => some (((Real.log 2)⁻¹ * (Real.sqrt 32)⁻¹ : ℝ) : EReal)
  | _ => none
-- ==== Reference3Ideal.lean ====
abbrev S2x16384x1024 : Shape := ⟨3, ![2, 16384, 1024]⟩
abbrev S2x1x1024 : Shape := ⟨3, ![2, 1, 1024]⟩
abbrev S1024 : Shape := ⟨1, ![1024]⟩
abbrev S1024x6144 : Shape := ⟨2, ![1024, 6144]⟩
abbrev S64 : Shape := ⟨1, ![64]⟩
abbrev S32 : Shape := ⟨1, ![32]⟩
abbrev S16384 : Shape := ⟨1, ![16384]⟩
abbrev S_ : Shape := ⟨0, ![]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S2x16384 : Shape := ⟨2, ![2, 16384]⟩
abbrev S2x16384x1 : Shape := ⟨3, ![2, 16384, 1]⟩
abbrev S1x1x1024 : Shape := ⟨3, ![1, 1, 1024]⟩
abbrev S2x16384x6144 : Shape := ⟨3, ![2, 16384, 6144]⟩
abbrev S2x16384x256 : Shape := ⟨3, ![2, 16384, 256]⟩
abbrev S2x16384x4x64 : Shape := ⟨4, ![2, 16384, 4, 64]⟩
abbrev S2x16384x4 : Shape := ⟨3, ![2, 16384, 4]⟩
abbrev S2x16384x4x1 : Shape := ⟨4, ![2, 16384, 4, 1]⟩
abbrev S1x1x1x64 : Shape := ⟨4, ![1, 1, 1, 64]⟩
abbrev S2x16384x4x2x32 : Shape := ⟨5, ![2, 16384, 4, 2, 32]⟩
abbrev S2x16384x4x2 : Shape := ⟨4, ![2, 16384, 4, 2]⟩
abbrev S2x16384x4x2x1 : Shape := ⟨5, ![2, 16384, 4, 2, 1]⟩
abbrev S1x1x1x1x32 : Shape := ⟨5, ![1, 1, 1, 1, 32]⟩
abbrev S2x16384x4096 : Shape := ⟨3, ![2, 16384, 4096]⟩
abbrev S2x16384x4x2x16 : Shape := ⟨5, ![2, 16384, 4, 2, 16]⟩
abbrev S16384x1x1x8 : Shape := ⟨4, ![16384, 1, 1, 8]⟩
abbrev S2x16384x4x2x8 : Shape := ⟨5, ![2, 16384, 4, 2, 8]⟩
abbrev S1x16384x1x1x8 : Shape := ⟨5, ![1, 16384, 1, 1, 8]⟩
abbrev S2x256x16384 : Shape := ⟨3, ![2, 256, 16384]⟩
abbrev S2x16384x512 : Shape := ⟨3, ![2, 16384, 512]⟩

abbrev nBuf : Space → Nat
  | .hbm => 301
  | .vmem => 0
  | .smem => 0
  | _ => 0

abbrev hbmTy0_0 (i : Nat) : BufTy := match i % 128 with
  | 0 => ⟨S2x16384x1024, .f32⟩
  | 1 => ⟨S2x1x1024, .f32⟩
  | 2 => ⟨S2x1x1024, .f32⟩
  | 3 => ⟨S1024, .f32⟩
  | 4 => ⟨S1024x6144, .f32⟩
  | 5 => ⟨S64, .f32⟩
  | 6 => ⟨S64, .f32⟩
  | 7 => ⟨S32, .f32⟩
  | 8 => ⟨S32, .f32⟩
  | 9 => ⟨S16384, .i32⟩
  | 10 => ⟨S_, .i32⟩
  | 11 => ⟨S_, .i32⟩
  | 12 => ⟨S16384, .i32⟩
  | 13 => ⟨S16384, .i32⟩
  | 14 => ⟨S16384, .i32⟩
  | 15 => ⟨S_, .i32⟩
  | 16 => ⟨S16384, .i32⟩
  | 17 => ⟨S16384, .i1⟩
  | 18 => ⟨S16384, .i32⟩
  | 19 => ⟨S16384, .i32⟩
  | 20 => ⟨S_, .i32⟩
  | 21 => ⟨S16384, .i32⟩
  | 22 => ⟨S16384, .i1⟩
  | 23 => ⟨S16384, .i1⟩
  | 24 => ⟨S_, .i32⟩
  | 25 => ⟨S16384, .i32⟩
  | 26 => ⟨S16384, .i32⟩
  | 27 => ⟨S16384, .i32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S16384, .f32⟩
  | 37 => ⟨S16384x1, .f32⟩
  | 38 => ⟨S1x8, .f32⟩
  | 39 => ⟨S16384x8, .f32⟩
  | 40 => ⟨S16384x8, .f32⟩
  | 41 => ⟨S16384x8, .f32⟩
  | 42 => ⟨S16384x8, .f32⟩
  | 43 => ⟨S16384x8, .f32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S16384, .i32⟩
  | 51 => ⟨S16384, .i32⟩
  | 52 => ⟨S_, .i32⟩
  | 53 => ⟨S16384, .i32⟩
  | 54 => ⟨S16384, .i1⟩
  | 55 => ⟨S_, .i32⟩
  | 56 => ⟨S16384, .i32⟩
  | 57 => ⟨S16384, .i1⟩
  | 58 => ⟨S_, .i32⟩
  | 59 => ⟨S_, .i1⟩
  | 60 => ⟨S16384, .i1⟩
  | 61 => ⟨S16384, .i1⟩
  | 62 => ⟨S16384, .i1⟩
  | 63 => ⟨S16384, .i32⟩
  | 64 => ⟨S16384, .i32⟩
  | 65 => ⟨S16384, .i32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S16384, .f32⟩
  | 75 => ⟨S16384x1, .f32⟩
  | 76 => ⟨S1x8, .f32⟩
  | 77 => ⟨S16384x8, .f32⟩
  | 78 => ⟨S16384x8, .f32⟩
  | 79 => ⟨S16384x8, .f32⟩
  | 80 => ⟨S16384x8, .f32⟩
  | 81 => ⟨S16384x8, .f32⟩
  | 82 => ⟨S2x16384x1024, .f32⟩
  | 83 => ⟨S_, .f32⟩
  | 84 => ⟨S2x16384, .f32⟩
  | 85 => ⟨S2x16384x1, .f32⟩
  | 86 => ⟨S_, .f32⟩
  | 87 => ⟨S2x16384x1, .f32⟩
  | 88 => ⟨S2x16384x1, .f32⟩
  | 89 => ⟨S_, .f32⟩
  | 90 => ⟨S2x16384x1, .f32⟩
  | 91 => ⟨S2x16384x1, .f32⟩
  | 92 => ⟨S2x16384x1, .f32⟩
  | 93 => ⟨S2x16384x1024, .f32⟩
  | 94 => ⟨S2x16384x1024, .f32⟩
  | 95 => ⟨S1x1x1024, .f32⟩
  | 96 => ⟨S2x16384x1024, .f32⟩
  | 97 => ⟨S2x16384x1024, .f32⟩
  | 98 => ⟨S_, .f32⟩
  | 99 => ⟨S2x1x1024, .f32⟩
  | 100 => ⟨S2x1x1024, .f32⟩
  | 101 => ⟨S2x16384x1024, .f32⟩
  | 102 => ⟨S2x16384x1024, .f32⟩
  | 103 => ⟨S2x16384x1024, .f32⟩
  | 104 => ⟨S2x16384x1024, .f32⟩
  | 105 => ⟨S2x16384x6144, .f32⟩
  | 106 => ⟨S2x16384x256, .f32⟩
  | 107 => ⟨S2x16384x4x64, .f32⟩
  | 108 => ⟨S2x16384x4x64, .f32⟩
  | 109 => ⟨S_, .f32⟩
  | 110 => ⟨S2x16384x4, .f32⟩
  | 111 => ⟨S2x16384x4x1, .f32⟩
  | 112 => ⟨S_, .f32⟩
  | 113 => ⟨S2x16384x4x1, .f32⟩
  | 114 => ⟨S2x16384x4x1, .f32⟩
  | 115 => ⟨S_, .f32⟩
  | 116 => ⟨S2x16384x4x1, .f32⟩
  | 117 => ⟨S2x16384x4x1, .f32⟩
  | 118 => ⟨S2x16384x4x1, .f32⟩
  | 119 => ⟨S2x16384x4x64, .f32⟩
  | 120 => ⟨S2x16384x4x64, .f32⟩
  | 121 => ⟨S1x1x1x64, .f32⟩
  | 122 => ⟨S2x16384x4x64, .f32⟩
  | 123 => ⟨S2x16384x4x64, .f32⟩
  | 124 => ⟨S2x16384x256, .f32⟩
  | 125 => ⟨S2x16384x4x2x32, .f32⟩
  | 126 => ⟨S2x16384x4x2x32, .f32⟩
  | 127 => ⟨S_, .f32⟩
  | _ => ⟨S2x16384x1024, .f32⟩

abbrev hbmTy0_1 (i : Nat) : BufTy := match i % 128 with
  | 0 => ⟨S2x16384x4x2, .f32⟩
  | 1 => ⟨S2x16384x4x2x1, .f32⟩
  | 2 => ⟨S_, .f32⟩
  | 3 => ⟨S2x16384x4x2x1, .f32⟩
  | 4 => ⟨S2x16384x4x2x1, .f32⟩
  | 5 => ⟨S_, .f32⟩
  | 6 => ⟨S2x16384x4x2x1, .f32⟩
  | 7 => ⟨S2x16384x4x2x1, .f32⟩
  | 8 => ⟨S2x16384x4x2x1, .f32⟩
  | 9 => ⟨S2x16384x4x2x32, .f32⟩
  | 10 => ⟨S2x16384x4x2x32, .f32⟩
  | 11 => ⟨S1x1x1x1x32, .f32⟩
  | 12 => ⟨S2x16384x4x2x32, .f32⟩
  | 13 => ⟨S2x16384x4x2x32, .f32⟩
  | 14 => ⟨S2x16384x256, .f32⟩
  | 15 => ⟨S2x16384x256, .f32⟩
  | 16 => ⟨S2x16384x4096, .f32⟩
  | 17 => ⟨S2x16384x1024, .f32⟩
  | 18 => ⟨S2x16384x256, .f32⟩
  | 19 => ⟨S2x16384x4x64, .f32⟩
  | 20 => ⟨S2x16384x4x64, .f32⟩
  | 21 => ⟨S_, .f32⟩
  | 22 => ⟨S2x16384x4, .f32⟩
  | 23 => ⟨S2x16384x4x1, .f32⟩
  | 24 => ⟨S_, .f32⟩
  | 25 => ⟨S2x16384x4x1, .f32⟩
  | 26 => ⟨S2x16384x4x1, .f32⟩
  | 27 => ⟨S_, .f32⟩
  | 28 => ⟨S2x16384x4x1, .f32⟩
  | 29 => ⟨S2x16384x4x1, .f32⟩
  | 30 => ⟨S2x16384x4x1, .f32⟩
  | 31 => ⟨S2x16384x4x64, .f32⟩
  | 32 => ⟨S2x16384x4x64, .f32⟩
  | 33 => ⟨S1x1x1x64, .f32⟩
  | 34 => ⟨S2x16384x4x64, .f32⟩
  | 35 => ⟨S2x16384x4x64, .f32⟩
  | 36 => ⟨S2x16384x256, .f32⟩
  | 37 => ⟨S2x16384x4x64, .f32⟩
  | 38 => ⟨S2x16384x256, .f32⟩
  | 39 => ⟨S2x16384x4x2x32, .f32⟩
  | 40 => ⟨S2x16384x4x2x32, .f32⟩
  | 41 => ⟨S_, .f32⟩
  | 42 => ⟨S2x16384x4x2, .f32⟩
  | 43 => ⟨S2x16384x4x2x1, .f32⟩
  | 44 => ⟨S_, .f32⟩
  | 45 => ⟨S2x16384x4x2x1, .f32⟩
  | 46 => ⟨S2x16384x4x2x1, .f32⟩
  | 47 => ⟨S_, .f32⟩
  | 48 => ⟨S2x16384x4x2x1, .f32⟩
  | 49 => ⟨S2x16384x4x2x1, .f32⟩
  | 50 => ⟨S2x16384x4x2x1, .f32⟩
  | 51 => ⟨S2x16384x4x2x32, .f32⟩
  | 52 => ⟨S2x16384x4x2x32, .f32⟩
  | 53 => ⟨S1x1x1x1x32, .f32⟩
  | 54 => ⟨S2x16384x4x2x32, .f32⟩
  | 55 => ⟨S2x16384x4x2x32, .f32⟩
  | 56 => ⟨S2x16384x256, .f32⟩
  | 57 => ⟨S2x16384x4x64, .f32⟩
  | 58 => ⟨S2x16384x4x2x16, .f32⟩
  | 59 => ⟨S16384x1x1x8, .f32⟩
  | 60 => ⟨S16384x1x1x8, .f32⟩
  | 61 => ⟨S2x16384x4x2x8, .f32⟩
  | 62 => ⟨S2x16384x4x2x8, .f32⟩
  | 63 => ⟨S1x16384x1x1x8, .f32⟩
  | 64 => ⟨S2x16384x4x2x8, .f32⟩
  | 65 => ⟨S2x16384x4x2x8, .f32⟩
  | 66 => ⟨S1x16384x1x1x8, .f32⟩
  | 67 => ⟨S2x16384x4x2x8, .f32⟩
  | 68 => ⟨S2x16384x4x2x8, .f32⟩
  | 69 => ⟨S2x16384x4x2x8, .f32⟩
  | 70 => ⟨S1x16384x1x1x8, .f32⟩
  | 71 => ⟨S2x16384x4x2x8, .f32⟩
  | 72 => ⟨S2x16384x4x2x8, .f32⟩
  | 73 => ⟨S1x16384x1x1x8, .f32⟩
  | 74 => ⟨S2x16384x4x2x8, .f32⟩
  | 75 => ⟨S2x16384x4x2x8, .f32⟩
  | 76 => ⟨S2x16384x4x2x8, .f32⟩
  | 77 => ⟨S2x16384x4x2x16, .f32⟩
  | 78 => ⟨S2x16384x4x2x16, .f32⟩
  | 79 => ⟨S16384x1x1x8, .f32⟩
  | 80 => ⟨S16384x1x1x8, .f32⟩
  | 81 => ⟨S2x16384x4x2x8, .f32⟩
  | 82 => ⟨S2x16384x4x2x8, .f32⟩
  | 83 => ⟨S1x16384x1x1x8, .f32⟩
  | 84 => ⟨S2x16384x4x2x8, .f32⟩
  | 85 => ⟨S2x16384x4x2x8, .f32⟩
  | 86 => ⟨S1x16384x1x1x8, .f32⟩
  | 87 => ⟨S2x16384x4x2x8, .f32⟩
  | 88 => ⟨S2x16384x4x2x8, .f32⟩
  | 89 => ⟨S2x16384x4x2x8, .f32⟩
  | 90 => ⟨S1x16384x1x1x8, .f32⟩
  | 91 => ⟨S2x16384x4x2x8, .f32⟩
  | 92 => ⟨S2x16384x4x2x8, .f32⟩
  | 93 => ⟨S1x16384x1x1x8, .f32⟩
  | 94 => ⟨S2x16384x4x2x8, .f32⟩
  | 95 => ⟨S2x16384x4x2x8, .f32⟩
  | 96 => ⟨S2x16384x4x2x8, .f32⟩
  | 97 => ⟨S2x16384x4x2x16, .f32⟩
  | 98 => ⟨S2x16384x4x2x32, .f32⟩
  | 99 => ⟨S2x16384x4x2x16, .f32⟩
  | 100 => ⟨S16384x1x1x8, .f32⟩
  | 101 => ⟨S16384x1x1x8, .f32⟩
  | 102 => ⟨S2x16384x4x2x8, .f32⟩
  | 103 => ⟨S2x16384x4x2x8, .f32⟩
  | 104 => ⟨S1x16384x1x1x8, .f32⟩
  | 105 => ⟨S2x16384x4x2x8, .f32⟩
  | 106 => ⟨S2x16384x4x2x8, .f32⟩
  | 107 => ⟨S1x16384x1x1x8, .f32⟩
  | 108 => ⟨S2x16384x4x2x8, .f32⟩
  | 109 => ⟨S2x16384x4x2x8, .f32⟩
  | 110 => ⟨S2x16384x4x2x8, .f32⟩
  | 111 => ⟨S1x16384x1x1x8, .f32⟩
  | 112 => ⟨S2x16384x4x2x8, .f32⟩
  | 113 => ⟨S2x16384x4x2x8, .f32⟩
  | 114 => ⟨S1x16384x1x1x8, .f32⟩
  | 115 => ⟨S2x16384x4x2x8, .f32⟩
  | 116 => ⟨S2x16384x4x2x8, .f32⟩
  | 117 => ⟨S2x16384x4x2x8, .f32⟩
  | 118 => ⟨S2x16384x4x2x16, .f32⟩
  | 119 => ⟨S2x16384x4x2x16, .f32⟩
  | 120 => ⟨S16384x1x1x8, .f32⟩
  | 121 => ⟨S16384x1x1x8, .f32⟩
  | 122 => ⟨S2x16384x4x2x8, .f32⟩
  | 123 => ⟨S2x16384x4x2x8, .f32⟩
  | 124 => ⟨S1x16384x1x1x8, .f32⟩
  | 125 => ⟨S2x16384x4x2x8, .f32⟩
  | 126 => ⟨S2x16384x4x2x8, .f32⟩
  | 127 => ⟨S1x16384x1x1x8, .f32⟩
  | _ => ⟨S2x16384x1024, .f32⟩

abbrev hbmTy0_2 (i : Nat) : BufTy := match i % 128 with
  | 0 => ⟨S2x16384x4x2x8, .f32⟩
  | 1 => ⟨S2x16384x4x2x8, .f32⟩
  | 2 => ⟨S2x16384x4x2x8, .f32⟩
  | 3 => ⟨S1x16384x1x1x8, .f32⟩
  | 4 => ⟨S2x16384x4x2x8, .f32⟩
  | 5 => ⟨S2x16384x4x2x8, .f32⟩
  | 6 => ⟨S1x16384x1x1x8, .f32⟩
  | 7 => ⟨S2x16384x4x2x8, .f32⟩
  | 8 => ⟨S2x16384x4x2x8, .f32⟩
  | 9 => ⟨S2x16384x4x2x8, .f32⟩
  | 10 => ⟨S2x16384x4x2x16, .f32⟩
  | 11 => ⟨S2x16384x4x2x32, .f32⟩
  | 12 => ⟨S_, .f32⟩
  | 13 => ⟨S2x16384x4x64, .f32⟩
  | 14 => ⟨S2x16384x4x64, .f32⟩
  | 15 => ⟨S_, .f32⟩
  | 16 => ⟨S_, .f32⟩
  | 17 => ⟨S_, .f32⟩
  | 18 => ⟨S_, .f32⟩
  | 19 => ⟨S_, .f32⟩
  | 20 => ⟨S2x16384x4x2x32, .f32⟩
  | 21 => ⟨S2x16384x4x2x32, .f32⟩
  | 22 => ⟨S2x16384x256, .f32⟩
  | 23 => ⟨S2x16384x256, .bf16⟩
  | 24 => ⟨S2x16384x256, .f32⟩
  | 25 => ⟨S2x256x16384, .f32⟩
  | 26 => ⟨S2x256x16384, .bf16⟩
  | 27 => ⟨S2x16384x4096, .f32⟩
  | 28 => ⟨S2x16384x4096, .f32⟩
  | 29 => ⟨S_, .f32⟩
  | 30 => ⟨S2x16384x4096, .f32⟩
  | 31 => ⟨S2x16384x4096, .f32⟩
  | 32 => ⟨S_, .f32⟩
  | 33 => ⟨S2x16384x4096, .f32⟩
  | 34 => ⟨S2x16384x4096, .f32⟩
  | 35 => ⟨S2x16384x4096, .bf16⟩
  | 36 => ⟨S2x16384x256, .f32⟩
  | 37 => ⟨S2x16384x256, .f32⟩
  | 38 => ⟨S2x16384x512, .f32⟩
  | 39 => ⟨S2x16384x512, .bf16⟩
  | 40 => ⟨S2x16384x256, .f32⟩
  | 41 => ⟨S2x16384x256, .bf16⟩
  | 42 => ⟨S2x16384x256, .f32⟩
  | 43 => ⟨S2x256x16384, .f32⟩
  | 44 => ⟨S2x256x16384, .bf16⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_2 : Ref sig .tc := ⟨.hbm, 68, rfl⟩
abbrev main_v19 : Ref sig .tc := ⟨.hbm, 69, rfl⟩
abbrev main_v20 : Ref sig .tc := ⟨.hbm, 70, rfl⟩
abbrev main_cst_3 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_4 : Ref sig .tc := ⟨.hbm, 83, rfl⟩
abbrev main_v32 : Ref sig .tc := ⟨.hbm, 84, rfl⟩
abbrev main_v33 : Ref sig .tc := ⟨.hbm, 85, rfl⟩
abbrev main_cst_5 : Ref sig .tc := ⟨.hbm, 86, rfl⟩
abbrev main_v34 : Ref sig .tc := ⟨.hbm, 87, rfl⟩
abbrev main_v35 : Ref sig .tc := ⟨.hbm, 88, rfl⟩
abbrev main_cst_6 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_cst_7 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_8 : Ref sig .tc := ⟨.hbm, 109, rfl⟩
abbrev main_v54 : Ref sig .tc := ⟨.hbm, 110, rfl⟩
abbrev main_v55 : Ref sig .tc := ⟨.hbm, 111, rfl⟩
abbrev main_cst_9 : Ref sig .tc := ⟨.hbm, 112, rfl⟩
abbrev main_v56 : Ref sig .tc := ⟨.hbm, 113, rfl⟩
abbrev main_v57 : Ref sig .tc := ⟨.hbm, 114, rfl⟩
abbrev main_cst_10 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_cst_11 : Ref sig .tc := ⟨.hbm, 127, rfl⟩
abbrev main_v69 : Ref sig .tc := ⟨.hbm, 128, rfl⟩
abbrev main_v70 : Ref sig .tc := ⟨.hbm, 129, rfl⟩
abbrev main_cst_12 : Ref sig .tc := ⟨.hbm, 130, rfl⟩
abbrev main_v71 : Ref sig .tc := ⟨.hbm, 131, rfl⟩
abbrev main_v72 : Ref sig .tc := ⟨.hbm, 132, rfl⟩
abbrev main_cst_13 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_14 : Ref sig .tc := ⟨.hbm, 149, rfl⟩
abbrev main_v88 : Ref sig .tc := ⟨.hbm, 150, rfl⟩
abbrev main_v89 : Ref sig .tc := ⟨.hbm, 151, rfl⟩
abbrev main_cst_15 : Ref sig .tc := ⟨.hbm, 152, rfl⟩
abbrev main_v90 : Ref sig .tc := ⟨.hbm, 153, rfl⟩
abbrev main_v91 : Ref sig .tc := ⟨.hbm, 154, rfl⟩
abbrev main_cst_16 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_17 : Ref sig .tc := ⟨.hbm, 169, rfl⟩
abbrev main_v105 : Ref sig .tc := ⟨.hbm, 170, rfl⟩
abbrev main_v106 : Ref sig .tc := ⟨.hbm, 171, rfl⟩
abbrev main_cst_18 : Ref sig .tc := ⟨.hbm, 172, rfl⟩
abbrev main_v107 : Ref sig .tc := ⟨.hbm, 173, rfl⟩
abbrev main_v108 : Ref sig .tc := ⟨.hbm, 174, rfl⟩
abbrev main_cst_19 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_cst_20 : Ref sig .tc := ⟨.hbm, 268, rfl⟩
abbrev main_v201 : Ref sig .tc := ⟨.hbm, 269, rfl⟩
abbrev main_v202 : Ref sig .tc := ⟨.hbm, 270, rfl⟩
abbrev main_cst_21 : Ref sig .tc := ⟨.hbm, 271, rfl⟩
abbrev main_v203 : Ref sig .tc := ⟨.hbm, 272, rfl⟩
abbrev main_cst_22 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_cst_23 : Ref sig .tc := ⟨.hbm, 285, rfl⟩
abbrev main_v215 : Ref sig .tc := ⟨.hbm, 286, rfl⟩
abbrev main_v216 : Ref sig .tc := ⟨.hbm, 287, rfl⟩
abbrev main_cst_24 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x1x1024 : Shape := ⟨3, ![2, 1, 1024]⟩
abbrev S2x16384x256 : Shape := ⟨3, ![2, 16384, 256]⟩
abbrev S2x16384x4096 : Shape := ⟨3, ![2, 16384, 4096]⟩
abbrev S4x64x64 : Shape := ⟨3, ![4, 64, 64]⟩
abbrev S256 : Shape := ⟨1, ![256]⟩
abbrev S256x256 : Shape := ⟨2, ![256, 256]⟩
abbrev S4x256x1024 : Shape := ⟨3, ![4, 256, 1024]⟩
abbrev S1024x1024 : Shape := ⟨2, ![1024, 1024]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S1x256 : Shape := ⟨2, ![1, 256]⟩
abbrev S2x256x16384 : Shape := ⟨3, ![2, 256, 16384]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1x8x256 : Shape := ⟨3, ![1, 8, 256]⟩
abbrev S1x1024x4096 : Shape := ⟨3, ![1, 1024, 4096]⟩
abbrev S1024x256 : Shape := ⟨2, ![1024, 256]⟩
abbrev S8x256 : Shape := ⟨2, ![8, 256]⟩
abbrev S1040x256 : Shape := ⟨2, ![1040, 256]⟩
abbrev S1024x1 : Shape := ⟨2, ![1024, 1]⟩
abbrev S256x1024 : Shape := ⟨2, ![256, 1024]⟩
abbrev S1x1024 : Shape := ⟨2, ![1, 1024]⟩

abbrev nBuf : Space → Nat
  | .hbm => 37
  | .vmem => 25
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x16384x256, .f32⟩
  | .hbm, ⟨3, _⟩ => ⟨S2x16384x256, .f32⟩
  | .hbm, ⟨4, _⟩ => ⟨S2x16384x256, .f32⟩
  | .hbm, ⟨5, _⟩ => ⟨S2x16384x256, .f32⟩
  | .hbm, ⟨6, _⟩ => ⟨S2x16384x4096, .f32⟩
  | .hbm, ⟨7, _⟩ => ⟨S4x64x64, .f32⟩
  | .hbm, ⟨8, _⟩ => ⟨S256, .f32⟩
  | .hbm, ⟨9, _⟩ => ⟨S256x256, .f32⟩
  | .hbm, ⟨10, _⟩ => ⟨S4x256x1024, .f32⟩
  | .hbm, ⟨11, _⟩ => ⟨S1024x1024, .f32⟩
  | .hbm, ⟨12, _⟩ => ⟨S4x256x1024, .bf16⟩
  | .hbm, ⟨13, _⟩ => ⟨S256x256, .bf16⟩
  | .hbm, ⟨14, _⟩ => ⟨S1x64x64, .f32⟩
  | .hbm, ⟨15, _⟩ => ⟨S64x64, .f32⟩
  | .hbm, ⟨16, _⟩ => ⟨S1x64x64, .f32⟩
  | .hbm, ⟨17, _⟩ => ⟨S64x64, .f32⟩
  | .hbm, ⟨18, _⟩ => ⟨S1x64x64, .f32⟩
  | .hbm, ⟨19, _⟩ => ⟨S64x64, .f32⟩
  | .hbm, ⟨20, _⟩ => ⟨S1x64x64, .f32⟩
  | .hbm, ⟨21, _⟩ => ⟨S64x64, .f32⟩
  | .hbm, ⟨22, _⟩ => ⟨S_, .f32⟩
  | .hbm, ⟨23, _⟩ => ⟨S64x256, .f32⟩
  | .hbm, ⟨24, _⟩ => ⟨S_, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S_, .f32⟩
  | .hbm, ⟨29, _⟩ => ⟨S64x256, .f32⟩
  | .hbm, ⟨30, _⟩ => ⟨S256x256, .f32⟩
  | .hbm, ⟨31, _⟩ => ⟨S256x256, .bf16⟩
  | .hbm, ⟨32, _⟩ => ⟨S1x256, .f32⟩
  | .hbm, ⟨33, _⟩ => ⟨S1024x1024, .bf16⟩
  | .hbm, ⟨34, _⟩ => ⟨S2x256x16384, .f32⟩
  | .hbm, ⟨35, _⟩ => ⟨S2x16384x4096, .bf16⟩
  | .hbm, ⟨36, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024x256, .f32⟩
  | .local _ .vmem, ⟨9, _⟩ => ⟨S1x1024x256, .f32⟩
  | .local _ .vmem, ⟨10, _⟩ => ⟨S1x8x256, .f32⟩
  | .local _ .vmem, ⟨11, _⟩ => ⟨S1x8x256, .f32⟩
  | .local _ .vmem, ⟨12, _⟩ => ⟨S1x8x256, .f32⟩
  | .local _ .vmem, ⟨13, _⟩ => ⟨S1x8x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x4096, .bf16⟩
  | .local _ .vmem, ⟨17, _⟩ => ⟨S1x1024x4096, .bf16⟩
  | .local _ .vmem, ⟨18, _⟩ => ⟨S4x256x1024, .bf16⟩
  | .local _ .vmem, ⟨19, _⟩ => ⟨S256x256, .bf16⟩
  | .local _ .vmem, ⟨20, _⟩ => ⟨S1x256, .f32⟩
  | .local _ .vmem, ⟨21, _⟩ => ⟨S256x256, .bf16⟩
  | .local _ .vmem, ⟨22, _⟩ => ⟨S1024x1024, .bf16⟩
  | .local _ .vmem, ⟨23, _⟩ => ⟨S1x1024x1024, .f32⟩
  | .local _ .vmem, ⟨24, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_cst_1 : Ref sig .tc := ⟨.hbm, 26, rfl⟩
abbrev main_call0_v6 : Ref sig .tc := ⟨.hbm, 27, rfl⟩
abbrev main_call0_cst_2 : Ref sig .tc := ⟨.hbm, 28, rfl⟩
abbrev main_call0_v7 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S2x16384x1024 : Shape := ⟨3, ![2, 16384, 1024]⟩
abbrev S2x1x1024 : Shape := ⟨3, ![2, 1, 1024]⟩
abbrev S2x16384x256 : Shape := ⟨3, ![2, 16384, 256]⟩
abbrev S2x16384x4096 : Shape := ⟨3, ![2, 16384, 4096]⟩
abbrev S4x64x64 : Shape := ⟨3, ![4, 64, 64]⟩
abbrev S256 : Shape := ⟨1, ![256]⟩
abbrev S256x256 : Shape := ⟨2, ![256, 256]⟩
abbrev S4x256x1024 : Shape := ⟨3, ![4, 256, 1024]⟩
abbrev S1024x1024 : Shape := ⟨2, ![1024, 1024]⟩
abbrev S2x1x256 : Shape := ⟨3, ![2, 1, 256]⟩
abbrev S_ : Shape := ⟨0, ![]⟩
abbrev S2x16385x256 : Shape := ⟨3, ![2, 16385, 256]⟩
abbrev S16384 : Shape := ⟨1, ![16384]⟩
abbrev S1x16384x1 : Shape := ⟨3, ![1, 16384, 1]⟩
abbrev S2x16385x64 : Shape := ⟨3, ![2, 16385, 64]⟩
abbrev S16384x1 : Shape := ⟨2, ![16384, 1]⟩
abbrev S2x16384x64 : Shape := ⟨3, ![2, 16384, 64]⟩
abbrev S1x64x64 : Shape := ⟨3, ![1, 64, 64]⟩
abbrev S64x64 : Shape := ⟨2, ![64, 64]⟩
abbrev S1x1x256 : Shape := ⟨3, ![1, 1, 256]⟩
abbrev S1x256x1024 : Shape := ⟨3, ![1, 256, 1024]⟩
abbrev S256x1024 : Shape := ⟨2, ![256, 1024]⟩

abbrev nBuf : Space → Nat
  | .hbm => 260
  | .vmem => 0
  | .smem => 0
  | _ => 0

abbrev hbmTy0_0 (i : Nat) : BufTy := match i % 128 with
  | 0 => ⟨S2x16384x1024, .f32⟩
  | 1 => ⟨S2x1x1024, .f32⟩
  | 2 => ⟨S2x16384x256, .f32⟩
  | 3 => ⟨S2x16384x256, .f32⟩
  | 4 => ⟨S2x16384x256, .f32⟩
  | 5 => ⟨S2x16384x256, .f32⟩
  | 6 => ⟨S2x16384x4096, .f32⟩
  | 7 => ⟨S4x64x64, .f32⟩
  | 8 => ⟨S256, .f32⟩
  | 9 => ⟨S256x256, .f32⟩
  | 10 => ⟨S4x256x1024, .f32⟩
  | 11 => ⟨S1024x1024, .f32⟩
  | 12 => ⟨S2x1x256, .f32⟩
  | 13 => ⟨S_, .f32⟩
  | 14 => ⟨S2x1x256, .f32⟩
  | 15 => ⟨S_, .f32⟩
  | 16 => ⟨S_, .f32⟩
  | 17 => ⟨S2x16384x256, .f32⟩
  | 18 => ⟨S2x16385x256, .f32⟩
  | 19 => ⟨S16384, .i32⟩
  | 20 => ⟨S_, .i32⟩
  | 21 => ⟨S16384, .i32⟩
  | 22 => ⟨S16384, .i32⟩
  | 23 => ⟨S_, .i32⟩
  | 24 => ⟨S_, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i32⟩
  | 31 => ⟨S_, .i32⟩
  | 32 => ⟨S16384, .i32⟩
  | 33 => ⟨S16384, .i32⟩
  | 34 => ⟨S_, .i32⟩
  | 35 => ⟨S_, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i32⟩
  | 42 => ⟨S16384, .i32⟩
  | 43 => ⟨S16384, .f32⟩
  | 44 => ⟨S1x16384x1, .f32⟩
  | 45 => ⟨S2x16385x64, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S2x16384x64, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S2x16384x64, .f32⟩
  | 64 => ⟨S2x16384x64, .f32⟩
  | 65 => ⟨S2x16384x64, .f32⟩
  | 66 => ⟨S2x16384x64, .f32⟩
  | 67 => ⟨S2x16384x64, .f32⟩
  | 68 => ⟨S2x16384x64, .f32⟩
  | 69 => ⟨S1x64x64, .f32⟩
  | 70 => ⟨S64x64, .f32⟩
  | 71 => ⟨S2x16384x64, .f32⟩
  | 72 => ⟨S_, .i32⟩
  | 73 => ⟨S16384, .i32⟩
  | 74 => ⟨S16384, .i32⟩
  | 75 => ⟨S_, .i32⟩
  | 76 => ⟨S_, .i32⟩
  | 77 => ⟨S_, .i32⟩
  | 78 => ⟨S16384, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i32⟩
  | 86 => ⟨S_, .i32⟩
  | 87 => ⟨S_, .i32⟩
  | 88 => ⟨S_, .i32⟩
  | 89 => ⟨S16384, .i32⟩
  | 90 => ⟨S16384, .i32⟩
  | 91 => ⟨S_, .i32⟩
  | 92 => ⟨S16384, .i32⟩
  | 93 => ⟨S16384, .i32⟩
  | 94 => ⟨S16384, .i32⟩
  | 95 => ⟨S16384, .f32⟩
  | 96 => ⟨S1x16384x1, .f32⟩
  | 97 => ⟨S2x16385x64, .f32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S2x16384x64, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S2x16384x64, .f32⟩
  | 116 => ⟨S2x16384x64, .f32⟩
  | 117 => ⟨S2x16384x64, .f32⟩
  | 118 => ⟨S2x16384x64, .f32⟩
  | 119 => ⟨S2x16384x64, .f32⟩
  | 120 => ⟨S2x16384x64, .f32⟩
  | 121 => ⟨S1x64x64, .f32⟩
  | 122 => ⟨S64x64, .f32⟩
  | 123 => ⟨S2x16384x64, .f32⟩
  | 124 => ⟨S_, .i32⟩
  | 125 => ⟨S16384, .i32⟩
  | 126 => ⟨S16384, .i32⟩
  | 127 => ⟨S_, .i32⟩
  | _ => ⟨S2x16384x1024, .f32⟩

abbrev hbmTy0_1 (i : Nat) : BufTy := match i % 128 with
  | 0 => ⟨S_, .i32⟩
  | 1 => ⟨S_, .i32⟩
  | 2 => ⟨S16384, .i32⟩
  | 3 => ⟨S16384, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i32⟩
  | 10 => ⟨S_, .i32⟩
  | 11 => ⟨S_, .i32⟩
  | 12 => ⟨S_, .i32⟩
  | 13 => ⟨S16384, .i32⟩
  | 14 => ⟨S16384, .i32⟩
  | 15 => ⟨S_, .i32⟩
  | 16 => ⟨S16384, .i32⟩
  | 17 => ⟨S16384, .i32⟩
  | 18 => ⟨S16384, .i32⟩
  | 19 => ⟨S16384, .f32⟩
  | 20 => ⟨S1x16384x1, .f32⟩
  | 21 => ⟨S2x16385x64, .f32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S2x16384x64, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S2x16384x64, .f32⟩
  | 40 => ⟨S2x16384x64, .f32⟩
  | 41 => ⟨S2x16384x64, .f32⟩
  | 42 => ⟨S2x16384x64, .f32⟩
  | 43 => ⟨S2x16384x64, .f32⟩
  | 44 => ⟨S2x16384x64, .f32⟩
  | 45 => ⟨S1x64x64, .f32⟩
  | 46 => ⟨S64x64, .f32⟩
  | 47 => ⟨S2x16384x64, .f32⟩
  | 48 => ⟨S_, .i32⟩
  | 49 => ⟨S16384, .i32⟩
  | 50 => ⟨S16384, .i32⟩
  | 51 => ⟨S_, .i32⟩
  | 52 => ⟨S_, .i32⟩
  | 53 => ⟨S_, .i32⟩
  | 54 => ⟨S16384, .i32⟩
  | 55 => ⟨S16384, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S_, .i32⟩
  | 63 => ⟨S_, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S16384, .i32⟩
  | 71 => ⟨S16384, .f32⟩
  | 72 => ⟨S1x16384x1, .f32⟩
  | 73 => ⟨S2x16385x64, .f32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S2x16384x64, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S2x16384x64, .f32⟩
  | 92 => ⟨S2x16384x64, .f32⟩
  | 93 => ⟨S2x16384x64, .f32⟩
  | 94 => ⟨S2x16384x64, .f32⟩
  | 95 => ⟨S2x16384x64, .f32⟩
  | 96 => ⟨S2x16384x64, .f32⟩
  | 97 => ⟨S1x64x64, .f32⟩
  | 98 => ⟨S64x64, .f32⟩
  | 99 => ⟨S2x16384x64, .f32⟩
  | 100 => ⟨S2x16384x256, .f32⟩
  | 101 => ⟨S1x1x256, .f32⟩
  | 102 => ⟨S2x16384x256, .f32⟩
  | 103 => ⟨S2x16384x256, .f32⟩
  | 104 => ⟨S2x16384x256, .f32⟩
  | 105 => ⟨S2x16384x1024, .f32⟩
  | 106 => ⟨S1x256x1024, .f32⟩
  | 107 => ⟨S256x1024, .f32⟩
  | 108 => ⟨S2x16384x1024, .f32⟩
  | 109 => ⟨S2x16384x1024, .f32⟩
  | 110 => ⟨S2x16384x1024, .f32⟩
  | 111 => ⟨S1x256x1024, .f32⟩
  | 112 => ⟨S256x1024, .f32⟩
  | 113 => ⟨S2x16384x1024, .f32⟩
  | 114 => ⟨S2x16384x1024, .f32⟩
  | 115 => ⟨S2x16384x1024, .f32⟩
  | 116 => ⟨S2x16384x1024, .f32⟩
  | 117 => ⟨S1x256x1024, .f32⟩
  | 118 => ⟨S256x1024, .f32⟩
  | 119 => ⟨S2x16384x1024, .f32⟩
  | 120 => ⟨S2x16384x1024, .f32⟩
  | 121 => ⟨S2x16384x1024, .f32⟩
  | 122 => ⟨S2x16384x1024, .f32⟩
  | 123 => ⟨S1x256x1024, .f32⟩
  | 124 => ⟨S256x1024, .f32⟩
  | 125 => ⟨S2x16384x1024, .f32⟩
  | 126 => ⟨S2x16384x1024, .f32⟩
  | 127 => ⟨S2x16384x1024, .f32⟩
  | _ => ⟨S2x16384x1024, .f32⟩

abbrev hbmTy0_2 (i : Nat) : BufTy := match i % 128 with
  | 0 => ⟨S2x16384x1024, .f32⟩
  | 1 => ⟨S2x16384x1024, .f32⟩
  | 2 => ⟨S2x16384x1024, .f32⟩
  | 3 => ⟨S2x16384x1024, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_call0_call0_cst : Ref sig .tc := ⟨.hbm, 15, rfl⟩
abbrev main_call0_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_c_3 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_5 : Ref sig .tc := ⟨.hbm, 46, rfl⟩
abbrev main_v15 : Ref sig .tc := ⟨.hbm, 47, rfl⟩
abbrev main_v16 : Ref sig .tc := ⟨.hbm, 48, rfl⟩
abbrev main_c_6 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_7 : Ref sig .tc := ⟨.hbm, 55, rfl⟩
abbrev main_v22 : Ref sig .tc := ⟨.hbm, 56, rfl⟩
abbrev main_v23 : Ref sig .tc := ⟨.hbm, 57, rfl⟩
abbrev main_c_8 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_9 : Ref sig .tc := ⟨.hbm, 72, rfl⟩
abbrev main_v37 : Ref sig .tc := ⟨.hbm, 73, rfl⟩
abbrev main_v38 : Ref sig .tc := ⟨.hbm, 74, rfl⟩
abbrev main_c_10 : Ref sig .tc := ⟨.hbm, 75, rfl⟩
abbrev main_c_11 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v39 : Ref sig .tc := ⟨.hbm, 82, rfl⟩
abbrev main_c_12 : Ref sig .tc := ⟨.hbm, 83, rfl⟩
abbrev main_v40 : Ref sig .tc := ⟨.hbm, 84, rfl⟩
abbrev main_v41 : Ref sig .tc := ⟨.hbm, 85, rfl⟩
abbrev main_c_13 : Ref sig .tc := ⟨.hbm, 86, rfl⟩
abbrev main_c_14 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_15 : Ref sig .tc := ⟨.hbm, 98, rfl⟩
abbrev main_v47 : Ref sig .tc := ⟨.hbm, 99, rfl⟩
abbrev main_v48 : Ref sig .tc := ⟨.hbm, 100, rfl⟩
abbrev main_c_16 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_17 : Ref sig .tc := ⟨.hbm, 107, rfl⟩
abbrev main_v54 : Ref sig .tc := ⟨.hbm, 108, rfl⟩
abbrev main_v55 : Ref sig .tc := ⟨.hbm, 109, rfl⟩
abbrev main_c_18 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_19 : Ref sig .tc := ⟨.hbm, 124, rfl⟩
abbrev main_v69 : Ref sig .tc := ⟨.hbm, 125, rfl⟩
abbrev main_v70 : Ref sig .tc := ⟨.hbm, 126, rfl⟩
abbrev main_c_20 : Ref sig .tc := ⟨.hbm, 127, rfl⟩
abbrev main_c_21 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v71 : Ref sig .tc := ⟨.hbm, 134, rfl⟩
abbrev main_c_22 : Ref sig .tc := ⟨.hbm, 135, rfl⟩
abbrev main_v72 : Ref sig .tc := ⟨.hbm, 136, rfl⟩
abbrev main_v73 : Ref sig .tc := ⟨.hbm, 137, rfl⟩
abbrev main_c_23 : Ref sig .tc := ⟨.hbm, 138, rfl⟩
abbrev main_c_24 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_c_25 : Ref sig .tc := ⟨.hbm, 150, rfl⟩
abbrev main_v79 : Ref sig .tc := ⟨.hbm, 151, rfl⟩
abbrev main_v80 : Ref sig .tc := ⟨.hbm, 152, rfl⟩
abbrev main_c_26 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_c_27 : Ref sig .tc := ⟨.hbm, 159, rfl⟩
abbrev main_v86 : Ref sig .tc := ⟨.hbm, 160, rfl⟩
abbrev main_v87 : Ref sig .tc := ⟨.hbm, 161, rfl⟩
abbrev main_c_28 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_c_29 : Ref sig .tc := ⟨.hbm, 176, rfl⟩
abbrev main_v101 : Ref sig .tc := ⟨.hbm, 177, rfl⟩
abbrev main_v102 : Ref sig .tc := ⟨.hbm, 178, rfl⟩
abbrev main_c_30 : Ref sig .tc := ⟨.hbm, 179, rfl⟩
abbrev main_c_31 : Ref sig .tc := ⟨.hbm, 180, rfl⟩
abbrev main_call7_v0 : Ref sig .tc := ⟨.hbm, 181, rfl⟩
abbrev main_call7_v1 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_v103 : Ref sig .tc := ⟨.hbm, 186, rfl⟩
abbrev main_c_32 : Ref sig .tc := ⟨.hbm, 187, rfl⟩
abbrev main_v104 : Ref sig .tc := ⟨.hbm, 188, rfl⟩
abbrev main_v105 : Ref sig .tc := ⟨.hbm, 189, rfl⟩
abbrev main_c_33 : Ref sig .tc := ⟨.hbm, 190, rfl⟩
abbrev main_c_34 : Ref sig .tc := ⟨.hbm, 191, rfl⟩
abbrev main_call8_v0 : Ref sig .tc := ⟨.hbm, 192, rfl⟩
abbrev main_call8_v1 : Ref sig .tc := ⟨.hbm, 193, rfl⟩
abbrev main_call8_v2 : Ref sig .tc := ⟨.hbm, 194, rfl⟩
abbrev main_call8_v3 : Ref sig .tc := ⟨.hbm, 195, rfl⟩
abbrev main_call8_v4 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_c_35 : Ref sig .tc := ⟨.hbm, 202, rfl⟩
abbrev main_v111 : Ref sig .tc := ⟨.hbm, 203, rfl⟩
abbrev main_v112 : Ref sig .tc := ⟨.hbm, 204, rfl⟩
abbrev main_c_36 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_c_37 : Ref sig .tc := ⟨.hbm, 211, rfl⟩
abbrev main_v118 : Ref sig .tc := ⟨.hbm, 212, rfl⟩
abbrev main_v119 : Ref sig .tc := ⟨.hbm, 213, rfl⟩
abbrev main_c_38 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x1x1024 : Shape := ⟨3, ![2, 1, 1024]⟩
abbrev S1024 : Shape := ⟨1, ![1024]⟩
abbrev S1024x16 : Shape := ⟨2, ![1024, 16]⟩
abbrev S1x1024 : Shape := ⟨2, ![1, 1024]⟩
abbrev S16x1024 : Shape := ⟨2, ![16, 1024]⟩
abbrev S2x16x128x128 : Shape := ⟨4, ![2, 16, 128, 128]⟩
abbrev S1x2048x1024 : Shape := ⟨3, ![1, 2048, 1024]⟩
abbrev S1x1x1024 : Shape := ⟨3, ![1, 1, 1024]⟩
abbrev S1x16x16x128 : Shape := ⟨4, ![1, 16, 16, 128]⟩
abbrev S2048x1024 : Shape := ⟨2, ![2048, 1024]⟩
abbrev S2048 : Shape := ⟨1, ![2048]⟩
abbrev S2048x1 : Shape := ⟨2, ![2048, 1]⟩
abbrev S16x2048 : Shape := ⟨2, ![16, 2048]⟩
abbrev S1x2048 : Shape := ⟨2, ![1, 2048]⟩
abbrev S16x128 : Shape := ⟨2, ![16, 128]⟩
abbrev S1x16x1x128 : Shape := ⟨4, ![1, 16, 1, 128]⟩

abbrev nBuf : Space → Nat
  | .hbm => 13
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x16, .f32⟩
  | .hbm, ⟨5, _⟩ => ⟨S1x1024, .f32⟩
  | .hbm, ⟨6, _⟩ => ⟨S16x1024, .f32⟩
  | .hbm, ⟨7, _⟩ => ⟨S16x1024, .bf16⟩
  | .hbm, ⟨8, _⟩ => ⟨S16x1024, .f32⟩
  | .hbm, ⟨9, _⟩ => ⟨S16x1024, .f32⟩
  | .hbm, ⟨10, _⟩ => ⟨S16x1024, .bf16⟩
  | .hbm, ⟨11, _⟩ => ⟨S2x16384x1024, .bf16⟩
  | .hbm, ⟨12, _⟩ => ⟨S2x16x128x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S16x1024, .bf16⟩
  | .local _ .vmem, ⟨8, _⟩ => ⟨S16x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x16x16x128, .f32⟩
  | .local _ .vmem, ⟨12, _⟩ => ⟨S1x16x16x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x16384x1024 : Shape := ⟨3, ![2, 16384, 1024]⟩
abbrev S2x1x1024 : Shape := ⟨3, ![2, 1, 1024]⟩
abbrev S1024 : Shape := ⟨1, ![1024]⟩
abbrev S1024x16 : Shape := ⟨2, ![1024, 16]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x16 : Shape := ⟨3, ![2, 16384, 16]⟩
abbrev S2x16x16384 : Shape := ⟨3, ![2, 16, 16384]⟩
abbrev S2x16x128x128 : Shape := ⟨4, ![2, 16, 128, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x16, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x16, .f32⟩
  | .hbm, ⟨29, _⟩ => ⟨S_, .f32⟩
  | .hbm, ⟨30, _⟩ => ⟨S2x16384, .f32⟩
  | .hbm, ⟨31, _⟩ => ⟨S_, .f32⟩
  | .hbm, ⟨32, _⟩ => ⟨S2x16384, .f32⟩
  | .hbm, ⟨33, _⟩ => ⟨S2x16384, .f32⟩
  | .hbm, ⟨34, _⟩ => ⟨S2x16384x1, .f32⟩
  | .hbm, ⟨35, _⟩ => ⟨S2x16384x16, .f32⟩
  | .hbm, ⟨36, _⟩ => ⟨S2x16384x16, .f32⟩
  | .hbm, ⟨37, _⟩ => ⟨S2x16384x16, .f32⟩
  | .hbm, ⟨38, _⟩ => ⟨S_, .f32⟩
  | .hbm, ⟨39, _⟩ => ⟨S2x16384, .f32⟩
  | .hbm, ⟨40, _⟩ => ⟨S2x16384x1, .f32⟩
  | .hbm, ⟨41, _⟩ => ⟨S2x16384x16, .f32⟩
  | .hbm, ⟨42, _⟩ => ⟨S2x16384x16, .f32⟩
  | .hbm, ⟨43, _⟩ => ⟨S2x16384x1024, .bf16⟩
  | .hbm, ⟨44, _⟩ => ⟨S2x16x16384, .f32⟩
  | .hbm, ⟨45, _⟩ => ⟨S2x16x128x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel6.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S8x6144 : Shape := ⟨2, ![8, 6144]⟩
abbrev S1x1024x512 : Shape := ⟨3, ![1, 1024, 512]⟩
abbrev S1x1x512 : Shape := ⟨3, ![1, 1, 512]⟩
abbrev S8x512 : Shape := ⟨2, ![8, 512]⟩
abbrev S1024x512 : Shape := ⟨2, ![1024, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S8x6144, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S5x6144 : Shape := ⟨2, ![5, 6144]⟩
abbrev S8x6144 : Shape := ⟨2, ![8, 6144]⟩

abbrev nBuf : Space → Nat
  | .hbm => 41
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S2x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S2x6144, .f32⟩
  | .hbm, ⟨29, _⟩ => ⟨S2x6144, .f32⟩
  | .hbm, ⟨30, _⟩ => ⟨S1x1024x6144, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S1x6144, .f32⟩
  | .hbm, ⟨38, _⟩ => ⟨S6144, .f32⟩
  | .hbm, ⟨39, _⟩ => ⟨S5x6144, .f32⟩
  | .hbm, ⟨40, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Proof.Payload.lean ====
/-
  What the kernel's vector expressions are at one index, over the extended reals.
-/
module

public import proofs.«01_k».proof.Proof.Gen.KernelIdeal.Skeleton
public import Idealize.ShloMosaic.Lib.Pointwise
public import Idealize.ShloMosaic.Lib.Tactic.WordOmega

@[expose] public section

set_option maxRecDepth 16384

noncomputable section

namespace Cert.KernelIdeal.Pay

open Cert.KernelIdeal Cert.KernelIdeal.Gen Idealize.ShloMosaic Idealize.ShloMosaic.TcCoe

/-- The exponent's factor: `log₂ e / √32`. -/
abbrev scale : EReal := (((Real.log 2)⁻¹ * (Real.sqrt 32)⁻¹ : ℝ) : EReal)

/-- The weight `2 ^ (score)` of key `j` for query `q` inside one chunk of keys. -/
theorem pay4_apply (k : Vec Ideal S1x3328x256 .bf16) (qx : Vec Ideal S1x256x2048 .bf16) (j : Fin 3328) (q : Fin 2048) :
    k0_pay4 k qx (ix2 j q) = Ideal.exp2 (∑ w : Fin 256, k (ix3 0 j w) * qx (ix3 0 w q)) := by
  unfold k0_pay4 k0_pay2
  pointwise
  rfl

/-- One chunk's addition to row `r` of the denominators. -/
theorem pay5_apply (k : Vec Ideal S1x3328x256 .bf16) (qx : Vec Ideal S1x256x2048 .bf16) (l : Vec Ideal S1x8x2048 .f32)
    (r : Fin 8) (q : Fin 2048) :
    k0_pay5 k qx l (ix3 0 r q)
      = l (ix3 0 r q) + ∑ g : Fin 416, Ideal.exp2 (∑ w : Fin 256, k (ix3 0 ⟨g.val * 8 + r.val, by omega⟩ w) * qx (ix3 0 w q)) := by
  unfold k0_pay5
  pointwise
  simp only [pay4_apply]

/-- One chunk's addition to the numerators. -/
theorem pay6_apply (k : Vec Ideal S1x3328x256 .bf16) (vt : Vec Ideal S1x64x3328 .bf16) (qx : Vec Ideal S1x256x2048 .bf16)
    (a : Vec Ideal S1x64x2048 .f32) (d : Fin 64) (q : Fin 2048) :
    k0_pay6 k vt qx a (ix3 0 d q)
      = a (ix3 0 d q) + ∑ j : Fin 3328, vt (ix3 0 d j) * Ideal.exp2 (∑ w : Fin 256, k (ix3 0 j w) * qx (ix3 0 w q)) := by
  unfold k0_pay6 k0_pay3
  pointwise
  simp only [pay4_apply]

/-- The group of 32 channels that channel `w` is in, as the kernel computes it. -/
theorem pay9_apply (w : Fin 256) (q : Fin 2048) : k0_pay9 (ix2 w q) = BitVec.ofNat 32 (w.val / 32) := by
  unfold k0_pay9
  pointwise
  revert w
  decide +kernel

/-- The scaled query. -/
theorem pay8_apply (qt : Vec Ideal S1x256x2048 .bf16) (w : Fin 256) (q : Fin 2048) :
    k0_pay8 qt (ix2 w q) = qt (ix3 0 w q) * scale := by
  unfold k0_pay8
  pointwise
  rw [IdealRules.named_const.ideal_named_scalar _ _ _ _ rfl]

theorem group_eq (w : Fin 256) (h : Fin 4) :
    IntOp.cmpi CmpIPredicate.eq (BitVec.ofNat 32 (w.val / 32)) (Scalar.addi (Scalar.muli (2#32) (BitVec.ofNat 32 h.val)) 0#32)
      = BitVec.ofBool (decide (w.val / 32 = 2 * h.val)) := by
  revert w h
  decide +kernel

theorem group_eq_succ (w : Fin 256) (h : Fin 4) :
    IntOp.cmpi CmpIPredicate.eq (BitVec.ofNat 32 (w.val / 32)) (Scalar.addi (Scalar.muli (2#32) (BitVec.ofNat 32 h.val)) 1#32)
      = BitVec.ofBool (decide (w.val / 32 = 2 * h.val + 1)) := by
  revert w h
  decide +kernel

/-- The scaled query kept on the channels of the head's first map and zero elsewhere. -/
theorem pay10_apply (i : grid0.Coords) (qt : Vec Ideal S1x256x2048 .bf16) (w : Fin 256) (q : Fin 2048) :
    k0_pay10 i qt (ix3 0 w q) = if w.val / 32 = 2 * (i 1).val then qt (ix3 0 w q) * scale else 0 := by
  unfold k0_pay10
  pointwise
  rw [pay9_apply, pay8_apply, group_eq w ⟨(i 1).val, (i 1).isLt⟩]
  split_ifs with e
  · simp [e, Scalar.select]
  · simp [e, Scalar.select]

/-- The scaled query kept on the channels of the head's second map and zero elsewhere. -/
theorem pay11_apply (h : Fin 4) (qt : Vec Ideal S1x256x2048 .bf16) (w : Fin 256) (q : Fin 2048) :
    k0_pay11 (BitVec.ofNat 32 h.val) (k0_pay8 qt) k0_pay9 (ix3 0 w q)
      = if w.val / 32 = 2 * h.val + 1 then qt (ix3 0 w q) * scale else 0 := by
  unfold k0_pay11
  pointwise
  rw [pay9_apply, pay8_apply, group_eq_succ w h]
  split_ifs with e
  · simp [e, Scalar.select]
  · simp [e, Scalar.select]

/-- The two sums of products that lambda is made of. -/
def lamDot (lv : Vec Ideal S4x32 .f32) (a b : Fin 4) : EReal := ∑ x : Fin 32, lv (ix2 a x) * lv (ix2 b x)

/-- Lambda. -/
def lam (lv : Vec Ideal S4x32 .f32) : EReal :=
  Ideal.exp (lamDot lv 0 1) - Ideal.exp (lamDot lv 2 3) + Ideal.ofBits .f32 0x3E4CCCCD#32

/-- The norm and the weight after it: entry `d` of the head's 64 values `o`. -/
def tail (o : Fin 64 → EReal) (g : EReal) (d : Fin 64) : EReal :=
  o d * Ideal.rsqrt (Ideal.div (∑ x : Fin 64, o x * o x) (Ideal.ofBits .f32 0x42800000#32) + Ideal.ofBits .f32 0x358637BD#32) * g
    * Ideal.ofBits .f32 0x3F4CCCCD#32

theorem pay19_apply (lv : Vec Ideal S4x32 .f32) (g : Vec Ideal S64x1 .f32) (l0 l1 : Vec Ideal S1x8x2048 .f32)
    (a0 a1 : Vec Ideal S1x64x2048 .f32) (d : Fin 64) (q : Fin 2048) :
    k0_pay1 (k0_pay19 lv (k0_pay18 lv) l0 l1 a0 a1) g (ix3 0 d q)
      = tail (fun x => Ideal.div (a0 (ix3 0 x q)) (∑ r : Fin 8, l0 (ix3 0 r q))
          - lam lv * Ideal.div (a1 (ix3 0 x q)) (∑ r : Fin 8, l1 (ix3 0 r q))) (g (ix2 d 0)) d := by
  unfold k0_pay1 k0_pay19 k0_pay18
  pointwise [tail, lam, lamDot]

end Cert.KernelIdeal.Pay

end
-- ==== Proof.Trip.lean ====
/-
  One trip of the kernel's loop over the keys, and the five trips together: what the two accumulators hold.
-/
module

public import proofs.«01_k».proof.Proof.Gen.KernelIdeal.Loops
public import proofs.«01_k».proof.Proof.Payload
public import Idealize.ShloMosaic.Lib.WritesUnit
public import Idealize.ShloMosaic.Lib.VecWindow

@[expose] public section

set_option maxRecDepth 16384

noncomputable section

namespace Cert.KernelIdeal.Trip

open Cert.KernelIdeal Cert.KernelIdeal.Gen Cert.KernelIdeal.Pay Idealize.ShloMosaic Idealize.ShloMosaic.TcCoe

variable (𝒱 : Variants) (c : Dev nD) (bd : Option 𝒱.V) (i : grid0.Coords) (arg3 : Memref sig .tc .vmem S4x32 .f32) (harg3 : arg3.IsWhole) (arg4 : Memref sig .tc .vmem S64x1 .f32) (harg4 : arg4.IsWhole) (arg5 : Memref sig .tc .vmem S1x256x2048 .bf16) (harg5 : arg5.IsWhole) (arg6 : Memref sig .tc .vmem S1x16640x256 .bf16) (harg6 : arg6.IsWhole) (arg7 : Memref sig .tc .vmem S1x64x16640 .bf16) (harg7 : arg7.IsWhole) (arg8 : Memref sig .tc .vmem S1x64x2048 .f32) (harg8 : arg8.IsWhole) (arg9 : Memref sig .tc .vmem S2x256x2048 .bf16) (harg9 : arg9.IsWhole) (arg10 : Memref sig .tc .vmem S2x1x2048 .f32) (harg10 : arg10.IsWhole) (arg11 : Memref sig .tc .vmem S2x8x2048 .f32) (harg11 : arg11.IsWhole) (arg12 : Memref sig .tc .vmem S2x64x2048 .f32) (harg12 : arg12.IsWhole) (arg1 : BitVec 32) (v5 : FVec Ideal S256x2048 .bf16) (v30 : IVec S256x2048 32) (v39 : FVec Ideal S1x256x2048 .bf16) (X6 : BufTy.Contents (Elt Ideal) arg6.view.ty) (X7 : BufTy.Contents (Elt Ideal) arg7.view.ty) (X9 : BufTy.Contents (Elt Ideal) arg9.view.ty)

/-- The trip's offset into the keys. -/
theorem off_eq (k : Fin k0_t1_loop.trips) :
    BitVec.toNat (Scalar.indexCast (Scalar.muli (Scf.iv 0#32 1#32 k.val) 3328#32)) = 3328 * k.val := by
  have h : k.val < 5 := Nat.lt_of_lt_of_le k.isLt k0_t1_abs.2.1
  revert h
  generalize k.val = n
  intro h
  interval_cases n <;> rfl

/-- The weight of key `j` for query `q` under the scaled query's slab `mi`. -/
def wt (KX : Vec Ideal S1x16640x256 .bf16) (QX : Vec Ideal S2x256x2048 .bf16) (mi : Fin 2) (j : Fin 16640) (q : Fin 2048) : EReal :=
  Ideal.exp2 (∑ w : Fin 256, KX (ix3 0 j w) * QX (ix3 mi w q))

/-- One trip adds the chunk's weights to the denominators, eight rows of partial sums. -/
theorem trip_l (k : Fin k0_t1_loop.trips) (f11 : BufTy.Contents (Elt Ideal) arg11.view.ty) (f12 : BufTy.Contents (Elt Ideal) arg12.view.ty) (mi : Fin 2) (r : Fin 8) (q : Fin 2048) :
    arg11.view.read (Elt Ideal) (arg11.view.writes (Elt Ideal) f11 (tripL_k0_t1 (F := Ideal) 𝒱 c bd i arg3 harg3 arg4 harg4 arg5 harg5 arg6 harg6 arg7 harg7 arg8 harg8 arg9 harg9 arg10 harg10 arg11 harg11 arg12 harg12 arg1 v5 v30 v39 X6 X7 X9 k f11 f12).1) (ix3 mi r q)
      = arg11.view.read (Elt Ideal) f11 (ix3 mi r q) + ∑ g : Fin 416, wt (arg6.view.read (Elt Ideal) X6) (arg9.view.read (Elt Ideal) X9) mi ⟨3328 * k.val + (g.val * 8 + r.val), by have := Nat.lt_of_lt_of_le k.isLt k0_t1_abs.2.1; omega⟩ q := by
  unfold tripL_k0_t1 trip_k0_t1
  dsimp only
  fin_cases mi
  · rw [View.read_writes_cons_unit_of_not_mem _ _ _ _ _ _ rfl (0 : Fin 3) (by left; show 0 < 1; omega)]
    rw [View.read_writes_cons_unit_of_mem _ _ _ _ _ _ (ix3 0 r q) rfl (by intro a; fin_cases a <;> simp)]
    sl_unfold_words
    simp only [View.readAt_eq_ld]
    pointwise [wt, off_eq]
    rfl
  · rw [View.read_writes_cons_unit_of_mem _ _ _ _ _ _ (ix3 0 r q) rfl (by intro a; fin_cases a <;> simp)]
    sl_unfold_words
    simp only [View.readAt_eq_ld]
    unfold_payloads
    pointwise [wt, off_eq]
    rfl

/-- One trip adds the chunk's weighted values to the numerators. -/
theorem trip_a (k : Fin k0_t1_loop.trips) (f11 : BufTy.Contents (Elt Ideal) arg11.view.ty) (f12 : BufTy.Contents (Elt Ideal) arg12.view.ty) (mi : Fin 2) (d : Fin 64) (q : Fin 2048) :
    arg12.view.read (Elt Ideal) (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg1 v5 v30 v39 X6 X7 X9 k f11 f12).2) (ix3 mi d q)
      = arg12.view.read (Elt Ideal) f12 (ix3 mi d q) + ∑ j : Fin 3328, arg7.view.read (Elt Ideal) X7 (ix3 0 d ⟨3328 * k.val + j.val, by have := Nat.lt_of_lt_of_le k.isLt k0_t1_abs.2.1; omega⟩) * wt (arg6.view.read (Elt Ideal) X6) (arg9.view.read (Elt Ideal) X9) mi ⟨3328 * k.val + j.val, by have := Nat.lt_of_lt_of_le k.isLt k0_t1_abs.2.1; omega⟩ q := by
  unfold tripL_k0_t1 trip_k0_t1
  dsimp only
  fin_cases mi
  · rw [View.read_writes_cons_unit_of_not_mem _ _ _ _ _ _ rfl (0 : Fin 3) (by left; show 0 < 1; omega)]
    rw [View.read_writes_cons_unit_of_mem _ _ _ _ _ _ (ix3 0 d q) rfl (by intro a; fin_cases a <;> simp)]
    sl_unfold_words
    simp only [View.readAt_eq_ld]
    pointwise [wt, off_eq]
    rfl
  · rw [View.read_writes_cons_unit_of_mem _ _ _ _ _ _ (ix3 0 d q) rfl (by intro a; fin_cases a <;> simp)]
    sl_unfold_words
    simp only [View.readAt_eq_ld]
    unfold_payloads
    pointwise [wt, off_eq]
    rfl

theorem trips_eq : k0_t1_loop.trips = 5 := by decide

/-- The denominators after `n` trips. -/
theorem loop_l (G11 : BufTy.Contents (Elt Ideal) arg11.view.ty) (G12 : BufTy.Contents (Elt Ideal) arg12.view.ty) (mi : Fin 2) (r : Fin 8) (q : Fin 2048) (n : ℕ) (hn : n ≤ 5) :
    arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg1 v5 v30 v39 X6 X7 X9 G11 G12 n).1) (ix3 mi r q)
      = arg11.view.read (Elt Ideal) G11 (ix3 mi r q) + ∑ t : Fin n, ∑ g : Fin 416, wt (arg6.view.read (Elt Ideal) X6) (arg9.view.read (Elt Ideal) X9) mi ⟨3328 * t.val + (g.val * 8 + r.val), by have := t.isLt; omega⟩ q := by
  induction n with
  | zero =>
    rw [Fin.sum_univ_zero, add_zero]
    rfl
  | succ n ih =>
    have h := pb_k0_t1_succ (F := Ideal) 𝒱 c bd i arg3 harg3 arg4 harg4 arg5 harg5 arg6 harg6 arg7 harg7 arg8 harg8 arg9 harg9 arg10 harg10 arg11 harg11 arg12 harg12 arg1 v5 v30 v39 X6 X7 X9 G11 G12 ⟨n, by rw [trips_eq]; omega⟩
    dsimp only at h
    rw [h]
    dsimp only
    rw [View.writes_append, trip_l, ih (by omega), Fin.sum_univ_castSucc (n := n), add_assoc]
    rfl

/-- The numerators after `n` trips. -/
theorem loop_a (G11 : BufTy.Contents (Elt Ideal) arg11.view.ty) (G12 : BufTy.Contents (Elt Ideal) arg12.view.ty) (mi : Fin 2) (d : Fin 64) (q : Fin 2048) (n : ℕ) (hn : n ≤ 5) :
    arg12.view.read (Elt Ideal) (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 arg1 v5 v30 v39 X6 X7 X9 G11 G12 n).2) (ix3 mi d q)
      = arg12.view.read (Elt Ideal) G12 (ix3 mi d q) + ∑ t : Fin n, ∑ j : Fin 3328, arg7.view.read (Elt Ideal) X7 (ix3 0 d ⟨3328 * t.val + j.val, by have := t.isLt; omega⟩) * wt (arg6.view.read (Elt Ideal) X6) (arg9.view.read (Elt Ideal) X9) mi ⟨3328 * t.val + j.val, by have := t.isLt; omega⟩ q := by
  induction n with
  | zero =>
    rw [Fin.sum_univ_zero, add_zero]
    rfl
  | succ n ih =>
    have h := pb_k0_t1_succ (F := Ideal) 𝒱 c bd i arg3 harg3 arg4 harg4 arg5 harg5 arg6 harg6 arg7 harg7 arg8 harg8 arg9 harg9 arg10 harg10 arg11 harg11 arg12 harg12 arg1 v5 v30 v39 X6 X7 X9 G11 G12 ⟨n, by rw [trips_eq]; omega⟩
    dsimp only at h
    rw [h]
    dsimp only
    rw [View.writes_append, trip_a, ih (by omega), Fin.sum_univ_castSucc (n := n), add_assoc]
    rfl

end Cert.KernelIdeal.Trip

end
-- ==== Proof.Block.lean ====
/-
  What one grid point writes: the block of the result, at one index, from the blocks of the operands.
-/
module

public import proofs.«01_k».proof.Proof.Gen.KernelIdeal.Value
public import proofs.«01_k».proof.Proof.Trip

@[expose] public section

set_option maxRecDepth 16384

noncomputable section

namespace Cert.KernelIdeal.Blk

open Cert.KernelIdeal Cert.KernelIdeal.Gen Cert.KernelIdeal.Pay Cert.KernelIdeal.Trip
open Idealize.ShloMosaic Idealize.ShloMosaic.TcCoe Idealize.SL.Sem

/-- The head's query as the kernel stores it: slab `mi` keeps the channels of the head's map `mi`, scaled. -/
def slabs (h : Fin 4) (qt : Vec Ideal S1x256x2048 .bf16) : Vec Ideal S2x256x2048 .bf16 := fun y =>
  if (y 1).val / 32 = 2 * h.val + (y 0).val then qt (ix3 0 (y 1) (y 2)) * scale else 0

/-- The denominator of map `mi` for query `q`: eight partial sums, each over five chunks of 416 keys. -/
def den (KX : Vec Ideal S1x16640x256 .bf16) (QX : Vec Ideal S2x256x2048 .bf16) (mi : Fin 2) (q : Fin 2048) : EReal :=
  ∑ r : Fin 8, ∑ t : Fin 5, ∑ g : Fin 416, wt KX QX mi ⟨3328 * t.val + (g.val * 8 + r.val), by omega⟩ q

/-- The numerator of map `mi` for query `q` and value channel `d`: five chunks of 3328 keys. -/
def num (KX : Vec Ideal S1x16640x256 .bf16) (VX : Vec Ideal S1x64x16640 .bf16) (QX : Vec Ideal S2x256x2048 .bf16)
    (mi : Fin 2) (d : Fin 64) (q : Fin 2048) : EReal :=
  ∑ t : Fin 5, ∑ j : Fin 3328, VX (ix3 0 d ⟨3328 * t.val + j.val, by omega⟩) * wt KX QX mi ⟨3328 * t.val + j.val, by omega⟩ q

variable (m : (ℓ : Loc nD τ sig) → Buf (Elt Ideal) ℓ)

theorem zero_den (y : S2x8x2048.Idx) : scM0_2.view.read (Elt Ideal) (scM0_2.view.writes (Elt Ideal) scM0_2.view.junk [⟨Rect.unit ![0, 0, 0] ![2, 8, 2048] inb_S2x8x2048_S2x8x2048_0_0_0, k0_pay13 (F := Ideal)⟩]) y = (0 : EReal) := by
  rw [View.read_writes_full]
  idx_vars y
  unfold k0_pay13
  pointwise

theorem zero_num (y : S2x64x2048.Idx) : scM0_3.view.read (Elt Ideal) (scM0_3.view.writes (Elt Ideal) scM0_3.view.junk [⟨Rect.unit ![0, 0, 0] ![2, 64, 2048] inb_S2x64x2048_S2x64x2048_0_0_0, k0_pay14 (F := Ideal)⟩]) y = (0 : EReal) := by
  rw [View.read_writes_full]
  idx_vars y
  unfold k0_pay14
  pointwise

/-- The denominators' scratch after the loop. -/
theorem den_row (c : Dev nD) (t : Fin cfg0.N) (a1 : BitVec 32) (v5 : FVec Ideal S256x2048 .bf16) (v30 : IVec S256x2048 32) (v39 : FVec Ideal S1x256x2048 .bf16) (X6 : BufTy.Contents (Elt Ideal) (ms0_3 t).view.ty) (X7 : BufTy.Contents (Elt Ideal) (ms0_4 t).view.ty) (X9 : BufTy.Contents (Elt Ideal) scM0_0.view.ty) (G12 : BufTy.Contents (Elt Ideal) scM0_3.view.ty) {KX : Vec Ideal S1x16640x256 .bf16} (h6 : (ms0_3 t).view.read (Elt Ideal) X6 = KX) {QX : Vec Ideal S2x256x2048 .bf16} (h9 : scM0_0.view.read (Elt Ideal) X9 = QX) (mi : Fin 2) (r : Fin 8) (q : Fin 2048) :
    scM0_2.view.read (Elt Ideal) (scM0_2.view.writes (Elt Ideal) (scM0_2.view.writes (Elt Ideal) scM0_2.view.junk [⟨Rect.unit ![0, 0, 0] ![2, 8, 2048] inb_S2x8x2048_S2x8x2048_0_0_0, k0_pay13 (F := Ideal)⟩])
        (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) a1 v5 v30 v39 X6 X7 X9 (scM0_2.view.writes (Elt Ideal) scM0_2.view.junk [⟨Rect.unit ![0, 0, 0] ![2, 8, 2048] inb_S2x8x2048_S2x8x2048_0_0_0, k0_pay13 (F := Ideal)⟩]) G12 (Scf.trips (0#32) (Scalar.addi 0#32 5#32) 1#32)).1) (ix3 mi r q)
      = ∑ s : Fin 5, ∑ g : Fin 416, wt KX QX mi ⟨3328 * s.val + (g.val * 8 + r.val), by omega⟩ q := by
  rw [show Scf.trips (0#32) (Scalar.addi 0#32 5#32) 1#32 = 5 from by decide]
  rw [loop_l Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) a1 v5 v30 v39 X6 X7 X9 _ _ mi r q 5 (le_refl 5), zero_den, zero_add, h6, h9]

/-- The numerators' scratch after the loop. -/
theorem num_row (c : Dev nD) (t : Fin cfg0.N) (a1 : BitVec 32) (v5 : FVec Ideal S256x2048 .bf16) (v30 : IVec S256x2048 32) (v39 : FVec Ideal S1x256x2048 .bf16) (X6 : BufTy.Contents (Elt Ideal) (ms0_3 t).view.ty) (X7 : BufTy.Contents (Elt Ideal) (ms0_4 t).view.ty) (X9 : BufTy.Contents (Elt Ideal) scM0_0.view.ty) (G11 : BufTy.Contents (Elt Ideal) scM0_2.view.ty) {KX : Vec Ideal S1x16640x256 .bf16} (h6 : (ms0_3 t).view.read (Elt Ideal) X6 = KX) {QX : Vec Ideal S2x256x2048 .bf16} (h9 : scM0_0.view.read (Elt Ideal) X9 = QX) {VX : Vec Ideal S1x64x16640 .bf16} (h7 : (ms0_4 t).view.read (Elt Ideal) X7 = VX) (mi : Fin 2) (d : Fin 64) (q : Fin 2048) :
    scM0_3.view.read (Elt Ideal) (scM0_3.view.writes (Elt Ideal) (scM0_3.view.writes (Elt Ideal) scM0_3.view.junk [⟨Rect.unit ![0, 0, 0] ![2, 64, 2048] inb_S2x64x2048_S2x64x2048_0_0_0, k0_pay14 (F := Ideal)⟩])
        (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) a1 v5 v30 v39 X6 X7 X9 G11 (scM0_3.view.writes (Elt Ideal) scM0_3.view.junk [⟨Rect.unit ![0, 0, 0] ![2, 64, 2048] inb_S2x64x2048_S2x64x2048_0_0_0, k0_pay14 (F := Ideal)⟩]) (Scf.trips (0#32) (Scalar.addi 0#32 5#32) 1#32)).2) (ix3 mi d q)
      = num KX VX QX mi d q := by
  rw [show Scf.trips (0#32) (Scalar.addi 0#32 5#32) 1#32 = 5 from by decide]
  rw [loop_a Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) a1 v5 v30 v39 X6 X7 X9 _ _ mi d q 5 (le_refl 5), zero_num, zero_add, h6, h7, h9]
  rfl

/-- The query's scratch before the loop. -/
theorem slabs_read (i : grid0.Coords) (qt : Vec Ideal S1x256x2048 .bf16) :
    scM0_0.view.read (Elt Ideal) (scM0_0.view.writes (Elt Ideal) scM0_0.view.junk
        [⟨Rect.unit ![1, 0, 0] ![1, 256, 2048] inb_S2x256x2048_S1x256x2048_1_0_0, k0_pay11 (BitVec.ofNat 32 (i 1).val) (k0_pay8 (F := Ideal) qt) k0_pay9⟩,
         ⟨Rect.unit ![0, 0, 0] ![1, 256, 2048] inb_S2x256x2048_S1x256x2048_0_0_0, k0_pay10 i qt⟩])
      = slabs ⟨(i 1).val, (i 1).isLt⟩ qt := by
  funext y
  obtain ⟨mi, w, q, rfl⟩ : ∃ (mi : Fin 2) (w : Fin 256) (q : Fin 2048), y = ix3 mi w q := ⟨y 0, y 1, y 2, eq_ix3 y⟩
  fin_cases mi
  · rw [View.read_writes_cons_unit_of_not_mem _ _ _ _ _ _ rfl (0 : Fin 3) (by left; show 0 < 1; omega)]
    rw [View.read_writes_cons_unit_of_mem _ _ _ _ _ _ (ix3 0 w q) rfl (by intro a; fin_cases a <;> simp)]
    exact pay10_apply i qt w q
  · rw [View.read_writes_cons_unit_of_mem _ _ _ _ _ _ (ix3 0 w q) rfl (by intro a; fin_cases a <;> simp)]
    exact pay11_apply ⟨(i 1).val, (i 1).isLt⟩ qt w q

theorem outs_apply (c : Dev nD) (t : Fin cfg0.N) (d : Fin 64) (q : Fin 2048) :
    outsAt0 m c t (ix3 0 d q)
      = tail (fun x => Ideal.div (num (iblk m c 3 t) (iblk m c 4 t) (slabs ⟨(grid0.coords t 1).val, (grid0.coords t 1).isLt⟩ (iblk m c 2 t)) 0 x q)
              (den (iblk m c 3 t) (slabs ⟨(grid0.coords t 1).val, (grid0.coords t 1).isLt⟩ (iblk m c 2 t)) 0 q)
          - lam (iblk m c 0 t) * Ideal.div (num (iblk m c 3 t) (iblk m c 4 t) (slabs ⟨(grid0.coords t 1).val, (grid0.coords t 1).isLt⟩ (iblk m c 2 t)) 1 x q)
              (den (iblk m c 3 t) (slabs ⟨(grid0.coords t 1).val, (grid0.coords t 1).isLt⟩ (iblk m c 2 t)) 1 q))
        ((iblk m c 1 t : Vec Ideal S64x1 .f32) (ix2 d 0)) d := by
  unfold outsAt0 out0_A_5
  rw [View.read_writes_eq_canon _ _ _ (cover0_A_5 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero (by funext a; fin_cases a <;> rfl)]
  rw [pay19_apply]
  simp only [View.readCov, View.writes_append, View.readAt_eq_ld]
  pointwise
  rw [View.ld_unit_zero (S := S4x32) (by funext a; fin_cases a <;> rfl), View.ld_unit_zero (S := S1x256x2048) (by funext a; fin_cases a <;> rfl)]
  refine congrArg (fun o => tail o _ d) (funext fun x => ?_)
  have hq := slabs_read (grid0.coords t) (iblk m c 2 t)
  have h3 := (hs0_3 t).read_unread (Val := Elt Ideal) (iblk m c 3 t)
  have h4 := (hs0_4 t).read_unread (Val := Elt Ideal) (iblk m c 4 t)
  exact congrArg₂ (fun a b : EReal => a - b)
    (congrArg₂ Ideal.div (num_row c t _ _ _ _ _ _ _ _ h3 hq h4 0 x q) (Finset.sum_congr rfl fun r _ => den_row c t _ _ _ _ _ _ _ _ h3 hq 0 r q))
    (congrArg₂ (fun a b : EReal => a * b) rfl
      (congrArg₂ Ideal.div (num_row c t _ _ _ _ _ _ _ _ h3 hq h4 1 x q) (Finset.sum_congr rfl fun r _ => den_row c t _ _ _ _ _ _ _ _ h3 hq 1 r q)))

end Cert.KernelIdeal.Blk

end
-- ==== Proof.Sums.lean ====
module

public import Idealize.ShloMosaic.PureOps.Ideal
public import Mathlib.Algebra.BigOperators.Fin
public import Mathlib.Logic.Equiv.Fin.Basic

@[expose] public section

/-!
Re-indexing of finite sums: the kernel runs over the 16640 keys in five tiles of 3328, and adds the
weights of a tile in eight interleaved rows of 416; and it takes the products of one map of one head
over all 256 channels, of which 32 are not zeroed.
-/

namespace Cert.Sums

variable {M : Type} [AddCommMonoid M]

/-- Tiles of keys, one after the other, are all keys. -/
theorem tiles (f : Fin 16640 → M) :
    ∑ t : Fin 5, ∑ j : Fin 3328, f ⟨3328 * t.val + j.val, by omega⟩ = ∑ j, f j := by
  rw [← Fintype.sum_prod_type']
  refine Fintype.sum_equiv (finProdFinEquiv (m := 5) (n := 3328)) _ _ fun x => ?_
  congr 1
  ext
  simp [finProdFinEquiv, Nat.add_comm]

/-- Eight interleaved rows of a tile are the tile. -/
theorem rows (f : Fin 3328 → M) :
    ∑ r : Fin 8, ∑ g : Fin 416, f ⟨g.val * 8 + r.val, by omega⟩ = ∑ j, f j := by
  rw [Finset.sum_comm, ← Fintype.sum_prod_type']
  refine Fintype.sum_equiv (finProdFinEquiv (m := 416) (n := 8)) _ _ fun x => ?_
  congr 1
  ext
  simp [finProdFinEquiv, Nat.add_comm, Nat.mul_comm]

/-- The weights in the kernel's order are the weights of all keys. -/
theorem interleaved (f : Fin 16640 → M) :
    ∑ r : Fin 8, ∑ t : Fin 5, ∑ g : Fin 416, f ⟨3328 * t.val + (g.val * 8 + r.val), by omega⟩
      = ∑ j, f j := by
  rw [Finset.sum_comm, ← tiles f]
  refine Finset.sum_congr rfl fun t _ => ?_
  exact rows fun j => f ⟨3328 * t.val + j.val, by omega⟩

/-- A sum over the 256 channels in which all but the 32 of group `g` are zeroed. -/
theorem masked (g : Fin 8) (f : Fin 256 → M) :
    ∑ w : Fin 256, (if w.val / 32 = g.val then f w else 0)
      = ∑ e : Fin 32, f ⟨32 * g.val + e.val, by omega⟩ := by
  rw [← Equiv.sum_comp (finProdFinEquiv (m := 8) (n := 32)), Fintype.sum_prod_type,
    Finset.sum_eq_single g]
  · refine Finset.sum_congr rfl fun e _ => ?_
    have h : (e.val + 32 * g.val) / 32 = g.val := by omega
    simp [finProdFinEquiv, h, Nat.add_comm]
  · intro b _ hb
    refine Finset.sum_eq_zero fun e _ => ?_
    have h : (e.val + 32 * b.val) / 32 = b.val := by omega
    have hb' : ¬ b.val = g.val := fun h => hb (Fin.ext h)
    simp [finProdFinEquiv, h, hb']
  · simp

end Cert.Sums

end
-- ==== Proof.Array.lean ====
/-
  The blocks of the operands read from the arguments, and the whole result array at an index.
-/
module

public import proofs.«01_k».proof.Proof.Block
public import proofs.«01_k».proof.Proof.Sums
public import Idealize.ShloMosaic.Lib.Claim
public import Idealize.ShloMosaic.Lib.Pipeline.ValueKit

@[expose] public section

set_option maxRecDepth 16384

noncomputable section

namespace Cert.KernelIdeal.Arr

open Cert.KernelIdeal Cert.KernelIdeal.Gen Cert.KernelIdeal.Pay Cert.KernelIdeal.Trip Cert.KernelIdeal.Blk
open Idealize.ShloMosaic Idealize.ShloMosaic.TcCoe Idealize.SL.Sem

variable (m : (ℓ : Loc nD τ sig) → Buf (Elt Ideal) ℓ)

/-- The blocks each grid point `(b, h, i)` is given: batch `b`, head `h`, query tile `i`. -/
theorem idx : ∀ t : Fin grid0.N, win0_0.index t = ![0, 0] ∧ win0_1.index t = ![0, 0]
    ∧ win0_2.index t = ![(grid0.coords t 0).val, 0, (grid0.coords t 2).val]
    ∧ win0_3.index t = ![(grid0.coords t 0).val, 0, 0]
    ∧ win0_4.index t = ![(grid0.coords t 0).val, (grid0.coords t 1).val, 0]
    ∧ win0_5.index t = ![(grid0.coords t 0).val, (grid0.coords t 1).val, (grid0.coords t 2).val] := by
  decide +kernel

/-- The point's batch, head and query tile. -/
abbrev pb (t : Fin cfg0.N) : Fin 2 := ⟨(grid0.coords t 0).val, (grid0.coords t 0).isLt⟩
abbrev ph (t : Fin cfg0.N) : Fin 4 := ⟨(grid0.coords t 1).val, (grid0.coords t 1).isLt⟩
abbrev pi (t : Fin cfg0.N) : Fin 8 := ⟨(grid0.coords t 2).val, (grid0.coords t 2).isLt⟩

theorem blk0 (c : Dev nD) (t : Fin cfg0.N) (a : Fin 4) (x : Fin 32) :
    iblk m c 0 t (ix2 a x) = m ((c : Thread nD τ).loc main_arg5) (ix2 a x) := by
  blk_ext [iblk, V, idx t]

theorem blk1 (c : Dev nD) (t : Fin cfg0.N) (d : Fin 64) :
    iblk m c 1 t (ix2 d 0) = m ((c : Thread nD τ).loc main_arg6) (ix1 d) := by
  have e : iblk m c 1 t (ix2 d 0) = V m c main_v10 (ix2 d 0) := by blk_ext [iblk, idx t]
  rw [e]
  entry_read
  pointwise

theorem blk2 (c : Dev nD) (t : Fin cfg0.N) (w : Fin 256) (q : Fin 2048) :
    iblk m c 2 t (ix3 0 w q) = m ((c : Thread nD τ).loc main_arg0) (ix3 (pb t) ⟨(pi t).val * 2048 + q.val, by omega⟩ w) := by
  have e : iblk m c 2 t (ix3 0 w q) = V m c main_v1 (ix3 (pb t) w ⟨(pi t).val * 2048 + q.val, by omega⟩) := by blk_ext [iblk, idx t]
  rw [e]
  entry_read
  pointwise
  rfl

/-- Entry `j` of an array of keys or values followed by the context's: `(batch, position, channel)`. -/
def joined (x : Vec Ideal S2x16384x256 .f32) (xc : Vec Ideal S2x256x256 .f32) (b : Fin 2) (j : Fin 16640) (w : Fin 256) : EReal :=
  if h : j.val < 16384 then x (ix3 b ⟨j.val, h⟩ w) else xc (ix3 b ⟨j.val - 16384, by omega⟩ w)

theorem blk3 (c : Dev nD) (t : Fin cfg0.N) (j : Fin 16640) (w : Fin 256) :
    iblk m c 3 t (ix3 0 j w)
      = joined (m ((c : Thread nD τ).loc main_arg1)) (m ((c : Thread nD τ).loc main_arg3)) (pb t) j w := by
  have e : iblk m c 3 t (ix3 0 j w) = V m c main_v4 (ix3 (pb t) j w) := by blk_ext [iblk, idx t]
  rw [e]
  entry_read
  pointwise [joined]
  rfl

theorem blk4 (c : Dev nD) (t : Fin cfg0.N) (d : Fin 64) (j : Fin 16640) :
    iblk m c 4 t (ix3 0 d j)
      = joined (m ((c : Thread nD τ).loc main_arg2)) (m ((c : Thread nD τ).loc main_arg4)) (pb t) j ⟨(ph t).val * 64 + d.val, by omega⟩ := by
  have e : iblk m c 4 t (ix3 0 d j) = V m c main_v9 (ix3 (pb t) ⟨(ph t).val * 64 + d.val, by omega⟩ j) := by blk_ext [iblk, idx t]
  rw [e]
  entry_read
  pointwise [joined]
  rfl

/-- Channel `e` of the 32 of map `mi` of head `h`. -/
abbrev chan (h : Fin 4) (mi : Fin 2) (e : Fin 32) : Fin 256 := ⟨32 * (2 * h.val + mi.val) + e.val, by omega⟩

/-- The kernel's weight of key `j` for the query at `p`: `2` to the scaled product of the two. -/
def weight (q k : Vec Ideal S2x16384x256 .f32) (kc : Vec Ideal S2x256x256 .f32) (b : Fin 2) (h : Fin 4) (mi : Fin 2)
    (p : Fin 16384) (j : Fin 16640) : EReal :=
  Ideal.exp2 (∑ e : Fin 32, joined k kc b j (chan h mi e) * (q (ix3 b p (chan h mi e)) * scale))

/-- One map's attention: the weighted values over the sum of the weights. -/
def attend (q k v : Vec Ideal S2x16384x256 .f32) (kc vc : Vec Ideal S2x256x256 .f32) (b : Fin 2) (h : Fin 4) (mi : Fin 2)
    (p : Fin 16384) (d : Fin 64) : EReal :=
  Ideal.div (∑ j, joined v vc b j ⟨h.val * 64 + d.val, by omega⟩ * weight q k kc b h mi p j) (∑ j, weight q k kc b h mi p j)

/-- The kernel's result for batch `b`, head `h`, query `p` and entry `d` of the head. -/
def out (q k v : Vec Ideal S2x16384x256 .f32) (kc vc : Vec Ideal S2x256x256 .f32) (lv : Vec Ideal S4x32 .f32)
    (g : Vec Ideal S64 .f32) (b : Fin 2) (h : Fin 4) (p : Fin 16384) (d : Fin 64) : EReal :=
  tail (fun x => attend q k v kc vc b h 0 p x - lam lv * attend q k v kc vc b h 1 p x) (g (ix1 d)) d

variable (c : Dev nD) (t : Fin cfg0.N)

/-- The arguments. -/
abbrev aq : Vec Ideal S2x16384x256 .f32 := m ((c : Thread nD τ).loc main_arg0)
abbrev ak : Vec Ideal S2x16384x256 .f32 := m ((c : Thread nD τ).loc main_arg1)
abbrev av : Vec Ideal S2x16384x256 .f32 := m ((c : Thread nD τ).loc main_arg2)
abbrev akc : Vec Ideal S2x256x256 .f32 := m ((c : Thread nD τ).loc main_arg3)
abbrev avc : Vec Ideal S2x256x256 .f32 := m ((c : Thread nD τ).loc main_arg4)
abbrev alv : Vec Ideal S4x32 .f32 := m ((c : Thread nD τ).loc main_arg5)
abbrev ag : Vec Ideal S64 .f32 := m ((c : Thread nD τ).loc main_arg6)

/-- The position of row `q` of the point's query tile. -/
abbrev pos (t : Fin cfg0.N) (q : Fin 2048) : Fin 16384 := ⟨(pi t).val * 2048 + q.val, by omega⟩

theorem wt_eq (mi : Fin 2) (j : Fin 16640) (q : Fin 2048) :
    wt (iblk m c 3 t) (slabs (ph t) (iblk m c 2 t)) mi j q
      = weight (aq m c) (ak m c) (akc m c) (pb t) (ph t) mi (pos t q) j := by
  unfold wt weight
  rw [← Sums.masked ⟨2 * (ph t).val + mi.val, by omega⟩
    (fun w => joined (ak m c) (akc m c) (pb t) j w * (aq m c (ix3 (pb t) (pos t q) w) * scale))]
  refine congrArg _ (Finset.sum_congr rfl fun w _ => ?_)
  rw [blk3]
  simp only [slabs]
  rw [show (ix3 mi w q : S2x256x2048.Idx) 1 = w from rfl, show (ix3 mi w q : S2x256x2048.Idx) 2 = q from rfl,
    show (ix3 mi w q : S2x256x2048.Idx) 0 = mi from rfl, blk2]
  split_ifs <;> simp

theorem den_eq (mi : Fin 2) (q : Fin 2048) :
    den (iblk m c 3 t) (slabs (ph t) (iblk m c 2 t)) mi q
      = ∑ j, weight (aq m c) (ak m c) (akc m c) (pb t) (ph t) mi (pos t q) j :=
  (Sums.interleaved fun j => wt (iblk m c 3 t) (slabs (ph t) (iblk m c 2 t)) mi j q).trans
    (Finset.sum_congr rfl fun j _ => wt_eq m c t mi j q)

/-- Value `j` of the point's block of values, entry `d`. -/
abbrev vblk (d : Fin 64) (j : Fin 16640) : EReal := iblk m c 4 t (ix3 0 d j)

theorem num_eq (mi : Fin 2) (d : Fin 64) (q : Fin 2048) :
    num (iblk m c 3 t) (iblk m c 4 t) (slabs (ph t) (iblk m c 2 t)) mi d q
      = ∑ j, joined (av m c) (avc m c) (pb t) j ⟨(ph t).val * 64 + d.val, by omega⟩
          * weight (aq m c) (ak m c) (akc m c) (pb t) (ph t) mi (pos t q) j :=
  (Sums.tiles fun j => vblk m c t d j * wt (iblk m c 3 t) (slabs (ph t) (iblk m c 2 t)) mi j q).trans
    (Finset.sum_congr rfl fun j _ => congrArg₂ (fun a b : EReal => a * b) (blk4 m c t d j) (wt_eq m c t mi j q))

/-- The whole result: entry `ch` of the 256 channels is entry `ch % 64` of head `ch / 64`. -/
def result (q k v : Vec Ideal S2x16384x256 .f32) (kc vc : Vec Ideal S2x256x256 .f32) (lv : Vec Ideal S4x32 .f32)
    (g : Vec Ideal S64 .f32) : Vec Ideal S2x256x16384 .f32 := fun y =>
  out q k v kc vc lv g (y 0) ⟨(y 1).val / 64, by have := (y 1).isLt; simp at this; omega⟩ (y 2)
    ⟨(y 1).val % 64, Nat.mod_lt _ (by norm_num)⟩

theorem outs_eq (d : Fin 64) (q : Fin 2048) :
    outsAt0 m c t (ix3 0 d q)
      = out (aq m c) (ak m c) (av m c) (akc m c) (avc m c) (alv m c) (ag m c) (pb t) (ph t) (pos t q) d := by
  have hl : lam (iblk m c 0 t) = lam (alv m c) := by
    unfold lam lamDot
    simp only [blk0]
  have ha (mi : Fin 2) (x : Fin 64) : Ideal.div (num (iblk m c 3 t) (iblk m c 4 t) (slabs (ph t) (iblk m c 2 t)) mi x q)
      (den (iblk m c 3 t) (slabs (ph t) (iblk m c 2 t)) mi q)
        = attend (aq m c) (ak m c) (av m c) (akc m c) (avc m c) (pb t) (ph t) mi (pos t q) x :=
    congrArg₂ Ideal.div (num_eq m c t mi x q) (den_eq m c t mi q)
  rw [outs_apply]
  unfold out
  rw [hl, blk1]
  exact congrArg (fun o => tail o _ d) (funext fun x => by rw [← ha, ← ha])

theorem array_eq :
    (dats m 0 c).arrAt 5 cfg0.N
      = result (aq m c) (ak m c) (av m c) (akc m c) (avc m c) (alv m c) (ag m c) := by
  refine (dats m 0 c).arrAt_eq_of_covers 5 _ (by decide +kernel) fun t hf y => ?_
  obtain ⟨z, d, q, rfl⟩ : ∃ z d q, y = ix3 z d q := ⟨y 0, y 1, y 2, eq_ix3 y⟩
  obtain rfl : z = 0 := Subsingleton.elim _ _
  blk_simp
  rw [after0_5, outs_eq]
  have e : (win0_5.blk t).view.emb (ix3 0 d q) = (ix3 (pb t) ⟨(ph t).val * 64 + d.val, by omega⟩ (pos t q) : S2x256x16384.Idx) := by
    blk_ext [idx t]
  rw [e]
  unfold result
  congr 1
  · exact Fin.ext (show (ph t).val = ((ph t).val * 64 + d.val) / 64 by omega)
  · exact Fin.ext (show d.val = ((ph t).val * 64 + d.val) % 64 by omega)

end Cert.KernelIdeal.Arr

end
-- ==== Proof.Soft.lean ====
/-
  Softmax over finite scores: the weights without a maximum taken off, divided by their sum at the end,
  are the weights with any number taken off first and each divided by the sum.
-/
module

public import Idealize.ShloMosaic.PureOps.Ideal
public import Mathlib.Analysis.SpecialFunctions.Pow.Real

@[expose] public section

noncomputable section

namespace Cert.Soft

open Idealize.ShloMosaic

/-- A finite sum of real numbers is the same number among the extended ones. -/
theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

/-- A number strictly between the infinities is real. -/
theorem exists_real {x : EReal} (h1 : ⊥ < x) (h2 : x < ⊤) : ∃ r : ℝ, x = (r : EReal) := by
  induction x with
  | bot => exact absurd h1 (lt_irrefl _)
  | top => exact absurd h2 (lt_irrefl _)
  | coe r => exact ⟨r, rfl⟩

variable {n : ℕ} [NeZero n]

theorem sum_exp_pos (x : Fin n → ℝ) : 0 < ∑ j, Real.exp (x j) :=
  Finset.sum_pos (fun j _ => Real.exp_pos _) ⟨0, Finset.mem_univ _⟩

/-- Shifting every score by `M` multiplies the sum of the weights by `exp (-M)`. -/
theorem share_shift (x : Fin n → ℝ) (M : ℝ) (j : Fin n) :
    Real.exp (x j - M) * (1 / ∑ k, Real.exp (x k - M)) = Real.exp (x j) * (1 / ∑ k, Real.exp (x k)) := by
  have h := (sum_exp_pos x).ne'
  have hM := (Real.exp_pos M).ne'
  simp only [Real.exp_sub, ← Finset.sum_div]
  field_simp

/-- The differential attention of one entry: the two ways of writing it agree. -/
theorem diff_eq (x0 x1 v : Fin n → ℝ) (M0 M1 lam : ℝ) :
    Ideal.div (∑ j, (v j : EReal) * ((Real.exp (x0 j) : ℝ) : EReal)) (∑ j, ((Real.exp (x0 j) : ℝ) : EReal))
      - (lam : EReal) * Ideal.div (∑ j, (v j : EReal) * ((Real.exp (x1 j) : ℝ) : EReal)) (∑ j, ((Real.exp (x1 j) : ℝ) : EReal))
    = ∑ j, (v j : EReal) * (Ideal.div ((Real.exp (x0 j - M0) : ℝ) : EReal) (∑ k, ((Real.exp (x0 k - M0) : ℝ) : EReal))
        - (lam : EReal) * Ideal.div ((Real.exp (x1 j - M1) : ℝ) : EReal) (∑ k, ((Real.exp (x1 k - M1) : ℝ) : EReal))) := by
  have h0 := (sum_exp_pos x0).ne'
  have h1 := (sum_exp_pos x1).ne'
  have g0 := (sum_exp_pos fun k => x0 k - M0).ne'
  have g1 := (sum_exp_pos fun k => x1 k - M1).ne'
  simp only [← EReal.coe_mul, coe_sum, Ideal.div_coe h0, Ideal.div_coe h1, Ideal.div_coe g0, Ideal.div_coe g1, ← EReal.coe_sub]
  rw [EReal.coe_eq_coe_iff]
  simp only [share_shift]
  rw [Finset.sum_mul, Finset.sum_mul, Finset.mul_sum, ← Finset.sum_sub_distrib]
  exact Finset.sum_congr rfl fun j _ => by ring

/-- `2` to `s / (log 2 · √32)` is `exp (s / √32)`. -/
theorem exp2_scaled (s : ℝ) :
    Real.rpow 2 (s * ((Real.log 2)⁻¹ * (Real.sqrt 32)⁻¹)) = Real.exp (s * (1 / Real.sqrt 32)) := by
  have h : Real.log 2 ≠ 0 := (Real.log_pos (by norm_num)).ne'
  show (2 : ℝ) ^ (_ : ℝ) = _
  rw [Real.rpow_def_of_pos (by norm_num)]
  congr 1
  field_simp

/-- The greatest of some real numbers, from minus infinity on, is real once there is one. -/
theorem foldl_max_real {ι : Type} (f : ι → EReal) (hf : ∀ i, ∃ r : ℝ, f i = r) (l : List ι) (a : EReal)
    (h : (∃ r : ℝ, a = r) ∨ (a = ⊥ ∧ l ≠ [])) : ∃ r : ℝ, l.foldl (fun r i => max r (f i)) a = r := by
  induction l generalizing a with
  | nil => exact h.resolve_right fun h => h.2 rfl
  | cons i l ih =>
    refine ih _ (Or.inl ?_)
    obtain ⟨s, hs⟩ := hf i
    rcases h with ⟨r, rfl⟩ | ⟨rfl, -⟩
    · exact ⟨max r s, by dsimp only; rw [hs]; exact (EReal.coe_strictMono.monotone.map_max).symm⟩
    · exact ⟨s, by dsimp only; rw [hs]; simp⟩

end Cert.Soft

end
-- ==== Proof.Ref.lean ====
/-
  The reference's result at an index, in the same words as the kernel's.
-/
module

public import proofs.«01_k».proof.Proof.Gen.ReferenceIdeal.Read
public import proofs.«01_k».proof.Proof.Array
public import proofs.«01_k».proof.Proof.Soft

@[expose] public section

set_option maxRecDepth 16384

noncomputable section

namespace Cert.Ref

open Cert.ReferenceIdeal Cert.ReferenceIdeal.Gen Cert.ReferenceIdeal.Read
open Idealize.ShloMosaic Idealize.ShloMosaic.TcCoe Idealize.SL.Sem
open Cert.KernelIdeal.Pay (lam lamDot tail)
open Cert.KernelIdeal.Arr (joined chan)

variable (x0 x1 x2 : Vec Ideal S2x16384x256 .f32) (x3 x4 : Vec Ideal S2x256x256 .f32) (x5 : Vec Ideal S4x32 .f32)
  (x6 : Vec Ideal S64 .f32)

theorem joined_keys (b : Fin 2) (j : Fin 16640) (w : Fin 256) :
    val_main_v17 (F := Ideal) x1 x3 (ix3 b j w) = joined x1 x3 b j w := by
  pointwise [val_main_v17, joined]

theorem joined_values (b : Fin 2) (j : Fin 16640) (w : Fin 256) :
    val_main_v19 (F := Ideal) x2 x4 (ix3 b j w) = joined x2 x4 b j w := by
  pointwise [val_main_v19, joined]

/-- The score of query `p` and key `j`. -/
def score (b : Fin 2) (h : Fin 4) (mi : Fin 2) (p : Fin 16384) (j : Fin 16640) : EReal :=
  Ideal.div (∑ e : Fin 32, x0 (ix3 b p (chan h mi e)) * joined x1 x3 b j (chan h mi e)) (Ideal.sqrt (Ideal.ofBits .f32 0x42000000#32))

theorem score_eq (b : Fin 2) (h : Fin 4) (mi : Fin 2) (p : Fin 16384) (j : Fin 16640) :
    val_main_v24 (F := Ideal) x0 x1 x3 (ix5 b h mi p j) = score x0 x1 x3 b h mi p j := by
  rw [val_main_v24_apply, val_main_v23_apply, val_main_v22_apply, val_main_cst_2_apply, val_main_v21_apply]
  refine congrArg (Ideal.div · _) (Finset.sum_congr rfl fun e _ => ?_)
  rw [val_main_v16_apply, val_main_v18_apply, ← joined_keys]
  refine congrArg₂ (fun a b : EReal => a * b) (congrArg x0 (funext fun a => Fin.ext ?_)) (congrArg (val_main_v17 x1 x3) (funext fun a => Fin.ext ?_))
  · fin_cases a
    · show ((((b.val * 16384 + p.val) * 4 + h.val) * 2 + mi.val) * 32 + e.val) / 4194304 = b.val
      omega
    · show ((((b.val * 16384 + p.val) * 4 + h.val) * 2 + mi.val) * 32 + e.val) / 256 % 16384 = p.val
      omega
    · show ((((b.val * 16384 + p.val) * 4 + h.val) * 2 + mi.val) * 32 + e.val) % 256 = 32 * (2 * h.val + mi.val) + e.val
      omega
  · fin_cases a
    · show ((((b.val * 16640 + j.val) * 4 + h.val) * 2 + mi.val) * 32 + e.val) / 4259840 = b.val
      omega
    · show ((((b.val * 16640 + j.val) * 4 + h.val) * 2 + mi.val) * 32 + e.val) / 256 % 16640 = j.val
      omega
    · show ((((b.val * 16640 + j.val) * 4 + h.val) * 2 + mi.val) * 32 + e.val) % 256 = 32 * (2 * h.val + mi.val) + e.val
      omega

/-- The number the softmax of query `p` takes off its scores. -/
def top (b : Fin 2) (h : Fin 4) (mi : Fin 2) (p : Fin 16384) : EReal :=
  val_main_v27 (F := Ideal) x0 x1 x3 (ix4 b h mi p)

/-- The softmax. -/
def share (b : Fin 2) (h : Fin 4) (mi : Fin 2) (p : Fin 16384) (j : Fin 16640) : EReal :=
  Ideal.div (Ideal.exp (score x0 x1 x3 b h mi p j - top x0 x1 x3 b h mi p))
    (∑ k, Ideal.exp (score x0 x1 x3 b h mi p k - top x0 x1 x3 b h mi p))

theorem lift_eq (b : Fin 2) (h : Fin 4) (mi : Fin 2) (p : Fin 16384) (j : Fin 16640) :
    val_main_v31 (F := Ideal) x0 x1 x3 (ix5 b h mi p j)
      = Ideal.exp (score x0 x1 x3 b h mi p j - top x0 x1 x3 b h mi p) := by
  rw [val_main_v31_apply, val_main_v30_apply, score_eq, val_main_v29_apply, val_main_v28_apply]
  refine congrArg (fun t : EReal => Ideal.exp (score x0 x1 x3 b h mi p j - t)) (congrArg (val_main_v27 x0 x1 x3) (funext fun a => ?_))
  fin_cases a <;> rfl

theorem share_eq (b : Fin 2) (h : Fin 4) (mi : Fin 2) (p : Fin 16384) (j : Fin 16640) :
    val_main_v35 (F := Ideal) x0 x1 x3 (ix5 b h mi p j) = share x0 x1 x3 b h mi p j := by
  rw [val_main_v35_apply, lift_eq, val_main_v34_apply, val_main_v33_apply, val_main_v32_apply]
  refine congrArg (Ideal.div _) ?_
  rw [val_main_cst_5_apply]
  refine (congrArg (· + _) (by simp : FloatOps.ofBits (F := Ideal) .f32 0x00000000#32 = (0 : EReal))).trans ((zero_add _).trans ?_)
  refine Finset.sum_congr rfl fun k _ => ?_
  rw [← lift_eq]
  exact congrArg (val_main_v31 x0 x1 x3) (funext fun a => by fin_cases a <;> rfl)

theorem dot_first (i : S_.Idx) : val_main_v5 (F := Ideal) x5 i = lamDot x5 0 1 := by
  pointwise [val_main_v5, val_main_v4, val_main_v3, val_main_v2, val_main_v1, val_main_v0, val_main_cst, lamDot]

theorem dot_second (i : S_.Idx) : val_main_v12 (F := Ideal) x5 i = lamDot x5 2 3 := by
  pointwise [val_main_v12, val_main_v11, val_main_v10, val_main_v9, val_main_v8, val_main_v7, val_main_cst_0, lamDot]

theorem lam_eq (i : S_.Idx) : val_main_v15 (F := Ideal) x5 i = lam x5 := by
  rw [val_main_v15_apply, val_main_v14_apply, val_main_v6_apply, val_main_v13_apply, dot_first, dot_second]
  rfl

theorem diff_eq (b : Fin 2) (h : Fin 4) (p : Fin 16384) (j : Fin 16640) :
    val_main_v42 (F := Ideal) x0 x1 x3 x5 (ix4 b h p j)
      = share x0 x1 x3 b h 0 p j - lam x5 * share x0 x1 x3 b h 1 p j := by
  rw [val_main_v42_apply, val_main_v41_apply, val_main_v40_apply, lam_eq, val_main_v37_apply, val_main_v39_apply, val_main_v36_apply, val_main_v38_apply,
    ← share_eq, ← share_eq]
  refine congrArg₂ (fun s t : EReal => s - lam x5 * t) (congrArg (val_main_v35 x0 x1 x3) (funext fun a => Fin.ext ?_))
    (congrArg (val_main_v35 x0 x1 x3) (funext fun a => Fin.ext ?_))
  all_goals
    fin_cases a
    · show ((((b.val * 4 + h.val) * 16384 + p.val) * 16640 + j.val) / 1090519040) = b.val
      omega
    · show ((((b.val * 4 + h.val) * 16384 + p.val) * 16640 + j.val) / 272629760 % 4) = h.val
      omega
    · rfl
    · show ((((b.val * 4 + h.val) * 16384 + p.val) * 16640 + j.val) / 16640 % 16384) = p.val
      omega
    · show ((((b.val * 4 + h.val) * 16384 + p.val) * 16640 + j.val) % 16640) = j.val
      omega

/-- The head's output before the norm. -/
def mixed (b : Fin 2) (h : Fin 4) (p : Fin 16384) (d : Fin 64) : EReal :=
  ∑ j, joined x2 x4 b j ⟨h.val * 64 + d.val, by omega⟩ * (share x0 x1 x3 b h 0 p j - lam x5 * share x0 x1 x3 b h 1 p j)

theorem mixed_eq (b : Fin 2) (h : Fin 4) (p : Fin 16384) (d : Fin 64) :
    val_main_v44 (F := Ideal) x0 x1 x2 x3 x4 x5 (ix4 b p h d) = mixed x0 x1 x2 x3 x4 x5 b h p d := by
  rw [val_main_v44_apply, val_main_v43_apply]
  refine Finset.sum_congr rfl fun j _ => ?_
  rw [val_main_v20_apply, ← joined_values, ← diff_eq]
  refine congrArg₂ (fun a b : EReal => a * b) (congrArg (val_main_v19 x2 x4) (funext fun a => Fin.ext ?_))
    (congrArg (val_main_v42 x0 x1 x3 x5) (funext fun a => by fin_cases a <;> rfl))
  fin_cases a
  · show (((b.val * 16640 + j.val) * 4 + h.val) * 64 + d.val) / 4259840 = b.val
    omega
  · show (((b.val * 16640 + j.val) * 4 + h.val) * 64 + d.val) / 256 % 16640 = j.val
    omega
  · show (((b.val * 16640 + j.val) * 4 + h.val) * 64 + d.val) % 256 = h.val * 64 + d.val
    omega

theorem square_eq (b : Fin 2) (h : Fin 4) (p : Fin 16384) :
    val_main_v46 (F := Ideal) x0 x1 x2 x3 x4 x5 (ix3 b p h)
      = ∑ x : Fin 64, mixed x0 x1 x2 x3 x4 x5 b h p x * mixed x0 x1 x2 x3 x4 x5 b h p x := by
  rw [val_main_v46_apply, val_main_cst_6_apply]
  refine (congrArg (· + _) (by simp : FloatOps.ofBits (F := Ideal) .f32 0x00000000#32 = (0 : EReal))).trans ((zero_add _).trans ?_)
  refine Finset.sum_congr rfl fun x _ => ?_
  rw [← mixed_eq, val_main_v45_apply]
  have e : idx_main_v46 (ix3 b p h) x = (ix4 b p h x : S2x16384x4x64.Idx) := funext fun a => by fin_cases a <;> rfl
  rw [e]
  rfl

theorem head_eq (b : Fin 2) (h : Fin 4) (p : Fin 16384) (d : Fin 64) :
    val_main_v59 (F := Ideal) x0 x1 x2 x3 x4 x5 x6 (ix4 b p h d)
      = tail (fun x => mixed x0 x1 x2 x3 x4 x5 b h p x) (x6 (ix1 d)) d := by
  rw [val_main_v59_apply, val_main_v57_apply, val_main_v54_apply, val_main_v53_apply, val_main_v52_apply, val_main_v51_apply,
    val_main_v49_apply, val_main_v47_apply, val_main_v56_apply, val_main_v55_apply, mixed_eq]
  have e : idx_main_v47 (idx_main_v53 (ix4 b p h d)) = (ix3 b p h : S2x16384x4.Idx) := funext fun a => by fin_cases a <;> rfl
  have e' : idx_main_v55 (idx_main_v56 (ix4 b p h d)) = (ix1 d : S64.Idx) := funext fun a => by fin_cases a <;> rfl
  rw [e, e', square_eq]
  rw [val_main_v48_apply, val_main_v50_apply, val_main_v58_apply]
  rfl

theorem result_eq (b : Fin 2) (ch : Fin 256) (p : Fin 16384) :
    val_main_v61 (F := Ideal) x0 x1 x2 x3 x4 x5 x6 (ix3 b ch p)
      = tail (fun x => mixed x0 x1 x2 x3 x4 x5 b ⟨ch.val / 64, by omega⟩ p x) (x6 (ix1 ⟨ch.val % 64, by omega⟩)) ⟨ch.val % 64, by omega⟩ := by
  rw [val_main_v61_apply, val_main_v60_apply, ← head_eq]
  refine congrArg (val_main_v59 x0 x1 x2 x3 x4 x5 x6) (funext fun a => Fin.ext ?_)
  fin_cases a
  · show ((b.val * 16384 + p.val) * 256 + ch.val) / 4194304 = b.val
    omega
  · show ((b.val * 16384 + p.val) * 256 + ch.val) / 256 % 16384 = p.val
    omega
  · show ((b.val * 16384 + p.val) * 256 + ch.val) / 64 % 4 = ch.val / 64
    omega
  · show ((b.val * 16384 + p.val) * 256 + ch.val) % 64 = ch.val % 64
    omega

/-- The number taken off is the greatest of real scores, so it is real. -/
theorem top_real (b : Fin 2) (h : Fin 4) (mi : Fin 2) (p : Fin 16384)
    (hs : ∀ b h mi p j, ∃ r : ℝ, score x0 x1 x3 b h mi p j = r) : ∃ r : ℝ, top x0 x1 x3 b h mi p = r := by
  have hb : Ideal.ofBits .f32 0xFF800000#32 = (⊥ : EReal) := by simp [Ideal.ofBits, Ideal.ieee]
  unfold top
  rw [val_main_v27_apply, val_main_v26_apply, val_main_cst_4_apply]
  have hr : ∃ r : ℝ, val_main_v25 (F := Ideal) x0 x1 x3 (ix4 b h mi p) = r := by
    unfold val_main_v25 Host.reduce
    refine Soft.foldl_max_real (fun n => val_main_v24 x0 x1 x3 (S2x4x2x16384x16640.rowMajor.symm n)) ?_ _ _ (Or.inr ⟨hb, ?_⟩)
    · intro n
      have := eq_ix5 (S2x4x2x16384x16640.rowMajor.symm n)
      rw [this]
      exact (hs _ _ _ _ _).imp fun r hr => (score_eq x0 x1 x3 _ _ _ _ _).trans hr
    · apply List.ne_nil_of_mem (a := S2x4x2x16384x16640.rowMajor (ix5 b h mi p 0))
      rw [List.mem_filter]
      refine ⟨List.mem_finRange _, ?_⟩
      simp only [Equiv.symm_apply_apply, decide_eq_true_eq]
      funext a
      fin_cases a <;> rfl
  obtain ⟨r, hr⟩ := hr
  rw [hr]
  exact ⟨r, show max (Ideal.ofBits .f32 0xFF800000#32) (r : EReal) = r by rw [hb]; simp⟩

end Cert.Ref

end
-- ==== Proof.Equal.lean ====
/-
  For finite arguments the kernel's result and the reference's are one function.
-/
module

public import proofs.«01_k».proof.Defs
public import proofs.«01_k».proof.Proof.Gen.Pre_finite
public import proofs.«01_k».proof.Proof.Ref

@[expose] public section

set_option maxRecDepth 16384

noncomputable section

namespace Cert.Equal

open Cert.KernelIdeal Cert.KernelIdeal.Gen
open Idealize.ShloMosaic Idealize.ShloMosaic.TcCoe Idealize.SL.Sem
open Cert.KernelIdeal.Pay Cert.KernelIdeal.Arr Cert.Ref

/-- Two comparisons with the infinities that both hold say that the number is real. -/
theorem real_of_bits (x : EReal)
    (h : IntOp.andi (FloatOps.cmpf (F := Ideal) (φ := .f32) .ogt x (Ideal.ofBits .f32 0xFF800000#32))
      (FloatOps.cmpf (F := Ideal) (φ := .f32) .olt x (Ideal.ofBits .f32 0x7F800000#32)) = 1#1) : ∃ r : ℝ, x = r := by
  have hb : Ideal.ofBits .f32 0xFF800000#32 = (⊥ : EReal) := by simp [Ideal.ofBits, Ideal.ieee]
  have ht : Ideal.ofBits .f32 0x7F800000#32 = (⊤ : EReal) := by simp [Ideal.ofBits, Ideal.ieee]
  rw [hb, ht] at h
  induction x with
  | bot => simp [Ideal.cmpf_def, Ideal.cmp, IntOp.andi] at h
  | top => simp [Ideal.cmpf_def, Ideal.cmp, IntOp.andi] at h
  | coe r => exact ⟨r, rfl⟩

variable (x0 x1 x2 : Vec Ideal S2x16384x256 .f32) (x3 x4 : Vec Ideal S2x256x256 .f32) (x5 : Vec Ideal S4x32 .f32)
  (x6 : Vec Ideal S64 .f32)

theorem finite0 (h : (Cert.Pre_finite.fn (F := Ideal) x0 x1 x2 x3 x4 x5 x6).1 = fun _ => 1#1) (i) : ∃ r : ℝ, x0 i = r :=
  real_of_bits _ ((congrFun h i).symm.trans rfl).symm

theorem finite1 (h : (Cert.Pre_finite.fn (F := Ideal) x0 x1 x2 x3 x4 x5 x6).2.1 = fun _ => 1#1) (i) : ∃ r : ℝ, x1 i = r :=
  real_of_bits _ ((congrFun h i).symm.trans rfl).symm

theorem finite2 (h : (Cert.Pre_finite.fn (F := Ideal) x0 x1 x2 x3 x4 x5 x6).2.2.1 = fun _ => 1#1) (i) : ∃ r : ℝ, x2 i = r :=
  real_of_bits _ ((congrFun h i).symm.trans rfl).symm

theorem finite3 (h : (Cert.Pre_finite.fn (F := Ideal) x0 x1 x2 x3 x4 x5 x6).2.2.2.1 = fun _ => 1#1) (i) : ∃ r : ℝ, x3 i = r :=
  real_of_bits _ ((congrFun h i).symm.trans rfl).symm

theorem finite4 (h : (Cert.Pre_finite.fn (F := Ideal) x0 x1 x2 x3 x4 x5 x6).2.2.2.2.1 = fun _ => 1#1) (i) : ∃ r : ℝ, x4 i = r :=
  real_of_bits _ ((congrFun h i).symm.trans rfl).symm

theorem finite5 (h : (Cert.Pre_finite.fn (F := Ideal) x0 x1 x2 x3 x4 x5 x6).2.2.2.2.2 = fun _ => 1#1) (i) : ∃ r : ℝ, x5 i = r :=
  real_of_bits _ ((congrFun h i).symm.trans rfl).symm

/-- Real arrays joined are real. -/
theorem joined_real (x : Vec Ideal S2x16384x256 .f32) (xc : Vec Ideal S2x256x256 .f32) (h : ∀ i, ∃ r : ℝ, x i = r)
    (hc : ∀ i, ∃ r : ℝ, xc i = r) (b : Fin 2) (j : Fin 16640) (w : Fin 256) : ∃ r : ℝ, joined x xc b j w = r := by
  unfold joined
  split
  · exact h _
  · exact hc _

theorem literal_real : Ideal.sqrt (Ideal.ofBits .f32 0x42000000#32) = ((Real.sqrt 32 : ℝ) : EReal) := by
  have h : Ideal.ofBits .f32 0x42000000#32 = ((32 : ℝ) : EReal) := by
    simp [Ideal.ofBits, Ideal.ieee, -EReal.coe_mul]; norm_num
  rw [h, Ideal.sqrt_coe, if_neg (by norm_num)]

theorem fifth_real : ∃ r : ℝ, Ideal.ofBits .f32 0x3E4CCCCD#32 = (r : EReal) := by
  exact ⟨_, by simp [Ideal.ofBits, Ideal.ieee, -EReal.coe_mul]; rfl⟩

/-- Lambda of real parameters is real. -/
theorem lam_real (h : ∀ i, ∃ r : ℝ, x5 i = r) : ∃ r : ℝ, lam x5 = r := by
  choose y hy using h
  obtain ⟨f, hf⟩ := fifth_real
  unfold lam lamDot
  simp only [hy, hf, ← EReal.coe_mul, Soft.coe_sum, Ideal.exp_coe, ← EReal.coe_sub, ← EReal.coe_add]
  exact ⟨_, rfl⟩

section
variable (h0 : ∀ i, ∃ r : ℝ, x0 i = r) (h1 : ∀ i, ∃ r : ℝ, x1 i = r) (h2 : ∀ i, ∃ r : ℝ, x2 i = r)
  (h3 : ∀ i, ∃ r : ℝ, x3 i = r) (h4 : ∀ i, ∃ r : ℝ, x4 i = r) (h5 : ∀ i, ∃ r : ℝ, x5 i = r)
include h0 h1 h3

/-- The score is a real number, and the kernel's weight is its exponential. -/
theorem score_weight (b : Fin 2) (h : Fin 4) (mi : Fin 2) (p : Fin 16384) (j : Fin 16640) :
    ∃ r : ℝ, score x0 x1 x3 b h mi p j = r ∧ weight x0 x1 x3 b h mi p j = ((Real.exp r : ℝ) : EReal) := by
  choose q hq using h0
  choose k hk using joined_real x1 x3 h1 h3
  have hs : Real.sqrt 32 ≠ 0 := (Real.sqrt_pos.mpr (by norm_num)).ne'
  refine ⟨(∑ e : Fin 32, q (ix3 b p (chan h mi e)) * k b j (chan h mi e)) * (1 / Real.sqrt 32), ?_, ?_⟩
  · unfold score
    rw [literal_real, Ideal.div_coe hs]
    simp only [hq, hk, ← EReal.coe_mul, Soft.coe_sum]
  · unfold weight scale
    simp only [hq, hk, ← EReal.coe_mul, Soft.coe_sum, Ideal.exp2_coe]
    rw [← Soft.exp2_scaled, Finset.sum_mul]
    congr 2
    exact Finset.sum_congr rfl fun e _ => by ring

include h2 h4 h5

/-- Before the norm: the kernel's two divided sums and the reference's mixed softmax are one number. -/
theorem head_eq (b : Fin 2) (h : Fin 4) (p : Fin 16384) (d : Fin 64) :
    attend x0 x1 x2 x3 x4 b h 0 p d - lam x5 * attend x0 x1 x2 x3 x4 b h 1 p d
      = mixed x0 x1 x2 x3 x4 x5 b h p d := by
  choose s hs hw using score_weight x0 x1 x3 h0 h1 h3
  choose v hv using joined_real x2 x4 h2 h4
  obtain ⟨l, hl⟩ := lam_real x5 h5
  have ht : ∀ mi, ∃ r : ℝ, top x0 x1 x3 b h mi p = r := fun mi =>
    top_real x0 x1 x3 b h mi p fun b h mi p j => ⟨_, hs b h mi p j⟩
  choose t ht using ht
  have ha (mi : Fin 2) : attend x0 x1 x2 x3 x4 b h mi p d
      = Ideal.div (∑ j, (v b j ⟨h.val * 64 + d.val, by omega⟩ : EReal) * ((Real.exp (s b h mi p j) : ℝ) : EReal))
          (∑ j, ((Real.exp (s b h mi p j) : ℝ) : EReal)) :=
    congrArg₂ Ideal.div (Finset.sum_congr rfl fun j _ => by rw [hv, hw]) (Finset.sum_congr rfl fun j _ => hw ..)
  have he (mi : Fin 2) (j : Fin 16640) : Ideal.exp (score x0 x1 x3 b h mi p j - top x0 x1 x3 b h mi p)
      = ((Real.exp (s b h mi p j - t mi) : ℝ) : EReal) := by
    rw [hs, ht, ← EReal.coe_sub, Ideal.exp_coe]
  have hp (mi : Fin 2) (j : Fin 16640) : share x0 x1 x3 b h mi p j
      = Ideal.div ((Real.exp (s b h mi p j - t mi) : ℝ) : EReal) (∑ k, ((Real.exp (s b h mi p k - t mi) : ℝ) : EReal)) :=
    congrArg₂ Ideal.div (he mi j) (Finset.sum_congr rfl fun k _ => he mi k)
  rw [ha, ha, hl]
  refine (Soft.diff_eq (n := 16640) (fun j => s b h 0 p j) (fun j => s b h 1 p j)
    (fun j => v b j ⟨h.val * 64 + d.val, by omega⟩) (t 0) (t 1) l).trans (Finset.sum_congr rfl fun j _ => ?_)
  rw [hv, hp, hp, hl]

/-- The kernel's array is the reference's. -/
theorem result_eq :
    result x0 x1 x2 x3 x4 x5 x6 = Cert.ReferenceIdeal.Read.val_main_v61 (F := Ideal) x0 x1 x2 x3 x4 x5 x6 := by
  funext y
  obtain ⟨b, ch, p, rfl⟩ : ∃ b ch p, y = ix3 b ch p := ⟨y 0, y 1, y 2, eq_ix3 y⟩
  have ho := funext fun x => head_eq x0 x1 x2 x3 x4 x5 h0 h1 h2 h3 h4 h5 b ⟨ch.val / 64, by omega⟩ p x
  have e : result x0 x1 x2 x3 x4 x5 x6 (ix3 b ch p)
      = out x0 x1 x2 x3 x4 x5 x6 b ⟨ch.val / 64, by omega⟩ p ⟨ch.val % 64, by omega⟩ := rfl
  rw [e]
  unfold out
  rw [ho]
  exact (Ref.result_eq x0 x1 x2 x3 x4 x5 x6 b ch p).symm

end

end Cert.Equal

end
-- ==== Proof.Algebraic.lean ====
/-
  The five claims about the differential attention.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Equal
public import Idealize.ShloMosaic.Lib.Quiescent

@[expose] public section

noncomputable section

namespace Cert.Attention

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ideal_finite : Cert.quiescent_KernelIdeal_pre_finite := fun m ρ _ => Cert.KernelIdeal.Gen.frame m ρ

theorem frame_reference_finite : Cert.quiescent_ReferenceIdeal_pre_finite := fun m ρ _ => frame_reference m ρ trivial

/-- The named scale is near the word that the kernel holds. -/
theorem preserved : Cert.preserves_Kernel_KernelIdeal :=
  IdealRules.named_const.statement Cert.KernelIdeal.κ "log2e_scale" .f32 0x3E8293EE#32 _ rfl

/-- For finite arguments the kernel and the reference end at the same array. -/
theorem agree : Cert.algebraic_KernelIdeal_ReferenceIdeal_pre_finite := by
  intro m ρ m' ρ' hpre hag
  refine ⟨fun c => Cert.KernelIdeal.Arr.result (Cert.KernelIdeal.Arr.aq m c) (Cert.KernelIdeal.Arr.ak m c)
      (Cert.KernelIdeal.Arr.av m c) (Cert.KernelIdeal.Arr.akc m c) (Cert.KernelIdeal.Arr.avc m c)
      (Cert.KernelIdeal.Arr.alv m c) (Cert.KernelIdeal.Arr.ag m c),
    (θ_run _ _ _).mono (fun r h c => ⟨(h c).1.trans (Cert.KernelIdeal.Arr.array_eq m c), (h c).2⟩)
      (Cert.KernelIdeal.Value.run_blocks m ρ),
    (θ_run _ _ _).mono (fun r h c => ⟨(h c).1.trans ?_, (h c).2⟩) (Cert.ReferenceIdeal.Value.run (F := Ideal) m' ρ')⟩
  obtain ⟨e0, e1, e2, e3, e4, e5, e6⟩ := hag c
  obtain ⟨p0, p1, p2, p3, p4, p5⟩ := hpre c
  rw [Cert.ReferenceIdeal.Read.val_main_v61_eq, e0, e1, e2, e3, e4, e5, e6]
  exact (Cert.Equal.result_eq _ _ _ _ _ _ _ (Cert.Equal.finite0 _ _ _ _ _ _ _ p0) (Cert.Equal.finite1 _ _ _ _ _ _ _ p1)
    (Cert.Equal.finite2 _ _ _ _ _ _ _ p2) (Cert.Equal.finite3 _ _ _ _ _ _ _ p3) (Cert.Equal.finite4 _ _ _ _ _ _ _ p4)
    (Cert.Equal.finite5 _ _ _ _ _ _ _ p5)).symm

end Cert.Attention

end
-- ==== Proof.Experts.Block.lean ====
/-
  One grid point of the experts' call, over the extended reals: an entry of the block it writes, from its blocks.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Experts

open Cert.Kernel2Ideal Cert.Kernel2Ideal.Gen Idealize.ShloMosaic Idealize.ShloMosaic.TcCoe

/-- A hidden unit: the gate's pre-activation `a` times its logistic, times the other product `u`. -/
def unit (a u : EReal) : EReal := a * Ideal.logistic a * u

/-- Hidden unit `f` of token `x`, from the two weights. -/
def hidden (x : Fin 1024 → EReal) (wg wu : Fin 1024 → Fin 1408 → EReal) (f : Fin 1408) : EReal :=
  unit (∑ k, x k * wg k f) (∑ k, x k * wu k f)

/-- The three chunks of hidden units, added one after the other, are all of them. -/
theorem sum_chunks (F : Fin 1408 → EReal) :
    ∑ f : Fin 512, F ⟨f.val, by omega⟩ + ∑ f : Fin 512, F ⟨512 + f.val, by omega⟩ + ∑ f : Fin 384, F ⟨1024 + f.val, by omega⟩
      = ∑ f, F f := by
  have h : ∑ f, F f = ∑ f : Fin (512 + 512 + 384), F f := rfl
  rw [h, Fin.sum_univ_add, Fin.sum_univ_add]
  rfl

/-- The first chunk's product with the last weight. -/
theorem pay3_apply (x : Vec Ideal S1x1x512x1024 .bf16) (wg wu : Vec Ideal S1x1x1024x512 .f32) (wd : Vec Ideal S1x1x512x1024 .f32)
    (s : Fin 512) (d : Fin 1024) :
    k0_pay3 x wg wu wd (ix2 s d)
      = ∑ f : Fin 512, unit (∑ k : Fin 1024, x (ix4 0 0 s k) * wg (ix4 0 0 k f)) (∑ k : Fin 1024, x (ix4 0 0 s k) * wu (ix4 0 0 k f))
          * wd (ix4 0 0 f d) := by
  unfold k0_pay3 k0_pay2
  pointwise [unit]

theorem pay4_apply (x : Vec Ideal S1x1x512x1024 .bf16) (w : Vec Ideal S1x1x1024x512 .f32) (s f : Fin 512) :
    k0_pay4 x w (ix2 s f) = ∑ k : Fin 1024, x (ix4 0 0 s k) * w (ix4 0 0 k f) := by
  unfold k0_pay4 k0_pay2
  pointwise

theorem pay5_apply (x : Vec Ideal S1x1x512x1024 .bf16) (w : Vec Ideal S1x1x1024x512 .f32) (s f : Fin 512) :
    k0_pay5 x w (ix2 s f) = (∑ k : Fin 1024, x (ix4 0 0 s k) * w (ix4 0 0 k f)) * Ideal.logistic (∑ k : Fin 1024, x (ix4 0 0 s k) * w (ix4 0 0 k f)) := by
  unfold k0_pay5 k0_pay2
  pointwise

theorem pay6_apply (x : Vec Ideal S1x1x512x1024 .bf16) (p : FVec Ideal S512x1024 .f32) (u a : FVec Ideal S512x512 .f32)
    (wd : Vec Ideal S1x1x512x1024 .f32) (wg wu : Vec Ideal S1x1x1024x384 .f32) (wd' : Vec Ideal S1x1x384x1024 .f32)
    (g : Vec Ideal S1x1x1x512 .f32) (s : Fin 512) (d : Fin 1024) :
    k0_pay1 (k0_pay6 (k0_pay2 x) p u a wd wg wu wd' g) (ix4 0 0 s d)
      = (p (ix2 s d) + ∑ f : Fin 512, a (ix2 s f) * u (ix2 s f) * wd (ix4 0 0 f d)
          + ∑ f : Fin 384, unit (∑ k : Fin 1024, x (ix4 0 0 s k) * wg (ix4 0 0 k f)) (∑ k : Fin 1024, x (ix4 0 0 s k) * wu (ix4 0 0 k f))
              * wd' (ix4 0 0 f d)) * g (ix4 0 0 0 s) := by
  unfold k0_pay1 k0_pay6 k0_pay2
  pointwise [unit]

section Loads
variable (x : Vec Ideal S1x1x512x1024 .bf16) (w : Vec Ideal S1x1x1024x1408 .f32) (wd : Vec Ideal S1x1x1408x1024 .f32)
  (g : Vec Ideal S1x1x1x512 .f32)

theorem ld_x (s : Fin 512) (k : Fin 1024) : View.ld x r0_0 (ix4 0 0 s k) = x (ix4 0 0 s k) :=
  congrArg x (funext fun a => Fin.ext (by fin_cases a <;> simp))

theorem ld_g (s : Fin 512) : View.ld g r0_7 (ix4 0 0 0 s) = g (ix4 0 0 0 s) :=
  congrArg g (funext fun a => Fin.ext (by fin_cases a <;> simp))

theorem ld_w0 (k : Fin 1024) (f : Fin 512) : View.ld w r0_1 (ix4 0 0 k f) = w (ix4 0 0 k ⟨f.val, by omega⟩) :=
  congrArg w (funext fun a => Fin.ext (by fin_cases a <;> simp))

theorem ld_w1 (k : Fin 1024) (f : Fin 512) : View.ld w r0_3 (ix4 0 0 k f) = w (ix4 0 0 k ⟨512 + f.val, by omega⟩) :=
  congrArg w (funext fun a => Fin.ext (by fin_cases a <;> simp))

theorem ld_w2 (k : Fin 1024) (f : Fin 384) : View.ld w r0_5 (ix4 0 0 k f) = w (ix4 0 0 k ⟨1024 + f.val, by omega⟩) :=
  congrArg w (funext fun a => Fin.ext (by fin_cases a <;> simp))

theorem ld_d0 (f : Fin 512) (d : Fin 1024) : View.ld wd r0_2 (ix4 0 0 f d) = wd (ix4 0 0 ⟨f.val, by omega⟩ d) :=
  congrArg wd (funext fun a => Fin.ext (by fin_cases a <;> simp))

theorem ld_d1 (f : Fin 512) (d : Fin 1024) : View.ld wd r0_4 (ix4 0 0 f d) = wd (ix4 0 0 ⟨512 + f.val, by omega⟩ d) :=
  congrArg wd (funext fun a => Fin.ext (by fin_cases a <;> simp))

theorem ld_d2 (f : Fin 384) (d : Fin 1024) : View.ld wd r0_6 (ix4 0 0 f d) = wd (ix4 0 0 ⟨1024 + f.val, by omega⟩ d) :=
  congrArg wd (funext fun a => Fin.ext (by fin_cases a <;> simp))

end Loads

/-- The block that one grid point writes, at row `s` and channel `d`. -/
theorem out_apply (x : Vec Ideal S1x1x512x1024 .bf16) (g : Vec Ideal S1x1x1x512 .f32) (wg wu : Vec Ideal S1x1x1024x1408 .f32)
    (wd : Vec Ideal S1x1x1408x1024 .f32) (s : Fin 512) (d : Fin 1024) :
    out0_5 x g wg wu wd (ix4 0 0 s d)
      = (∑ f : Fin 1408, hidden (fun k => x (ix4 0 0 s k)) (fun k f => wg (ix4 0 0 k f)) (fun k f => wu (ix4 0 0 k f)) f
          * wd (ix4 0 0 f d)) * g (ix4 0 0 0 s) := by
  unfold out0_5
  rw [← sum_chunks, View.canon_unit_zero (by funext a; fin_cases a <;> rfl), pay6_apply, ld_g, pay3_apply]
  have h0 (w : Vec Ideal S1x1x1024x1408 .f32) (f : Fin 512) :
      ∑ k : Fin 1024, View.ld x r0_0 (ix4 0 0 s k) * View.ld w r0_1 (ix4 0 0 k f) = ∑ k : Fin 1024, x (ix4 0 0 s k) * w (ix4 0 0 k ⟨f.val, by omega⟩) :=
    Finset.sum_congr rfl fun k _ => congrArg₂ (fun a b : EReal => a * b) (ld_x x s k) (ld_w0 w k f)
  have h1 (w : Vec Ideal S1x1x1024x1408 .f32) (f : Fin 512) :
      ∑ k : Fin 1024, View.ld x r0_0 (ix4 0 0 s k) * View.ld w r0_3 (ix4 0 0 k f) = ∑ k : Fin 1024, x (ix4 0 0 s k) * w (ix4 0 0 k ⟨512 + f.val, by omega⟩) :=
    Finset.sum_congr rfl fun k _ => congrArg₂ (fun a b : EReal => a * b) (ld_x x s k) (ld_w1 w k f)
  have h2 (w : Vec Ideal S1x1x1024x1408 .f32) (f : Fin 384) :
      ∑ k : Fin 1024, View.ld x r0_0 (ix4 0 0 s k) * View.ld w r0_5 (ix4 0 0 k f) = ∑ k : Fin 1024, x (ix4 0 0 s k) * w (ix4 0 0 k ⟨1024 + f.val, by omega⟩) :=
    Finset.sum_congr rfl fun k _ => congrArg₂ (fun a b : EReal => a * b) (ld_x x s k) (ld_w2 w k f)
  refine congrArg (fun a : EReal => a * g (ix4 0 0 0 s)) (congrArg₂ (fun a b : EReal => a + b) (congrArg₂ (fun a b : EReal => a + b) ?_ ?_) ?_)
  · exact Finset.sum_congr rfl fun f _ =>
      congrArg₂ (fun a b : EReal => a * b) (congrArg₂ unit (h0 wg f) (h0 wu f)) (ld_d0 wd f d)
  · refine Finset.sum_congr rfl fun f _ => ?_
    rw [pay4_apply, pay5_apply]
    exact congrArg₂ (fun a b : EReal => a * b) (congrArg₂ unit (h1 wg f) (h1 wu f)) (ld_d1 wd f d)
  · exact Finset.sum_congr rfl fun f _ =>
      congrArg₂ (fun a b : EReal => a * b) (congrArg₂ unit (h2 wg f) (h2 wu f)) (ld_d2 wd f d)

end Cert.Experts

end
-- ==== Proof.Experts.Array.lean ====
/-
  The blocks of the experts' call read from its arguments, and its whole result.
-/
module

public import proofs.«01_k».proof.Proof.Experts.Block
public import Idealize.ShloMosaic.Lib.Claim
public import Idealize.ShloMosaic.Lib.Routing.Ops

@[expose] public section

set_option maxRecDepth 16384

noncomputable section

namespace Cert.Experts

open Cert.Kernel2Ideal Cert.Kernel2Ideal.Gen Idealize.ShloMosaic Idealize.ShloMosaic.TcCoe Idealize.SL.Sem

/-- The token that slot `s` of expert `e` takes from sample `b`. -/
def pick (idx : IVec S2x16x2048 32) (b : Fin 2) (e : Fin 16) (s : Fin 2048) : Fin 16384 :=
  ⟨(idx (ix3 b e s)).toNat % 16384, Nat.mod_lt _ (by norm_num)⟩

/-- Every selected token is one of the sample's. -/
def InSample (idx : IVec S2x16x2048 32) : Prop := ∀ i, (idx i).toNat < 16384

/-- The tokens, one row each. -/
def tokens (h : Vec Ideal S2x16384x1024 .f32) : Vec Ideal S32768x1024 .bf16 :=
  shapeCast S32768x1024 (truncf (F := Ideal) .bf16 h bitsLt_bf16_f32) shapeCasts_S2x16384x1024_S32768x1024

/-- The rows taken, one after the other. -/
def rows (idx : IVec S2x16x2048 32) : IVec S65536x1 32 :=
  broadcastInDim S65536x1 ![0] bcast_S65536_S65536x1_0
    (shapeCast S65536
      (addi idx (broadcastInDim S2x16x2048 ![0, 1, 2] bcast_S2x1x1_S2x16x2048_0_1_2
        (broadcastInDim S2x1x1 ![0] bcast_S2_S2x1x1_0
          (muli (iotaInDim S2 32 0) (broadcastInDim S2 ![] bcast_S_S2 (constantI S_ 32 16384#32))))))
      shapeCasts_S2x16x2048_S65536)

theorem tokens_apply (h : Vec Ideal S2x16384x1024 .f32) (r : Fin 32768) (k : Fin 1024) :
    tokens h (ix2 r k) = h (ix3 ⟨r.val / 16384, by omega⟩ ⟨r.val % 16384, by omega⟩ k) := by
  pointwise [tokens]

theorem rows_apply (idx : IVec S2x16x2048 32) (b : Fin 2) (e : Fin 16) (s : Fin 2048) :
    rows idx (ix2 ⟨b.val * 32768 + e.val * 2048 + s.val, by omega⟩ 0)
      = idx (ix3 b e s) + BitVec.ofNat 32 b.val * 16384#32 := by
  pointwise [rows]
  rfl

theorem rows_eq (idx : IVec S2x16x2048 32) (h : InSample idx) (b : Fin 2) (e : Fin 16) (s : Fin 2048) :
    rows idx (ix2 ⟨b.val * 32768 + e.val * 2048 + s.val, by omega⟩ 0)
      = BitVec.ofNat 32 (⟨b.val * 16384 + (pick idx b e s).val, by omega⟩ : Fin 32768).val := by
  rw [rows_apply]
  have h1 := h (ix3 b e s)
  have h2 := b.isLt
  apply BitVec.eq_of_toNat_eq
  simp only [pick, BitVec.toNat_add, BitVec.toNat_mul, BitVec.toNat_ofNat]
  omega

variable (m : (ℓ : Loc nD τ sig) → Buf (Elt Ideal) ℓ) (c : Dev nD) (t : Fin cfg0.N)

/-- The blocks that grid point `(e, b, i)` is given: expert `e`, sample `b`, tile `i` of the slots. -/
theorem idx : ∀ t : Fin grid0.N, win0_0.index t = ![(grid0.coords t 1).val, (grid0.coords t 0).val, (grid0.coords t 2).val, 0]
    ∧ win0_1.index t = ![(grid0.coords t 1).val, (grid0.coords t 0).val, 0, (grid0.coords t 2).val]
    ∧ win0_2.index t = ![0, (grid0.coords t 0).val, 0, 0]
    ∧ win0_3.index t = ![0, (grid0.coords t 0).val, 0, 0]
    ∧ win0_4.index t = ![0, (grid0.coords t 0).val, 0, 0]
    ∧ win0_5.index t = ![(grid0.coords t 1).val, (grid0.coords t 0).val, (grid0.coords t 2).val, 0] := by
  decide +kernel

/-- The point's sample, expert and tile. -/
abbrev pb (t : Fin cfg0.N) : Fin 2 := ⟨(grid0.coords t 1).val, (grid0.coords t 1).isLt⟩
abbrev pe (t : Fin cfg0.N) : Fin 16 := ⟨(grid0.coords t 0).val, (grid0.coords t 0).isLt⟩
abbrev pi (t : Fin cfg0.N) : Fin 4 := ⟨(grid0.coords t 2).val, (grid0.coords t 2).isLt⟩
/-- The slot in row `s` of the point's tile. -/
abbrev slot (t : Fin cfg0.N) (s : Fin 512) : Fin 2048 := ⟨(pi t).val * 512 + s.val, by omega⟩

/-- The arguments. -/
abbrev ah : Vec Ideal S2x16384x1024 .f32 := m ((c : Thread nD τ).loc main_arg0)
abbrev aidx : IVec S2x16x2048 32 := m ((c : Thread nD τ).loc main_arg1)
abbrev ag : Vec Ideal S2x16x2048 .f32 := m ((c : Thread nD τ).loc main_arg2)
abbrev awg : Vec Ideal S2x16x1024x1408 .f32 := m ((c : Thread nD τ).loc main_arg3)
abbrev awu : Vec Ideal S2x16x1024x1408 .f32 := m ((c : Thread nD τ).loc main_arg4)
abbrev awd : Vec Ideal S2x16x1408x1024 .f32 := m ((c : Thread nD τ).loc main_arg5)

theorem v11 : V m c main_v11 = broadcastInDim S2x16x1x2048 ![0, 1, 3] bcast_S2x16x2048_S2x16x1x2048_0_1_3 (m ((c : Thread nD τ).loc main_arg2)) := by
  simp only [V, hostOps0, hostOps0_1, hostOps0_2, List.flatten_cons, List.flatten_nil, List.append_nil, List.cons_append, List.nil_append]
  entry_read
  rfl

theorem v10 : V m c main_v10 = shapeCast S2x16x2048x1024
      (Host.gather gather_S32768x1024_S65536x1_S65536x1024_1_0_n_n_0_1_11024 (tokens (m ((c : Thread nD τ).loc main_arg0)))
        (rows (m ((c : Thread nD τ).loc main_arg1)))) shapeCasts_S65536x1024_S2x16x2048x1024 := by
  simp only [V, hostOps0, hostOps0_1, hostOps0_2, List.flatten_cons, List.flatten_nil, List.append_nil, List.cons_append, List.nil_append]
  entry_read
  rfl

theorem blk1 (s : Fin 512) : iblk m c 1 t (ix4 0 0 0 s) = ag m c (ix3 (pb t) (pe t) (slot t s)) := by
  have e : iblk m c 1 t (ix4 0 0 0 s) = V m c main_v11 (ix4 (pb t) (pe t) 0 (slot t s)) := by blk_ext [iblk, idx t]
  rw [e, v11]
  pointwise
  rfl

theorem blk2 (k : Fin 1024) (f : Fin 1408) : iblk m c 2 t (ix4 0 0 k f) = awg m c (ix4 0 (pe t) k f) := by
  blk_ext [iblk, V, idx t]

theorem blk3 (k : Fin 1024) (f : Fin 1408) : iblk m c 3 t (ix4 0 0 k f) = awu m c (ix4 0 (pe t) k f) := by
  blk_ext [iblk, V, idx t]

theorem blk4 (f : Fin 1408) (d : Fin 1024) : iblk m c 4 t (ix4 0 0 f d) = awd m c (ix4 0 (pe t) f d) := by
  blk_ext [iblk, V, idx t]

theorem blk0 (h : InSample (aidx m c)) (s : Fin 512) (k : Fin 1024) :
    iblk m c 0 t (ix4 0 0 s k) = ah m c (ix3 (pb t) (pick (aidx m c) (pb t) (pe t) (slot t s)) k) := by
  have e : iblk m c 0 t (ix4 0 0 s k) = V m c main_v10 (ix4 (pb t) (pe t) (slot t s) k) := by blk_ext [iblk, idx t]
  rw [e, v10]
  have hp := (pick (aidx m c) (pb t) (pe t) (slot t s)).isLt
  have hb := (pb t).isLt
  have r : shapeCast S2x16x2048x1024
      (Host.gather gather_S32768x1024_S65536x1_S65536x1024_1_0_n_n_0_1_11024 (tokens (ah m c)) (rows (aidx m c)))
      shapeCasts_S65536x1024_S2x16x2048x1024 (ix4 (pb t) (pe t) (slot t s) k)
      = Host.gather gather_S32768x1024_S65536x1_S65536x1024_1_0_n_n_0_1_11024 (tokens (ah m c)) (rows (aidx m c))
        (ix2 ⟨(pb t).val * 32768 + (pe t).val * 2048 + (slot t s).val, by omega⟩ k) := by
    pointwise
  refine r.trans ?_
  refine (Routing.gather_row _ rfl rfl rfl rfl rfl _ _ _ k _ (rows_eq (aidx m c) h (pb t) (pe t) (slot t s)) (by norm_num)).trans ?_
  refine (tokens_apply (ah m c) _ k).trans ?_
  refine congrArg (ah m c) (funext fun a => Fin.ext ?_)
  fin_cases a
  · show ((pb t).val * 16384 + (pick (aidx m c) (pb t) (pe t) (slot t s)).val) / 16384 = (pb t).val
    omega
  · show ((pb t).val * 16384 + (pick (aidx m c) (pb t) (pe t) (slot t s)).val) % 16384 = (pick (aidx m c) (pb t) (pe t) (slot t s)).val
    omega
  · rfl

/-- The call's result: each expert's slots, run through the expert's feed-forward and scaled by their gates. -/
def result (h : Vec Ideal S2x16384x1024 .f32) (idx : IVec S2x16x2048 32) (g : Vec Ideal S2x16x2048 .f32)
    (wg wu : Vec Ideal S2x16x1024x1408 .f32) (wd : Vec Ideal S2x16x1408x1024 .f32)
    (b : Fin 2) (e : Fin 16) (s : Fin 2048) (d : Fin 1024) : EReal :=
  (∑ f : Fin 1408, hidden (fun k => h (ix3 b (pick idx b e s) k)) (fun k f => wg (ix4 0 e k f))
    (fun k f => wu (ix4 0 e k f)) f * wd (ix4 0 e f d)) * g (ix3 b e s)

theorem block_eq (h : InSample (aidx m c)) (s : Fin 512) (d : Fin 1024) :
    out0_5 (iblk m c 0 t) (iblk m c 1 t) (iblk m c 2 t) (iblk m c 3 t) (iblk m c 4 t) (ix4 0 0 s d)
      = result (ah m c) (aidx m c) (ag m c) (awg m c) (awu m c) (awd m c) (pb t) (pe t) (slot t s) d := by
  rw [out_apply, result]
  have e0 : (fun k => iblk m c 0 t (ix4 0 0 s k)) = fun k => ah m c (ix3 (pb t) (pick (aidx m c) (pb t) (pe t) (slot t s)) k) :=
    funext fun k => blk0 m c t h s k
  have e2 : (fun k f => iblk m c 2 t (ix4 0 0 k f)) = fun k f => awg m c (ix4 0 (pe t) k f) :=
    funext fun k => funext fun f => blk2 m c t k f
  have e3 : (fun k f => iblk m c 3 t (ix4 0 0 k f)) = fun k f => awu m c (ix4 0 (pe t) k f) :=
    funext fun k => funext fun f => blk3 m c t k f
  refine congrArg₂ (fun a b : EReal => a * b) (Finset.sum_congr rfl fun f _ =>
    congrArg₂ (fun a b : EReal => a * b) ?_ (blk4 m c t f d)) (blk1 m c t s)
  rw [e0, e2, e3]

/-- The call's whole result. -/
abbrev whole (h : Vec Ideal S2x16384x1024 .f32) (idx : IVec S2x16x2048 32) (g : Vec Ideal S2x16x2048 .f32)
    (wg wu : Vec Ideal S2x16x1024x1408 .f32) (wd : Vec Ideal S2x16x1408x1024 .f32) : Vec Ideal S2x16x2048x1024 .bf16 :=
  fun y => result h idx g wg wu wd (y 0) (y 1) (y 2) (y 3)

theorem array_eq (h : InSample (aidx m c)) :
    (dats m 0 c).arrAt 5 cfg0.N = whole (ah m c) (aidx m c) (ag m c) (awg m c) (awu m c) (awd m c) := by
  refine (dats m 0 c).arrAt_eq_of_covers 5 _ (by decide +kernel) fun t hf y => ?_
  obtain ⟨z, w, s, d, rfl⟩ : ∃ z w s d, y = ix4 z w s d := ⟨y 0, y 1, y 2, y 3, eq_ix4 y⟩
  obtain rfl : z = 0 := Subsingleton.elim _ _
  obtain rfl : w = 0 := Subsingleton.elim _ _
  blk_simp
  rw [after0_5]
  have e : (win0_5.blk t).view.emb (ix4 0 0 s d) = (ix4 (pb t) (pe t) (slot t s) d : S2x16x2048x1024.Idx) := by
    blk_ext [idx t]
  rw [e]
  exact block_eq m c t h s d

end Cert.Experts

end
-- ==== Proof.Experts.Ref.lean ====
/-
  The experts' reference at an index, in the same words as the call's result.
-/
module

public import proofs.«01_k».proof.Proof.Gen.Reference2Ideal.Read
public import proofs.«01_k».proof.Proof.Experts.Array

@[expose] public section

set_option maxRecDepth 16384

noncomputable section

namespace Cert.Experts.Ref

open Cert.Reference2Ideal Cert.Reference2Ideal.Gen Cert.Reference2Ideal.Read
open Idealize.ShloMosaic Idealize.ShloMosaic.TcCoe Idealize.SL.Sem
open Cert.Experts (pick InSample hidden unit)

variable (x0 : Vec Ideal S2x16384x1024 .f32) (x1 : IVec S2x16x2048 32) (x2 : Vec Ideal S2x16x2048 .f32)
  (x3 x4 : Vec Ideal S2x16x1024x1408 .f32) (x5 : Vec Ideal S2x16x1408x1024 .f32)

theorem one : Ideal.ofBits .f32 0x3F800000#32 = 1 := by
  simp [Ideal.ofBits, Ideal.ieee, -EReal.coe_mul]; norm_num

theorem batch_eq (b : Fin 2) (e : Fin 16) (s : Fin 2048) :
    val_main_v21 (F := Ideal) x1 (ix4 b e s 0) = BitVec.ofNat 32 b.val := by
  have h : ∀ b : Fin 2, Scalar.select (IntOp.cmpi .slt (BitVec.ofNat 32 b.val) 0#32)
      (IntOp.addi (BitVec.ofNat 32 b.val) 2#32) (BitVec.ofNat 32 b.val) = BitVec.ofNat 32 b.val := by decide
  pointwise [val_main_v21, val_main_v19, val_main_v18, val_main_v12, val_main_v9, val_main_v11, val_main_v7, val_main_v6,
    val_main_v8, val_main_c, val_main_v10, val_main_c_0]
  exact h b

theorem toInt_eq {x1 : IVec S2x16x2048 32} (h : InSample x1) (i : S2x16x2048.Idx) : (x1 i).toInt = ((x1 i).toNat : Int) :=
  BitVec.toInt_eq_toNat_of_lt (by have := h i; omega)

theorem token_eq (h : InSample x1) (b : Fin 2) (e : Fin 16) (s : Fin 2048) :
    val_main_v21 (F := Ideal) x1 (ix4 b e s 1) = x1 (ix3 b e s) := by
  pointwise [val_main_v21, val_main_v20, val_main_v17, val_main_v14, val_main_v16, val_main_v13, val_main_c_1,
    val_main_v15, val_main_c_2]
  have e1 := toInt_eq h (ix3 b e s)
  have e2 : (x1 (ix3 b e s)).slt 0#32 = false := by
    rw [BitVec.slt, e1]
    exact decide_eq_false (by simp)
  have e3 : IntOp.cmpi .slt (x1 (ix3 b e s)) 0#32 = 0#1 := by
    show BitVec.ofBool ((x1 (ix3 b e s)).slt 0#32) = 0#1
    rw [e2]
    rfl
  rw [e3]
  rfl

abbrev dims := gather_S2x16384x1024_S2x16x2048x2_S2x16x2048x1024_3_01_n_n_01_3_111024

theorem taken_eq (h : InSample x1) (b : Fin 2) (e : Fin 16) (s : Fin 2048) (k : Fin 1024) :
    val_main_v22 (F := Ideal) x0 x1 (ix4 b e s k) = x0 (ix3 b (pick x1 b e s) k) := by
  unfold val_main_v22 Host.gather
  refine congrArg x0 (funext fun a => Fin.ext ?_)
  have hn (a : Fin 3) : a ∉ dims.operandBatchingDims := List.not_mem_nil
  match a with
  | ⟨0, _⟩ =>
    have hk : (0 : Fin 3) ∉ dims.sKept := fun h => ((dims.mem_sKept 0).1 h).1 (by decide)
    have hm : (0 : Fin 3) ∈ dims.startIndexMap := by decide
    show dims.start (ix4 b e s k) (val_main_v21 (F := Ideal) x1) 0 + dims.batchCoord (ix4 b e s k) 0
      + dims.offCoord (ix4 b e s k) 0 = b.val
    rw [dims.batchCoord_eq_zero _ _ (hn 0), dims.offCoord_eq_zero _ _ hk]
    simp only [Nat.add_zero]
    unfold GatherDims.start
    rw [dif_pos hm]
    have hsi : dims.siIdx (ix4 b e s k) ⟨dims.startIndexMap.idxOf 0, List.idxOf_lt_length_iff.2 hm⟩ = ix4 b e s 0 := by
      funext a
      refine Fin.ext ?_
      match a with
      | ⟨0, _⟩ => rfl
      | ⟨1, _⟩ => rfl
      | ⟨2, _⟩ => rfl
      | ⟨3, _⟩ => rfl
    rw [hsi, batch_eq]
    have hb : ∀ b : Fin 2, min (BitVec.ofNat 32 b.val).toInt.toNat (2 - 1) = b.val := by decide
    exact hb b
  | ⟨1, _⟩ =>
    have hk : (1 : Fin 3) ∉ dims.sKept := fun h => ((dims.mem_sKept 1).1 h).1 (by decide)
    have hm : (1 : Fin 3) ∈ dims.startIndexMap := by decide
    show dims.start (ix4 b e s k) (val_main_v21 (F := Ideal) x1) 1 + dims.batchCoord (ix4 b e s k) 1
      + dims.offCoord (ix4 b e s k) 1 = (x1 (ix3 b e s)).toNat % 16384
    rw [dims.batchCoord_eq_zero _ _ (hn 1), dims.offCoord_eq_zero _ _ hk]
    simp only [Nat.add_zero]
    unfold GatherDims.start
    rw [dif_pos hm]
    have hsi : dims.siIdx (ix4 b e s k) ⟨dims.startIndexMap.idxOf 1, List.idxOf_lt_length_iff.2 hm⟩ = ix4 b e s 1 := by
      funext a
      refine Fin.ext ?_
      match a with
      | ⟨0, _⟩ => rfl
      | ⟨1, _⟩ => rfl
      | ⟨2, _⟩ => rfl
      | ⟨3, _⟩ => rfl
    rw [hsi, token_eq x1 h, toInt_eq h]
    have hx := h (ix3 b e s)
    show min ((x1 (ix3 b e s)).toNat : Int).toNat (16384 - 1) = (x1 (ix3 b e s)).toNat % 16384
    rw [Int.toNat_natCast]
    omega
  | ⟨2, _⟩ =>
    have hk : (2 : Fin 3) ∈ dims.sKept := (dims.mem_sKept 2).2 ⟨by decide, hn 2⟩
    have hm : (2 : Fin 3) ∉ dims.startIndexMap := by decide
    show dims.start (ix4 b e s k) (val_main_v21 (F := Ideal) x1) 2 + dims.batchCoord (ix4 b e s k) 2
      + dims.offCoord (ix4 b e s k) 2 = k.val
    rw [dims.batchCoord_eq_zero _ _ (hn 2), Nat.add_zero]
    unfold GatherDims.start GatherDims.offCoord
    rw [dif_neg hm, dif_pos hk, Nat.zero_add]
    rfl

theorem gateWeight (x : Vec Ideal S2x16x1024x1408 .f32) (e : Fin 16) (k : Fin 1024) (f : Fin 1408) :
    val_main_v1 (F := Ideal) x (ix3 e k f) = x (ix4 0 e k f) := by
  rw [val_main_v1_apply, val_main_v0_apply]
  refine congrArg x (funext fun a => Fin.ext ?_)
  fin_cases a
  · rfl
  · show ((e.val * 1024 + k.val) * 1408 + f.val) / 1441792 % 16 = e.val
    omega
  · show ((e.val * 1024 + k.val) * 1408 + f.val) / 1408 % 1024 = k.val
    omega
  · show ((e.val * 1024 + k.val) * 1408 + f.val) % 1408 = f.val
    omega

theorem upWeight (x : Vec Ideal S2x16x1024x1408 .f32) (e : Fin 16) (k : Fin 1024) (f : Fin 1408) :
    val_main_v3 (F := Ideal) x (ix3 e k f) = x (ix4 0 e k f) := by
  rw [val_main_v3_apply, val_main_v2_apply]
  refine congrArg x (funext fun a => Fin.ext ?_)
  fin_cases a
  · rfl
  · show ((e.val * 1024 + k.val) * 1408 + f.val) / 1441792 % 16 = e.val
    omega
  · show ((e.val * 1024 + k.val) * 1408 + f.val) / 1408 % 1024 = k.val
    omega
  · show ((e.val * 1024 + k.val) * 1408 + f.val) % 1408 = f.val
    omega

theorem downWeight (x : Vec Ideal S2x16x1408x1024 .f32) (e : Fin 16) (f : Fin 1408) (d : Fin 1024) :
    val_main_v5 (F := Ideal) x (ix3 e f d) = x (ix4 0 e f d) := by
  rw [val_main_v5_apply, val_main_v4_apply]
  refine congrArg x (funext fun a => Fin.ext ?_)
  fin_cases a
  · rfl
  · show ((e.val * 1408 + f.val) * 1024 + d.val) / 1441792 % 16 = e.val
    omega
  · show ((e.val * 1408 + f.val) * 1024 + d.val) / 1024 % 1408 = f.val
    omega
  · show ((e.val * 1408 + f.val) * 1024 + d.val) % 1024 = d.val
    omega

theorem gate_eq (h : InSample x1) (b : Fin 2) (e : Fin 16) (s : Fin 2048) (f : Fin 1408) :
    val_main_v24 (F := Ideal) x0 x1 x3 (ix4 b e s f) = ∑ k : Fin 1024, x0 (ix3 b (pick x1 b e s) k) * x3 (ix4 0 e k f) := by
  rw [val_main_v24_apply, val_main_v23_apply]
  refine Finset.sum_congr rfl fun k _ => ?_
  rw [mul_comm, ← taken_eq x0 x1 h, ← gateWeight x3]
  refine congrArg₂ (fun a b : EReal => a * b) (congrArg (val_main_v22 x0 x1) (funext fun a => Fin.ext ?_))
    (congrArg (val_main_v1 x3) (funext fun a => Fin.ext ?_))
  · fin_cases a <;> rfl
  · fin_cases a <;> rfl

theorem up_eq (h : InSample x1) (b : Fin 2) (e : Fin 16) (s : Fin 2048) (f : Fin 1408) :
    val_main_v27 (F := Ideal) x0 x1 x4 (ix4 b e s f) = ∑ k : Fin 1024, x0 (ix3 b (pick x1 b e s) k) * x4 (ix4 0 e k f) := by
  rw [val_main_v27_apply, val_main_v26_apply]
  refine Finset.sum_congr rfl fun k _ => ?_
  rw [mul_comm, ← taken_eq x0 x1 h, ← upWeight x4]
  refine congrArg₂ (fun a b : EReal => a * b) (congrArg (val_main_v22 x0 x1) (funext fun a => Fin.ext ?_))
    (congrArg (val_main_v3 x4) (funext fun a => Fin.ext ?_))
  · fin_cases a <;> rfl
  · fin_cases a <;> rfl

theorem hidden_eq (h : InSample x1) (b : Fin 2) (e : Fin 16) (s : Fin 2048) (f : Fin 1408) :
    val_main_v28 (F := Ideal) x0 x1 x3 x4 (ix4 b e s f)
      = hidden (fun k => x0 (ix3 b (pick x1 b e s) k)) (fun k f => x3 (ix4 0 e k f)) (fun k f => x4 (ix4 0 e k f)) f := by
  have e1 : val_main_call0_v5 (F := Ideal) x0 x1 x3 (ix4 b e s f) = Ideal.logistic (val_main_v24 (F := Ideal) x0 x1 x3 (ix4 b e s f)) := by
    rw [val_main_call0_v5_apply, val_main_call0_v4_apply, val_main_call0_cst_0_apply, val_main_call0_v3_apply,
      val_main_call0_v2_apply, val_main_call0_cst_apply, val_main_call0_v1_apply, val_main_call0_v0_apply]
    show Ideal.div (Ideal.ofBits .f32 0x3F800000#32) (Ideal.ofBits .f32 0x3F800000#32 + Ideal.exp (-_)) = Ideal.logistic _
    rw [one]
    rfl
  rw [val_main_v28_apply, val_main_v25_apply, e1, gate_eq x0 x1 x3 h, up_eq x0 x1 x4 h]
  rfl

theorem result_eq (h : InSample x1) :
    val_main_v34 (F := Ideal) x0 x1 x2 x3 x4 x5 = Cert.Experts.whole x0 x1 x2 x3 x4 x5 := by
  funext y
  obtain ⟨b, e, s, d, rfl⟩ : ∃ b e s d, y = ix4 b e s d := ⟨y 0, y 1, y 2, y 3, eq_ix4 y⟩
  rw [val_main_v34_apply, val_main_v33_apply, val_main_v32_apply, val_main_v31_apply, val_main_v30_apply, val_main_v29_apply]
  show (∑ f : Fin 1408, _) * _ = Cert.Experts.result x0 x1 x2 x3 x4 x5 b e s d
  unfold Cert.Experts.result
  refine congrArg₂ (fun a b : EReal => a * b) (Finset.sum_congr rfl fun f _ => ?_) (congrArg x2 (funext fun a => Fin.ext ?_))
  · rw [mul_comm, ← hidden_eq x0 x1 x3 x4 h, ← downWeight x5]
    refine congrArg₂ (fun a b : EReal => a * b) (congrArg (val_main_v28 x0 x1 x3 x4) (funext fun a => Fin.ext ?_))
      (congrArg (val_main_v5 x5) (funext fun a => Fin.ext ?_))
    · fin_cases a <;> rfl
    · fin_cases a <;> rfl
  · fin_cases a <;> rfl

end Cert.Experts.Ref

end
-- ==== Proof.Experts.Algebraic.lean ====
/-
  The five claims about the experts' feed-forward.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Pre_in_sample
public import proofs.«01_k».proof.Proof.Experts.Ref
public import Idealize.ShloMosaic.Lib.Quiescent

@[expose] public section

noncomputable section

namespace Cert.Experts

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ideal_sample : Cert.quiescent_Kernel2Ideal_pre_in_sample := fun m ρ _ => Cert.Kernel2Ideal.Gen.frame m ρ

theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem frame_reference_sample : Cert.quiescent_Reference2Ideal_pre_in_sample := fun m ρ _ => frame_reference m ρ trivial

theorem preserved : Cert.preserves_Kernel2_Kernel2Ideal := trivial

/-- A word that is at least 0 and below 16384, read signed, is below 16384. -/
theorem in_range (x : BitVec 32) (h : IntOp.andi (IntOp.cmpi .sge x 0#32) (IntOp.cmpi .slt x 16384#32) = 1#1) :
    x.toNat < 16384 := by
  have h' : (BitVec.ofBool ((0#32).sle x) &&& BitVec.ofBool (x.slt 16384#32)) = 1#1 := h
  have ha : (0#32).sle x = true ∧ x.slt 16384#32 = true := by
    revert h'
    generalize (0#32).sle x = p
    generalize x.slt 16384#32 = q
    revert p q
    decide
  obtain ⟨h0, h1⟩ := ha
  rw [BitVec.sle, decide_eq_true_eq] at h0
  rw [BitVec.slt, decide_eq_true_eq] at h1
  have e2 := BitVec.toInt_eq_toNat_cond x
  rw [e2] at h0 h1
  have e0 : (0#32).toInt = 0 := by decide
  have e1 : (16384#32).toInt = 16384 := by decide
  rw [e0] at h0
  rw [e1] at h1
  have := x.isLt
  split at h0 <;> omega

theorem inSample (x0 : FVec Ideal Cert.Pre_in_sample.S2x16384x1024 .f32) (x1 : IVec Cert.Pre_in_sample.S2x16x2048 32)
    (x2 : FVec Ideal Cert.Pre_in_sample.S2x16x2048 .f32) (x3 x4 : FVec Ideal Cert.Pre_in_sample.S2x16x1024x1408 .f32)
    (x5 : FVec Ideal Cert.Pre_in_sample.S2x16x1408x1024 .f32)
    (h : Cert.Pre_in_sample.fn (F := Ideal) x0 x1 x2 x3 x4 x5 = fun _ => 1#1) : InSample x1 := fun i =>
  in_range (x1 i) (congrFun h i)

/-- Where every selected token is one of the sample's, the kernel and the reference end at the same array. -/
theorem agree : Cert.algebraic_Kernel2Ideal_Reference2Ideal_pre_in_sample := by
  intro m ρ m' ρ' hpre hag
  refine ⟨fun c => whole (ah m c) (aidx m c) (ag m c) (awg m c) (awu m c) (awd m c),
    (θ_run _ _ _).mono (fun r h c => ⟨(h c).1.trans (array_eq m c (inSample _ _ _ _ _ _ (hpre c))), (h c).2⟩)
      (Cert.Kernel2Ideal.Value.run_blocks m ρ),
    (θ_run _ _ _).mono (fun r h c => ⟨(h c).1.trans ?_, (h c).2⟩) (Cert.Reference2Ideal.Value.run (F := Ideal) m' ρ')⟩
  obtain ⟨e0, e1, e2, e3, e4, e5⟩ := hag c
  rw [Cert.Reference2Ideal.Read.val_main_v34_eq, e0, e1, e2, e3, e4, e5]
  exact Ref.result_eq _ _ _ _ _ _ (inSample _ _ _ _ _ _ (hpre c))

end Cert.Experts

end
-- ==== Proof.InProj.Spec.lean ====
/-
  The in-projection of one token, over the extended reals: the modulated norm, the projection's columns, the norm of the
  heads and the rotation by position.
-/
module

public import Idealize.ShloMosaic.PureOps.Ideal

@[expose] public section

noncomputable section

namespace Cert.InProj

open Idealize.ShloMosaic

/-- The small number that every norm adds. -/
def eps : EReal := Ideal.ofBits .f32 0x358637BD#32

/-- Channel `k` of a token after the norm and the modulation. -/
def hid (x g sh sc : Fin 1024 → EReal) (k : Fin 1024) : EReal :=
  x k * Ideal.rsqrt (Ideal.div (∑ j, x j * x j) (Ideal.ofBits .f32 0x44800000#32) + eps) * g k
    * (Ideal.ofBits .f32 0x3F800000#32 + sc k) + sh k

/-- A column of the projection. -/
def col (h : Fin 1024 → EReal) (w : Fin 1024 → Fin 6144 → EReal) (j : Fin 6144) : EReal := ∑ k, h k * w k j

/-- 256 columns, from `o`. -/
def cols (h : Fin 1024 → EReal) (w : Fin 1024 → Fin 6144 → EReal) (o : Nat) (ho : o + 256 ≤ 6144) (j : Fin 256) : EReal :=
  col h w ⟨o + j.val, by omega⟩

/-- The heads' norm as the call takes it: the mean square from a product with the matrix `bd` of the heads' means, of the
    squares and of what is left of them after the rounding. -/
def gnorm (p : Fin 256 → EReal) (bd : Fin 256 → Fin 256 → EReal) (g : Fin 256 → EReal) (j : Fin 256) : EReal :=
  p j * Ideal.rsqrt ((∑ l, p l * p l * bd l j + ∑ l, (p l * p l - p l * p l) * bd l j) + eps) * g j

/-- The norm over heads of 64 columns. -/
def norm64 (p : Fin 256 → EReal) (g : Fin 64 → EReal) (j : Fin 256) : EReal :=
  p j * Ideal.rsqrt (Ideal.div (∑ l : Fin 64, p ⟨j.val / 64 * 64 + l.val, by omega⟩ * p ⟨j.val / 64 * 64 + l.val, by omega⟩)
    (Ideal.ofBits .f32 0x42800000#32) + eps) * g ⟨j.val % 64, by omega⟩

/-- The norm over heads of 32 columns. -/
def norm32 (p : Fin 256 → EReal) (g : Fin 32 → EReal) (j : Fin 256) : EReal :=
  p j * Ideal.rsqrt (Ideal.div (∑ l : Fin 32, p ⟨j.val / 32 * 32 + l.val, by omega⟩ * p ⟨j.val / 32 * 32 + l.val, by omega⟩)
    (Ideal.ofBits .f32 0x42000000#32) + eps) * g ⟨j.val % 32, by omega⟩

/-- The rotation as the call takes it: each half of 128 columns times one table, the half turned by 8 columns to the left
    times the next, and to the right times the last. -/
def turn (z : Fin 256 → EReal) (c n p : Fin 128 → EReal) (j : Fin 256) : EReal :=
  z j * c ⟨j.val % 128, by omega⟩
    + z ⟨j.val / 128 * 128 + (j.val % 128 + 8) % 128, by omega⟩ * n ⟨j.val % 128, by omega⟩
    + z ⟨j.val / 128 * 128 + (j.val % 128 + 120) % 128, by omega⟩ * p ⟨j.val % 128, by omega⟩

/-- The rotation by the angles `a`: of each 16 columns the first 8 are the first coordinates, the last 8 the second. -/
def rope (z : Fin 256 → EReal) (a : Fin 128 → EReal) (j : Fin 256) : EReal :=
  if h : j.val % 16 < 8 then
    z j * Ideal.cos (a ⟨j.val % 128, by omega⟩) - z ⟨j.val + 8, by omega⟩ * Ideal.sin (a ⟨j.val % 128, by omega⟩)
  else
    z ⟨j.val - 8, by omega⟩ * Ideal.sin (a ⟨j.val % 128, by omega⟩) + z j * Ideal.cos (a ⟨j.val % 128, by omega⟩)

/-- The sign of a word. -/
abbrev signOf (x : BitVec 32) : BitVec 32 := if x = 0#32 then 0#32 else if x.msb = true then -1#32 else 1#32

/-- A token's row in the grid of 64 columns, by the host's floor division, and its column, by the host's remainder. -/
def rowOf (x : BitVec 32) : BitVec 32 :=
  Scalar.select
    (IntOp.andi (IntOp.cmpi .ne (signOf x) (signOf 64#32))
      (IntOp.cmpi .ne (IntOp.remsi .host x 64#32) 0#32))
    (IntOp.subi (IntOp.divsi .host x 64#32) 1#32) (IntOp.divsi .host x 64#32)

/-- What the host's remainder divides by: the divisor, or one in place of zero. -/
abbrev divisor (d : BitVec 32) : BitVec 32 := Scalar.select (IntOp.cmpi .eq d 0#32) (1#32) d

/-- The host's remainder, with the divisor's sign. -/
def remOf (x d : BitVec 32) : BitVec 32 :=
  Scalar.select
    (IntOp.andi (IntOp.cmpi .ne (IntOp.cmpi .slt (IntOp.remsi .host x (divisor d)) 0#32) (IntOp.cmpi .slt (divisor d) 0#32))
      (IntOp.cmpi .ne (IntOp.remsi .host x (divisor d)) 0#32))
    (IntOp.addi (IntOp.remsi .host x (divisor d)) (divisor d)) (IntOp.remsi .host x (divisor d))

/-- The frequency of a pair of coordinates, from its number's word. -/
def freq (k : BitVec 32) : EReal :=
  Ideal.pow (Ideal.ofBits .f32 0x461C4000#32) (Ideal.div (-(FloatOps.sitofp (F := Ideal) .f32 k : EReal)) (Ideal.ofBits .f32 0x41000000#32))

/-- The angle of token `t` in column `l` of 128: by its row in the first half of each 32 columns, by its column in the other. -/
def angle (t : Fin 16384) (l : Fin 128) : EReal :=
  (FloatOps.sitofp (F := Ideal) .f32 (if l.val % 32 < 16 then rowOf (BitVec.ofNat 32 t.val) else remOf (BitVec.ofNat 32 t.val) 64#32) : EReal)
    * freq (BitVec.ofNat 32 (l.val % 8))

/-- Two rows of 256 columns side by side. -/
def pair (a b : Fin 256 → EReal) (j : Fin 512) : EReal := if h : j.val < 256 then a ⟨j.val, h⟩ else b ⟨j.val - 256, by omega⟩

theorem pair_left (a b : Fin 256 → EReal) (j : Fin 256) : pair a b ⟨j.val, by omega⟩ = a j := dif_pos j.isLt

theorem pair_right (a b : Fin 256 → EReal) (j : Fin 256) : pair a b ⟨256 + j.val, by omega⟩ = b j :=
  (dif_neg (show ¬(256 + j.val < 256) by omega)).trans (congrArg b (Fin.ext (by simp)))

end Cert.InProj

end
-- ==== Proof.InProj.Block.lean ====
/-
  One grid point of the in-projection's call, over the extended reals: an entry of each block it writes, from its blocks.
-/
module

public import proofs.«01_k».proof.Proof.Gen.Kernel3Ideal.Value
public import proofs.«01_k».proof.Proof.InProj.Spec
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Idealize.ShloMosaic Idealize.ShloMosaic.TcCoe

/-- The token's channels after the norm and the modulation. -/
theorem pay3_apply (x : Vec Ideal S1x1024x1024 .f32) (g : Vec Ideal S1x1024 .f32) (sc sh : Vec Ideal S1x1x1024 .f32) (r k : Fin 1024) :
    k0_pay3 x g sc sh (ix2 r k)
      = hid (fun k => x (ix3 0 r k)) (fun k => g (ix2 0 k)) (fun k => sh (ix3 0 0 k)) (fun k => sc (ix3 0 0 k)) k := by
  unfold k0_pay3
  pointwise [hid, eps]

/-- A product with 256 columns of the weight. -/
theorem pay10_apply (h : FVec Ideal S1024x1024 .bf16) (w : Vec Ideal S1024x256 .bf16) (r : Fin 1024) (j : Fin 256) :
    k0_pay10 h w (ix2 r j) = ∑ k : Fin 1024, h (ix2 r k) * w (ix2 k j) := by
  unfold k0_pay10
  pointwise

theorem pay12_apply (h : FVec Ideal S1024x1024 .bf16) (w : Vec Ideal S1024x256 .bf16) (b b' : Vec Ideal S256x256 .bf16) (r : Fin 1024) (j : Fin 256) :
    k0_pay12 h w b b' (ix2 r j)
      = ∑ l : Fin 256, k0_pay10 h w (ix2 r l) * k0_pay10 h w (ix2 r l) * b (ix2 l j)
        + ∑ l : Fin 256, (k0_pay10 h w (ix2 r l) * k0_pay10 h w (ix2 r l) - k0_pay10 h w (ix2 r l) * k0_pay10 h w (ix2 r l)) * b' (ix2 l j) := by
  unfold k0_pay12
  generalize k0_pay10 h w = p
  pointwise

/-- The rotation of the two halves, told apart by the column. -/
def halves (z : Fin 256 → EReal) (c n p : Fin 128 → EReal) (j : Fin 256) : EReal :=
  if h : j.val < 128 then
    z j * c ⟨j.val, h⟩ + z ⟨(j.val + 128 - 120) % 128, by omega⟩ * n ⟨j.val, h⟩ + z ⟨(j.val + 128 - 8) % 128, by omega⟩ * p ⟨j.val, h⟩
  else
    z ⟨128 + (j.val - 128), by omega⟩ * c ⟨j.val - 128, by omega⟩
      + z ⟨128 + (j.val - 128 + 128 - 120) % 128, by omega⟩ * n ⟨j.val - 128, by omega⟩
      + z ⟨128 + (j.val - 128 + 128 - 8) % 128, by omega⟩ * p ⟨j.val - 128, by omega⟩

theorem halves_eq (z : Fin 256 → EReal) (c n p : Fin 128 → EReal) (j : Fin 256) : halves z c n p j = turn z c n p j := by
  have hj := j.isLt
  unfold halves
  split <;> rename_i h <;> unfold turn <;> congr 3 <;> first | rfl | (congr 1; apply Fin.ext; dsimp only; omega) | (apply Fin.ext; dsimp only; omega)

/-- The rotation of both halves, before the scale. -/
theorem pay1_apply (z : FVec Ideal S1024x256 .f32) (c n p : FVec Ideal S1024x128 .f32) (r : Fin 1024) (j : Fin 256) :
    k0_pay1 z c n p (ix3 0 r j)
      = turn (fun l => z (ix2 r l)) (fun l => c (ix2 r l)) (fun l => n (ix2 r l)) (fun l => p (ix2 r l)) j := by
  rw [← halves_eq]
  unfold k0_pay1
  pointwise [halves]

theorem pay28_apply (h : FVec Ideal S1024x1024 .bf16) (w : Vec Ideal S1024x256 .bf16) (g : Vec Ideal S1x256 .f32) (b : Vec Ideal S256x256 .bf16) (r : Fin 1024) (j : Fin 256) :
    k0_pay28 h w g b b (ix2 r j)
      = gnorm (fun l => k0_pay10 h w (ix2 r l)) (fun l j => b (ix2 l j)) (fun l => g (ix2 0 l)) j := by
  have e : k0_pay28 h w g b b = mulf (mulf (k0_pay10 h w) (rsqrt (addf (k0_pay12 h w b b) (broadcast S1024x256 (Scalar.ofBits .f32 0x358637BD#32)))))
    (broadcastTo S1024x256 (shapeCast S1x256 g shapeCasts_S1x256_S1x256) broadcasts_S1x256_S1024x256) := rfl
  rw [e, gnorm, ← pay12_apply]
  generalize k0_pay12 h w b b = q
  generalize k0_pay10 h w = p
  pointwise [eps]

/-- The named scale of the differential queries. -/
def scale2 : EReal := (((Real.log 2)⁻¹ * (Real.sqrt 32)⁻¹ : ℝ) : EReal)

theorem pay14_at (x y e : FVec Ideal S1024x256 .f32) (g : FVec Ideal S1x256 .f32) (c n p : Vec Ideal S1024x128 .f32) (r : Fin 1024) (j : Fin 256) :
    k0_pay14 x g y e c n p (ix3 0 j r)
      = turn (fun l => x (ix2 r l) * Ideal.rsqrt (y (ix2 r l) + e (ix2 r l)) * g (ix2 0 l)) (fun l => c (ix2 r l)) (fun l => n (ix2 r l)) (fun l => p (ix2 r l)) j * scale2 := by
  rw [← halves_eq]
  unfold k0_pay14 scale2
  pointwise [halves]
  exact congrArg (fun b : EReal => _ * b) (IdealRules.named_const.ideal_named_scalar κ _ _ _ rfl)

theorem pay14_apply (h : FVec Ideal S1024x1024 .bf16) (w : Vec Ideal S1024x256 .bf16) (g : Vec Ideal S1x256 .f32) (b : Vec Ideal S256x256 .bf16)
    (c n p : Vec Ideal S1024x128 .f32) (r : Fin 1024) (j : Fin 256) :
    k0_pay14 (k0_pay10 h w) (k0_pay11 g) (k0_pay12 h w b b) k0_pay13 c n p (ix3 0 j r)
      = turn (fun l => k0_pay28 h w g b b (ix2 r l)) (fun l => c (ix2 r l)) (fun l => n (ix2 r l)) (fun l => p (ix2 r l)) j * scale2 := by
  rw [pay14_at]
  refine congrArg (fun z => turn z (fun l => c (ix2 r l)) (fun l => n (ix2 r l)) (fun l => p (ix2 r l)) j * scale2) (funext fun l => ?_)
  rw [pay28_apply, gnorm, ← pay12_apply]
  have e : k0_pay11 g = g := shapeCast_id _ _
  rw [e]
  rfl

theorem pay17_apply (h : FVec Ideal S1024x1024 .bf16) (w : Vec Ideal S1024x256 .bf16) (r : Fin 1024) (j : Fin 256) :
    k0_pay17 h w (ix3 0 r j) = ∑ k : Fin 1024, h (ix2 r k) * w (ix2 k j) := by
  unfold k0_pay17
  pointwise

theorem pay18_apply (h : FVec Ideal S1024x1024 .bf16) (w : Vec Ideal S1024x512 .bf16) (r : Fin 1024) (j : Fin 512) :
    k0_pay18 h w (ix3 0 r j) = Ideal.logistic (∑ k : Fin 1024, h (ix2 r k) * w (ix2 k j)) := by
  unfold k0_pay18
  pointwise

theorem pay2_apply (h : FVec Ideal S1024x1024 .bf16) (w : Vec Ideal S1024x256 .bf16) (r : Fin 1024) (j : Fin 256) :
    k0_pay2 h w (ix3 0 j r) = ∑ k : Fin 1024, h (ix2 r k) * w (ix2 k j) := by
  unfold k0_pay2
  pointwise

theorem pay9_apply (a : Vec Ideal S1x1024x1024 .f32) (b : Vec Ideal S1x1024 .f32) (sc sh : Vec Ideal S1x1x1024 .f32)
    (w : Vec Ideal S1024x256 .bf16) (g : Vec Ideal S1x256 .f32) (d : Vec Ideal S256x256 .bf16) (r : Fin 1024) (j : Fin 256) :
    k0_pay9 (k0_pay4 a b sc sh w) (k0_pay5 g) (k0_pay7 a b sc sh w) (k0_pay8 a b sc sh w) d d (ix3 0 r j)
      = k0_pay28 (k0_pay3 a b sc sh) w g d d (ix2 r j) * Ideal.ofBits .f32 0x3E000000#32 := by
  have e : k0_pay9 (k0_pay4 a b sc sh w) (k0_pay5 g) (k0_pay7 a b sc sh w) (k0_pay8 a b sc sh w) d d
    = shapeCast S1x1024x256 (truncf (F := Ideal) .bf16 (mulf (k0_pay28 (k0_pay3 a b sc sh) w g d d) (broadcast S1024x256 (Scalar.ofBits .f32 0x3E000000#32))) bitsLt_bf16_f32) shapeCasts_S1024x256_S1x1024x256 := rfl
  rw [e]
  generalize k0_pay28 (k0_pay3 a b sc sh) w g d d = q
  pointwise

theorem pay26_apply (h : FVec Ideal S1024x1024 .bf16) (w : Vec Ideal S1024x256 .bf16) (g : Vec Ideal S1x256 .f32) (d : Vec Ideal S256x256 .bf16)
    (r : Fin 1024) (j : Fin 256) : k0_pay26 h w g d d (ix3 0 r j) = k0_pay28 h w g d d (ix2 r j) := by
  have e : k0_pay26 h w g d d
    = shapeCast S1x1024x256 (truncf (F := Ideal) .bf16 (k0_pay28 h w g d d) bitsLt_bf16_f32) shapeCasts_S1024x256_S1x1024x256 := rfl
  rw [e]
  generalize k0_pay28 h w g d d = q
  pointwise

theorem pay27_apply (h : FVec Ideal S1024x1024 .bf16) (w : Vec Ideal S1024x256 .bf16) (r : Fin 1024) (j : Fin 256) :
    k0_pay27 h w (ix3 0 r j) = ∑ k : Fin 1024, h (ix2 r k) * w (ix2 k j) := by
  unfold k0_pay27
  pointwise

theorem pay16_apply (h : FVec Ideal S1024x1024 .bf16) (w : Vec Ideal S1024x256 .bf16) (r : Fin 1024) (j : Fin 256) :
    k0_pay16 (k0_pay15 h w) (ix3 0 r j) = ∑ k : Fin 1024, h (ix2 r k) * w (ix2 k j) := by
  unfold k0_pay16 k0_pay15
  pointwise

/-- Columns of the weight, from `o`. -/
theorem ld_w (w : Vec Ideal S1024x6144 .bf16) (o : Nat) (inb : ∀ a, (![0, o] : Fin 2 → Nat) a + S1024x256.size a ≤ S1024x6144.size a)
    (ho : o + 256 ≤ 6144) (k : Fin 1024) (j : Fin 256) :
    View.ld w (Rect.unit (s := S1024x6144) ![0, o] S1024x256.size inb) (ix2 k j) = w (ix2 k ⟨o + j.val, by omega⟩) :=
  congrArg w (funext fun a => Fin.ext (by fin_cases a <;> simp))

theorem ld_w512 (w : Vec Ideal S1024x6144 .bf16) (o : Nat) (inb : ∀ a, (![0, o] : Fin 2 → Nat) a + S1024x512.size a ≤ S1024x6144.size a)
    (ho : o + 512 ≤ 6144) (k : Fin 1024) (j : Fin 512) :
    View.ld w (Rect.unit (s := S1024x6144) ![0, o] S1024x512.size inb) (ix2 k j) = w (ix2 k ⟨o + j.val, by omega⟩) :=
  congrArg w (funext fun a => Fin.ext (by fin_cases a <;> simp))

variable (x0 : Vec Ideal S1x1024x1024 .f32) (x1 : Vec Ideal S1x1024 .f32) (x2 x3 : Vec Ideal S1x1x1024 .f32)
  (x4 : Vec Ideal S1024x6144 .bf16) (x5 x6 x7 x8 : Vec Ideal S1x256 .f32) (x9 x10 : Vec Ideal S256x256 .bf16)
  (x11 x12 x13 : Vec Ideal S1024x128 .f32) (r : Fin 1024)

/-- The token in row `r`, normed and modulated. -/
abbrev bh : Fin 1024 → EReal :=
  hid (fun k => x0 (ix3 0 r k)) (fun k => x1 (ix2 0 k)) (fun k => x2 (ix3 0 0 k)) (fun k => x3 (ix3 0 0 k))
abbrev bw : Fin 1024 → Fin 6144 → EReal := fun k j => x4 (ix2 k j)

theorem ld_x0 : View.ld x0 r0_0 = x0 := View.ld_unit_zero (by funext a; fin_cases a <;> rfl) _ _
theorem ld_x1 : View.ld x1 r0_1 = x1 := View.ld_unit_zero (by funext a; fin_cases a <;> rfl) _ _
theorem ld_x2 : View.ld x2 r0_2 = x2 := View.ld_unit_zero (by funext a; fin_cases a <;> rfl) _ _
theorem ld_x5 : View.ld x5 r0_4 = x5 := View.ld_unit_zero (by funext a; fin_cases a <;> rfl) _ _
theorem ld_x9 : View.ld x9 r0_5 = x9 := View.ld_unit_zero (by funext a; fin_cases a <;> rfl) _ _
theorem ld_x11 : View.ld x11 r0_8 = x11 := View.ld_unit_zero (by funext a; fin_cases a <;> rfl) _ _

theorem pay32_apply (k : Fin 1024) : k0_pay32 x0 x1 x2 x3 x4 x5 x6 x7 x8 x9 x10 x11 x12 x13 (ix2 r k) = bh x0 x1 x2 x3 r k := by
  unfold k0_pay32
  rw [ld_x0, ld_x1, ld_x2, ld_x2]
  exact pay3_apply x0 x1 x3 x2 r k

/-- The projection's columns from `o`, of the token in row `r`. -/
theorem sum_cols (h : FVec Ideal S1024x1024 .bf16) (hh : ∀ k, h (ix2 r k) = bh x0 x1 x2 x3 r k) (o : Nat) (ho : o + 256 ≤ 6144)
    (inb : ∀ a, (![0, o] : Fin 2 → Nat) a + S1024x256.size a ≤ S1024x6144.size a) (j : Fin 256) :
    ∑ k : Fin 1024, h (ix2 r k) * View.ld x4 (Rect.unit (s := S1024x6144) ![0, o] S1024x256.size inb) (ix2 k j)
      = cols (bh x0 x1 x2 x3 r) (bw x4) o ho j :=
  Finset.sum_congr rfl fun k _ => congrArg₂ (fun a b : EReal => a * b) (hh k) (ld_w x4 o inb ho k j)

theorem sum_cols512 (h : FVec Ideal S1024x1024 .bf16) (hh : ∀ k, h (ix2 r k) = bh x0 x1 x2 x3 r k) (o : Nat) (ho : o + 512 ≤ 6144)
    (inb : ∀ a, (![0, o] : Fin 2 → Nat) a + S1024x512.size a ≤ S1024x6144.size a) (j : Fin 512) :
    ∑ k : Fin 1024, h (ix2 r k) * View.ld x4 (Rect.unit (s := S1024x6144) ![0, o] S1024x512.size inb) (ix2 k j)
      = col (bh x0 x1 x2 x3 r) (bw x4) ⟨o + j.val, by omega⟩ :=
  Finset.sum_congr rfl fun k _ => congrArg₂ (fun a b : EReal => a * b) (hh k) (ld_w512 x4 o inb ho k j)

/-- The heads' norm of the projection's columns from `o`. -/
theorem norm_cols (h : FVec Ideal S1024x1024 .bf16) (hh : ∀ k, h (ix2 r k) = bh x0 x1 x2 x3 r k) (o : Nat) (ho : o + 256 ≤ 6144)
    (inb : ∀ a, (![0, o] : Fin 2 → Nat) a + S1024x256.size a ≤ S1024x6144.size a)
    (g : Vec Ideal S1x256 .f32) (b : Vec Ideal S256x256 .bf16) (j : Fin 256) :
    k0_pay28 h (View.ld x4 (Rect.unit (s := S1024x6144) ![0, o] S1024x256.size inb)) g b b (ix2 r j)
      = gnorm (cols (bh x0 x1 x2 x3 r) (bw x4) o ho) (fun l j => b (ix2 l j)) (fun l => g (ix2 0 l)) j := by
  rw [pay28_apply]
  exact congrArg (fun p => gnorm p (fun l j => b (ix2 l j)) (fun l => g (ix2 0 l)) j)
    (funext fun l => (pay10_apply _ _ r l).trans (sum_cols x0 x1 x2 x3 x4 r h hh o ho inb l))

theorem out14_apply (j : Fin 256) : out0_14 x0 x1 x2 x3 x4 x5 x6 x7 x8 x9 x10 x11 x12 x13 (ix3 0 r j)
    = gnorm (cols (bh x0 x1 x2 x3 r) (bw x4) 0 (by norm_num)) (fun l j => x9 (ix2 l j)) (fun l => x5 (ix2 0 l)) j * Ideal.ofBits .f32 0x3E000000#32 := by
  unfold out0_14
  rw [View.canon_unit_zero (by funext a; fin_cases a <;> rfl), ld_x0, ld_x1, ld_x2, ld_x2, ld_x5, ld_x9, pay9_apply]
  exact congrArg (fun a : EReal => a * _) (norm_cols x0 x1 x2 x3 x4 r _ (fun k => pay3_apply x0 x1 x3 x2 r k) 0 (by norm_num) _ x5 x9 j)

theorem out15_apply (j : Fin 256) : out0_15 x0 x1 x2 x3 x4 x5 x6 x7 x8 x9 x10 x11 x12 x13 (ix3 0 j r)
    = turn (gnorm (cols (bh x0 x1 x2 x3 r) (bw x4) 256 (by norm_num)) (fun l j => x10 (ix2 l j)) (fun l => x7 (ix2 0 l)))
      (fun l => x11 (ix2 r l)) (fun l => x12 (ix2 r l)) (fun l => x13 (ix2 r l)) j * scale2 := by
  unfold out0_15
  rw [View.canon_unit_zero (by funext a; fin_cases a <;> rfl), ld_x5, ld_x9, ld_x11, ld_x11, ld_x11, pay14_apply]
  exact congrArg (fun z => turn z _ _ _ j * scale2)
    (funext fun l => norm_cols x0 x1 x2 x3 x4 r _ (fun k => pay32_apply x0 x1 x2 x3 x4 x5 x6 x7 x8 x9 x10 x11 x12 x13 r k) 256 (by norm_num) _ x7 x10 l)

theorem out16_apply (j : Fin 256) : out0_16 x0 x1 x2 x3 x4 x5 x6 x7 x8 x9 x10 x11 x12 x13 (ix3 0 r j)
    = cols (bh x0 x1 x2 x3 r) (bw x4) 512 (by norm_num) j := by
  unfold out0_16
  rw [View.canon_unit_zero (by funext a; fin_cases a <;> rfl), pay16_apply]
  exact sum_cols x0 x1 x2 x3 x4 r _ (fun k => pay32_apply x0 x1 x2 x3 x4 x5 x6 x7 x8 x9 x10 x11 x12 x13 r k) 512 (by norm_num) _ j

theorem out17_apply (j : Fin 256) : out0_17 x0 x1 x2 x3 x4 x5 x6 x7 x8 x9 x10 x11 x12 x13 (ix3 0 r j)
    = cols (bh x0 x1 x2 x3 r) (bw x4) 768 (by norm_num) j := by
  unfold out0_17
  rw [View.canon_unit_zero (by funext a; fin_cases a <;> rfl), pay17_apply]
  exact sum_cols x0 x1 x2 x3 x4 r _ (fun k => pay32_apply x0 x1 x2 x3 x4 x5 x6 x7 x8 x9 x10 x11 x12 x13 r k) 768 (by norm_num) _ j

theorem out21_apply (j : Fin 256) : out0_21 x0 x1 x2 x3 x4 x5 x6 x7 x8 x9 x10 x11 x12 x13 (ix3 0 j r)
    = cols (bh x0 x1 x2 x3 r) (bw x4) 5888 (by norm_num) j := by
  unfold out0_21
  rw [View.canon_unit_zero (by funext a; fin_cases a <;> rfl), pay2_apply]
  exact sum_cols x0 x1 x2 x3 x4 r _ (fun k => pay32_apply x0 x1 x2 x3 x4 x5 x6 x7 x8 x9 x10 x11 x12 x13 r k) 5888 (by norm_num) _ j

theorem out20_apply (j : Fin 256) : out0_20 x0 x1 x2 x3 x4 x5 x6 x7 x8 x9 x10 x11 x12 x13 (ix3 0 r j)
    = turn (gnorm (cols (bh x0 x1 x2 x3 r) (bw x4) 5632 (by norm_num)) (fun l j => x10 (ix2 l j)) (fun l => x8 (ix2 0 l)))
      (fun l => x11 (ix2 r l)) (fun l => x12 (ix2 r l)) (fun l => x13 (ix2 r l)) j := by
  unfold out0_20
  rw [View.canon_unit_zero (by funext a; fin_cases a <;> rfl), ld_x5, ld_x9, ld_x11, ld_x11, ld_x11, pay1_apply]
  have e1 : k0_pay29 x11 = x11 := shapeCast_self _ _
  have e2 : k0_pay30 x12 = x12 := shapeCast_self _ _
  have e3 : k0_pay31 x13 = x13 := shapeCast_self _ _
  rw [e1, e2, e3]
  exact congrArg (fun z => turn z (fun l => x11 (ix2 r l)) (fun l => x12 (ix2 r l)) (fun l => x13 (ix2 r l)) j)
    (funext fun l => norm_cols x0 x1 x2 x3 x4 r _ (fun k => pay32_apply x0 x1 x2 x3 x4 x5 x6 x7 x8 x9 x10 x11 x12 x13 r k) 5632 (by norm_num) _ x8 x10 l)

/-- A gate's block of 512 columns. -/
theorem gate_block (h : FVec Ideal S1024x1024 .bf16) (hh : ∀ r k, h (ix2 r k) = bh x0 x1 x2 x3 r k) (o : Nat) (ho : 1024 + o + 512 ≤ 5120)
    (inb : ∀ a, (![0, 1024 + o] : Fin 2 → Nat) a + S1024x512.size a ≤ S1024x6144.size a)
    (inb' : ∀ a, (![0, 0, o] : Fin 3 → Nat) a + S1x1024x512.size a ≤ S1x1024x4096.size a) (x : S1x1024x512.Idx) :
    k0_pay18 h (View.ld x4 (Rect.unit (s := S1024x6144) ![0, 1024 + o] S1024x512.size inb)) x
      = (fun y : S1x1024x4096.Idx => Ideal.logistic (col (bh x0 x1 x2 x3 (y 1)) (bw x4) ⟨1024 + (y 2).val, by have : (y 2).val < 4096 := (y 2).isLt; omega⟩))
        ((Rect.unit (s := S1x1024x4096) ![0, 0, o] S1x1024x512.size inb').emb x) := by
  obtain ⟨z, r, j, rfl⟩ : ∃ z r j, x = ix3 z r j := ⟨x 0, x 1, x 2, eq_ix3 x⟩
  obtain rfl : z = 0 := Subsingleton.elim _ _
  have e : (Rect.unit (s := S1x1024x4096) ![0, 0, o] S1x1024x512.size inb').emb (ix3 0 r j) = (ix3 0 r ⟨o + j.val, by omega⟩ : S1x1024x4096.Idx) :=
    funext fun a => Fin.ext (by fin_cases a <;> simp)
  rw [e, pay18_apply]
  refine congrArg Ideal.logistic ((sum_cols512 x0 x1 x2 x3 x4 r h (hh r) (1024 + o) (by omega) inb j).trans ?_)
  exact congrArg (col _ _) (Fin.ext (by simp [Nat.add_assoc]))

theorem out18_apply (j : Fin 4096) : out0_18 x0 x1 x2 x3 x4 x5 x6 x7 x8 x9 x10 x11 x12 x13 (ix3 0 r j)
    = Ideal.logistic (col (bh x0 x1 x2 x3 r) (bw x4) ⟨1024 + j.val, by omega⟩) := by
  unfold out0_18
  have hh : ∀ r k, k0_pay32 x0 x1 x2 x3 x4 x5 x6 x7 x8 x9 x10 x11 x12 x13 (ix2 r k) = bh x0 x1 x2 x3 r k := fun r k =>
    pay32_apply x0 x1 x2 x3 x4 x5 x6 x7 x8 x9 x10 x11 x12 x13 r k
  refine View.canon_apply_of_pieces (Val := Elt Ideal) (e := .bf16) (fun y : S1x1024x4096.Idx => Ideal.logistic (col (bh x0 x1 x2 x3 (y 1)) (bw x4) ⟨1024 + (y 2).val, by have : (y 2).val < 4096 := (y 2).isLt; omega⟩)) _ ?_ (ix3 0 r j) (cover0_18 _ _ _ _ _ _ _ _ _)
  intro pc hpc
  rcases List.mem_cons.mp hpc with rfl | hpc
  · exact fun x => gate_block x0 x1 x2 x3 x4 _ hh 3584 (by norm_num) (inb_S1024x6144_S1024x512_0_4608) (inb_S1x1024x4096_S1x1024x512_0_0_3584) x
  rcases List.mem_cons.mp hpc with rfl | hpc
  · exact fun x => gate_block x0 x1 x2 x3 x4 _ hh 3072 (by norm_num) (inb_S1024x6144_S1024x512_0_4096) (inb_S1x1024x4096_S1x1024x512_0_0_3072) x
  rcases List.mem_cons.mp hpc with rfl | hpc
  · exact fun x => gate_block x0 x1 x2 x3 x4 _ hh 2560 (by norm_num) (inb_S1024x6144_S1024x512_0_3584) (inb_S1x1024x4096_S1x1024x512_0_0_2560) x
  rcases List.mem_cons.mp hpc with rfl | hpc
  · exact fun x => gate_block x0 x1 x2 x3 x4 _ hh 2048 (by norm_num) (inb_S1024x6144_S1024x512_0_3072) (inb_S1x1024x4096_S1x1024x512_0_0_2048) x
  rcases List.mem_cons.mp hpc with rfl | hpc
  · exact fun x => gate_block x0 x1 x2 x3 x4 _ hh 1536 (by norm_num) (inb_S1024x6144_S1024x512_0_2560) (inb_S1x1024x4096_S1x1024x512_0_0_1536) x
  rcases List.mem_cons.mp hpc with rfl | hpc
  · exact fun x => gate_block x0 x1 x2 x3 x4 _ hh 1024 (by norm_num) (inb_S1024x6144_S1024x512_0_2048) (inb_S1x1024x4096_S1x1024x512_0_0_1024) x
  rcases List.mem_cons.mp hpc with rfl | hpc
  · exact fun x => gate_block x0 x1 x2 x3 x4 _ hh 512 (by norm_num) (inb_S1024x6144_S1024x512_0_1536) (inb_S1x1024x4096_S1x1024x512_0_0_512) x
  rcases List.mem_cons.mp hpc with rfl | hpc
  · exact fun x => gate_block x0 x1 x2 x3 x4 _ hh 0 (by norm_num) (inb_S1024x6144_S1024x512_0_1024) (inb_S1x1024x4096_S1x1024x512_0_0_0) x
  cases hpc

/-- The local keys, normed by heads, and the local values after them. -/
theorem out19_apply (j : Fin 512) : out0_19 x0 x1 x2 x3 x4 x5 x6 x7 x8 x9 x10 x11 x12 x13 (ix3 0 r j)
    = pair (gnorm (cols (bh x0 x1 x2 x3 r) (bw x4) 5120 (by norm_num)) (fun l j => x9 (ix2 l j)) (fun l => x6 (ix2 0 l)))
        (cols (bh x0 x1 x2 x3 r) (bw x4) 5376 (by norm_num)) j := by
  unfold out0_19
  have hh : ∀ r k, k0_pay32 x0 x1 x2 x3 x4 x5 x6 x7 x8 x9 x10 x11 x12 x13 (ix2 r k) = bh x0 x1 x2 x3 r k := fun r k =>
    pay32_apply x0 x1 x2 x3 x4 x5 x6 x7 x8 x9 x10 x11 x12 x13 r k
  refine View.canon_apply_of_pieces (Val := Elt Ideal) (e := .bf16) (fun y : S1x1024x512.Idx =>
        pair (gnorm (cols (bh x0 x1 x2 x3 (y 1)) (bw x4) 5120 (by norm_num)) (fun l j => x9 (ix2 l j)) (fun l => x6 (ix2 0 l)))
          (cols (bh x0 x1 x2 x3 (y 1)) (bw x4) 5376 (by norm_num)) (y 2)) _ ?_ (ix3 0 r j) (cover0_19 _ _ _)
  intro pc hpc
  rcases List.mem_cons.mp hpc with rfl | hpc
  · intro x
    obtain ⟨z, r, j, rfl⟩ : ∃ z r j, x = ix3 z r j := ⟨x 0, x 1, x 2, eq_ix3 x⟩
    obtain rfl : z = 0 := Subsingleton.elim _ _
    have e : (r0_31).emb (ix3 0 r j) = (ix3 0 r ⟨256 + j.val, by omega⟩ : S1x1024x512.Idx) :=
      funext fun a => Fin.ext (by fin_cases a <;> simp)
    dsimp only
    rw [e, pay27_apply]
    exact (sum_cols x0 x1 x2 x3 x4 r _ (hh r) 5376 (by norm_num) _ j).trans (pair_right _ _ j).symm
  rcases List.mem_cons.mp hpc with rfl | hpc
  · intro x
    obtain ⟨z, r, j, rfl⟩ : ∃ z r j, x = ix3 z r j := ⟨x 0, x 1, x 2, eq_ix3 x⟩
    obtain rfl : z = 0 := Subsingleton.elim _ _
    have e : (r0_29).emb (ix3 0 r j) = (ix3 0 r ⟨j.val, by omega⟩ : S1x1024x512.Idx) :=
      funext fun a => Fin.ext (by fin_cases a <;> simp)
    dsimp only
    rw [e, pay26_apply, ld_x5, ld_x9]
    exact (norm_cols x0 x1 x2 x3 x4 r _ (hh r) 5120 (by norm_num) _ x6 x9 j).trans (pair_left _ _ j).symm
  cases hpc

end Cert.InProj

end
-- ==== Proof.InProj.Norm.lean ====
/-
  The heads' norm by a product with the matrix of means is the norm over each head, the rotation by three tables is the
  rotation by angles, and a token has real columns.
-/
module

public import proofs.«01_k».proof.Proof.InProj.Spec
public import proofs.«01_k».proof.Proof.Soft

@[expose] public section

noncomputable section

namespace Cert.InProj

open Idealize.ShloMosaic

theorem word_one : Ideal.ofBits .f32 0x3F800000#32 = ((1 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee, -EReal.coe_mul]
theorem word_1024 : Ideal.ofBits .f32 0x44800000#32 = ((1024 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_32 : Ideal.ofBits .f32 0x42000000#32 = ((32 : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num
theorem word_32nd : Ideal.ofBits .f32 0x3D000000#32 = ((1 / 32 : ℝ) : EReal) := by
  simp [Ideal.ofBits, Ideal.ieee, -EReal.coe_mul]; norm_num

theorem eps_real : ∃ e : ℝ, 0 < e ∧ eps = (e : EReal) := by
  refine ⟨8796093 / 2 ^ 43, by norm_num, ?_⟩
  simp [eps, Ideal.ofBits, Ideal.ieee, -EReal.coe_mul]
  norm_num

/-- Of the sum over all columns, a mean's matrix leaves the head's. -/
theorem head_sum (n : Nat) (hn : 0 < n) (w : ℝ) (q : Fin 256 → ℝ) (j : Fin 256) (hb : ∀ l : Fin n, j.val / n * n + l.val < 256) :
    ∑ l : Fin 256, q l * (if l.val / n = j.val / n then w else 0) = (∑ l : Fin n, q ⟨j.val / n * n + l.val, hb l⟩) * w := by
  have h1 : ∀ l : Fin 256, q l * (if l.val / n = j.val / n then w else 0) = if l.val / n = j.val / n then q l * w else 0 := fun l => by
    split <;> simp
  simp only [h1]
  rw [← Finset.sum_filter, Finset.sum_mul]
  refine Finset.sum_bij' (fun l _ => (⟨l.val % n, Nat.mod_lt _ hn⟩ : Fin n)) (fun l _ => ⟨j.val / n * n + l.val, hb l⟩) ?_ ?_ ?_ ?_ ?_
  · exact fun l _ => Finset.mem_univ _
  · intro l _
    refine Finset.mem_filter.mpr ⟨Finset.mem_univ _, ?_⟩
    show (j.val / n * n + l.val) / n = j.val / n
    rw [Nat.add_comm, Nat.add_mul_div_right _ _ hn, Nat.div_eq_of_lt l.isLt, Nat.zero_add]
  · intro l hl
    have e := (Finset.mem_filter.mp hl).2
    apply Fin.ext
    show j.val / n * n + l.val % n = l.val
    rw [← e, Nat.div_add_mod']
  · intro l _
    apply Fin.ext
    show (j.val / n * n + l.val) % n = l.val
    rw [Nat.add_comm, Nat.add_mul_mod_self_right, Nat.mod_eq_of_lt l.isLt]
  · intro l hl
    have e := (Finset.mem_filter.mp hl).2
    refine congrArg (fun a => q a * w) (Fin.ext ?_)
    show l.val = j.val / n * n + l.val % n
    rw [← e, Nat.div_add_mod']

/-- The same among the extended reals: with the remainder, which is zero, and the division by the head's width. -/
theorem head_mean (n : Nat) (hn : 0 < n) (c d : EReal) (hc : c = ((n : ℝ) : EReal)) (hd : d = ((1 / (n : ℝ) : ℝ) : EReal))
    (p : Fin 256 → EReal) (hp : ∀ l, ∃ r : ℝ, p l = r) (bd : Fin 256 → Fin 256 → EReal)
    (hbd : ∀ l j : Fin 256, bd l j = if l.val / n = j.val / n then d else ((0 : ℝ) : EReal)) (j : Fin 256)
    (hb : ∀ l : Fin n, j.val / n * n + l.val < 256) :
    ∑ l, p l * p l * bd l j + ∑ l, (p l * p l - p l * p l) * bd l j
      = Ideal.div (∑ l : Fin n, p ⟨j.val / n * n + l.val, hb l⟩ * p ⟨j.val / n * n + l.val, hb l⟩) c := by
  choose q hq using hp
  obtain rfl : p = fun l => (q l : EReal) := funext hq
  have hn' : (n : ℝ) ≠ 0 := by exact_mod_cast hn.ne'
  have e : ∀ l, bd l j = ((if l.val / n = j.val / n then 1 / (n : ℝ) else 0 : ℝ) : EReal) := fun l => by
    rw [hbd, hd]; split <;> rfl
  have z : ∑ l : Fin 256, (((q l : EReal)) * (q l : EReal) - (q l : EReal) * (q l : EReal)) * bd l j = 0 :=
    Finset.sum_eq_zero fun l _ => by
      rw [← EReal.coe_mul, ← EReal.coe_sub, sub_self, EReal.coe_zero, zero_mul]
  rw [z, add_zero, hc, Ideal.div_coe hn']
  simp only [e, ← EReal.coe_mul, Soft.coe_sum]
  rw [head_sum n hn (1 / (n : ℝ)) (fun l => q l * q l) j hb]

theorem gnorm64 (p : Fin 256 → EReal) (hp : ∀ l, ∃ r : ℝ, p l = r) (bd : Fin 256 → Fin 256 → EReal)
    (hbd : ∀ l j : Fin 256, bd l j = if l.val / 64 = j.val / 64 then Ideal.ofBits .f32 0x3C800000#32 else ((0 : ℝ) : EReal))
    (g : Fin 256 → EReal) (g' : Fin 64 → EReal) (hg : ∀ l : Fin 256, g l = g' ⟨l.val % 64, by omega⟩) (j : Fin 256) :
    gnorm p bd g j = norm64 p g' j := by
  unfold gnorm norm64
  rw [hg, head_mean 64 (by norm_num) (Ideal.ofBits .f32 0x42800000#32) (Ideal.ofBits .f32 0x3C800000#32)
    (by rw [word_64]; norm_num) (by rw [word_64th]; norm_num) p hp bd hbd j (fun l => by omega)]

theorem gnorm32 (p : Fin 256 → EReal) (hp : ∀ l, ∃ r : ℝ, p l = r) (bd : Fin 256 → Fin 256 → EReal)
    (hbd : ∀ l j : Fin 256, bd l j = if l.val / 32 = j.val / 32 then Ideal.ofBits .f32 0x3D000000#32 else ((0 : ℝ) : EReal))
    (g : Fin 256 → EReal) (g' : Fin 32 → EReal) (hg : ∀ l : Fin 256, g l = g' ⟨l.val % 32, by omega⟩) (j : Fin 256) :
    gnorm p bd g j = norm32 p g' j := by
  unfold gnorm norm32
  rw [hg, head_mean 32 (by norm_num) (Ideal.ofBits .f32 0x42000000#32) (Ideal.ofBits .f32 0x3D000000#32)
    (by rw [word_32]; norm_num) (by rw [word_32nd]; norm_num) p hp bd hbd j (fun l => by omega)]

/-- The rotation by tables of cosines and of sines with their signs is the rotation by the angles. -/
theorem turn_rope (z : Fin 256 → EReal) (a c n p : Fin 128 → EReal) (hc : ∀ l, c l = Ideal.cos (a l))
    (hn : ∀ l : Fin 128, n l = if l.val % 16 < 8 then -Ideal.sin (a l) else ((0 : ℝ) : EReal))
    (hp : ∀ l : Fin 128, p l = if l.val % 16 < 8 then ((0 : ℝ) : EReal) else Ideal.sin (a l)) (j : Fin 256) :
    turn z c n p j = rope z a j := by
  have hj := j.isLt
  unfold turn rope
  rw [hc, hn, hp]
  by_cases h : j.val % 16 < 8
  · have h' : j.val % 128 % 16 < 8 := by omega
    have e : (⟨j.val / 128 * 128 + (j.val % 128 + 8) % 128, by omega⟩ : Fin 256) = ⟨j.val + 8, by omega⟩ := Fin.ext (by dsimp only; omega)
    rw [dif_pos h, if_pos h', if_pos h', e, EReal.coe_zero, mul_zero, add_zero, mul_neg, sub_eq_add_neg]
  · have h' : ¬ j.val % 128 % 16 < 8 := by omega
    have e : (⟨j.val / 128 * 128 + (j.val % 128 + 120) % 128, by omega⟩ : Fin 256) = ⟨j.val - 8, by omega⟩ := Fin.ext (by dsimp only; omega)
    rw [dif_neg h, if_neg h', if_neg h', e, EReal.coe_zero, mul_zero, add_zero, add_comm]

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_sum {n : Nat} {f : Fin n → EReal} (h : ∀ k, ∃ r : ℝ, f k = r) : ∃ r : ℝ, ∑ k, f k = r := by
  choose q hq using h
  exact ⟨∑ k, q k, by rw [← Soft.coe_sum]; exact Finset.sum_congr rfl fun k _ => hq k⟩

/-- The root mean square of real numbers has a real inverse. -/
theorem rms_real (x : Fin 1024 → EReal) (hx : ∀ k, ∃ r : ℝ, x k = r) :
    ∃ r : ℝ, Ideal.rsqrt (Ideal.div (∑ j, x j * x j) (Ideal.ofBits .f32 0x44800000#32) + eps) = r := by
  choose q hq using hx
  obtain rfl : x = fun k => (q k : EReal) := funext hq
  obtain ⟨e, he, h⟩ := eps_real
  have hs : 0 ≤ ∑ j, q j * q j := Finset.sum_nonneg fun j _ => mul_self_nonneg _
  have hpos : 0 < (∑ j, q j * q j) * (1 / 1024) + e := by positivity
  refine ⟨(Real.sqrt ((∑ j, q j * q j) * (1 / 1024) + e))⁻¹, ?_⟩
  rw [word_1024, h, Ideal.div_coe (by norm_num)]
  simp only [← EReal.coe_mul, Soft.coe_sum, ← EReal.coe_add]
  rw [Ideal.rsqrt_coe, if_neg hpos.not_gt, if_neg hpos.ne']

theorem square_nonneg (x : EReal) : 0 ≤ x * x := by
  induction x with
  | bot => simp
  | coe r => rw [← EReal.coe_mul]; exact_mod_cast mul_self_nonneg r
  | top => simp

/-- Beside an infinite number the inverse is zero. -/
theorem rms_zero (x : Fin 1024 → EReal) (k : Fin 1024) (hk : x k * x k = ⊤) :
    Ideal.rsqrt (Ideal.div (∑ j, x j * x j) (Ideal.ofBits .f32 0x44800000#32) + eps) = 0 := by
  have h1 : ∑ j, x j * x j = ⊤ := top_le_iff.mp (by
    rw [← hk]
    exact Finset.single_le_sum (f := fun j => x j * x j) (fun j _ => square_nonneg (x j)) (Finset.mem_univ k))
  obtain ⟨e, he, h⟩ := eps_real
  rw [h1, word_1024, h, Ideal.div_coe (by norm_num), EReal.top_mul_coe_of_pos (by norm_num), EReal.top_add_coe]
  rfl

/-- A token's channels after the norm are real, the token's own being real or not. -/
theorem normed_real (x : Fin 1024 → EReal) (k : Fin 1024) :
    ∃ r : ℝ, x k * Ideal.rsqrt (Ideal.div (∑ j, x j * x j) (Ideal.ofBits .f32 0x44800000#32) + eps) = r := by
  by_cases hx : ∀ j, ∃ r : ℝ, x j = r
  · exact real_mul (hx k) (rms_real x hx)
  · obtain ⟨j, hj⟩ := not_forall.mp hx
    have e : x j * x j = ⊤ := by
      generalize x j = y at hj
      induction y with
      | bot => simp
      | coe r => exact absurd ⟨r, rfl⟩ hj
      | top => simp
    exact ⟨0, by rw [rms_zero x j e, mul_zero, EReal.coe_zero]⟩

theorem hid_real (x g sh sc : Fin 1024 → EReal) (hg : ∀ k, ∃ r : ℝ, g k = r)
    (hsh : ∀ k, ∃ r : ℝ, sh k = r) (hsc : ∀ k, ∃ r : ℝ, sc k = r) (k : Fin 1024) : ∃ r : ℝ, hid x g sh sc k = r :=
  real_add (real_mul (real_mul (normed_real x k) (hg k)) (real_add ⟨1, word_one⟩ (hsc k))) (hsh k)

theorem col_real (h : Fin 1024 → EReal) (w : Fin 1024 → Fin 6144 → EReal) (hh : ∀ k, ∃ r : ℝ, h k = r)
    (hw : ∀ k j, ∃ r : ℝ, w k j = r) (j : Fin 6144) : ∃ r : ℝ, col h w j = r :=
  real_sum fun k => real_mul (hh k) (hw k j)

/-- Dividing by the root of the head's width times the natural logarithm of two. -/
theorem scale_eq (x : EReal) :
    Ideal.div x (Ideal.sqrt (Ideal.ofBits .f32 0x42000000#32) * Ideal.log (Ideal.ofBits .f32 0x40000000#32))
      = x * (((Real.log 2)⁻¹ * (Real.sqrt 32)⁻¹ : ℝ) : EReal) := by
  have w2 : Ideal.ofBits .f32 0x40000000#32 = ((2 : ℝ) : EReal) := by
    simp [Ideal.ofBits, Ideal.ieee, -EReal.coe_mul]; norm_num
  have hs : Ideal.sqrt ((32 : ℝ) : EReal) = ((Real.sqrt 32 : ℝ) : EReal) := if_neg (by norm_num)
  have hl : Ideal.log ((2 : ℝ) : EReal) = ((Real.log 2 : ℝ) : EReal) := if_neg (by norm_num)
  have h32 : Real.sqrt 32 ≠ 0 := by positivity
  have hlog : Real.log 2 ≠ 0 := (Real.log_pos (by norm_num)).ne'
  rw [word_32, w2, hs, hl, ← EReal.coe_mul, Ideal.div_coe (mul_ne_zero h32 hlog), one_div, mul_inv_rev]

end Cert.InProj

end
-- ==== Proof.InProj.Host.lean ====
/-
  The operands that the host prepares for the in-projection: the tables of angles, the matrices of head means and the
  repeated norm weights, read from the call's arguments.
-/
module

public import proofs.«01_k».proof.Proof.Gen.Kernel3Ideal.Value
public import proofs.«01_k».proof.Proof.InProj.Norm
public import Idealize.ShloMosaic.Lib.Claim
public import Idealize.ShloMosaic.Lib.Pointwise

@[expose] public section

set_option maxRecDepth 16384

noncomputable section

namespace Cert.InProj

open Cert.Kernel3Ideal Cert.Kernel3Ideal.Gen Idealize.ShloMosaic Idealize.ShloMosaic.TcCoe Idealize.SL.Sem

/-- The host's divisor of a remainder. -/
def divT (d : BitVec 32) : IVec S_ 32 :=
  select (cmpi .eq (id (constantI S_ 32 d)) (constantI S_ 32 0#32)) (constantI S_ 32 1#32) (id (constantI S_ 32 d))

/-- The host's remainder. -/
def remS128 (x : IVec S128 32) (d : BitVec 32) : IVec S128 32 :=
  select
    (andi (cmpi .ne (cmpi .slt (Host.remsi x (broadcastInDim S128 ![] bcast_S_S128 (divT d))) (broadcastInDim S128 ![] bcast_S_S128 (constantI S_ 32 0#32))) (broadcastInDim S128 ![] bcast_S_S128 (cmpi .slt (divT d) (constantI S_ 32 0#32))))
      (cmpi .ne (Host.remsi x (broadcastInDim S128 ![] bcast_S_S128 (divT d))) (broadcastInDim S128 ![] bcast_S_S128 (constantI S_ 32 0#32))))
    (addi (Host.remsi x (broadcastInDim S128 ![] bcast_S_S128 (divT d))) (broadcastInDim S128 ![] bcast_S_S128 (divT d))) (Host.remsi x (broadcastInDim S128 ![] bcast_S_S128 (divT d)))

/-- The host's remainder. -/
def remS16384 (x : IVec S16384 32) (d : BitVec 32) : IVec S16384 32 :=
  select
    (andi (cmpi .ne (cmpi .slt (Host.remsi x (broadcastInDim S16384 ![] bcast_S_S16384 (divT d))) (broadcastInDim S16384 ![] bcast_S_S16384 (constantI S_ 32 0#32))) (broadcastInDim S16384 ![] bcast_S_S16384 (cmpi .slt (divT d) (constantI S_ 32 0#32))))
      (cmpi .ne (Host.remsi x (broadcastInDim S16384 ![] bcast_S_S16384 (divT d))) (broadcastInDim S16384 ![] bcast_S_S16384 (constantI S_ 32 0#32))))
    (addi (Host.remsi x (broadcastInDim S16384 ![] bcast_S_S16384 (divT d))) (broadcastInDim S16384 ![] bcast_S_S16384 (divT d))) (Host.remsi x (broadcastInDim S16384 ![] bcast_S_S16384 (divT d)))

/-- The host's floor division. -/
def divS16384 (x : IVec S16384 32) (d : BitVec 32) : IVec S16384 32 :=
  select
    (andi (cmpi .ne (signi x) (broadcastInDim S16384 ![] bcast_S_S16384 (signi (id (constantI S_ 32 d)))))
      (cmpi .ne (Host.remsi x (broadcastInDim S16384 ![] bcast_S_S16384 (id (constantI S_ 32 d)))) (broadcastInDim S16384 ![] bcast_S_S16384 (constantI S_ 32 0#32))))
    (subi (Host.divsi x (broadcastInDim S16384 ![] bcast_S_S16384 (id (constantI S_ 32 d)))) (broadcastInDim S16384 ![] bcast_S_S16384 (constantI S_ 32 1#32))) (Host.divsi x (broadcastInDim S16384 ![] bcast_S_S16384 (id (constantI S_ 32 d))))

/-- The host's floor division. -/
def divS256x1 (x : IVec S256x1 32) (d : BitVec 32) : IVec S256x1 32 :=
  select
    (andi (cmpi .ne (signi x) (broadcastInDim S256x1 ![] bcast_S_S256x1 (signi (id (constantI S_ 32 d)))))
      (cmpi .ne (Host.remsi x (broadcastInDim S256x1 ![] bcast_S_S256x1 (id (constantI S_ 32 d)))) (broadcastInDim S256x1 ![] bcast_S_S256x1 (constantI S_ 32 0#32))))
    (subi (Host.divsi x (broadcastInDim S256x1 ![] bcast_S_S256x1 (id (constantI S_ 32 d)))) (broadcastInDim S256x1 ![] bcast_S_S256x1 (constantI S_ 32 1#32))) (Host.divsi x (broadcastInDim S256x1 ![] bcast_S_S256x1 (id (constantI S_ 32 d))))

/-- The host's floor division. -/
def divS1x256 (x : IVec S1x256 32) (d : BitVec 32) : IVec S1x256 32 :=
  select
    (andi (cmpi .ne (signi x) (broadcastInDim S1x256 ![] bcast_S_S1x256 (signi (id (constantI S_ 32 d)))))
      (cmpi .ne (Host.remsi x (broadcastInDim S1x256 ![] bcast_S_S1x256 (id (constantI S_ 32 d)))) (broadcastInDim S1x256 ![] bcast_S_S1x256 (constantI S_ 32 0#32))))
    (subi (Host.divsi x (broadcastInDim S1x256 ![] bcast_S_S1x256 (id (constantI S_ 32 d)))) (broadcastInDim S1x256 ![] bcast_S_S1x256 (constantI S_ 32 1#32))) (Host.divsi x (broadcastInDim S1x256 ![] bcast_S_S1x256 (id (constantI S_ 32 d))))

/-- The lane's column within its 32, and the angle table. -/
def lane32 : IVec S128 32 := remS128 (iotaInDim S128 32 0) 32#32
def low8 : IVec S128 1 := cmpi .slt (remS128 lane32 16#32) (broadcastInDim S128 ![] bcast_S_S128 (constantI S_ 32 8#32))
def freqs : FVec Ideal S128 .f32 :=
  Host.powf (broadcastInDim S128 ![] bcast_S_S128 (constant (F := Ideal) S_ .f32 0x461C4000#32))
    (Host.divf (Host.negf (sitofp (F := Ideal) .f32 (remS128 lane32 8#32))) (broadcastInDim S128 ![] bcast_S_S128 (constant (F := Ideal) S_ .f32 0x41000000#32)))
def places : IVec S16384x128 32 :=
  select (broadcastInDim S16384x128 ![0, 1] bcast_S1x128_S16384x128_0_1 (broadcastInDim S1x128 ![1] bcast_S128_S1x128_1
      (cmpi .slt lane32 (broadcastInDim S128 ![] bcast_S_S128 (constantI S_ 32 16#32)))))
    (broadcastInDim S16384x128 ![0, 1] bcast_S16384x1_S16384x128_0_1 (broadcastInDim S16384x1 ![0] bcast_S16384_S16384x1_0 (divS16384 (iotaInDim S16384 32 0) 64#32)))
    (broadcastInDim S16384x128 ![0, 1] bcast_S16384x1_S16384x128_0_1 (broadcastInDim S16384x1 ![0] bcast_S16384_S16384x1_0 (remS16384 (iotaInDim S16384 32 0) 64#32)))
def angles : FVec Ideal S16384x128 .f32 :=
  mulf (sitofp (F := Ideal) .f32 places) (broadcastInDim S16384x128 ![0, 1] bcast_S1x128_S16384x128_0_1 (broadcastInDim S1x128 ![1] bcast_S128_S1x128_1 freqs))
def lows : IVec S16384x128 1 :=
  broadcastInDim S16384x128 ![0, 1] bcast_S1x128_S16384x128_0_1 (broadcastInDim S1x128 ![1] bcast_S128_S1x128_1 low8)
def zeros : FVec Ideal S16384x128 .f32 := broadcastInDim S16384x128 ![] bcast_S_S16384x128 (constant (F := Ideal) S_ .f32 0x00000000#32)
def cosT : FVec Ideal S16384x128 .f32 := Host.cos angles
def sinT : FVec Ideal S16384x128 .f32 := Host.sin angles
def nextT : FVec Ideal S16384x128 .f32 := select lows (Host.negf sinT) zeros
def prevT : FVec Ideal S16384x128 .f32 := select lows zeros sinT
/-- The matrix of head means, for heads of `d` columns and the word `w` of `1 / d`. -/
def means (d w : BitVec 32) : FVec Ideal S256x256 .f32 :=
  select (cmpi .eq (broadcastInDim S256x256 ![0, 1] bcast_S256x1_S256x256_0_1 (divS256x1 (broadcastInDim S256x1 ![0] bcast_S256_S256x1_0 (iotaInDim S256 32 0)) d))
      (broadcastInDim S256x256 ![0, 1] bcast_S1x256_S256x256_0_1 (divS1x256 (broadcastInDim S1x256 ![1] bcast_S256_S1x256_1 (iotaInDim S256 32 0)) d)))
    (broadcastInDim S256x256 ![] bcast_S_S256x256 (constant (F := Ideal) S_ .f32 w)) (broadcastInDim S256x256 ![] bcast_S_S256x256 (constant (F := Ideal) S_ .f32 0x00000000#32))

theorem lane32_apply : ∀ l : Fin 128, lane32 (ix1 l) = BitVec.ofNat 32 (l.val % 32) := fun l => by
  pointwise [lane32, remS128, divT]
  revert l
  decide +kernel

theorem low8_apply (l : Fin 128) : low8 (ix1 l) = BitVec.ofBool (decide (l.val % 16 < 8)) := by
  pointwise [low8, remS128, divT]
  simp only [lane32_apply]
  revert l
  decide +kernel

theorem freqs_apply (l : Fin 128) : freqs (ix1 l) = freq (BitVec.ofNat 32 (l.val % 8)) := by
  have e : remS128 lane32 8#32 (ix1 l) = BitVec.ofNat 32 (l.val % 8) := by
    pointwise [remS128, divT]
    simp only [lane32_apply]
    revert l
    decide +kernel
  rw [← e]
  pointwise [freqs, freq]

theorem select_ofBool {α : Type} (p : Prop) [Decidable p] (x y : α) : Scalar.select (BitVec.ofBool (decide p)) x y = if p then x else y := by
  by_cases h : p <;> simp [h, Scalar.select]

theorem places_apply (t : Fin 16384) (l : Fin 128) : places (ix2 t l)
    = if l.val % 32 < 16 then rowOf (BitVec.ofNat 32 t.val) else remOf (BitVec.ofNat 32 t.val) 64#32 := by
  have er : divS16384 (iotaInDim S16384 32 0) 64#32 (ix1 t) = rowOf (BitVec.ofNat 32 t.val) := by
    pointwise [divS16384]
    rfl
  have ec : remS16384 (iotaInDim S16384 32 0) 64#32 (ix1 t) = remOf (BitVec.ofNat 32 t.val) 64#32 := by
    pointwise [remS16384, divT]
    rfl
  have ei : IntOp.cmpi .slt (lane32 (ix1 l)) 16#32 = BitVec.ofBool (decide (l.val % 32 < 16)) := by
    rw [lane32_apply]
    revert l
    decide +kernel
  rw [← er, ← ec, ← select_ofBool, ← ei]
  pointwise [places]

theorem angles_apply (t : Fin 16384) (l : Fin 128) : angles (ix2 t l) = angle t l := by
  rw [angle, ← places_apply, ← freqs_apply]
  pointwise [angles]

theorem means64_apply (l j : Fin 256) : means 64#32 0x3C800000#32 (ix2 l j) = if l.val / 64 = j.val / 64 then Ideal.ofBits .f32 0x3C800000#32 else ((0 : ℝ) : EReal) := by
  have ec : ∀ l : Fin 256, divS256x1 (broadcastInDim S256x1 ![0] bcast_S256_S256x1_0 (iotaInDim S256 32 0)) 64#32 (ix2 l 0) = BitVec.ofNat 32 (l.val / 64) := by
    intro l
    pointwise [divS256x1]
    revert l
    decide +kernel
  have er : ∀ l : Fin 256, divS1x256 (broadcastInDim S1x256 ![1] bcast_S256_S1x256_1 (iotaInDim S256 32 0)) 64#32 (ix2 0 l) = BitVec.ofNat 32 (l.val / 64) := by
    intro l
    pointwise [divS1x256]
    revert l
    decide +kernel
  have ee : IntOp.cmpi .eq (BitVec.ofNat 32 (l.val / 64)) (BitVec.ofNat 32 (j.val / 64)) = BitVec.ofBool (decide (l.val / 64 = j.val / 64)) := by
    refine congrArg BitVec.ofBool (decide_eq_decide.mpr ⟨fun h => ?_, fun h => by rw [h]⟩)
    have := congrArg BitVec.toNat h
    simp only [BitVec.toNat_ofNat] at this
    omega
  rw [← select_ofBool, ← ee, ← ec, ← er, ← word_zero]
  pointwise [means]

theorem means32_apply (l j : Fin 256) : means 32#32 0x3D000000#32 (ix2 l j) = if l.val / 32 = j.val / 32 then Ideal.ofBits .f32 0x3D000000#32 else ((0 : ℝ) : EReal) := by
  have ec : ∀ l : Fin 256, divS256x1 (broadcastInDim S256x1 ![0] bcast_S256_S256x1_0 (iotaInDim S256 32 0)) 32#32 (ix2 l 0) = BitVec.ofNat 32 (l.val / 32) := by
    intro l
    pointwise [divS256x1]
    revert l
    decide +kernel
  have er : ∀ l : Fin 256, divS1x256 (broadcastInDim S1x256 ![1] bcast_S256_S1x256_1 (iotaInDim S256 32 0)) 32#32 (ix2 0 l) = BitVec.ofNat 32 (l.val / 32) := by
    intro l
    pointwise [divS1x256]
    revert l
    decide +kernel
  have ee : IntOp.cmpi .eq (BitVec.ofNat 32 (l.val / 32)) (BitVec.ofNat 32 (j.val / 32)) = BitVec.ofBool (decide (l.val / 32 = j.val / 32)) := by
    refine congrArg BitVec.ofBool (decide_eq_decide.mpr ⟨fun h => ?_, fun h => by rw [h]⟩)
    have := congrArg BitVec.toNat h
    simp only [BitVec.toNat_ofNat] at this
    omega
  rw [← select_ofBool, ← ee, ← ec, ← er, ← word_zero]
  pointwise [means]

theorem low_apply (t : Fin 16384) (l : Fin 128) : lows (ix2 t l) = BitVec.ofBool (decide (l.val % 16 < 8)) := by
  rw [← low8_apply]
  pointwise [lows]

theorem zeros_apply (t : Fin 16384) (l : Fin 128) : zeros (ix2 t l) = ((0 : ℝ) : EReal) := by
  rw [← word_zero]
  pointwise [zeros]

theorem cosT_apply (t : Fin 16384) (l : Fin 128) : cosT (ix2 t l) = Ideal.cos (angle t l) := by
  rw [← angles_apply]
  pointwise [cosT]

theorem sinT_apply (t : Fin 16384) (l : Fin 128) : sinT (ix2 t l) = Ideal.sin (angle t l) := by
  rw [← angles_apply]
  pointwise [sinT]

theorem nextT_apply (t : Fin 16384) (l : Fin 128) : nextT (ix2 t l) = if l.val % 16 < 8 then -Ideal.sin (angle t l) else ((0 : ℝ) : EReal) := by
  rw [← select_ofBool, ← low_apply t, ← sinT_apply, ← zeros_apply t l]
  pointwise [nextT]

theorem prevT_apply (t : Fin 16384) (l : Fin 128) : prevT (ix2 t l) = if l.val % 16 < 8 then ((0 : ℝ) : EReal) else Ideal.sin (angle t l) := by
  rw [← select_ofBool, ← low_apply t, ← sinT_apply, ← zeros_apply t l]
  pointwise [prevT]

variable (m : (ℓ : Loc nD τ sig) → Buf (Elt Ideal) ℓ) (c : Dev nD) (t : Fin cfg0.N)

theorem v43 : V m c main_v43 = cosT := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  simp -implicitDefEqProofs only [StableHlo.TRef.toBuf, StableHlo.TRef.ofBuf, cast_cast, cast_eq]
  rfl

theorem v47 : V m c main_v47 = nextT := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  simp -implicitDefEqProofs only [StableHlo.TRef.toBuf, StableHlo.TRef.ofBuf, cast_cast, cast_eq]
  rfl

theorem v49 : V m c main_v49 = prevT := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  simp -implicitDefEqProofs only [StableHlo.TRef.toBuf, StableHlo.TRef.ofBuf, cast_cast, cast_eq]
  rfl

theorem v59 : V m c main_v59 = truncf (F := Ideal) .bf16 (means 64#32 0x3C800000#32) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  simp -implicitDefEqProofs only [StableHlo.TRef.toBuf, StableHlo.TRef.ofBuf, cast_cast, cast_eq]
  rfl

theorem v69 : V m c main_v69 = truncf (F := Ideal) .bf16 (means 32#32 0x3D000000#32) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  simp -implicitDefEqProofs only [StableHlo.TRef.toBuf, StableHlo.TRef.ofBuf, cast_cast, cast_eq]
  rfl

theorem v3 : V m c main_v3 = broadcastInDim S1x256 ![1] bcast_S256_S1x256_1 (shapeCast S256 (broadcastInDim S4x64 ![0, 1] bcast_S1x64_S4x64_0_1 (shapeCast S1x64 (m ((c : Thread nD τ).loc main_arg5)) shapeCasts_S64_S1x64)) shapeCasts_S4x64_S256) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  rfl

theorem v7 : V m c main_v7 = broadcastInDim S1x256 ![1] bcast_S256_S1x256_1 (shapeCast S256 (broadcastInDim S4x64 ![0, 1] bcast_S1x64_S4x64_0_1 (shapeCast S1x64 (m ((c : Thread nD τ).loc main_arg6)) shapeCasts_S64_S1x64)) shapeCasts_S4x64_S256) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  rfl

theorem v11 : V m c main_v11 = broadcastInDim S1x256 ![1] bcast_S256_S1x256_1 (shapeCast S256 (broadcastInDim S8x32 ![0, 1] bcast_S1x32_S8x32_0_1 (shapeCast S1x32 (m ((c : Thread nD τ).loc main_arg7)) shapeCasts_S32_S1x32)) shapeCasts_S8x32_S256) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  rfl

theorem v15 : V m c main_v15 = broadcastInDim S1x256 ![1] bcast_S256_S1x256_1 (shapeCast S256 (broadcastInDim S8x32 ![0, 1] bcast_S1x32_S8x32_0_1 (shapeCast S1x32 (m ((c : Thread nD τ).loc main_arg8)) shapeCasts_S32_S1x32)) shapeCasts_S8x32_S256) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  rfl

theorem v16 : V m c main_v16 = broadcastInDim S1x1024 ![1] bcast_S1024_S1x1024_1 (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  rfl

theorem v17 : V m c main_v17 = truncf (F := Ideal) .bf16 (m ((c : Thread nD τ).loc main_arg4)) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28,
    List.flatten_cons, List.flatten_nil, List.append_nil, List.cons_append, List.nil_append]
  entry_read
  rfl

end Cert.InProj

end
-- ==== Proof.InProj.Heads.lean ====
/-
  The reference of the in-projection: an entry of each of its results.
-/
module

public import proofs.«01_k».proof.Proof.Gen.Reference3Ideal.Read
public import proofs.«01_k».proof.Proof.InProj.Norm
public import Idealize.ShloMosaic.Lib.Pointwise

@[expose] public section

set_option maxRecDepth 16384

noncomputable section

namespace Cert.InProj

open Cert.Reference3Ideal Cert.Reference3Ideal.Gen Cert.Reference3Ideal.Read Idealize.ShloMosaic Idealize.ShloMosaic.TcCoe

theorem v1_apply (t : Fin 16384) : val_main_v1 (F := Ideal) (ix1 t) = rowOf (BitVec.ofNat 32 t.val) := by
  pointwise [val_main_v1, val_main_call0_v13, val_main_call0_v12, val_main_call0_c_0, val_main_call0_v11, val_main_call0_v10, val_main_call0_v9,
    val_main_call0_c, val_main_call0_v8, val_main_call0_v7, val_main_call0_v6, val_main_call0_v5, val_main_call0_v4, val_main_call0_v3,
    val_main_call0_v2, val_main_call0_v1, val_main_call0_v0, val_main_c, val_main_v0]
  rfl

theorem v16_apply (t : Fin 16384) : val_main_v16 (F := Ideal) (ix1 t) = remOf (BitVec.ofNat 32 t.val) 64#32 := by
  pointwise [val_main_v16, val_main_call1_v14, val_main_call1_v13, val_main_call1_v12, val_main_call1_v11, val_main_call1_v10, val_main_call1_v9,
    val_main_call1_c_3, val_main_call1_v8, val_main_call1_v7, val_main_call1_c_2, val_main_call1_v6, val_main_call1_v5, val_main_call1_c_1, val_main_call1_v4, val_main_call1_v3,
    val_main_call1_v2, val_main_call1_c_0, val_main_call1_v1, val_main_call1_c, val_main_call1_v0, val_main_c_1, val_main_v0]
  rfl

theorem v13_apply (t : Fin 16384) (k : Fin 8) : val_main_v13 (F := Ideal) (ix2 t k)
    = (FloatOps.sitofp (F := Ideal) .f32 (rowOf (BitVec.ofNat 32 t.val)) : EReal) * freq (BitVec.ofNat 32 k.val) := by
  rw [← v1_apply]
  pointwise [val_main_v13, val_main_v12, val_main_v11, val_main_v10, val_main_v9, val_main_v8, val_main_v7, val_main_v6, val_main_v5, val_main_v4, val_main_v3, val_main_v2, val_main_cst, val_main_cst_0, freq]

theorem v28_apply (t : Fin 16384) (k : Fin 8) : val_main_v28 (F := Ideal) (ix2 t k)
    = (FloatOps.sitofp (F := Ideal) .f32 (remOf (BitVec.ofNat 32 t.val) 64#32) : EReal) * freq (BitVec.ofNat 32 k.val) := by
  rw [← v16_apply]
  pointwise [val_main_v28, val_main_v27, val_main_v26, val_main_v25, val_main_v24, val_main_v23, val_main_v22, val_main_v21, val_main_v20, val_main_v19, val_main_v18, val_main_v17, val_main_cst_2, val_main_cst_3, freq]

variable (x0 : Vec Ideal S2x16384x1024 .f32) (x1 x2 : Vec Ideal S2x1x1024 .f32) (x3 : Vec Ideal S1024 .f32) (x4 : Vec Ideal S1024x6144 .f32)
  (x5 x6 : Vec Ideal S64 .f32) (x7 x8 : Vec Ideal S32 .f32) (b : Fin 2) (t : Fin 16384)

/-- The token, normed and modulated, and the projection. -/
abbrev rh : Fin 1024 → EReal :=
  hid (fun k => x0 (ix3 b t k)) (fun k => x3 (ix1 k)) (fun k => x1 (ix3 b 0 k)) (fun k => x2 (ix3 b 0 k))
abbrev rw' : Fin 1024 → Fin 6144 → EReal := fun k j => x4 (ix2 k j)

theorem v49_apply (k : Fin 1024) : val_main_v49 (F := Ideal) x0 x1 x2 x3 (ix3 b t k) = rh x0 x1 x2 x3 b t k := by
  pointwise [val_main_v49, val_main_v48, val_main_v47, val_main_v46, val_main_v45, val_main_v44, val_main_cst_7, val_main_v43, val_main_v42,
    val_main_v41, val_main_v40, val_main_v39, val_main_v38, val_main_v37, val_main_v36, val_main_cst_6, val_main_v35, val_main_v34, val_main_cst_5,
    val_main_v33, val_main_v32, val_main_cst_4, val_main_v31, hid, eps]

theorem v50_apply (j : Fin 6144) : val_main_v50 (F := Ideal) x0 x1 x2 x3 x4 (ix3 b t j) = col (rh x0 x1 x2 x3 b t) (rw' x4) j := by
  have e : val_main_v50 (F := Ideal) x0 x1 x2 x3 x4 (ix3 b t j) = ∑ k : Fin 1024, val_main_v49 (F := Ideal) x0 x1 x2 x3 (ix3 b t k) * x4 (ix2 k j) := by
    unfold val_main_v50
    generalize val_main_v49 (F := Ideal) x0 x1 x2 x3 = q
    pointwise
  rw [e]
  exact Finset.sum_congr rfl fun k _ => congrArg (fun a : EReal => a * x4 (ix2 k j)) (v49_apply x0 x1 x2 x3 b t k)

/-- The norm over heads, from the columns of one head. -/
theorem norm64_of (p : Fin 6144 → EReal) (o : Nat) (ho : o + 256 ≤ 6144) (g : Fin 64 → EReal) (h : Fin 4) (l : Fin 64) :
    p ⟨o + (h.val * 64 + l.val), by omega⟩
        * Ideal.rsqrt (Ideal.div (∑ x : Fin 64, p ⟨o + (h.val * 64 + x.val), by omega⟩ * p ⟨o + (h.val * 64 + x.val), by omega⟩) (Ideal.ofBits .f32 0x42800000#32) + eps)
        * g l = norm64 (fun j => p ⟨o + j.val, by omega⟩) g ⟨h.val * 64 + l.val, by omega⟩ := by
  have e : ∀ x : Fin 64, (⟨o + ((h.val * 64 + l.val) / 64 * 64 + x.val), by omega⟩ : Fin 6144) = ⟨o + (h.val * 64 + x.val), by omega⟩ := fun x =>
    Fin.ext (by dsimp only; omega)
  have e' : (⟨(h.val * 64 + l.val) % 64, by omega⟩ : Fin 64) = l := Fin.ext (by dsimp only; omega)
  unfold norm64
  simp only [e, e']

theorem norm32_of (p : Fin 6144 → EReal) (o : Nat) (ho : o + 256 ≤ 6144) (g : Fin 32 → EReal) (h : Fin 4) (s : Fin 2) (l : Fin 32) :
    p ⟨o + (h.val * 64 + s.val * 32 + l.val), by omega⟩
        * Ideal.rsqrt (Ideal.div (∑ x : Fin 32, p ⟨o + (h.val * 64 + s.val * 32 + x.val), by omega⟩ * p ⟨o + (h.val * 64 + s.val * 32 + x.val), by omega⟩) (Ideal.ofBits .f32 0x42000000#32) + eps)
        * g l = norm32 (fun j => p ⟨o + j.val, by omega⟩) g ⟨h.val * 64 + s.val * 32 + l.val, by omega⟩ := by
  have e : ∀ x : Fin 32, (⟨o + ((h.val * 64 + s.val * 32 + l.val) / 32 * 32 + x.val), by omega⟩ : Fin 6144) = ⟨o + (h.val * 64 + s.val * 32 + x.val), by omega⟩ := fun x =>
    Fin.ext (by dsimp only; omega)
  have e' : (⟨(h.val * 64 + s.val * 32 + l.val) % 32, by omega⟩ : Fin 32) = l := Fin.ext (by dsimp only; omega)
  unfold norm32
  simp only [e, e']

theorem v65_apply (h : Fin 4) (l : Fin 64) : val_main_v65 (F := Ideal) x0 x1 x2 x3 x4 x5 (ix4 b t h l)
    = norm64 (cols (rh x0 x1 x2 x3 b t) (rw' x4) 0 (by norm_num)) (fun l => x5 (ix1 l)) ⟨h.val * 64 + l.val, by omega⟩ := by
  refine Eq.trans ?_ (norm64_of (col (rh x0 x1 x2 x3 b t) (rw' x4)) 0 (by norm_num) (fun l => x5 (ix1 l)) h l)
  have e : ∀ x : Fin 64, (⟨0 + (h.val * 64 + x.val), by omega⟩ : Fin 6144) = ⟨h.val * 64 + x.val, by omega⟩ := fun x =>
    Fin.ext (by dsimp only; omega)
  simp only [e, ← v50_apply]
  pointwise [val_main_v65, val_main_v64, val_main_v63, val_main_v62, val_main_v61, val_main_v60, val_main_v59, val_main_v58, val_main_v57, val_main_v56, val_main_v55, val_main_v54, val_main_v53, val_main_v52, val_main_v51, val_main_cst_8, val_main_cst_9, val_main_cst_10, eps]

theorem v80_apply (h : Fin 4) (s : Fin 2) (l : Fin 32) : val_main_v80 (F := Ideal) x0 x1 x2 x3 x4 x7 (ix5 b t h s l)
    = norm32 (cols (rh x0 x1 x2 x3 b t) (rw' x4) 256 (by norm_num)) (fun l => x7 (ix1 l)) ⟨h.val * 64 + s.val * 32 + l.val, by omega⟩ := by
  refine Eq.trans ?_ (norm32_of (col (rh x0 x1 x2 x3 b t) (rw' x4)) 256 (by norm_num) (fun l => x7 (ix1 l)) h s l)
  simp only [← v50_apply]
  pointwise [val_main_v80, val_main_v79, val_main_v78, val_main_v77, val_main_v76, val_main_v75, val_main_v74, val_main_v73, val_main_v72, val_main_v71, val_main_v70, val_main_v69, val_main_v68, val_main_v67, val_main_v66, val_main_cst_11, val_main_cst_12, val_main_cst_13, eps]

theorem v99_apply (h : Fin 4) (l : Fin 64) : val_main_v99 (F := Ideal) x0 x1 x2 x3 x4 x6 (ix4 b t h l)
    = norm64 (cols (rh x0 x1 x2 x3 b t) (rw' x4) 5120 (by norm_num)) (fun l => x6 (ix1 l)) ⟨h.val * 64 + l.val, by omega⟩ := by
  refine Eq.trans ?_ (norm64_of (col (rh x0 x1 x2 x3 b t) (rw' x4)) 5120 (by norm_num) (fun l => x6 (ix1 l)) h l)
  simp only [← v50_apply]
  pointwise [val_main_v99, val_main_v98, val_main_v97, val_main_v96, val_main_v95, val_main_v94, val_main_v93, val_main_v92, val_main_v91, val_main_v90, val_main_v89, val_main_v88, val_main_v87, val_main_v86, val_main_v85, val_main_v84, val_main_cst_14, val_main_cst_15, val_main_cst_16, eps]

theorem v116_apply (h : Fin 4) (s : Fin 2) (l : Fin 32) : val_main_v116 (F := Ideal) x0 x1 x2 x3 x4 x8 (ix5 b t h s l)
    = norm32 (cols (rh x0 x1 x2 x3 b t) (rw' x4) 5632 (by norm_num)) (fun l => x8 (ix1 l)) ⟨h.val * 64 + s.val * 32 + l.val, by omega⟩ := by
  refine Eq.trans ?_ (norm32_of (col (rh x0 x1 x2 x3 b t) (rw' x4)) 5632 (by norm_num) (fun l => x8 (ix1 l)) h s l)
  have e : ∀ x : Fin 32, (⟨5632 + (h.val * 64 + s.val * 32 + x.val), by omega⟩ : Fin 6144) = ⟨5120 + (512 + (h.val * 64 + s.val * 32 + x.val)), by omega⟩ := fun x =>
    Fin.ext (by dsimp only; omega)
  simp only [e, ← v50_apply]
  pointwise [val_main_v84, val_main_v116, val_main_v115, val_main_v114, val_main_v113, val_main_v112, val_main_v111, val_main_v110, val_main_v109, val_main_v108, val_main_v107, val_main_v106, val_main_v105, val_main_v104, val_main_v103, val_main_v102, val_main_cst_17, val_main_cst_18, val_main_cst_19, eps]

/-- The rotation, from the two axes' pairs of halves. -/
theorem rope_of (z : Fin 256 → EReal) (u : Fin 32 → EReal) (h : Fin 4) (s : Fin 2) (l : Fin 32)
    (hz : ∀ l : Fin 32, u l = z ⟨h.val * 64 + s.val * 32 + l.val, by omega⟩) :
    (if h_1 : l.val < 16 then
      if h_2 : l.val < 8 then
        u l * Ideal.cos (val_main_v13 (F := Ideal) (ix2 t ⟨l.val, h_2⟩)) - u ⟨8 + l.val, by omega⟩ * Ideal.sin (val_main_v13 (F := Ideal) (ix2 t ⟨l.val, h_2⟩))
      else
        u ⟨l.val - 8, by omega⟩ * Ideal.sin (val_main_v13 (F := Ideal) (ix2 t ⟨l.val - 8, by omega⟩))
          + u ⟨8 + (l.val - 8), by omega⟩ * Ideal.cos (val_main_v13 (F := Ideal) (ix2 t ⟨l.val - 8, by omega⟩))
    else
      if h_2 : l.val - 16 < 8 then
        u ⟨16 + (l.val - 16), by omega⟩ * Ideal.cos (val_main_v28 (F := Ideal) (ix2 t ⟨l.val - 16, h_2⟩))
          - u ⟨16 + (8 + (l.val - 16)), by omega⟩ * Ideal.sin (val_main_v28 (F := Ideal) (ix2 t ⟨l.val - 16, h_2⟩))
      else
        u ⟨16 + (l.val - 16 - 8), by omega⟩ * Ideal.sin (val_main_v28 (F := Ideal) (ix2 t ⟨l.val - 16 - 8, by omega⟩))
          + u ⟨16 + (8 + (l.val - 16 - 8)), by omega⟩ * Ideal.cos (val_main_v28 (F := Ideal) (ix2 t ⟨l.val - 16 - 8, by omega⟩)))
      = rope z (angle t) ⟨h.val * 64 + s.val * 32 + l.val, by omega⟩ := by
  have hl := l.isLt
  have hs := s.isLt
  have ang : ∀ k : Fin 8, ∀ c : Nat, (hc : c < 128) → c % 8 = k.val → c % 32 < 16 → val_main_v13 (F := Ideal) (ix2 t k) = angle t ⟨c, hc⟩ := fun k c hc h1 h2 => by
    rw [v13_apply, angle, if_pos h2, h1]
  have ang' : ∀ k : Fin 8, ∀ c : Nat, (hc : c < 128) → c % 8 = k.val → ¬ c % 32 < 16 → val_main_v28 (F := Ideal) (ix2 t k) = angle t ⟨c, hc⟩ := fun k c hc h1 h2 => by
    rw [v28_apply, angle, if_neg h2, h1]
  have zz : ∀ (n : Fin 32) (c : Nat) (hc : c < 256), c = h.val * 64 + s.val * 32 + n.val → u n = z ⟨c, hc⟩ := fun n c hc e => by
    subst e; exact hz n
  unfold rope
  split <;> rename_i h1 <;> split <;> rename_i h2
  · rw [dif_pos (by dsimp only; omega), ang _ ((h.val * 64 + s.val * 32 + l.val) % 128) (by omega) (by dsimp only; omega) (by omega),
      zz l (h.val * 64 + s.val * 32 + l.val) (by omega) rfl, zz _ (h.val * 64 + s.val * 32 + l.val + 8) (by omega) (by dsimp only; omega)]
  · rw [dif_neg (by dsimp only; omega), ang _ ((h.val * 64 + s.val * 32 + l.val) % 128) (by omega) (by dsimp only; omega) (by omega),
      zz _ (h.val * 64 + s.val * 32 + l.val - 8) (by omega) (by dsimp only; omega), zz _ (h.val * 64 + s.val * 32 + l.val) (by omega) (by dsimp only; omega)]
  · rw [dif_pos (by dsimp only; omega), ang' _ ((h.val * 64 + s.val * 32 + l.val) % 128) (by omega) (by dsimp only; omega) (by omega),
      zz _ (h.val * 64 + s.val * 32 + l.val) (by omega) (by dsimp only; omega), zz _ (h.val * 64 + s.val * 32 + l.val + 8) (by omega) (by dsimp only; omega)]
  · rw [dif_neg (by dsimp only; omega), ang' _ ((h.val * 64 + s.val * 32 + l.val) % 128) (by omega) (by dsimp only; omega) (by omega),
      zz _ (h.val * 64 + s.val * 32 + l.val - 8) (by omega) (by dsimp only; omega), zz _ (h.val * 64 + s.val * 32 + l.val) (by omega) (by dsimp only; omega)]

theorem v159_apply (h : Fin 4) (s : Fin 2) (l : Fin 32) : val_main_v159 (F := Ideal) x0 x1 x2 x3 x4 x7 (ix5 b t h s l)
    = rope (norm32 (cols (rh x0 x1 x2 x3 b t) (rw' x4) 256 (by norm_num)) (fun l => x7 (ix1 l))) (angle t) ⟨h.val * 64 + s.val * 32 + l.val, by omega⟩ := by
  rw [← rope_of t _ (fun l => val_main_v80 (F := Ideal) x0 x1 x2 x3 x4 x7 (ix5 b t h s l)) h s l (fun l => v80_apply x0 x1 x2 x3 x4 x7 b t h s l)]
  pointwise [val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v14, val_main_v15, val_main_v29, val_main_v30]

theorem v200_apply (h : Fin 4) (s : Fin 2) (l : Fin 32) : val_main_v200 (F := Ideal) x0 x1 x2 x3 x4 x8 (ix5 b t h s l)
    = rope (norm32 (cols (rh x0 x1 x2 x3 b t) (rw' x4) 5632 (by norm_num)) (fun l => x8 (ix1 l))) (angle t) ⟨h.val * 64 + s.val * 32 + l.val, by omega⟩ := by
  rw [← rope_of t _ (fun l => val_main_v116 (F := Ideal) x0 x1 x2 x3 x4 x8 (ix5 b t h s l)) h s l (fun l => v116_apply x0 x1 x2 x3 x4 x8 b t h s l)]
  pointwise [val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v14, val_main_v15, val_main_v29, val_main_v30]

end Cert.InProj

end
-- ==== Proof.InProj.Ref.lean ====
/-
  The results of the in-projection's reference: an entry of each.
-/
module

public import proofs.«01_k».proof.Proof.InProj.Heads
public import Idealize.ShloMosaic.Lib.Pointwise

@[expose] public section

set_option maxRecDepth 16384

noncomputable section

namespace Cert.InProj

open Cert.Reference3Ideal Cert.Reference3Ideal.Gen Cert.Reference3Ideal.Read Idealize.ShloMosaic Idealize.ShloMosaic.TcCoe

variable (x0 : Vec Ideal S2x16384x1024 .f32) (x1 x2 : Vec Ideal S2x1x1024 .f32) (x3 : Vec Ideal S1024 .f32) (x4 : Vec Ideal S1024x6144 .f32)
  (x5 x6 : Vec Ideal S64 .f32) (x7 x8 : Vec Ideal S32 .f32) (b : Fin 2) (t : Fin 16384)

theorem v209_apply (j : Fin 256) : val_main_v209 (F := Ideal) x0 x1 x2 x3 x4 x5 (ix3 b t j)
    = norm64 (cols (rh x0 x1 x2 x3 b t) (rw' x4) 0 (by norm_num)) (fun l => x5 (ix1 l)) j * Ideal.ofBits .f32 0x3E000000#32 := by
  have e : val_main_v209 (F := Ideal) x0 x1 x2 x3 x4 x5 (ix3 b t j) = val_main_v65 (F := Ideal) x0 x1 x2 x3 x4 x5 (ix4 b t ⟨j.val / 64, by omega⟩ ⟨j.val % 64, by omega⟩) * Ideal.ofBits .f32 0x3E000000#32 := by
    pointwise [val_main_v209, val_main_v208, val_main_v202, val_main_v201, val_main_cst_20]
  rw [e, v65_apply]
  exact congrArg (fun j => norm64 _ _ j * _) (Fin.ext (by dsimp only; omega))

theorem v212_apply (j : Fin 256) : val_main_v212 (F := Ideal) x0 x1 x2 x3 x4 x7 (ix3 b j t)
    = rope (norm32 (cols (rh x0 x1 x2 x3 b t) (rw' x4) 256 (by norm_num)) (fun l => x7 (ix1 l))) (angle t) j
      * (((Real.log 2)⁻¹ * (Real.sqrt 32)⁻¹ : ℝ) : EReal) := by
  have e : val_main_v212 (F := Ideal) x0 x1 x2 x3 x4 x7 (ix3 b j t) = Ideal.div (val_main_v159 (F := Ideal) x0 x1 x2 x3 x4 x7 (ix5 b t ⟨j.val / 64, by omega⟩ ⟨j.val / 32 % 2, by omega⟩ ⟨j.val % 32, by omega⟩))
      (Ideal.sqrt (Ideal.ofBits .f32 0x42000000#32) * Ideal.log (Ideal.ofBits .f32 0x40000000#32)) := by
    pointwise [val_main_v212, val_main_v211, val_main_v210, val_main_v207, val_main_v206, val_main_v205, val_main_v204, val_main_v203, val_main_cst_21, val_main_cst_22]
  rw [e, v159_apply, scale_eq]
  exact congrArg (fun j => rope _ _ j * _) (Fin.ext (by dsimp only; omega))

theorem v81_apply (j : Fin 256) : val_main_v81 (F := Ideal) x0 x1 x2 x3 x4 (ix3 b t j) = cols (rh x0 x1 x2 x3 b t) (rw' x4) 512 (by norm_num) j := by
  rw [cols, ← v50_apply]
  pointwise [val_main_v81]

theorem v82_apply (j : Fin 256) : val_main_v82 (F := Ideal) x0 x1 x2 x3 x4 (ix3 b t j) = cols (rh x0 x1 x2 x3 b t) (rw' x4) 768 (by norm_num) j := by
  rw [cols, ← v50_apply]
  pointwise [val_main_v82]

theorem v219_apply (j : Fin 4096) : val_main_v219 (F := Ideal) x0 x1 x2 x3 x4 (ix3 b t j)
    = Ideal.logistic (col (rh x0 x1 x2 x3 b t) (rw' x4) ⟨1024 + j.val, by omega⟩) := by
  rw [← v50_apply, Ideal.logistic, ← EReal.coe_one, ← word_one]
  pointwise [val_main_v219, val_main_v218, val_main_v217, val_main_v216, val_main_v215, val_main_v214, val_main_v213, val_main_v83, val_main_cst_23, val_main_cst_24]

theorem v223_apply (j : Fin 512) : val_main_v223 (F := Ideal) x0 x1 x2 x3 x4 x6 (ix3 b t j)
    = pair (norm64 (cols (rh x0 x1 x2 x3 b t) (rw' x4) 5120 (by norm_num)) (fun l => x6 (ix1 l)))
        (cols (rh x0 x1 x2 x3 b t) (rw' x4) 5376 (by norm_num)) j := by
  have e : val_main_v223 (F := Ideal) x0 x1 x2 x3 x4 x6 (ix3 b t j) = pair
      (fun j => val_main_v99 (F := Ideal) x0 x1 x2 x3 x4 x6 (ix4 b t ⟨j.val / 64, by omega⟩ ⟨j.val % 64, by omega⟩))
      (fun j => val_main_v50 (F := Ideal) x0 x1 x2 x3 x4 (ix3 b t ⟨5120 + (256 + j.val), by omega⟩)) j := by
    pointwise [val_main_v223, val_main_v222, val_main_v221, val_main_v220, val_main_v101, val_main_v100, val_main_v84, pair]
  rw [e]
  refine congrArg₂ (fun a b => pair a b j) (funext fun j => ?_) (funext fun j => ?_)
  · rw [v99_apply]
    exact congrArg (norm64 _ _) (Fin.ext (by dsimp only; omega))
  · rw [v50_apply, cols]
    exact congrArg (col _ _) (Fin.ext (by dsimp only; omega))

theorem v225_at (j : Fin 256) : val_main_v225 (F := Ideal) x0 x1 x2 x3 x4 x8 (ix3 b t j)
    = val_main_v200 (F := Ideal) x0 x1 x2 x3 x4 x8 (ix5 b t ⟨j.val / 64, by omega⟩ ⟨j.val / 32 % 2, by omega⟩ ⟨j.val % 32, by omega⟩) := by
  rw [val_main_v225_apply, val_main_v224_apply]
  generalize val_main_v200 (F := Ideal) x0 x1 x2 x3 x4 x8 = z
  refine congrArg z (funext fun a => Fin.ext ?_)
  have hb := b.isLt
  have ht := t.isLt
  have hj := j.isLt
  fin_cases a
  · show ((b.val * 16384 + t.val) * 256 + j.val) / 4194304 = b.val
    omega
  · show ((b.val * 16384 + t.val) * 256 + j.val) / 256 % 16384 = t.val
    omega
  · show ((b.val * 16384 + t.val) * 256 + j.val) / 64 % 4 = j.val / 64
    omega
  · show ((b.val * 16384 + t.val) * 256 + j.val) / 32 % 2 = j.val / 32 % 2
    omega
  · show ((b.val * 16384 + t.val) * 256 + j.val) % 32 = j.val % 32
    omega

theorem v225_apply (j : Fin 256) : val_main_v225 (F := Ideal) x0 x1 x2 x3 x4 x8 (ix3 b t j)
    = rope (norm32 (cols (rh x0 x1 x2 x3 b t) (rw' x4) 5632 (by norm_num)) (fun l => x8 (ix1 l))) (angle t) j := by
  refine (v225_at x0 x1 x2 x3 x4 x8 b t j).trans ((v200_apply x0 x1 x2 x3 x4 x8 b t _ _ _).trans ?_)
  exact congrArg (rope _ _) (Fin.ext (by dsimp only; omega))

theorem v228_apply (j : Fin 256) : val_main_v228 (F := Ideal) x0 x1 x2 x3 x4 (ix3 b j t) = cols (rh x0 x1 x2 x3 b t) (rw' x4) 5888 (by norm_num) j := by
  have e : val_main_v228 (F := Ideal) x0 x1 x2 x3 x4 (ix3 b j t) = val_main_v50 (F := Ideal) x0 x1 x2 x3 x4 (ix3 b t ⟨5120 + (768 + j.val), by omega⟩) := by
    pointwise [val_main_v228, val_main_v227, val_main_v226, val_main_v118, val_main_v117, val_main_v84]
  rw [e, v50_apply, cols]
  exact congrArg (col _ _) (Fin.ext (by dsimp only; omega))

end Cert.InProj

end
-- ==== Proof.InProj.Array.lean ====
/-
  The blocks of the in-projection read from its arguments, and its whole results: for finite arguments, the reference's.
-/
module

public import proofs.«01_k».proof.Proof.InProj.Block
public import proofs.«01_k».proof.Proof.InProj.Host
public import proofs.«01_k».proof.Proof.InProj.Ref
public import Idealize.ShloMosaic.Lib.Claim

@[expose] public section

set_option maxRecDepth 16384

noncomputable section

namespace Cert.InProj

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- The blocks that grid point `(b, i)` is given: sample `b`, tile `i` of the tokens. -/
theorem idx : ∀ t : Fin grid0.N, win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![(grid0.coords t 1).val, 0]
    ∧ win0_12.index t = ![(grid0.coords t 1).val, 0]
    ∧ win0_13.index t = ![(grid0.coords t 1).val, 0]
    ∧ win0_14.index t = ![(grid0.coords t 0).val, (grid0.coords t 1).val, 0]
    ∧ win0_15.index t = ![(grid0.coords t 0).val, 0, (grid0.coords t 1).val]
    ∧ win0_16.index t = ![(grid0.coords t 0).val, (grid0.coords t 1).val, 0]
    ∧ win0_17.index t = ![(grid0.coords t 0).val, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0]
    ∧ win0_21.index t = ![(grid0.coords t 0).val, 0, (grid0.coords t 1).val] := by
  decide +kernel

/-- The point's sample and tile, and the token in row `r` of the tile. -/
abbrev pb (t : Fin cfg0.N) : Fin 2 := ⟨(grid0.coords t 0).val, (grid0.coords t 0).isLt⟩
abbrev pi (t : Fin cfg0.N) : Fin 16 := ⟨(grid0.coords t 1).val, (grid0.coords t 1).isLt⟩
abbrev tok (t : Fin cfg0.N) (r : Fin 1024) : Fin 16384 := ⟨(pi t).val * 1024 + r.val, by omega⟩

/-- The arguments. -/
abbrev a0 : Vec Ideal S2x16384x1024 .f32 := m ((c : Thread nD τ).loc main_arg0)
abbrev a1 : Vec Ideal S2x1x1024 .f32 := m ((c : Thread nD τ).loc main_arg1)
abbrev a2 : Vec Ideal S2x1x1024 .f32 := m ((c : Thread nD τ).loc main_arg2)
abbrev a3 : Vec Ideal S1024 .f32 := m ((c : Thread nD τ).loc main_arg3)
abbrev a4 : Vec Ideal S1024x6144 .f32 := m ((c : Thread nD τ).loc main_arg4)
abbrev a5 : Vec Ideal S64 .f32 := m ((c : Thread nD τ).loc main_arg5)
abbrev a6 : Vec Ideal S64 .f32 := m ((c : Thread nD τ).loc main_arg6)
abbrev a7 : Vec Ideal S32 .f32 := m ((c : Thread nD τ).loc main_arg7)
abbrev a8 : Vec Ideal S32 .f32 := m ((c : Thread nD τ).loc main_arg8)

theorem blk0 (r k : Fin 1024) : iblk m c 0 t (ix3 0 r k) = a0 m c (ix3 (pb t) (tok t r) k) := by
  blk_ext [iblk, V, idx t]

theorem blk2 (k : Fin 1024) : iblk m c 2 t (ix3 0 0 k) = a1 m c (ix3 (pb t) 0 k) := by
  blk_ext [iblk, V, idx t]

theorem blk3 (k : Fin 1024) : iblk m c 3 t (ix3 0 0 k) = a2 m c (ix3 (pb t) 0 k) := by
  blk_ext [iblk, V, idx t]

theorem blk1 (k : Fin 1024) : iblk m c 1 t (ix2 0 k) = a3 m c (ix1 k) := by
  have e : iblk m c 1 t (ix2 0 k) = V m c main_v16 (ix2 0 k) := by blk_ext [iblk, idx t]
  rw [e, v16]
  pointwise

theorem blk4 (k : Fin 1024) (j : Fin 6144) : iblk m c 4 t (ix2 k j) = a4 m c (ix2 k j) := by
  have e : iblk m c 4 t (ix2 k j) = V m c main_v17 (ix2 k j) := by blk_ext [iblk, idx t]
  rw [e, v17]
  pointwise

theorem blk5 (l : Fin 256) : iblk m c 5 t (ix2 0 l) = a5 m c (ix1 ⟨l.val % 64, by omega⟩) := by
  have e : iblk m c 5 t (ix2 0 l) = V m c main_v3 (ix2 0 l) := by blk_ext [iblk, idx t]
  rw [e, v3]
  pointwise

theorem blk6 (l : Fin 256) : iblk m c 6 t (ix2 0 l) = a6 m c (ix1 ⟨l.val % 64, by omega⟩) := by
  have e : iblk m c 6 t (ix2 0 l) = V m c main_v7 (ix2 0 l) := by blk_ext [iblk, idx t]
  rw [e, v7]
  pointwise

theorem blk7 (l : Fin 256) : iblk m c 7 t (ix2 0 l) = a7 m c (ix1 ⟨l.val % 32, by omega⟩) := by
  have e : iblk m c 7 t (ix2 0 l) = V m c main_v11 (ix2 0 l) := by blk_ext [iblk, idx t]
  rw [e, v11]
  pointwise

theorem blk8 (l : Fin 256) : iblk m c 8 t (ix2 0 l) = a8 m c (ix1 ⟨l.val % 32, by omega⟩) := by
  have e : iblk m c 8 t (ix2 0 l) = V m c main_v15 (ix2 0 l) := by blk_ext [iblk, idx t]
  rw [e, v15]
  pointwise

theorem blk9 (l j : Fin 256) : iblk m c 9 t (ix2 l j) = if l.val / 64 = j.val / 64 then Ideal.ofBits .f32 0x3C800000#32 else ((0 : ℝ) : EReal) := by
  have e : iblk m c 9 t (ix2 l j) = V m c main_v59 (ix2 l j) := by blk_ext [iblk, idx t]
  rw [e, v59]
  exact means64_apply l j

theorem blk10 (l j : Fin 256) : iblk m c 10 t (ix2 l j) = if l.val / 32 = j.val / 32 then Ideal.ofBits .f32 0x3D000000#32 else ((0 : ℝ) : EReal) := by
  have e : iblk m c 10 t (ix2 l j) = V m c main_v69 (ix2 l j) := by blk_ext [iblk, idx t]
  rw [e, v69]
  exact means32_apply l j

theorem blk11 (r : Fin 1024) (l : Fin 128) : iblk m c 11 t (ix2 r l) = Ideal.cos (angle (tok t r) l) := by
  have e : iblk m c 11 t (ix2 r l) = V m c main_v43 (ix2 (tok t r) l) := by blk_ext [iblk, idx t]
  rw [e, v43]
  exact cosT_apply (tok t r) l

theorem blk12 (r : Fin 1024) (l : Fin 128) : iblk m c 12 t (ix2 r l) = if l.val % 16 < 8 then -Ideal.sin (angle (tok t r) l) else ((0 : ℝ) : EReal) := by
  have e : iblk m c 12 t (ix2 r l) = V m c main_v47 (ix2 (tok t r) l) := by blk_ext [iblk, idx t]
  rw [e, v47]
  exact nextT_apply (tok t r) l

theorem blk13 (r : Fin 1024) (l : Fin 128) : iblk m c 13 t (ix2 r l) = if l.val % 16 < 8 then ((0 : ℝ) : EReal) else Ideal.sin (angle (tok t r) l) := by
  have e : iblk m c 13 t (ix2 r l) = V m c main_v49 (ix2 (tok t r) l) := by blk_ext [iblk, idx t]
  rw [e, v49]
  exact prevT_apply (tok t r) l

/-- A tile's rows are the tokens, normed and modulated, and its weight is the argument's. -/
theorem rows_eq (r : Fin 1024) : bh (iblk m c 0 t) (iblk m c 1 t) (iblk m c 2 t) (iblk m c 3 t) r
    = rh (a0 m c) (a1 m c) (a2 m c) (a3 m c) (pb t) (tok t r) := by
  have e0 : (fun k => iblk m c 0 t (ix3 0 r k)) = fun k => a0 m c (ix3 (pb t) (tok t r) k) := funext fun k => blk0 m c t r k
  have e1 : (fun k => iblk m c 1 t (ix2 0 k)) = fun k => a3 m c (ix1 k) := funext fun k => blk1 m c t k
  have e2 : (fun k => iblk m c 2 t (ix3 0 0 k)) = fun k => a1 m c (ix3 (pb t) 0 k) := funext fun k => blk2 m c t k
  have e3 : (fun k => iblk m c 3 t (ix3 0 0 k)) = fun k => a2 m c (ix3 (pb t) 0 k) := funext fun k => blk3 m c t k
  rw [bh, e0, e1, e2, e3]

theorem weight_eq : bw (iblk m c 4 t) = rw' (a4 m c) := funext fun k => funext fun j => blk4 m c t k j

/-- Every argument that the projection takes, but for the tokens, holds real numbers. -/
structure Finite : Prop where
  h1 : ∀ i, ∃ r : ℝ, a1 m c i = r
  h2 : ∀ i, ∃ r : ℝ, a2 m c i = r
  h3 : ∀ i, ∃ r : ℝ, a3 m c i = r
  h4 : ∀ i, ∃ r : ℝ, a4 m c i = r

theorem cols_real (h : Finite m c) (b : Fin 2) (s : Fin 16384) (o : Nat) (ho : o + 256 ≤ 6144) (j : Fin 256) :
    ∃ r : ℝ, cols (rh (a0 m c) (a1 m c) (a2 m c) (a3 m c) b s) (rw' (a4 m c)) o ho j = r :=
  col_real _ _ (fun k => hid_real _ _ _ _ (fun _ => h.h3 _) (fun _ => h.h1 _) (fun _ => h.h2 _) k) (fun _ _ => h.h4 _) _

theorem block14 (h : Finite m c) (r : Fin 1024) (j : Fin 256) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)
    = Cert.Reference3Ideal.Read.val_main_v209 (F := Ideal) (a0 m c) (a1 m c) (a2 m c) (a3 m c) (a4 m c) (a5 m c) (ix3 (pb t) (tok t r) j) := by
  rw [out14_apply, rows_eq, weight_eq, gnorm64 _ (cols_real m c h _ _ _ _) _ (fun l j => blk9 m c t l j) _ (fun l => a5 m c (ix1 l)) (fun l => blk5 m c t l)]
  exact (v209_apply (a0 m c) (a1 m c) (a2 m c) (a3 m c) (a4 m c) (a5 m c) (pb t) (tok t r) j).symm

theorem array14 (h : Finite m c) : (dats m 0 c).arrAt 14 cfg0.N = Cert.Reference3Ideal.Read.val_main_v209 (F := Ideal) (a0 m c) (a1 m c) (a2 m c) (a3 m c) (a4 m c) (a5 m c) := by
  refine (dats m 0 c).arrAt_eq_of_covers 14 _ (by decide +kernel) fun t hf y => ?_
  obtain ⟨z, r, j, rfl⟩ : ∃ z r j, y = ix3 z r j := ⟨y 0, y 1, y 2, eq_ix3 y⟩
  obtain rfl : z = 0 := Subsingleton.elim _ _
  blk_simp
  rw [after0_14]
  have e : (win0_14.blk t).view.emb (ix3 0 r j) = (ix3 (pb t) (tok t r) j : S2x16384x256.Idx) := by
    blk_ext [idx t]
  rw [e]
  exact block14 m c t h r j

theorem block15 (h : Finite m c) (r : Fin 1024) (j : Fin 256) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 j r)
    = Cert.Reference3Ideal.Read.val_main_v212 (F := Ideal) (a0 m c) (a1 m c) (a2 m c) (a3 m c) (a4 m c) (a7 m c) (ix3 (pb t) j (tok t r)) := by
  rw [out15_apply, rows_eq, weight_eq, turn_rope _ (angle (tok t r)) _ _ _ (fun l => blk11 m c t r l) (fun l => blk12 m c t r l) (fun l => blk13 m c t r l),
    funext (gnorm32 _ (cols_real m c h _ _ _ _) _ (fun l j => blk10 m c t l j) _ (fun l => a7 m c (ix1 l)) (fun l => blk7 m c t l))]
  exact (v212_apply (a0 m c) (a1 m c) (a2 m c) (a3 m c) (a4 m c) (a7 m c) (pb t) (tok t r) j).symm

theorem array15 (h : Finite m c) : (dats m 0 c).arrAt 15 cfg0.N = Cert.Reference3Ideal.Read.val_main_v212 (F := Ideal) (a0 m c) (a1 m c) (a2 m c) (a3 m c) (a4 m c) (a7 m c) := by
  refine (dats m 0 c).arrAt_eq_of_covers 15 _ (by decide +kernel) fun t hf y => ?_
  obtain ⟨z, j, r, rfl⟩ : ∃ z j r, y = ix3 z j r := ⟨y 0, y 1, y 2, eq_ix3 y⟩
  obtain rfl : z = 0 := Subsingleton.elim _ _
  blk_simp
  rw [after0_15]
  have e : (win0_15.blk t).view.emb (ix3 0 j r) = (ix3 (pb t) j (tok t r) : S2x256x16384.Idx) := by
    blk_ext [idx t]
  rw [e]
  exact block15 m c t h r j

theorem block16 (r : Fin 1024) (j : Fin 256) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)
    = Cert.Reference3Ideal.Read.val_main_v81 (F := Ideal) (a0 m c) (a1 m c) (a2 m c) (a3 m c) (a4 m c) (ix3 (pb t) (tok t r) j) := by
  rw [out16_apply, rows_eq, weight_eq]
  exact (v81_apply (a0 m c) (a1 m c) (a2 m c) (a3 m c) (a4 m c) (pb t) (tok t r) j).symm

theorem array16 : (dats m 0 c).arrAt 16 cfg0.N = Cert.Reference3Ideal.Read.val_main_v81 (F := Ideal) (a0 m c) (a1 m c) (a2 m c) (a3 m c) (a4 m c) := by
  refine (dats m 0 c).arrAt_eq_of_covers 16 _ (by decide +kernel) fun t hf y => ?_
  obtain ⟨z, r, j, rfl⟩ : ∃ z r j, y = ix3 z r j := ⟨y 0, y 1, y 2, eq_ix3 y⟩
  obtain rfl : z = 0 := Subsingleton.elim _ _
  blk_simp
  rw [after0_16]
  have e : (win0_16.blk t).view.emb (ix3 0 r j) = (ix3 (pb t) (tok t r) j : S2x16384x256.Idx) := by
    blk_ext [idx t]
  rw [e]
  exact block16 m c t r j

theorem block17 (r : Fin 1024) (j : Fin 256) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)
    = Cert.Reference3Ideal.Read.val_main_v82 (F := Ideal) (a0 m c) (a1 m c) (a2 m c) (a3 m c) (a4 m c) (ix3 (pb t) (tok t r) j) := by
  rw [out17_apply, rows_eq, weight_eq]
  exact (v82_apply (a0 m c) (a1 m c) (a2 m c) (a3 m c) (a4 m c) (pb t) (tok t r) j).symm

theorem array17 : (dats m 0 c).arrAt 17 cfg0.N = Cert.Reference3Ideal.Read.val_main_v82 (F := Ideal) (a0 m c) (a1 m c) (a2 m c) (a3 m c) (a4 m c) := by
  refine (dats m 0 c).arrAt_eq_of_covers 17 _ (by decide +kernel) fun t hf y => ?_
  obtain ⟨z, r, j, rfl⟩ : ∃ z r j, y = ix3 z r j := ⟨y 0, y 1, y 2, eq_ix3 y⟩
  obtain rfl : z = 0 := Subsingleton.elim _ _
  blk_simp
  rw [after0_17]
  have e : (win0_17.blk t).view.emb (ix3 0 r j) = (ix3 (pb t) (tok t r) j : S2x16384x256.Idx) := by
    blk_ext [idx t]
  rw [e]
  exact block17 m c t r j

theorem block18 (r : Fin 1024) (j : Fin 4096) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)
    = Cert.Reference3Ideal.Read.val_main_v219 (F := Ideal) (a0 m c) (a1 m c) (a2 m c) (a3 m c) (a4 m c) (ix3 (pb t) (tok t r) j) := by
  rw [out18_apply, rows_eq, weight_eq]
  exact (v219_apply (a0 m c) (a1 m c) (a2 m c) (a3 m c) (a4 m c) (pb t) (tok t r) j).symm

theorem array18 : (dats m 0 c).arrAt 18 cfg0.N = Cert.Reference3Ideal.Read.val_main_v219 (F := Ideal) (a0 m c) (a1 m c) (a2 m c) (a3 m c) (a4 m c) := by
  refine (dats m 0 c).arrAt_eq_of_covers 18 _ (by decide +kernel) fun t hf y => ?_
  obtain ⟨z, r, j, rfl⟩ : ∃ z r j, y = ix3 z r j := ⟨y 0, y 1, y 2, eq_ix3 y⟩
  obtain rfl : z = 0 := Subsingleton.elim _ _
  blk_simp
  rw [after0_18]
  have e : (win0_18.blk t).view.emb (ix3 0 r j) = (ix3 (pb t) (tok t r) j : S2x16384x4096.Idx) := by
    blk_ext [idx t]
  rw [e]
  exact block18 m c t r j

theorem block19 (h : Finite m c) (r : Fin 1024) (j : Fin 512) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)
    = Cert.Reference3Ideal.Read.val_main_v223 (F := Ideal) (a0 m c) (a1 m c) (a2 m c) (a3 m c) (a4 m c) (a6 m c) (ix3 (pb t) (tok t r) j) := by
  rw [out19_apply, rows_eq, weight_eq, funext (gnorm64 _ (cols_real m c h _ _ _ _) _ (fun l j => blk9 m c t l j) _ (fun l => a6 m c (ix1 l)) (fun l => blk6 m c t l))]
  exact (v223_apply (a0 m c) (a1 m c) (a2 m c) (a3 m c) (a4 m c) (a6 m c) (pb t) (tok t r) j).symm

theorem array19 (h : Finite m c) : (dats m 0 c).arrAt 19 cfg0.N = Cert.Reference3Ideal.Read.val_main_v223 (F := Ideal) (a0 m c) (a1 m c) (a2 m c) (a3 m c) (a4 m c) (a6 m c) := by
  refine (dats m 0 c).arrAt_eq_of_covers 19 _ (by decide +kernel) fun t hf y => ?_
  obtain ⟨z, r, j, rfl⟩ : ∃ z r j, y = ix3 z r j := ⟨y 0, y 1, y 2, eq_ix3 y⟩
  obtain rfl : z = 0 := Subsingleton.elim _ _
  blk_simp
  rw [after0_19]
  have e : (win0_19.blk t).view.emb (ix3 0 r j) = (ix3 (pb t) (tok t r) j : S2x16384x512.Idx) := by
    blk_ext [idx t]
  rw [e]
  exact block19 m c t h r j

theorem block20 (h : Finite m c) (r : Fin 1024) (j : Fin 256) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)
    = Cert.Reference3Ideal.Read.val_main_v225 (F := Ideal) (a0 m c) (a1 m c) (a2 m c) (a3 m c) (a4 m c) (a8 m c) (ix3 (pb t) (tok t r) j) := by
  rw [out20_apply, rows_eq, weight_eq, turn_rope _ (angle (tok t r)) _ _ _ (fun l => blk11 m c t r l) (fun l => blk12 m c t r l) (fun l => blk13 m c t r l),
    funext (gnorm32 _ (cols_real m c h _ _ _ _) _ (fun l j => blk10 m c t l j) _ (fun l => a8 m c (ix1 l)) (fun l => blk8 m c t l))]
  exact (v225_apply (a0 m c) (a1 m c) (a2 m c) (a3 m c) (a4 m c) (a8 m c) (pb t) (tok t r) j).symm

theorem array20 (h : Finite m c) : (dats m 0 c).arrAt 20 cfg0.N = Cert.Reference3Ideal.Read.val_main_v225 (F := Ideal) (a0 m c) (a1 m c) (a2 m c) (a3 m c) (a4 m c) (a8 m c) := by
  refine (dats m 0 c).arrAt_eq_of_covers 20 _ (by decide +kernel) fun t hf y => ?_
  obtain ⟨z, r, j, rfl⟩ : ∃ z r j, y = ix3 z r j := ⟨y 0, y 1, y 2, eq_ix3 y⟩
  obtain rfl : z = 0 := Subsingleton.elim _ _
  blk_simp
  rw [after0_20]
  have e : (win0_20.blk t).view.emb (ix3 0 r j) = (ix3 (pb t) (tok t r) j : S2x16384x256.Idx) := by
    blk_ext [idx t]
  rw [e]
  exact block20 m c t h r j

theorem block21 (r : Fin 1024) (j : Fin 256) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 j r)
    = Cert.Reference3Ideal.Read.val_main_v228 (F := Ideal) (a0 m c) (a1 m c) (a2 m c) (a3 m c) (a4 m c) (ix3 (pb t) j (tok t r)) := by
  rw [out21_apply, rows_eq, weight_eq]
  exact (v228_apply (a0 m c) (a1 m c) (a2 m c) (a3 m c) (a4 m c) (pb t) (tok t r) j).symm

theorem array21 : (dats m 0 c).arrAt 21 cfg0.N = Cert.Reference3Ideal.Read.val_main_v228 (F := Ideal) (a0 m c) (a1 m c) (a2 m c) (a3 m c) (a4 m c) := by
  refine (dats m 0 c).arrAt_eq_of_covers 21 _ (by decide +kernel) fun t hf y => ?_
  obtain ⟨z, j, r, rfl⟩ : ∃ z j r, y = ix3 z j r := ⟨y 0, y 1, y 2, eq_ix3 y⟩
  obtain rfl : z = 0 := Subsingleton.elim _ _
  blk_simp
  rw [after0_21]
  have e : (win0_21.blk t).view.emb (ix3 0 j r) = (ix3 (pb t) j (tok t r) : S2x256x16384.Idx) := by
    blk_ext [idx t]
  rw [e]
  exact block21 m c t r j

end Cert.InProj

end
-- ==== Proof.InProj.Algebraic.lean ====
/-
  The five claims about the in-projection.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Pre_finite_projection
public import proofs.«01_k».proof.Proof.Equal
public import proofs.«01_k».proof.Proof.InProj.Array
public import Idealize.ShloMosaic.Lib.Quiescent

@[expose] public section

noncomputable section

namespace Cert.InProj

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ideal_finite : Cert.quiescent_Kernel3Ideal_pre_finite_projection := fun m ρ _ => Cert.Kernel3Ideal.Gen.frame m ρ

theorem frame_reference : Cert.quiescent_Reference3Ideal := fun m ρ _ =>
  (θ_run Cert.Reference3Ideal.defs _ _).mono
    (fun r h => ⟨fun c => (h c).2.2.2.2.2.2.2.2, Idealize.ShloMosaic.sem_eq_zero_of_no_sems (by decide) r.2⟩)
    (Cert.Reference3Ideal.Value.run (F := Ideal) m ρ)

theorem frame_reference_finite : Cert.quiescent_Reference3Ideal_pre_finite_projection := fun m ρ _ => frame_reference m ρ trivial

/-- The named scale is near the word that the kernel holds. -/
theorem preserved : Cert.preserves_Kernel3_Kernel3Ideal :=
  IdealRules.named_const.statement Cert.Kernel3Ideal.κ "log2e_scale" .f32 0x3E8293EE#32 _ rfl

section
open Cert.Pre_finite_projection
variable (x0 : FVec Ideal S2x16384x1024 .f32) (x1 x2 : FVec Ideal S2x1x1024 .f32) (x3 : FVec Ideal S1024 .f32)
  (x4 : FVec Ideal S1024x6144 .f32) (x5 x6 : FVec Ideal S64 .f32) (x7 x8 : FVec Ideal S32 .f32)

theorem finite1 (h : (fn (F := Ideal) x0 x1 x2 x3 x4 x5 x6 x7 x8).1 = fun _ => 1#1) (i) : ∃ r : ℝ, x1 i = r :=
  Cert.Equal.real_of_bits _ ((congrFun h i).symm.trans rfl).symm

theorem finite2 (h : (fn (F := Ideal) x0 x1 x2 x3 x4 x5 x6 x7 x8).2.1 = fun _ => 1#1) (i) : ∃ r : ℝ, x2 i = r :=
  Cert.Equal.real_of_bits _ ((congrFun h i).symm.trans rfl).symm

theorem finite3 (h : (fn (F := Ideal) x0 x1 x2 x3 x4 x5 x6 x7 x8).2.2.1 = fun _ => 1#1) (i) : ∃ r : ℝ, x3 i = r :=
  Cert.Equal.real_of_bits _ ((congrFun h i).symm.trans rfl).symm

theorem finite4 (h : (fn (F := Ideal) x0 x1 x2 x3 x4 x5 x6 x7 x8).2.2.2 = fun _ => 1#1) (i) : ∃ r : ℝ, x4 i = r :=
  Cert.Equal.real_of_bits _ ((congrFun h i).symm.trans rfl).symm

end

/-- For finite modulation and weights the kernel and the reference end at the same arrays. -/
theorem agree : Cert.algebraic_Kernel3Ideal_Reference3Ideal_pre_finite_projection := by
  intro m ρ m' ρ' hpre hag
  have hf : ∀ c, Finite m c := fun c =>
    ⟨finite1 _ _ _ _ _ _ _ _ _ (hpre c).1, finite2 _ _ _ _ _ _ _ _ _ (hpre c).2.1, finite3 _ _ _ _ _ _ _ _ _ (hpre c).2.2.1,
      finite4 _ _ _ _ _ _ _ _ _ (hpre c).2.2.2⟩
  refine ⟨fun c => Cert.Reference3Ideal.Read.val_main_v209 (F := Ideal) (a0 m c) (a1 m c) (a2 m c) (a3 m c) (a4 m c) (a5 m c),
    fun c => Cert.Reference3Ideal.Read.val_main_v212 (F := Ideal) (a0 m c) (a1 m c) (a2 m c) (a3 m c) (a4 m c) (a7 m c),
    fun c => Cert.Reference3Ideal.Read.val_main_v81 (F := Ideal) (a0 m c) (a1 m c) (a2 m c) (a3 m c) (a4 m c),
    fun c => Cert.Reference3Ideal.Read.val_main_v82 (F := Ideal) (a0 m c) (a1 m c) (a2 m c) (a3 m c) (a4 m c),
    fun c => Cert.Reference3Ideal.Read.val_main_v219 (F := Ideal) (a0 m c) (a1 m c) (a2 m c) (a3 m c) (a4 m c),
    fun c => Cert.Reference3Ideal.Read.val_main_v223 (F := Ideal) (a0 m c) (a1 m c) (a2 m c) (a3 m c) (a4 m c) (a6 m c),
    fun c => Cert.Reference3Ideal.Read.val_main_v225 (F := Ideal) (a0 m c) (a1 m c) (a2 m c) (a3 m c) (a4 m c) (a8 m c),
    fun c => Cert.Reference3Ideal.Read.val_main_v228 (F := Ideal) (a0 m c) (a1 m c) (a2 m c) (a3 m c) (a4 m c),
    (θ_run _ _ _).mono (fun r h c => ?_) (Cert.Kernel3Ideal.Value.run_blocks m ρ),
    (θ_run _ _ _).mono (fun r h c => ?_) (Cert.Reference3Ideal.Value.run (F := Ideal) m' ρ')⟩
  · obtain ⟨h0, h1, h2, h3, h4, h5, h6, h7, hr⟩ := h c
    exact ⟨h0.trans (array14 m c (hf c)), h1.trans (array15 m c (hf c)), h2.trans (array16 m c), h3.trans (array17 m c), h4.trans (array18 m c), h5.trans (array19 m c (hf c)), h6.trans (array20 m c (hf c)), h7.trans (array21 m c), hr⟩
  · obtain ⟨h0, h1, h2, h3, h4, h5, h6, h7, hr⟩ := h c
    obtain ⟨e0, e1, e2, e3, e4, e5, e6, e7, e8⟩ := hag c
    refine ⟨h0.trans ?_, h1.trans ?_, h2.trans ?_, h3.trans ?_, h4.trans ?_, h5.trans ?_, h6.trans ?_, h7.trans ?_, hr⟩
    · refine (Cert.Reference3Ideal.Read.val_main_v209_eq _).trans ?_
      show Cert.Reference3Ideal.Read.val_main_v209 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) = Cert.Reference3Ideal.Read.val_main_v209 (F := Ideal) (a0 m c) (a1 m c) (a2 m c) (a3 m c) (a4 m c) (a5 m c)
      rw [e0, e1, e2, e3, e4, e5]
    · refine (Cert.Reference3Ideal.Read.val_main_v212_eq _).trans ?_
      show Cert.Reference3Ideal.Read.val_main_v212 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg7)) = Cert.Reference3Ideal.Read.val_main_v212 (F := Ideal) (a0 m c) (a1 m c) (a2 m c) (a3 m c) (a4 m c) (a7 m c)
      rw [e0, e1, e2, e3, e4, e7]
    · refine (Cert.Reference3Ideal.Read.val_main_v81_eq _).trans ?_
      show Cert.Reference3Ideal.Read.val_main_v81 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Reference3Ideal.Read.val_main_v81 (F := Ideal) (a0 m c) (a1 m c) (a2 m c) (a3 m c) (a4 m c)
      rw [e0, e1, e2, e3, e4]
    · refine (Cert.Reference3Ideal.Read.val_main_v82_eq _).trans ?_
      show Cert.Reference3Ideal.Read.val_main_v82 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Reference3Ideal.Read.val_main_v82 (F := Ideal) (a0 m c) (a1 m c) (a2 m c) (a3 m c) (a4 m c)
      rw [e0, e1, e2, e3, e4]
    · refine (Cert.Reference3Ideal.Read.val_main_v219_eq _).trans ?_
      show Cert.Reference3Ideal.Read.val_main_v219 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Reference3Ideal.Read.val_main_v219 (F := Ideal) (a0 m c) (a1 m c) (a2 m c) (a3 m c) (a4 m c)
      rw [e0, e1, e2, e3, e4]
    · refine (Cert.Reference3Ideal.Read.val_main_v223_eq _).trans ?_
      show Cert.Reference3Ideal.Read.val_main_v223 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) = Cert.Reference3Ideal.Read.val_main_v223 (F := Ideal) (a0 m c) (a1 m c) (a2 m c) (a3 m c) (a4 m c) (a6 m c)
      rw [e0, e1, e2, e3, e4, e6]
    · refine (Cert.Reference3Ideal.Read.val_main_v225_eq _).trans ?_
      show Cert.Reference3Ideal.Read.val_main_v225 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg8)) = Cert.Reference3Ideal.Read.val_main_v225 (F := Ideal) (a0 m c) (a1 m c) (a2 m c) (a3 m c) (a4 m c) (a8 m c)
      rw [e0, e1, e2, e3, e4, e8]
    · refine (Cert.Reference3Ideal.Read.val_main_v228_eq _).trans ?_
      show Cert.Reference3Ideal.Read.val_main_v228 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Reference3Ideal.Read.val_main_v228 (F := Ideal) (a0 m c) (a1 m c) (a2 m c) (a3 m c) (a4 m c)
      rw [e0, e1, e2, e3, e4]

end Cert.InProj

end
-- ==== Proof.Merge.Spec.lean ====
/-
  The merge of the branches, over the extended reals: the mathematics the call and the reference compute.
-/
module

public import Idealize.ShloMosaic.Lib.Pointwise

@[expose] public section

noncomputable section

namespace Cert.Merge

open Idealize.ShloMosaic

/-- The sum over a window of a channel, its values given from eight tokens before the token to seven after. -/
def win : Fin 4 → (Nat → EReal) → EReal
  | 0, f => f 8 + f 7
  | 1, f => f 8 + f 7 + (f 9 + f 6)
  | 2, f => f 8 + f 7 + (f 9 + f 6) + (f 10 + f 5) + (f 11 + f 4)
  | 3, f => f 8 + f 7 + (f 9 + f 6) + (f 10 + f 5) + (f 11 + f 4) + (f 12 + f 3) + (f 13 + f 2) + (f 14 + f 1) + (f 15 + f 0)

/-- Half the width of a group's window. -/
def half : Fin 4 → Nat
  | 0 => 1
  | 1 => 2
  | 2 => 4
  | 3 => 8

/-- The window's ends inside the sequence. -/
def hi (h t : Nat) : Nat := min (t + h) 16384
def lo (h t : Nat) : Nat := t - h

/-- How many tokens of the window lie inside the sequence. -/
def cnt (h t : Nat) : EReal :=
  FloatOps.sitofp (F := Ideal) .f32 (IntOp.subi (BitVec.ofNat 32 (hi h t)) (BitVec.ofNat 32 (lo h t)))

def mean (g : Fin 4) (t : Nat) (f : Nat → EReal) : EReal := Ideal.div (win g f) (cnt (half g) t)

/-- The group of a channel. -/
def grp (j : Fin 256) : Fin 4 := ⟨j.val / 64, by omega⟩

/-- The channel of a group. -/
def chan (g : Fin 4) (q : Fin 64) : Fin 256 := ⟨g.val * 64 + q.val, by omega⟩

/-- A pooled channel: its group's product, scaled. -/
def pooled (z : Fin 256 → EReal) (w : Fin 4 → Fin 64 → Fin 64 → EReal) (s : Fin 256 → EReal) (j : Fin 256) : EReal :=
  (∑ q : Fin 64, z (chan (grp j) q) * w (grp j) q ⟨j.val % 64, by omega⟩) * s j

/-- The gate of a branch's channel. -/
def gateAt (b : Fin 4) (k : Fin 1024) : Fin 4096 := ⟨b.val * 1024 + k.val, by omega⟩

/-- The branches, each times its gate, through the last product. -/
def merged (x g : EReal) (n d p f : Fin 256 → EReal) (w : Fin 4 → Fin 256 → Fin 1024 → EReal) (a : Fin 4096 → EReal)
    (o : Fin 1024 → EReal) : EReal :=
  x + g * ∑ k : Fin 1024, (a (gateAt 0 k) * ∑ l : Fin 256, n l * w 0 l k + a (gateAt 1 k) * ∑ l : Fin 256, d l * w 1 l k
    + a (gateAt 2 k) * ∑ l : Fin 256, p l * w 2 l k + a (gateAt 3 k) * ∑ l : Fin 256, f l * w 3 l k) * o k

/-- A channel's value at a token of the sequence, and zero outside. -/
def outside (u : Fin 16384 → EReal) (z : Int) : EReal :=
  if h : 0 ≤ z ∧ z < 16384 then u ⟨z.toNat, by omega⟩ else 0

/-- A channel around a token. -/
def around (u : Fin 16384 → EReal) (t : Nat) (o : Nat) : EReal := outside u ((t : Int) + o - 8)

theorem ofNat_toInt {a : Nat} (h : a < 2147483648) : (BitVec.ofNat 32 a).toInt = a := by
  rw [BitVec.toInt_eq_toNat_of_lt] <;> rw [BitVec.toNat_ofNat] <;> omega

/-- The end after the token, in words. -/
theorem hi_word {h t : Nat} (hh : h ≤ 8) (ht : t < 16384) :
    IntOp.minsi (IntOp.addi (BitVec.ofNat 32 t) (BitVec.ofNat 32 h)) 16384#32 = BitVec.ofNat 32 (hi h t) := by
  have e : IntOp.addi (BitVec.ofNat 32 t) (BitVec.ofNat 32 h) = BitVec.ofNat 32 (t + h) := (BitVec.ofNat_add t h).symm
  rw [e]
  unfold IntOp.minsi BitVec.slt hi
  rw [ofNat_toInt (by omega), show (16384#32).toInt = 16384 from rfl]
  by_cases c : t + h < 16384
  · rw [if_pos (decide_eq_true (by exact_mod_cast c)), Nat.min_eq_left (by omega)]
  · rw [if_neg (by rw [decide_eq_true_eq]; exact_mod_cast c), Nat.min_eq_right (by omega)]

/-- The end before the token, in words. -/
theorem lo_word {h t : Nat} (hh : h ≤ 8) (ht : t < 16384) :
    IntOp.maxsi (IntOp.subi (BitVec.ofNat 32 t) (BitVec.ofNat 32 h)) 0#32 = BitVec.ofNat 32 (lo h t) := by
  by_cases c : h ≤ t
  · have e : IntOp.subi (BitVec.ofNat 32 t) (BitVec.ofNat 32 h) = BitVec.ofNat 32 (t - h) := by
      unfold IntOp.subi
      apply BitVec.eq_of_toNat_eq
      rw [BitVec.toNat_sub, BitVec.toNat_ofNat, BitVec.toNat_ofNat, BitVec.toNat_ofNat]
      omega
    rw [e]
    unfold IntOp.maxsi BitVec.slt lo
    rw [ofNat_toInt (a := t - h) (by omega), show (0#32).toInt = 0 from rfl]
    by_cases d : 0 < t - h
    · rw [if_pos (decide_eq_true (by exact_mod_cast d))]
    · rw [if_neg (by rw [decide_eq_true_eq]; exact_mod_cast d), show t - h = 0 by omega]
  · have all : ∀ h t : Fin 9, t.val < h.val → IntOp.maxsi (IntOp.subi (BitVec.ofNat 32 t.val) (BitVec.ofNat 32 h.val)) 0#32 = BitVec.ofNat 32 (lo h.val t.val) := by
      decide +kernel
    exact all ⟨h, by omega⟩ ⟨t, by omega⟩ (by show t < h; omega)

/-- A word inside the sequence's length is its own clip. -/
theorem clip_word {a : Nat} (h : a < 2147483648) :
    IntOp.minsi 16384#32 (IntOp.maxsi 0#32 (BitVec.ofNat 32 a)) = BitVec.ofNat 32 (min a 16384) := by
  have e : IntOp.maxsi 0#32 (BitVec.ofNat 32 a) = BitVec.ofNat 32 a := by
    unfold IntOp.maxsi BitVec.slt
    rw [ofNat_toInt (a := a) h, show (0#32).toInt = 0 from rfl, if_neg (by rw [decide_eq_true_eq]; omega)]
  rw [e]
  unfold IntOp.minsi BitVec.slt
  rw [ofNat_toInt (a := a) h, show (16384#32).toInt = 16384 from rfl]
  by_cases c : 16384 < a
  · rw [if_pos (decide_eq_true (by exact_mod_cast c)), Nat.min_eq_right (by omega)]
  · rw [if_neg (by rw [decide_eq_true_eq]; omega), Nat.min_eq_left (by omega)]

theorem hi_clip {h t : Nat} (hh : h ≤ 8) (ht : t < 16384) :
    IntOp.minsi 16384#32 (IntOp.maxsi 0#32 (IntOp.addi (BitVec.ofNat 32 t) (BitVec.ofNat 32 h))) = BitVec.ofNat 32 (hi h t) := by
  have e : IntOp.addi (BitVec.ofNat 32 t) (BitVec.ofNat 32 h) = BitVec.ofNat 32 (t + h) := (BitVec.ofNat_add t h).symm
  rw [e, clip_word (by omega)]
  rfl

theorem lo_clip {h t : Nat} (hh : h ≤ 8) (ht : t < 16384) :
    IntOp.minsi 16384#32 (IntOp.maxsi 0#32 (IntOp.subi (BitVec.ofNat 32 t) (BitVec.ofNat 32 h))) = BitVec.ofNat 32 (lo h t) := by
  by_cases c : h ≤ t
  · have e : IntOp.subi (BitVec.ofNat 32 t) (BitVec.ofNat 32 h) = BitVec.ofNat 32 (t - h) := by
      unfold IntOp.subi
      apply BitVec.eq_of_toNat_eq
      rw [BitVec.toNat_sub, BitVec.toNat_ofNat, BitVec.toNat_ofNat, BitVec.toNat_ofNat]
      omega
    rw [e, clip_word (by omega), Nat.min_eq_left (by omega)]
    rfl
  · have all : ∀ h t : Fin 9, t.val < h.val → IntOp.minsi 16384#32 (IntOp.maxsi 0#32 (IntOp.subi (BitVec.ofNat 32 t.val) (BitVec.ofNat 32 h.val))) = BitVec.ofNat 32 (lo h.val t.val) := by
      decide +kernel
    exact all ⟨h, by omega⟩ ⟨t, by omega⟩ (by show t < h; omega)

theorem half_le (g : Fin 4) : half g ≤ 8 := by
  revert g
  decide

end Cert.Merge
-- ==== Proof.Merge.Block.lean ====
/-
  One grid point of the merge's call, over the extended reals: an entry of the block it writes, from its blocks.
-/
module

public import proofs.«01_k».proof.Proof.Gen.Kernel4Ideal.Value
public import proofs.«01_k».proof.Proof.Merge.Spec
public import Idealize.ShloMosaic.Lib.Pointwise
public import Idealize.ShloMosaic.Lib.Pipeline.ValueKit

@[expose] public section

set_option maxRecDepth 16384

noncomputable section

namespace Cert.Merge

open Cert.Kernel4Ideal Cert.Kernel4Ideal.Gen Idealize.ShloMosaic Idealize.ShloMosaic.TcCoe

/-- A row of the tile with its halo. -/
def rows (i : Nat) (x : Vec Ideal S1x1024x256 .f32) (p n : Vec Ideal S1x8x256 .f32) (c : Fin 256) (r : Nat) : EReal :=
  if h : r < 8 then (if 0 < i then p (ix3 0 ⟨r, h⟩ c) else 0)
  else if h : r - 8 < 1024 then x (ix3 0 ⟨r - 8, h⟩ c)
  else if h : r - 8 - 1024 < 8 then (if i < 15 then n (ix3 0 ⟨r - 8 - 1024, h⟩ c) else 0) else 0

theorem first_word (k : Fin 16) : Scalar.cmpi .sgt (BitVec.ofNat 32 k.val) 0#32 = BitVec.ofBool (decide (0 < k.val)) := by
  revert k
  decide +kernel

theorem last_word (k : Fin 16) : Scalar.cmpi .slt (BitVec.ofNat 32 k.val) 15#32 = BitVec.ofBool (decide (k.val < 15)) := by
  revert k
  decide +kernel

theorem select_bool {P : Prop} [Decidable P] (a b : EReal) : Scalar.select (BitVec.ofBool (decide P)) a b = if P then a else b := by
  by_cases h : P
  · rw [decide_eq_true h, if_pos h]
    rfl
  · rw [decide_eq_false h, if_neg h]
    rfl

theorem pay5_apply (i : grid0.Coords) (x : Vec Ideal S1x1024x256 .f32) (p n : Vec Ideal S1x8x256 .f32) (r : Fin 1040) (c : Fin 256) :
    k0_pay5 i x p n (ix2 r c) = rows (i 1).val x p n c r.val := by
  have hr := r.isLt
  unfold k0_pay5 k0_pay3 rows
  pointwise
  by_cases h1 : r.val < 8
  · rw [dif_pos h1, dif_pos h1]
    exact (congrArg (fun b => Scalar.select b _ _) (first_word (i 1))).trans (select_bool _ _)
  · rw [dif_neg h1, dif_neg h1]
    by_cases h2 : r.val - 8 < 1024
    · rw [dif_pos h2, dif_pos h2]
    · rw [dif_neg h2, dif_neg h2, dif_pos (by omega)]
      exact (congrArg (fun b => Scalar.select b _ _) (last_word (i 1))).trans (select_bool _ _)

theorem pay10_apply (j : Fin 256) :
    k0_pay10 (iota .tc S1x256 32 [1] iota_S1x256_d1_w32) 64#32 k0_pay7 k0_pay8 k0_pay9 (ix2 0 j) = BitVec.ofNat 32 (grp j).val := by
  unfold k0_pay10 k0_pay7 k0_pay8 k0_pay9 grp
  pointwise
  revert j
  decide +kernel

theorem pay6_apply (i : grid0.Coords) (r : Fin 1024) : k0_pay6 i (ix2 r 0) = BitVec.ofNat 32 ((i 1).val * 1024 + r.val) := by
  unfold k0_pay6
  pointwise
  show BitVec.ofNat 32 (i 1).val * BitVec.ofNat 32 1024 + BitVec.ofNat 32 r.val = _
  rw [← BitVec.ofNat_mul, ← BitVec.ofNat_add]

theorem pay12_apply (e : FVec Ideal S1040x256 .f32) (w : IVec S1024x1 32) (f : Nat → EReal) (t : Nat) (ht : t < 16384) (r : Fin 1024) (j : Fin 256)
    (hf : ∀ r' : Fin 1040, e (ix2 r' j) = f r'.val) (hw : w (ix2 r 0) = BitVec.ofNat 32 t) :
    k0_pay12 e w (ix2 r j) = mean 0 t (fun o => f (o + r.val)) := by
  unfold k0_pay12 k0_pay11 mean cnt
  pointwise
  rw [hf, hf, hw, ← hi_word (half_le 0) ht, ← lo_word (half_le 0) ht]
  rfl

theorem pay14_apply (e : FVec Ideal S1040x256 .f32) (w : IVec S1024x1 32) (f : Nat → EReal) (t : Nat) (ht : t < 16384) (r : Fin 1024) (j : Fin 256)
    (hf : ∀ r' : Fin 1040, e (ix2 r' j) = f r'.val) (hw : w (ix2 r 0) = BitVec.ofNat 32 t) :
    k0_pay14 e w (ix2 r j) = mean 1 t (fun o => f (o + r.val)) := by
  unfold k0_pay14 k0_pay13 k0_pay11 mean cnt
  pointwise
  rw [hf, hf, hf, hf, hw, ← hi_word (half_le 1) ht, ← lo_word (half_le 1) ht]
  rfl

theorem pay16_apply (e : FVec Ideal S1040x256 .f32) (w : IVec S1024x1 32) (g : IVec S1x256 32) (f : Nat → EReal) (t : Nat) (ht : t < 16384) (r : Fin 1024) (j : Fin 256)
    (hf : ∀ r' : Fin 1040, e (ix2 r' j) = f r'.val) (hw : w (ix2 r 0) = BitVec.ofNat 32 t) (a b : FVec Ideal S1024x256 .f32) :
    k0_pay16 e w g a (k0_pay13 e) b (ix2 r j)
      = Scalar.select (IntOp.cmpi .sge (g (ix2 0 j)) 2#32) (mean 2 t (fun o => f (o + r.val)))
          (Scalar.select (IntOp.cmpi .sge (g (ix2 0 j)) 1#32) (b (ix2 r j)) (a (ix2 r j))) := by
  unfold k0_pay16 k0_pay15 k0_pay13 k0_pay11 mean cnt
  pointwise
  rw [hf, hf, hf, hf, hf, hf, hf, hf, hw, ← hi_word (half_le 2) ht, ← lo_word (half_le 2) ht]
  rfl

theorem pay17_apply (e : FVec Ideal S1040x256 .f32) (f : Nat → EReal) (r : Fin 1024) (j : Fin 256)
    (hf : ∀ r' : Fin 1040, e (ix2 r' j) = f r'.val) :
    k0_pay17 e (k0_pay13 e) (ix2 r j) = win 3 (fun o => f (o + r.val)) := by
  unfold k0_pay17 k0_pay15 k0_pay13 k0_pay11
  pointwise
  simp only [hf, win, Nat.zero_add]

/-- The channels before the grouped product. -/
theorem mid_apply (u : FVec Ideal S1024x256 .f32) (m : FVec Ideal S1024x256 .f32) (q : FVec Ideal S1024x256 .f32) (w n h : IVec S1024x1 32) (g : IVec S1x256 32) (s : FVec Ideal S1x256 .f32)
    (b : Vec Ideal S256x256 .bf16) (r : Fin 1024) (j : Fin 256) :
    k0_pay20 u s w g m q n h b (ix2 r j)
      = (∑ k : Fin 256, (Scalar.select (IntOp.cmpi .sge (g (ix2 0 k)) 3#32)
          (Ideal.div (q (ix2 r k)) (FloatOps.sitofp (F := Ideal) .f32 (IntOp.subi (n (ix2 r 0)) (IntOp.maxsi (IntOp.subi (w (ix2 r 0)) (h (ix2 r 0))) 0#32))))
          (m (ix2 r k)) - u (ix2 r k)) * b (ix2 k j)) * s (ix2 0 j) := by
  unfold k0_pay20
  pointwise

theorem pick_group (g : Fin 4) (a b c d : EReal) :
    Scalar.select (IntOp.cmpi .sge (BitVec.ofNat 32 g.val) 3#32) d
      (Scalar.select (IntOp.cmpi .sge (BitVec.ofNat 32 g.val) 2#32) c
        (Scalar.select (IntOp.cmpi .sge (BitVec.ofNat 32 g.val) 1#32) b a)) = ![a, b, c, d] g := by
  fin_cases g <;> rfl

/-- The pooled channels of a tile. -/
theorem pool_apply (i : grid0.Coords) (x : Vec Ideal S1x1024x256 .f32) (p n : Vec Ideal S1x8x256 .f32) (s : Vec Ideal S1x256 .f32)
    (b : Vec Ideal S256x256 .bf16) (r : Fin 1024) (j : Fin 256) :
    k0_pay20 (k0_pay3 x) (k0_pay4 s) (k0_pay6 i) (k0_pay10 (iota .tc S1x256 32 [1] iota_S1x256_d1_w32) 64#32 k0_pay7 k0_pay8 k0_pay9)
        (k0_pay16 (k0_pay5 i x p n) (k0_pay6 i) (k0_pay10 (iota .tc S1x256 32 [1] iota_S1x256_d1_w32) 64#32 k0_pay7 k0_pay8 k0_pay9)
          (k0_pay12 (k0_pay5 i x p n) (k0_pay6 i)) (k0_pay13 (k0_pay5 i x p n)) (k0_pay14 (k0_pay5 i x p n) (k0_pay6 i)))
        (k0_pay17 (k0_pay5 i x p n) (k0_pay13 (k0_pay5 i x p n))) (k0_pay18 (k0_pay6 i)) k0_pay19 b (ix2 r j)
      = (∑ k : Fin 256, (mean (grp k) ((i 1).val * 1024 + r.val) (fun o => rows (i 1).val x p n k (o + r.val)) - x (ix3 0 r k)) * b (ix2 k j))
        * s (ix2 0 j) := by
  have hi1 : (i 1).val < 16 := (i 1).isLt
  have ht : (i 1).val * 1024 + r.val < 16384 := by omega
  have e3 (k : Fin 256) : k0_pay3 x (ix2 r k) = x (ix3 0 r k) := by
    unfold k0_pay3
    pointwise
  have e4 : k0_pay4 s (ix2 0 j) = s (ix2 0 j) := by
    unfold k0_pay4
    pointwise
  have e18 : k0_pay18 (k0_pay6 i) (ix2 r 0) = BitVec.ofNat 32 (hi (half 3) ((i 1).val * 1024 + r.val)) := by
    rw [← hi_word (half_le 3) ht, ← pay6_apply]
    unfold k0_pay18
    pointwise
    rfl
  have e19 : k0_pay19 (ix2 r 0) = BitVec.ofNat 32 (half 3) := by
    unfold k0_pay19
    pointwise
    rfl
  rw [mid_apply, e4]
  refine congrArg (· * s (ix2 0 j)) (Finset.sum_congr rfl fun k _ => congrArg (· * b (ix2 k j)) ?_)
  have hf (r' : Fin 1040) : k0_pay5 i x p n (ix2 r' k) = rows (i 1).val x p n k r'.val := pay5_apply i x p n r' k
  rw [e3, e18, e19, pay10_apply, pay6_apply, lo_word (half_le 3) ht,
    pay16_apply _ _ _ _ _ ht r k hf (pay6_apply i r), pay12_apply _ _ _ _ ht r k hf (pay6_apply i r),
    pay14_apply _ _ _ _ ht r k hf (pay6_apply i r), pay17_apply _ _ r k hf, pay10_apply, pick_group]
  refine congrArg (· - x (ix3 0 r k)) ?_
  generalize grp k = g
  fin_cases g <;> rfl

theorem pay2_apply (f : Vec Ideal S1x1024x256 .f32) (w : Vec Ideal S256x256 .bf16) (r : Fin 1024) (j : Fin 256) :
    k0_pay2 f w (ix2 r j) = ∑ l : Fin 256, f (ix3 0 r l) * w (ix2 l j) := by
  unfold k0_pay2
  pointwise

theorem last_apply (fn q : FVec Ideal S1024x256 .f32) (y : Vec Ideal S1x1024x256 .f32) (d : Vec Ideal S1x256x1024 .f32)
    (a0 a1 a2 a3 : Vec Ideal S1x1024x1024 .bf16) (w0 w1 w2 w3 : Vec Ideal S1x256x1024 .bf16)
    (x : Vec Ideal S1x1024x1024 .f32) (g : Vec Ideal S1x1x1024 .f32) (o : Vec Ideal S1024x1024 .bf16) (r c : Fin 1024) :
    k0_pay1 (k0_pay24 fn q (k0_pay21 y a0 w0) (k0_pay22 a1) (k0_pay23 d) w1 a2 w2 a3 w3 x g o) (ix3 0 r c)
      = x (ix3 0 r c) + g (ix3 0 0 c) * ∑ k : Fin 1024, (a0 (ix3 0 r k) * ∑ l : Fin 256, y (ix3 0 r l) * w0 (ix3 0 l k)
          + a1 (ix3 0 r k) * ∑ l : Fin 256, d (ix3 0 l r) * w1 (ix3 0 l k)
          + a2 (ix3 0 r k) * ∑ l : Fin 256, q (ix2 r l) * w2 (ix3 0 l k)
          + a3 (ix3 0 r k) * ∑ l : Fin 256, fn (ix2 r l) * w3 (ix3 0 l k)) * o (ix2 k c) := by
  unfold k0_pay1 k0_pay24 k0_pay21 k0_pay22 k0_pay23
  pointwise

theorem ld_gate (a : Vec Ideal S1x1024x4096 .bf16) (r k : Fin 1024) :
    View.ld a r0_5 (ix3 0 r k) = a (ix3 0 r (gateAt 0 k)) ∧ View.ld a r0_7 (ix3 0 r k) = a (ix3 0 r (gateAt 1 k))
      ∧ View.ld a r0_9 (ix3 0 r k) = a (ix3 0 r (gateAt 2 k)) ∧ View.ld a r0_11 (ix3 0 r k) = a (ix3 0 r (gateAt 3 k)) :=
  ⟨congrArg a (funext fun c => Fin.ext (by fin_cases c <;> simp [gateAt])), congrArg a (funext fun c => Fin.ext (by fin_cases c <;> simp [gateAt])),
    congrArg a (funext fun c => Fin.ext (by fin_cases c <;> simp [gateAt])), congrArg a (funext fun c => Fin.ext (by fin_cases c <;> simp [gateAt]))⟩

theorem ld_branch (w : Vec Ideal S4x256x1024 .bf16) (l : Fin 256) (k : Fin 1024) :
    View.ld w r0_6 (ix3 0 l k) = w (ix3 0 l k) ∧ View.ld w r0_8 (ix3 0 l k) = w (ix3 1 l k)
      ∧ View.ld w r0_10 (ix3 0 l k) = w (ix3 2 l k) ∧ View.ld w r0_12 (ix3 0 l k) = w (ix3 3 l k) :=
  ⟨congrArg w (funext fun c => Fin.ext (by fin_cases c <;> simp)), congrArg w (funext fun c => Fin.ext (by fin_cases c <;> simp)),
    congrArg w (funext fun c => Fin.ext (by fin_cases c <;> simp)), congrArg w (funext fun c => Fin.ext (by fin_cases c <;> simp))⟩

/-- The block the call writes. -/
theorem out14_apply (i : grid0.Coords) (x0 : Vec Ideal S1x1024x1024 .f32) (x1 : Vec Ideal S1x1x1024 .f32) (x2 : Vec Ideal S1x1024x256 .f32)
    (x3 : Vec Ideal S1x256x1024 .f32) (x4 : Vec Ideal S1x1024x256 .f32) (x5 x6 : Vec Ideal S1x8x256 .f32) (x7 : Vec Ideal S1x1024x256 .f32)
    (x8 : Vec Ideal S1x1024x4096 .bf16) (x9 : Vec Ideal S4x256x1024 .bf16) (x10 : Vec Ideal S256x256 .bf16) (x11 : Vec Ideal S1x256 .f32)
    (x12 : Vec Ideal S256x256 .bf16) (x13 : Vec Ideal S1024x1024 .bf16) (r c : Fin 1024) :
    out0_14 i x0 x1 x2 x3 x4 x5 x6 x7 x8 x9 x10 x11 x12 x13 (ix3 0 r c)
      = merged (x0 (ix3 0 r c)) (x1 (ix3 0 0 c)) (fun l => x2 (ix3 0 r l)) (fun l => x3 (ix3 0 l r))
          (fun l => (∑ k : Fin 256, (mean (grp k) ((i 1).val * 1024 + r.val) (fun o => rows (i 1).val x4 x5 x6 k (o + r.val)) - x4 (ix3 0 r k))
            * x10 (ix2 k l)) * x11 (ix2 0 l))
          (fun l => ∑ k : Fin 256, x7 (ix3 0 r k) * x12 (ix2 k l)) (fun b l k => x9 (ix3 b l k)) (fun k => x8 (ix3 0 r k)) (fun k => x13 (ix2 k c)) := by
  unfold out0_14 k0_pay28
  unfold k0_pay25 k0_pay26 k0_pay27
  have l0 (y : Vec Ideal S1x1024x256 .f32) : View.ld y r0_0 = y := View.ld_unit_zero (by funext a; fin_cases a <;> rfl) _ _
  have l1 (y : Vec Ideal S256x256 .bf16) : View.ld y r0_1 = y := View.ld_unit_zero (by funext a; fin_cases a <;> rfl) _ _
  have l2 (y : Vec Ideal S1x8x256 .f32) : View.ld y r0_2 = y := View.ld_unit_zero (by funext a; fin_cases a <;> rfl) _ _
  have l3 : View.ld x11 r0_3 = x11 := View.ld_unit_zero (by funext a; fin_cases a <;> rfl) _ _
  have l4 : View.ld x3 r0_4 = x3 := View.ld_unit_zero (by funext a; fin_cases a <;> rfl) _ _
  have l13 : View.ld x0 r0_13 = x0 := View.ld_unit_zero (by funext a; fin_cases a <;> rfl) _ _
  have l14 : View.ld x1 r0_14 = x1 := View.ld_unit_zero (by funext a; fin_cases a <;> rfl) _ _
  have l15 : View.ld x13 r0_15 = x13 := View.ld_unit_zero (by funext a; fin_cases a <;> rfl) _ _
  rw [View.canon_unit_zero (by funext a; fin_cases a <;> rfl)]
  rw [l0, l0, l0, l1, l1, l2, l2, l3, l4, l13, l14, l15, last_apply]
  simp only [(ld_gate x8 r _).1, (ld_gate x8 r _).2.1, (ld_gate x8 r _).2.2.1, (ld_gate x8 r _).2.2.2,
    (ld_branch x9 _ _).1, (ld_branch x9 _ _).2.1, (ld_branch x9 _ _).2.2.1, (ld_branch x9 _ _).2.2.2, pay2_apply]
  exact congrArg (fun p => merged (x0 (ix3 0 r c)) (x1 (ix3 0 0 c)) (fun l => x2 (ix3 0 r l)) (fun l => x3 (ix3 0 l r)) p
    (fun l => ∑ k : Fin 256, x7 (ix3 0 r k) * x12 (ix2 k l)) (fun b l k => x9 (ix3 b l k)) (fun k => x8 (ix3 0 r k)) (fun k => x13 (ix2 k c)))
    (funext fun l => pool_apply i x4 x5 x6 x11 x10 r l)

end Cert.Merge
-- ==== Proof.Merge.Host.lean ====
/-
  The operands that the host prepares for the merge: the block diagonal matrix of the pooled groups' weights, and the
  weights and gates as they are.
-/
module

public import proofs.«01_k».proof.Proof.Gen.Kernel4Ideal.Value
public import proofs.«01_k».proof.Proof.Merge.Spec
public import Idealize.ShloMosaic.Lib.Claim
public import Idealize.ShloMosaic.Lib.Pointwise

@[expose] public section

set_option maxRecDepth 16384

noncomputable section

namespace Cert.Merge

open Cert.Kernel4Ideal Cert.Kernel4Ideal.Gen Idealize.ShloMosaic Idealize.ShloMosaic.TcCoe Idealize.SL.Sem

/-- The zero that the host fills the matrix with. -/
def fill : FVec Ideal S_ .f32 := constant (F := Ideal) S_ .f32 0x00000000#32

/-- The groups' weights on the diagonal, before the cast. -/
def diag (w : FVec Ideal S4x64x64 .f32) : FVec Ideal S256x256 .f32 :=
  concatenate S256x256 0
    [⟨S64x256, pad S64x256 ![0, 0] ![0, 192] ![0, 0] (shapeCast S64x64 (extractStridedSlice S1x64x64 ![0, 0, 0] w slices_S4x64x64_S1x64x64_0_0_0) shapeCasts_S1x64x64_S64x64) fill pads_S64x64_S64x256_000_01920 h_S_⟩,
     ⟨S64x256, pad S64x256 ![0, 64] ![0, 128] ![0, 0] (shapeCast S64x64 (extractStridedSlice S1x64x64 ![1, 0, 0] w slices_S4x64x64_S1x64x64_1_0_0) shapeCasts_S1x64x64_S64x64) fill pads_S64x64_S64x256_000_641280 h_S_⟩,
     ⟨S64x256, pad S64x256 ![0, 128] ![0, 64] ![0, 0] (shapeCast S64x64 (extractStridedSlice S1x64x64 ![2, 0, 0] w slices_S4x64x64_S1x64x64_2_0_0) shapeCasts_S1x64x64_S64x64) fill pads_S64x64_S64x256_000_128640 h_S_⟩,
     ⟨S64x256, pad S64x256 ![0, 192] ![0, 0] ![0, 0] (shapeCast S64x64 (extractStridedSlice S1x64x64 ![3, 0, 0] w slices_S4x64x64_S1x64x64_3_0_0) shapeCasts_S1x64x64_S64x64) fill pads_S64x64_S64x256_000_19200 h_S_⟩]
    concatenates_S64x256_S64x256_S64x256_S64x256_S256x256_d0

variable (m : (ℓ : Loc nD τ sig) → Buf (Elt Ideal) ℓ) (c : Dev nD) (t : Fin cfg0.N)

/-- The four padded groups laid one under another, as the called function's last line finds them. -/
def laid (a b d e : FVec Ideal S64x256 .f32) : FVec Ideal S256x256 .f32 :=
  concatenate S256x256 0 [⟨S64x256, a⟩, ⟨S64x256, b⟩, ⟨S64x256, d⟩, ⟨S64x256, e⟩] concatenates_S64x256_S64x256_S64x256_S64x256_S256x256_d0

abbrev ops8 : List (HloOp τ sig (Elt Ideal)) := (hostOps0_1 (F := Ideal)).take 8

theorem laid_read (G : Valuation τ sig (Elt Ideal)) :
    StableHlo.after ((hostOps0_1 (F := Ideal)).drop 8) G main_v10 = laid (G main_call0_v4) (G main_call0_v5) (G main_call0_v6) (G main_call0_v7) := by
  change StableHlo.after [_] G main_v10 = _
  rw [StableHlo.after_cons, StableHlo.after_nil]
  refine (StableHlo.nary_result _ _ _ _ _ _).trans ?_
  rfl

theorem cast_read (G : Valuation τ sig (Elt Ideal)) :
    StableHlo.after (hostOps0_2 (F := Ideal)) G main_v11 = truncf (F := Ideal) .bf16 (G main_v10 : FVec Ideal S256x256 .f32) bitsLt_bf16_f32 := by
  simp only [hostOps0_2]
  entry_read
  rfl

/-- The buffers before the called function's last line. -/
abbrev before : Valuation τ sig (Elt Ideal) := StableHlo.after (hostOps0 (F := Ideal) ++ (hostOps0_1 (F := Ideal)).take 8) (fun b => m (c, b))

theorem pad0 : before m c main_call0_v4 = pad S64x256 ![0, 0] ![0, 192] ![0, 0] (shapeCast S64x64 (extractStridedSlice S1x64x64 ![0, 0, 0] (m ((c : Thread nD τ).loc main_arg7) : FVec Ideal S4x64x64 .f32) slices_S4x64x64_S1x64x64_0_0_0) shapeCasts_S1x64x64_S64x64) fill pads_S64x64_S64x256_000_01920 h_S_ := by
  simp only [before, hostOps0, hostOps0_1, List.take_succ_cons, List.take_zero, List.cons_append, List.nil_append]
  entry_read
  simp -implicitDefEqProofs only [StableHlo.TRef.toBuf, StableHlo.TRef.ofBuf, cast_cast, cast_eq]
  rfl

theorem pad1 : before m c main_call0_v5 = pad S64x256 ![0, 64] ![0, 128] ![0, 0] (shapeCast S64x64 (extractStridedSlice S1x64x64 ![1, 0, 0] (m ((c : Thread nD τ).loc main_arg7) : FVec Ideal S4x64x64 .f32) slices_S4x64x64_S1x64x64_1_0_0) shapeCasts_S1x64x64_S64x64) fill pads_S64x64_S64x256_000_641280 h_S_ := by
  simp only [before, hostOps0, hostOps0_1, List.take_succ_cons, List.take_zero, List.cons_append, List.nil_append]
  entry_read
  simp -implicitDefEqProofs only [StableHlo.TRef.toBuf, StableHlo.TRef.ofBuf, cast_cast, cast_eq]
  rfl

theorem pad2 : before m c main_call0_v6 = pad S64x256 ![0, 128] ![0, 64] ![0, 0] (shapeCast S64x64 (extractStridedSlice S1x64x64 ![2, 0, 0] (m ((c : Thread nD τ).loc main_arg7) : FVec Ideal S4x64x64 .f32) slices_S4x64x64_S1x64x64_2_0_0) shapeCasts_S1x64x64_S64x64) fill pads_S64x64_S64x256_000_128640 h_S_ := by
  simp only [before, hostOps0, hostOps0_1, List.take_succ_cons, List.take_zero, List.cons_append, List.nil_append]
  entry_read
  simp -implicitDefEqProofs only [StableHlo.TRef.toBuf, StableHlo.TRef.ofBuf, cast_cast, cast_eq]
  rfl

theorem pad3 : before m c main_call0_v7 = pad S64x256 ![0, 192] ![0, 0] ![0, 0] (shapeCast S64x64 (extractStridedSlice S1x64x64 ![3, 0, 0] (m ((c : Thread nD τ).loc main_arg7) : FVec Ideal S4x64x64 .f32) slices_S4x64x64_S1x64x64_3_0_0) shapeCasts_S1x64x64_S64x64) fill pads_S64x64_S64x256_000_19200 h_S_ := by
  simp only [before, hostOps0, hostOps0_1, List.take_succ_cons, List.take_zero, List.cons_append, List.nil_append]
  entry_read
  simp -implicitDefEqProofs only [StableHlo.TRef.toBuf, StableHlo.TRef.ofBuf, cast_cast, cast_eq]
  rfl

theorem v11 : V m c main_v11 = truncf (F := Ideal) .bf16 (diag (m ((c : Thread nD τ).loc main_arg7))) bitsLt_bf16_f32 := by
  have e : V m c main_v11 = StableHlo.after (hostOps0_2 (F := Ideal)) (StableHlo.after ((hostOps0_1 (F := Ideal)).drop 8) (before m c)) main_v11 := rfl
  rw [e, cast_read, laid_read, pad0, pad1, pad2, pad3]
  rfl

theorem v0 : V m c main_v0 = truncf (F := Ideal) .bf16 (m ((c : Thread nD τ).loc main_arg10) : FVec Ideal S4x256x1024 .f32) bitsLt_bf16_f32 := by
  simp only [V, hostOps0, hostOps0_1, hostOps0_2, List.flatten_cons, List.flatten_nil, List.append_nil, List.cons_append, List.nil_append]
  entry_read
  rfl

theorem v1 : V m c main_v1 = truncf (F := Ideal) .bf16 (m ((c : Thread nD τ).loc main_arg9) : FVec Ideal S256x256 .f32) bitsLt_bf16_f32 := by
  simp only [V, hostOps0, hostOps0_1, hostOps0_2, List.flatten_cons, List.flatten_nil, List.append_nil, List.cons_append, List.nil_append]
  entry_read
  rfl

theorem v12 : V m c main_v12 = broadcastInDim S1x256 ![1] bcast_S256_S1x256_1 (m ((c : Thread nD τ).loc main_arg8) : FVec Ideal S256 .f32) := by
  simp only [V, hostOps0, hostOps0_1, hostOps0_2, List.flatten_cons, List.flatten_nil, List.append_nil, List.cons_append, List.nil_append]
  entry_read
  rfl

theorem v13 : V m c main_v13 = truncf (F := Ideal) .bf16 (m ((c : Thread nD τ).loc main_arg11) : FVec Ideal S1024x1024 .f32) bitsLt_bf16_f32 := by
  simp only [V, hostOps0, hostOps0_1, hostOps0_2, List.flatten_cons, List.flatten_nil, List.append_nil, List.cons_append, List.nil_append]
  entry_read
  rfl

theorem v14 : V m c main_v14 = transpose S2x256x16384 [0, 2, 1] (m ((c : Thread nD τ).loc main_arg3) : FVec Ideal S2x16384x256 .f32) transposes_S2x16384x256_S2x256x16384_0_2_1 := by
  simp only [V, hostOps0, hostOps0_1, hostOps0_2, List.flatten_cons, List.flatten_nil, List.append_nil, List.cons_append, List.nil_append]
  entry_read
  rfl

theorem v15 : V m c main_v15 = truncf (F := Ideal) .bf16 (m ((c : Thread nD τ).loc main_arg6) : FVec Ideal S2x16384x4096 .f32) bitsLt_bf16_f32 := by
  simp only [V, hostOps0, hostOps0_1, hostOps0_2, List.flatten_cons, List.flatten_nil, List.append_nil, List.cons_append, List.nil_append]
  entry_read
  rfl

theorem weight_at (w : FVec Ideal S4x64x64 .f32) {g g' : Fin 4} {a a' b b' : Fin 64} (hg : g.val = g'.val) (ha : a.val = a'.val) (hb : b.val = b'.val) :
    w (ix3 g a b) = w (ix3 g' a' b') := by
  obtain rfl := Fin.ext hg
  obtain rfl := Fin.ext ha
  obtain rfl := Fin.ext hb
  rfl

set_option maxHeartbeats 4000000 in
theorem diag_apply (w : FVec Ideal S4x64x64 .f32) (k j : Fin 256) :
    diag w (ix2 k j) = if grp k = grp j then w (ix3 (grp k) ⟨k.val % 64, by omega⟩ ⟨j.val % 64, by omega⟩) else 0 := by
  unfold diag
  pointwise [fill]
  have hk := k.isLt
  have hj := j.isLt
  by_cases e : grp k = grp j
  · refine Eq.trans ?_ (if_pos e).symm
    have e' : k.val / 64 = j.val / 64 := congrArg Fin.val e
    split_ifs <;> first
      | (exfalso; omega)
      | exact weight_at w (by first | (show 0 = k.val / 64; omega) | (show 1 = k.val / 64; omega) | (show 2 = k.val / 64; omega) | (show 3 = k.val / 64; omega)) (by dsimp only; omega) (by dsimp only; omega)
  · refine Eq.trans ?_ (if_neg e).symm
    have e' : k.val / 64 ≠ j.val / 64 := fun h => e (Fin.ext h)
    split_ifs <;> first
      | rfl
      | (exfalso; omega)

end Cert.Merge
-- ==== Proof.Merge.Pool.lean ====
/-
  A window's sum over finite values is the difference of two running sums.
-/
module

public import proofs.«01_k».proof.Proof.Merge.Spec

@[expose] public section

noncomputable section

namespace Cert.Merge

open Idealize.ShloMosaic

/-- The sum of the values before a place. -/
def part (v : Fin 16384 → ℝ) (z : Int) : ℝ := ∑ s : Fin 16384, if (s.val : Int) < z then v s else 0

theorem part_step (v : Fin 16384 → ℝ) (z : Int) :
    part v (z + 1) - part v z = ∑ s : Fin 16384, if (s.val : Int) = z then v s else 0 := by
  unfold part
  rw [← Finset.sum_sub_distrib]
  refine Finset.sum_congr rfl fun s _ => ?_
  split_ifs <;> first
    | (exfalso; omega)
    | simp

theorem outside_eq (v : Fin 16384 → ℝ) (z : Int) :
    outside (fun s => (v s : EReal)) z = ((part v (z + 1) - part v z : ℝ) : EReal) := by
  rw [part_step]
  unfold outside
  by_cases h : 0 ≤ z ∧ z < 16384
  · rw [dif_pos h, Finset.sum_eq_single (⟨z.toNat, by omega⟩ : Fin 16384), if_pos (by show ((z.toNat : Nat) : Int) = z; omega)]
    · intro s _ hs
      rw [if_neg fun e => hs (Fin.ext (by show s.val = z.toNat; omega))]
    · intro hs
      exact absurd (Finset.mem_univ _) hs
  · rw [dif_neg h, Finset.sum_eq_zero fun s _ => if_neg fun e => h (by have := s.isLt; omega)]
    rfl

theorem around_eq (v : Fin 16384 → ℝ) (t o : Nat) :
    around (fun s => (v s : EReal)) t o = ((part v ((t : Int) + (o + 1 : Nat) - 8) - part v ((t : Int) + o - 8) : ℝ) : EReal) := by
  unfold around
  rw [outside_eq, show (t : Int) + o - 8 + 1 = (t : Int) + (o + 1 : Nat) - 8 by push_cast; ring]

/-- A window whose values are the steps of running sums. -/
theorem win_steps (d : Nat → ℝ) (g : Fin 4) :
    win g (fun o => ((d (o + 1) - d o : ℝ) : EReal)) = ((d (8 + half g) - d (8 - half g) : ℝ) : EReal) := by
  match g with
  | 0 =>
    show ((d 9 - d 8 : ℝ) : EReal) + ((d 8 - d 7 : ℝ) : EReal) = ((d 9 - d 7 : ℝ) : EReal)
    rw [← EReal.coe_add]
    congr 1
    ring
  | 1 =>
    show ((d 9 - d 8 : ℝ) : EReal) + ((d 8 - d 7 : ℝ) : EReal) + (((d 10 - d 9 : ℝ) : EReal) + ((d 7 - d 6 : ℝ) : EReal)) = ((d 10 - d 6 : ℝ) : EReal)
    simp only [← EReal.coe_add]
    congr 1
    ring
  | 2 =>
    show ((d 9 - d 8 : ℝ) : EReal) + ((d 8 - d 7 : ℝ) : EReal) + (((d 10 - d 9 : ℝ) : EReal) + ((d 7 - d 6 : ℝ) : EReal))
      + (((d 11 - d 10 : ℝ) : EReal) + ((d 6 - d 5 : ℝ) : EReal)) + (((d 12 - d 11 : ℝ) : EReal) + ((d 5 - d 4 : ℝ) : EReal)) = ((d 12 - d 4 : ℝ) : EReal)
    simp only [← EReal.coe_add]
    congr 1
    ring
  | 3 =>
    show ((d 9 - d 8 : ℝ) : EReal) + ((d 8 - d 7 : ℝ) : EReal) + (((d 10 - d 9 : ℝ) : EReal) + ((d 7 - d 6 : ℝ) : EReal))
      + (((d 11 - d 10 : ℝ) : EReal) + ((d 6 - d 5 : ℝ) : EReal)) + (((d 12 - d 11 : ℝ) : EReal) + ((d 5 - d 4 : ℝ) : EReal))
      + (((d 13 - d 12 : ℝ) : EReal) + ((d 4 - d 3 : ℝ) : EReal)) + (((d 14 - d 13 : ℝ) : EReal) + ((d 3 - d 2 : ℝ) : EReal))
      + (((d 15 - d 14 : ℝ) : EReal) + ((d 2 - d 1 : ℝ) : EReal)) + (((d 16 - d 15 : ℝ) : EReal) + ((d 1 - d 0 : ℝ) : EReal)) = ((d 16 - d 0 : ℝ) : EReal)
    simp only [← EReal.coe_add]
    congr 1
    ring

/-- The sum before a place outside the sequence is the one before its nearest end. -/
theorem part_hi (v : Fin 16384 → ℝ) (h t : Nat) : part v ((t : Int) + h) = part v (hi h t : Nat) := by
  unfold part hi
  refine Finset.sum_congr rfl fun s _ => ?_
  have hs := s.isLt
  by_cases c : (s.val : Int) < (t : Int) + h
  · rw [if_pos c, if_pos (by omega)]
  · rw [if_neg c, if_neg (by omega)]

theorem part_lo (v : Fin 16384 → ℝ) (h t : Nat) : part v ((t : Int) - h) = part v (lo h t : Nat) := by
  unfold part lo
  refine Finset.sum_congr rfl fun s _ => ?_
  by_cases c : (s.val : Int) < (t : Int) - h
  · rw [if_pos c, if_pos (by omega)]
  · rw [if_neg c, if_neg (by omega)]

/-- The running sum's value before a token, over the extended reals. -/
def prefixSum (u : Fin 16384 → EReal) (n : Nat) : EReal := ∑ s : Fin 16384, if s.val < n then u s else 0

theorem coe_total {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem prefixSum_coe (v : Fin 16384 → ℝ) (n : Nat) : prefixSum (fun s => (v s : EReal)) n = ((part v (n : Nat) : ℝ) : EReal) := by
  unfold prefixSum part
  rw [coe_total]
  refine Finset.sum_congr rfl fun s _ => ?_
  by_cases c : s.val < n
  · rw [if_pos c, if_pos (by exact_mod_cast c)]
  · rw [if_neg c, if_neg (by exact_mod_cast c)]
    rfl

/-- A window's sum, of finite values, by the running sums at its two ends. -/
theorem win_prefix (u : Fin 16384 → EReal) (hu : ∀ s, ∃ r : ℝ, u s = (r : EReal)) (g : Fin 4) (t : Nat) :
    win g (around u t) = prefixSum u (hi (half g) t) - prefixSum u (lo (half g) t) := by
  choose v hv using hu
  obtain rfl : u = fun s => (v s : EReal) := funext hv
  have e : around (fun s => (v s : EReal)) t
      = fun o => (((fun n : Nat => part v ((t : Int) + n - 8)) (o + 1) - (fun n : Nat => part v ((t : Int) + n - 8)) o : ℝ) : EReal) :=
    funext fun o => around_eq v t o
  have hg := half_le g
  rw [e, prefixSum_coe, prefixSum_coe, ← part_hi, ← part_lo, ← EReal.coe_sub]
  refine (win_steps (fun n : Nat => part v ((t : Int) + n - 8)) g).trans ?_
  exact congrArg₂ (fun a b : Int => ((part v a - part v b : ℝ) : EReal))
    (show (t : Int) + ((8 + half g : Nat) : Int) - 8 = (t : Int) + (half g : Nat) by omega)
    (show (t : Int) + ((8 - half g : Nat) : Int) - 8 = (t : Int) - (half g : Nat) by omega)

/-- A product with the weights laid on the diagonal is the group's product. -/
theorem diag_sum (z : Fin 256 → EReal) (w : Fin 4 → Fin 64 → Fin 64 → EReal) (j : Fin 256) :
    (∑ k : Fin 256, z k * (if grp k = grp j then w (grp k) ⟨k.val % 64, by omega⟩ ⟨j.val % 64, by omega⟩ else 0))
      = ∑ q : Fin 64, z (chan (grp j) q) * w (grp j) q ⟨j.val % 64, by omega⟩ := by
  have e (k : Fin 256) : z k * (if grp k = grp j then w (grp k) ⟨k.val % 64, by omega⟩ ⟨j.val % 64, by omega⟩ else 0)
      = if grp k = grp j then z k * w (grp k) ⟨k.val % 64, by omega⟩ ⟨j.val % 64, by omega⟩ else 0 := by
    split
    · rfl
    · rw [mul_zero]
  rw [Finset.sum_congr rfl fun k _ => e k, ← Finset.sum_filter]
  refine (Finset.sum_bij (fun (q : Fin 64) _ => chan (grp j) q) (fun q _ => ?_) (fun a _ b _ h => ?_) (fun k hk => ?_) (fun q _ => ?_)).symm
  · rw [Finset.mem_filter]
    refine ⟨Finset.mem_univ _, Fin.ext ?_⟩
    show ((grp j).val * 64 + q.val) / 64 = (grp j).val
    omega
  · have h' := congrArg Fin.val h
    change (grp j).val * 64 + a.val = (grp j).val * 64 + b.val at h'
    exact Fin.ext (by omega)
  · rw [Finset.mem_filter] at hk
    have h' : k.val / 64 = (grp j).val := congrArg Fin.val hk.2
    exact ⟨⟨k.val % 64, by omega⟩, Finset.mem_univ _, Fin.ext (by show (grp j).val * 64 + k.val % 64 = k.val; omega)⟩
  · have h1 : grp (chan (grp j) q) = grp j := Fin.ext (by show ((grp j).val * 64 + q.val) / 64 = (grp j).val; omega)
    have h2 : (⟨(chan (grp j) q).val % 64, by omega⟩ : Fin 64) = q := Fin.ext (by show ((grp j).val * 64 + q.val) % 64 = q.val; omega)
    rw [h1, h2]

end Cert.Merge
-- ==== Proof.Merge.Scan.lean ====
/-
  The reference's running sum, and the rows of it that it gathers.
-/
module

public import proofs.«01_k».proof.Proof.Gen.Reference4Ideal.Read
public import proofs.«01_k».proof.Proof.Merge.Pool
public import Idealize.ShloMosaic.Lib.Pointwise

@[expose] public section

set_option maxRecDepth 16384

noncomputable section

namespace Cert.Merge.Ref

open Cert.Reference4Ideal Cert.Reference4Ideal.Gen Cert.Reference4Ideal.Read
open Idealize.ShloMosaic Idealize.ShloMosaic.TcCoe Idealize.SL.Sem
open Cert.Merge

theorem foldl_sum {β : Type} (g : β → EReal) (l : List β) (v : EReal) : l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

abbrev Wd : Shape := ⟨3, ![1, 16384, 1]⟩

def along : Wd.Idx ≃ Fin 16384 where
  toFun w := w 1
  invFun q := ix3 (0 : Fin 1) q (0 : Fin 1)
  left_inv w := by
    funext a
    match a with
    | ⟨0, _⟩ => exact Subsingleton.elim (α := Fin 1) _ _
    | ⟨1, _⟩ => rfl
    | ⟨2, _⟩ => exact Subsingleton.elim (α := Fin 1) _ _
  right_inv q := rfl

/-- The window of a running sum ends at the entry. -/
theorem window_sum (u : Fin 16384 → EReal) (j : Fin 16384) :
    (∑ n : Fin 16384, if h : 16383 ≤ j.val + n.val then u ⟨j.val + n.val - 16383, by omega⟩ else 0) = prefixSum u (j.val + 1) := by
  unfold prefixSum
  have a (n : Fin 16384) : (if h : 16383 ≤ j.val + n.val then u ⟨j.val + n.val - 16383, by omega⟩ else 0)
      = if 16383 ≤ j.val + n.val then (if h : j.val + n.val - 16383 < 16384 then u ⟨j.val + n.val - 16383, h⟩ else 0) else 0 := by
    by_cases c : 16383 ≤ j.val + n.val
    · rw [dif_pos c, if_pos c, dif_pos (by omega)]
    · rw [dif_neg c, if_neg c]
  rw [Finset.sum_congr rfl fun n _ => a n, ← Finset.sum_filter, ← Finset.sum_filter]
  refine Finset.sum_bij' (fun n hn => ⟨j.val + n.val - 16383, by omega⟩) (fun s hs => ⟨s.val + 16383 - j.val, by
      have := (Finset.mem_filter.mp hs).2; omega⟩) (fun n hn => ?_) (fun s hs => ?_) (fun n hn => ?_) (fun s hs => ?_) (fun n hn => ?_)
  · have := (Finset.mem_filter.mp hn).2
    have := n.isLt
    exact Finset.mem_filter.mpr ⟨Finset.mem_univ _, by show j.val + n.val - 16383 < j.val + 1; omega⟩
  · have := (Finset.mem_filter.mp hs).2
    exact Finset.mem_filter.mpr ⟨Finset.mem_univ _, by show 16383 ≤ j.val + (s.val + 16383 - j.val); omega⟩
  · have := (Finset.mem_filter.mp hn).2
    exact Fin.ext (by show j.val + n.val - 16383 + 16383 - j.val = n.val; omega)
  · have := (Finset.mem_filter.mp hs).2
    exact Fin.ext (by show j.val + (s.val + 16383 - j.val) - 16383 = s.val; omega)
  · exact dif_pos _

/-- A window's sum, over the window's positions. -/
theorem reduceWindow_sum {s t u : Shape} (window strides lo hi : Fin s.rank → Nat) (x : s.Idx → EReal) (init : FVec Ideal u .f32)
    (h : s.ReduceWindows window strides lo hi t) (hu : 0 < u.numel) (hz : init (Shape.Idx.first hu) = 0) (j : t.Idx) :
    Host.reduceWindowAdd (F := Ideal) (φ := .f32) window strides lo hi x init h hu j
      = ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else (0 : EReal) := by
  unfold Host.reduceWindowAdd
  show Ideal.hostReduceWindowAdd window strides lo hi h x (init (Shape.Idx.first hu)) j = _
  rw [hz]
  unfold Ideal.hostReduceWindowAdd Host.reduceWindow
  refine (foldl_sum _ _ _).trans ?_
  rw [zero_add, ← Fin.sum_univ_def]
  refine Eq.trans (Finset.sum_congr rfl fun n _ => ?_) (Equiv.sum_comp (⟨s.rank, window⟩ : Shape).rowMajor.symm (fun w => if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else (0 : EReal)))
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos hin).trans ?_
    refine Eq.trans ?_ (dif_pos hin).symm
    rfl
  · refine (dif_neg hin).trans ?_
    refine Eq.trans ?_ (dif_neg hin).symm
    rfl

theorem scan_apply (x4 : Vec Ideal S2x16384x256 .f32) (b : Fin 2) (j : Fin 16384) (k : Fin 256) :
    val_main_v2 (F := Ideal) x4 (ix3 b j k) = prefixSum (fun s => x4 (ix3 b s k)) (j.val + 1) := by
  have hz : val_main_call0_call0_v0 (F := Ideal) (Shape.Idx.first h_S_) = 0 := by
    rw [val_main_call0_call0_v0_apply, val_main_call0_call0_cst_apply]
    exact Ideal.ofBits_zero_f32
  unfold val_main_v2
  rw [reduceWindow_sum _ _ _ _ _ _ _ _ hz, ← window_sum]
  refine Fintype.sum_equiv along _ _ fun w => ?_
  have e : along w = w 1 := rfl
  rw [e]
  have w0 : (w 0).val = 0 := by have : (w 0).val < 1 := (w 0).isLt; omega
  have w2 : (w 2).val = 0 := by have : (w 2).val < 1 := (w 2).isLt; omega
  have hj := j.isLt
  have h1 : (w 1).val < 16384 := (w 1).isLt
  by_cases c : 16383 ≤ j.val + (w 1).val
  · rw [dif_pos c, dif_pos fun a => by
      match a with
      | ⟨0, _⟩ => show 0 ≤ b.val * 1 + (w 0).val ∧ b.val * 1 + (w 0).val - 0 < 2; have := b.isLt; omega
      | ⟨1, _⟩ => show 16383 ≤ j.val * 1 + (w 1).val ∧ j.val * 1 + (w 1).val - 16383 < 16384; omega
      | ⟨2, _⟩ => show 0 ≤ k.val * 1 + (w 2).val ∧ k.val * 1 + (w 2).val - 0 < 256; have := k.isLt; omega]
    refine congrArg x4 (funext fun a => Fin.ext ?_)
    match a with
    | ⟨0, _⟩ => show b.val * 1 + (w 0).val - 0 = b.val; omega
    | ⟨1, _⟩ => show j.val * 1 + (w 1).val - 16383 = j.val + (w 1).val - 16383; omega
    | ⟨2, _⟩ => show k.val * 1 + (w 2).val - 0 = k.val; omega
  · rw [dif_neg c, dif_neg fun hin => c (by
      have h : 16383 ≤ j.val * 1 + (w 1).val := (hin 1).1
      omega)]

/-- The running sum with its leading zero. -/
theorem sums_apply (x4 : Vec Ideal S2x16384x256 .f32) (b : Fin 2) (n : Fin 16385) (k : Fin 256) :
    val_main_v3 (F := Ideal) x4 (ix3 b n k) = prefixSum (fun s => x4 (ix3 b s k)) n.val := by
  unfold val_main_v3
  generalize hy : val_main_v2 (F := Ideal) x4 = y
  generalize hz : val_main_v1 (F := Ideal) = z
  pointwise []
  subst hy hz
  by_cases c : n.val < 1
  · rw [dif_pos c]
    unfold prefixSum
    rw [Finset.sum_eq_zero fun s _ => if_neg (by omega), val_main_v1_apply, val_main_cst_apply]
    exact Ideal.ofBits_zero_f32
  · rw [dif_neg c, scan_apply]
    exact congrArg (prefixSum _) (by show n.val - 1 + 1 = n.val; omega)

abbrev dims := gather_S2x16385x64_S16384x1_S2x16384x64_02_1_n_n_1_1_2164

/-- The row a gather takes. -/
theorem gather_apply (y : FVec Ideal S2x16385x64 .f32) (v : IVec S16384x1 32) (b : Fin 2) (t : Fin 16384) (q : Fin 64) (n : Nat)
    (hn : n < 16385) (hv : v (ix2 t 0) = BitVec.ofNat 32 n) : Host.gather dims y v (ix3 b t q) = y (ix3 b ⟨n, hn⟩ q) := by
  unfold Host.gather
  refine congrArg y (funext fun a => Fin.ext ?_)
  have hb (a : Fin 3) : a ∉ dims.operandBatchingDims := List.not_mem_nil
  match a with
  | ⟨0, _⟩ =>
    have hk : (0 : Fin 3) ∈ dims.sKept := (dims.mem_sKept 0).2 ⟨by decide, hb 0⟩
    have hm : (0 : Fin 3) ∉ dims.startIndexMap := by decide
    show dims.start (ix3 b t q) v 0 + dims.batchCoord (ix3 b t q) 0 + dims.offCoord (ix3 b t q) 0 = b.val
    rw [dims.batchCoord_eq_zero _ _ (hb 0), Nat.add_zero]
    unfold GatherDims.start GatherDims.offCoord
    rw [dif_neg hm, dif_pos hk, Nat.zero_add]
    rfl
  | ⟨1, _⟩ =>
    have hk : (1 : Fin 3) ∉ dims.sKept := fun h => ((dims.mem_sKept 1).1 h).1 (by decide)
    have hm : (1 : Fin 3) ∈ dims.startIndexMap := by decide
    show dims.start (ix3 b t q) v 1 + dims.batchCoord (ix3 b t q) 1 + dims.offCoord (ix3 b t q) 1 = n
    rw [dims.batchCoord_eq_zero _ _ (hb 1), dims.offCoord_eq_zero _ _ hk]
    simp only [Nat.add_zero]
    unfold GatherDims.start
    rw [dif_pos hm]
    have hsi : dims.siIdx (ix3 b t q) ⟨dims.startIndexMap.idxOf 1, List.idxOf_lt_length_iff.2 hm⟩ = ix2 t 0 := by
      funext a
      refine Fin.ext ?_
      match a with
      | ⟨0, _⟩ => rfl
      | ⟨1, _⟩ => rfl
    rw [hsi, hv, ofNat_toInt (by omega)]
    show min ((n : Int).toNat) (16385 - 1) = n
    rw [Int.toNat_natCast]
    omega
  | ⟨2, _⟩ =>
    have hk : (2 : Fin 3) ∈ dims.sKept := (dims.mem_sKept 2).2 ⟨by decide, hb 2⟩
    have hm : (2 : Fin 3) ∉ dims.startIndexMap := by decide
    show dims.start (ix3 b t q) v 2 + dims.batchCoord (ix3 b t q) 2 + dims.offCoord (ix3 b t q) 2 = q.val
    rw [dims.batchCoord_eq_zero _ _ (hb 2), Nat.add_zero]
    unfold GatherDims.start GatherDims.offCoord
    rw [dif_neg hm, dif_pos hk, Nat.zero_add]
    rfl

/-- An index that is not negative stays as it is. -/
theorem wrap_word (n : Nat) (h : n < 2147483648) :
    Scalar.select (IntOp.cmpi .slt (BitVec.ofNat 32 n) 0#32) (IntOp.addi (BitVec.ofNat 32 n) 16385#32) (BitVec.ofNat 32 n) = BitVec.ofNat 32 n := by
  have e : (BitVec.ofNat 32 n).slt 0#32 = false := by
    rw [BitVec.slt, ofNat_toInt (a := n) h]
    exact decide_eq_false (by simp)
  have e3 : IntOp.cmpi .slt (BitVec.ofNat 32 n) 0#32 = 0#1 := by
    show BitVec.ofBool ((BitVec.ofNat 32 n).slt 0#32) = 0#1
    rw [e]
    rfl
  rw [e3]
  rfl

theorem hi_lt {h t : Nat} (hh : h ≤ 8) (ht : t < 16384) : hi h t < 16385 := by
  unfold hi
  omega

theorem lo_lt {h t : Nat} (hh : h ≤ 8) (ht : t < 16384) : lo h t < 16385 := by
  unfold lo
  omega

theorem lo0 (t : Fin 16384) : val_main_v7 (F := Ideal) (ix1 t) = BitVec.ofNat 32 (lo 1 t.val) := by
  refine Eq.trans ?_ (lo_clip (h := 1) (t := t.val) (by decide) t.isLt)
  rfl

theorem hi0 (t : Fin 16384) : val_main_v10 (F := Ideal) (ix1 t) = BitVec.ofNat 32 (hi 1 t.val) := by
  refine Eq.trans ?_ (hi_clip (h := 1) (t := t.val) (by decide) t.isLt)
  rfl

theorem lo1 (t : Fin 16384) : val_main_v39 (F := Ideal) (ix1 t) = BitVec.ofNat 32 (lo 2 t.val) := by
  refine Eq.trans ?_ (lo_clip (h := 2) (t := t.val) (by decide) t.isLt)
  rfl

theorem hi1 (t : Fin 16384) : val_main_v42 (F := Ideal) (ix1 t) = BitVec.ofNat 32 (hi 2 t.val) := by
  refine Eq.trans ?_ (hi_clip (h := 2) (t := t.val) (by decide) t.isLt)
  rfl

theorem lo2 (t : Fin 16384) : val_main_v71 (F := Ideal) (ix1 t) = BitVec.ofNat 32 (lo 4 t.val) := by
  refine Eq.trans ?_ (lo_clip (h := 4) (t := t.val) (by decide) t.isLt)
  rfl

theorem hi2 (t : Fin 16384) : val_main_v74 (F := Ideal) (ix1 t) = BitVec.ofNat 32 (hi 4 t.val) := by
  refine Eq.trans ?_ (hi_clip (h := 4) (t := t.val) (by decide) t.isLt)
  rfl

theorem lo3 (t : Fin 16384) : val_main_v103 (F := Ideal) (ix1 t) = BitVec.ofNat 32 (lo 8 t.val) := by
  refine Eq.trans ?_ (lo_clip (h := 8) (t := t.val) (by decide) t.isLt)
  rfl

theorem hi3 (t : Fin 16384) : val_main_v106 (F := Ideal) (ix1 t) = BitVec.ofNat 32 (hi 8 t.val) := by
  refine Eq.trans ?_ (hi_clip (h := 8) (t := t.val) (by decide) t.isLt)
  rfl

end Cert.Merge.Ref
-- ==== Proof.Merge.Ref.lean ====
/-
  The reference of the merge at an index, in the same words as the call's result.
-/
module

public import proofs.«01_k».proof.Proof.Merge.Scan

@[expose] public section

set_option maxRecDepth 16384

noncomputable section

namespace Cert.Merge

open Idealize.ShloMosaic

/-- The merge's whole result. -/
def result (x0 : Vec Ideal ⟨3, ![2, 16384, 1024]⟩ .f32) (x1 : Vec Ideal ⟨3, ![2, 1, 1024]⟩ .f32)
    (x2 x3 x4 x5 : Vec Ideal ⟨3, ![2, 16384, 256]⟩ .f32) (x6 : Vec Ideal ⟨3, ![2, 16384, 4096]⟩ .f32)
    (x7 : Vec Ideal ⟨3, ![4, 64, 64]⟩ .f32) (x8 : Vec Ideal ⟨1, ![256]⟩ .f32) (x9 : Vec Ideal ⟨2, ![256, 256]⟩ .f32)
    (x10 : Vec Ideal ⟨3, ![4, 256, 1024]⟩ .f32) (x11 : Vec Ideal ⟨2, ![1024, 1024]⟩ .f32)
    (b : Fin 2) (t : Fin 16384) (j : Fin 1024) : EReal :=
  merged (x0 (ix3 b t j)) (x1 (ix3 b 0 j)) (fun l => x2 (ix3 b t l)) (fun l => x3 (ix3 b t l))
    (pooled (fun k => mean (grp k) t.val (around (fun s => x4 (ix3 b s k)) t.val) - x4 (ix3 b t k))
      (fun g q l => x7 (ix3 g q l)) (fun l => x8 (ix1 l)))
    (fun l => ∑ k : Fin 256, x5 (ix3 b t k) * x9 (ix2 k l)) (fun g l k => x10 (ix3 g l k)) (fun k => x6 (ix3 b t k)) (fun k => x11 (ix2 k j))

end Cert.Merge

namespace Cert.Merge.Ref

open Cert.Reference4Ideal Cert.Reference4Ideal.Gen Cert.Reference4Ideal.Read
open Idealize.ShloMosaic Idealize.ShloMosaic.TcCoe Idealize.SL.Sem
open Cert.Merge

variable (x0 : Vec Ideal S2x16384x1024 .f32) (x1 : Vec Ideal S2x1x1024 .f32) (x2 x3 x4 x5 : Vec Ideal S2x16384x256 .f32)
  (x6 : Vec Ideal S2x16384x4096 .f32) (x7 : Vec Ideal S4x64x64 .f32) (x8 : Vec Ideal S256 .f32) (x9 : Vec Ideal S256x256 .f32)
  (x10 : Vec Ideal S4x256x1024 .f32) (x11 : Vec Ideal S1024x1024 .f32)

/-- A channel's mean over its window, by the running sums, less the channel. -/
def centred (b : Fin 2) (t : Fin 16384) (g : Fin 4) (k : Fin 256) : EReal :=
  Ideal.div (prefixSum (fun s => x4 (ix3 b s k)) (hi (half g) t.val) - prefixSum (fun s => x4 (ix3 b s k)) (lo (half g) t.val)) (cnt (half g) t.val)
    - x4 (ix3 b t k)

theorem hiAt0 (t : Fin 16384) : val_main_v20 (F := Ideal) (ix2 t 0) = BitVec.ofNat 32 (hi 1 t.val) := by
  have e : idx_main_v20 (ix2 t 0) = ix1 t := by
    funext a
    match a with
    | ⟨0, _⟩ => rfl
  rw [val_main_v20_apply, e]
  show Scalar.select (IntOp.cmpi .slt (val_main_v10 (F := Ideal) (ix1 t)) 0#32) (IntOp.addi (val_main_v10 (F := Ideal) (ix1 t)) 16385#32) (val_main_v10 (F := Ideal) (ix1 t)) = _
  rw [hi0]
  exact wrap_word _ (by have := hi_lt (h := 1) (by decide) t.isLt; omega)

theorem loAt0 (t : Fin 16384) : val_main_v27 (F := Ideal) (ix2 t 0) = BitVec.ofNat 32 (lo 1 t.val) := by
  have e : idx_main_v27 (ix2 t 0) = ix1 t := by
    funext a
    match a with
    | ⟨0, _⟩ => rfl
  rw [val_main_v27_apply, e]
  show Scalar.select (IntOp.cmpi .slt (val_main_v7 (F := Ideal) (ix1 t)) 0#32) (IntOp.addi (val_main_v7 (F := Ideal) (ix1 t)) 16385#32) (val_main_v7 (F := Ideal) (ix1 t)) = _
  rw [lo0]
  exact wrap_word _ (by have := lo_lt (h := 1) (by decide) t.isLt; omega)

theorem sumsAt0 (b : Fin 2) (n : Fin 16385) (q : Fin 64) :
    val_main_v14 (F := Ideal) x4 (ix3 b n q) = prefixSum (fun s => x4 (ix3 b s (chan 0 q))) n.val := by
  have e : idx_main_v14 (ix3 b n q) = ix3 b n (chan 0 q) := by
    funext a
    match a with
    | ⟨0, _⟩ => rfl
    | ⟨1, _⟩ => rfl
    | ⟨2, _⟩ => exact Fin.ext (by show q.val = 0 * 64 + q.val; omega)
  rw [val_main_v14_apply, e, sums_apply]

theorem centred0 (b : Fin 2) (t : Fin 16384) (q : Fin 64) :
    val_main_v33 (F := Ideal) x4 (ix3 b t q) = centred x4 b t 0 (chan 0 q) := by
  have e1 : val_main_v21 (F := Ideal) x4 (ix3 b t q) = prefixSum (fun s => x4 (ix3 b s (chan 0 q))) (hi 1 t.val) := by
    unfold val_main_v21
    exact (gather_apply _ _ b t q _ (hi_lt (by decide) t.isLt) (hiAt0 t)).trans (sumsAt0 x4 b _ q)
  have e2 : val_main_v28 (F := Ideal) x4 (ix3 b t q) = prefixSum (fun s => x4 (ix3 b s (chan 0 q))) (lo 1 t.val) := by
    unfold val_main_v28
    exact (gather_apply _ _ b t q _ (lo_lt (by decide) t.isLt) (loAt0 t)).trans (sumsAt0 x4 b _ q)
  have e3 : val_main_v30 (F := Ideal) (ix3 b t q) = cnt 1 t.val := by
    have e : idx_main_v13 (idx_main_v30 (ix3 b t q)) = ix1 t := by
      funext a
      match a with
      | ⟨0, _⟩ => rfl
    rw [val_main_v30_apply, val_main_v13_apply, e, val_main_v12_apply, val_main_v11_apply, hi0, lo0]
    rfl
  have e4 : val_main_v32 (F := Ideal) x4 (ix3 b t q) = x4 (ix3 b t (chan 0 q)) := by
    rw [val_main_v32_apply]
    refine congrArg x4 (funext fun a => ?_)
    match a with
    | ⟨0, _⟩ => rfl
    | ⟨1, _⟩ => rfl
    | ⟨2, _⟩ => exact Fin.ext (by show q.val = 0 * 64 + q.val; omega)
  rw [val_main_v33_apply, val_main_v31_apply, val_main_v29_apply, e1, e2, e3, e4]
  rfl

theorem weight0 (q j : Fin 64) : val_main_v35 (F := Ideal) x7 (ix2 q j) = x7 (ix3 0 q j) := by
  rw [val_main_v35_apply, val_main_v34_apply]
  refine congrArg x7 (funext fun a => ?_)
  match a with
  | ⟨0, _⟩ => rfl
  | ⟨1, _⟩ => exact Fin.ext (by show (q.val * 64 + j.val) / 64 % 64 = q.val; omega)
  | ⟨2, _⟩ => exact Fin.ext (by show (q.val * 64 + j.val) % 64 = j.val; omega)

theorem group0 (b : Fin 2) (t : Fin 16384) (j : Fin 64) :
    val_main_v36 (F := Ideal) x4 x7 (ix3 b t j) = ∑ q : Fin 64, centred x4 b t 0 (chan 0 q) * x7 (ix3 0 q j) := by
  rw [val_main_v36_apply]
  refine Finset.sum_congr rfl fun q _ => ?_
  rw [← centred0, ← weight0 x7]
  refine congrArg₂ (fun a b : EReal => a * b) (congrArg (val_main_v33 (F := Ideal) x4) (funext fun a => ?_)) (congrArg (val_main_v35 (F := Ideal) x7) (funext fun a => ?_))
  · match a with
    | ⟨0, _⟩ => rfl
    | ⟨1, _⟩ => rfl
    | ⟨2, _⟩ => rfl
  · match a with
    | ⟨0, _⟩ => rfl
    | ⟨1, _⟩ => rfl

theorem hiAt1 (t : Fin 16384) : val_main_v52 (F := Ideal) (ix2 t 0) = BitVec.ofNat 32 (hi 2 t.val) := by
  have e : idx_main_v52 (ix2 t 0) = ix1 t := by
    funext a
    match a with
    | ⟨0, _⟩ => rfl
  rw [val_main_v52_apply, e]
  show Scalar.select (IntOp.cmpi .slt (val_main_v42 (F := Ideal) (ix1 t)) 0#32) (IntOp.addi (val_main_v42 (F := Ideal) (ix1 t)) 16385#32) (val_main_v42 (F := Ideal) (ix1 t)) = _
  rw [hi1]
  exact wrap_word _ (by have := hi_lt (h := 2) (by decide) t.isLt; omega)

theorem loAt1 (t : Fin 16384) : val_main_v59 (F := Ideal) (ix2 t 0) = BitVec.ofNat 32 (lo 2 t.val) := by
  have e : idx_main_v59 (ix2 t 0) = ix1 t := by
    funext a
    match a with
    | ⟨0, _⟩ => rfl
  rw [val_main_v59_apply, e]
  show Scalar.select (IntOp.cmpi .slt (val_main_v39 (F := Ideal) (ix1 t)) 0#32) (IntOp.addi (val_main_v39 (F := Ideal) (ix1 t)) 16385#32) (val_main_v39 (F := Ideal) (ix1 t)) = _
  rw [lo1]
  exact wrap_word _ (by have := lo_lt (h := 2) (by decide) t.isLt; omega)

theorem sumsAt1 (b : Fin 2) (n : Fin 16385) (q : Fin 64) :
    val_main_v46 (F := Ideal) x4 (ix3 b n q) = prefixSum (fun s => x4 (ix3 b s (chan 1 q))) n.val := by
  have e : idx_main_v46 (ix3 b n q) = ix3 b n (chan 1 q) := by
    funext a
    match a with
    | ⟨0, _⟩ => rfl
    | ⟨1, _⟩ => rfl
    | ⟨2, _⟩ => exact Fin.ext (by show 64 + q.val = 1 * 64 + q.val; omega)
  rw [val_main_v46_apply, e, sums_apply]

theorem centred1 (b : Fin 2) (t : Fin 16384) (q : Fin 64) :
    val_main_v65 (F := Ideal) x4 (ix3 b t q) = centred x4 b t 1 (chan 1 q) := by
  have e1 : val_main_v53 (F := Ideal) x4 (ix3 b t q) = prefixSum (fun s => x4 (ix3 b s (chan 1 q))) (hi 2 t.val) := by
    unfold val_main_v53
    exact (gather_apply _ _ b t q _ (hi_lt (by decide) t.isLt) (hiAt1 t)).trans (sumsAt1 x4 b _ q)
  have e2 : val_main_v60 (F := Ideal) x4 (ix3 b t q) = prefixSum (fun s => x4 (ix3 b s (chan 1 q))) (lo 2 t.val) := by
    unfold val_main_v60
    exact (gather_apply _ _ b t q _ (lo_lt (by decide) t.isLt) (loAt1 t)).trans (sumsAt1 x4 b _ q)
  have e3 : val_main_v62 (F := Ideal) (ix3 b t q) = cnt 2 t.val := by
    have e : idx_main_v45 (idx_main_v62 (ix3 b t q)) = ix1 t := by
      funext a
      match a with
      | ⟨0, _⟩ => rfl
    rw [val_main_v62_apply, val_main_v45_apply, e, val_main_v44_apply, val_main_v43_apply, hi1, lo1]
    rfl
  have e4 : val_main_v64 (F := Ideal) x4 (ix3 b t q) = x4 (ix3 b t (chan 1 q)) := by
    rw [val_main_v64_apply]
    refine congrArg x4 (funext fun a => ?_)
    match a with
    | ⟨0, _⟩ => rfl
    | ⟨1, _⟩ => rfl
    | ⟨2, _⟩ => exact Fin.ext (by show 64 + q.val = 1 * 64 + q.val; omega)
  rw [val_main_v65_apply, val_main_v63_apply, val_main_v61_apply, e1, e2, e3, e4]
  rfl

theorem weight1 (q j : Fin 64) : val_main_v67 (F := Ideal) x7 (ix2 q j) = x7 (ix3 1 q j) := by
  rw [val_main_v67_apply, val_main_v66_apply]
  refine congrArg x7 (funext fun a => ?_)
  match a with
  | ⟨0, _⟩ => rfl
  | ⟨1, _⟩ => exact Fin.ext (by show (q.val * 64 + j.val) / 64 % 64 = q.val; omega)
  | ⟨2, _⟩ => exact Fin.ext (by show (q.val * 64 + j.val) % 64 = j.val; omega)

theorem group1 (b : Fin 2) (t : Fin 16384) (j : Fin 64) :
    val_main_v68 (F := Ideal) x4 x7 (ix3 b t j) = ∑ q : Fin 64, centred x4 b t 1 (chan 1 q) * x7 (ix3 1 q j) := by
  rw [val_main_v68_apply]
  refine Finset.sum_congr rfl fun q _ => ?_
  rw [← centred1, ← weight1 x7]
  refine congrArg₂ (fun a b : EReal => a * b) (congrArg (val_main_v65 (F := Ideal) x4) (funext fun a => ?_)) (congrArg (val_main_v67 (F := Ideal) x7) (funext fun a => ?_))
  · match a with
    | ⟨0, _⟩ => rfl
    | ⟨1, _⟩ => rfl
    | ⟨2, _⟩ => rfl
  · match a with
    | ⟨0, _⟩ => rfl
    | ⟨1, _⟩ => rfl

theorem hiAt2 (t : Fin 16384) : val_main_v84 (F := Ideal) (ix2 t 0) = BitVec.ofNat 32 (hi 4 t.val) := by
  have e : idx_main_v84 (ix2 t 0) = ix1 t := by
    funext a
    match a with
    | ⟨0, _⟩ => rfl
  rw [val_main_v84_apply, e]
  show Scalar.select (IntOp.cmpi .slt (val_main_v74 (F := Ideal) (ix1 t)) 0#32) (IntOp.addi (val_main_v74 (F := Ideal) (ix1 t)) 16385#32) (val_main_v74 (F := Ideal) (ix1 t)) = _
  rw [hi2]
  exact wrap_word _ (by have := hi_lt (h := 4) (by decide) t.isLt; omega)

theorem loAt2 (t : Fin 16384) : val_main_v91 (F := Ideal) (ix2 t 0) = BitVec.ofNat 32 (lo 4 t.val) := by
  have e : idx_main_v91 (ix2 t 0) = ix1 t := by
    funext a
    match a with
    | ⟨0, _⟩ => rfl
  rw [val_main_v91_apply, e]
  show Scalar.select (IntOp.cmpi .slt (val_main_v71 (F := Ideal) (ix1 t)) 0#32) (IntOp.addi (val_main_v71 (F := Ideal) (ix1 t)) 16385#32) (val_main_v71 (F := Ideal) (ix1 t)) = _
  rw [lo2]
  exact wrap_word _ (by have := lo_lt (h := 4) (by decide) t.isLt; omega)

theorem sumsAt2 (b : Fin 2) (n : Fin 16385) (q : Fin 64) :
    val_main_v78 (F := Ideal) x4 (ix3 b n q) = prefixSum (fun s => x4 (ix3 b s (chan 2 q))) n.val := by
  have e : idx_main_v78 (ix3 b n q) = ix3 b n (chan 2 q) := by
    funext a
    match a with
    | ⟨0, _⟩ => rfl
    | ⟨1, _⟩ => rfl
    | ⟨2, _⟩ => exact Fin.ext (by show 128 + q.val = 2 * 64 + q.val; omega)
  rw [val_main_v78_apply, e, sums_apply]

theorem centred2 (b : Fin 2) (t : Fin 16384) (q : Fin 64) :
    val_main_v97 (F := Ideal) x4 (ix3 b t q) = centred x4 b t 2 (chan 2 q) := by
  have e1 : val_main_v85 (F := Ideal) x4 (ix3 b t q) = prefixSum (fun s => x4 (ix3 b s (chan 2 q))) (hi 4 t.val) := by
    unfold val_main_v85
    exact (gather_apply _ _ b t q _ (hi_lt (by decide) t.isLt) (hiAt2 t)).trans (sumsAt2 x4 b _ q)
  have e2 : val_main_v92 (F := Ideal) x4 (ix3 b t q) = prefixSum (fun s => x4 (ix3 b s (chan 2 q))) (lo 4 t.val) := by
    unfold val_main_v92
    exact (gather_apply _ _ b t q _ (lo_lt (by decide) t.isLt) (loAt2 t)).trans (sumsAt2 x4 b _ q)
  have e3 : val_main_v94 (F := Ideal) (ix3 b t q) = cnt 4 t.val := by
    have e : idx_main_v77 (idx_main_v94 (ix3 b t q)) = ix1 t := by
      funext a
      match a with
      | ⟨0, _⟩ => rfl
    rw [val_main_v94_apply, val_main_v77_apply, e, val_main_v76_apply, val_main_v75_apply, hi2, lo2]
    rfl
  have e4 : val_main_v96 (F := Ideal) x4 (ix3 b t q) = x4 (ix3 b t (chan 2 q)) := by
    rw [val_main_v96_apply]
    refine congrArg x4 (funext fun a => ?_)
    match a with
    | ⟨0, _⟩ => rfl
    | ⟨1, _⟩ => rfl
    | ⟨2, _⟩ => exact Fin.ext (by show 128 + q.val = 2 * 64 + q.val; omega)
  rw [val_main_v97_apply, val_main_v95_apply, val_main_v93_apply, e1, e2, e3, e4]
  rfl

theorem weight2 (q j : Fin 64) : val_main_v99 (F := Ideal) x7 (ix2 q j) = x7 (ix3 2 q j) := by
  rw [val_main_v99_apply, val_main_v98_apply]
  refine congrArg x7 (funext fun a => ?_)
  match a with
  | ⟨0, _⟩ => rfl
  | ⟨1, _⟩ => exact Fin.ext (by show (q.val * 64 + j.val) / 64 % 64 = q.val; omega)
  | ⟨2, _⟩ => exact Fin.ext (by show (q.val * 64 + j.val) % 64 = j.val; omega)

theorem group2 (b : Fin 2) (t : Fin 16384) (j : Fin 64) :
    val_main_v100 (F := Ideal) x4 x7 (ix3 b t j) = ∑ q : Fin 64, centred x4 b t 2 (chan 2 q) * x7 (ix3 2 q j) := by
  rw [val_main_v100_apply]
  refine Finset.sum_congr rfl fun q _ => ?_
  rw [← centred2, ← weight2 x7]
  refine congrArg₂ (fun a b : EReal => a * b) (congrArg (val_main_v97 (F := Ideal) x4) (funext fun a => ?_)) (congrArg (val_main_v99 (F := Ideal) x7) (funext fun a => ?_))
  · match a with
    | ⟨0, _⟩ => rfl
    | ⟨1, _⟩ => rfl
    | ⟨2, _⟩ => rfl
  · match a with
    | ⟨0, _⟩ => rfl
    | ⟨1, _⟩ => rfl

theorem hiAt3 (t : Fin 16384) : val_main_v116 (F := Ideal) (ix2 t 0) = BitVec.ofNat 32 (hi 8 t.val) := by
  have e : idx_main_v116 (ix2 t 0) = ix1 t := by
    funext a
    match a with
    | ⟨0, _⟩ => rfl
  rw [val_main_v116_apply, e]
  show Scalar.select (IntOp.cmpi .slt (val_main_v106 (F := Ideal) (ix1 t)) 0#32) (IntOp.addi (val_main_v106 (F := Ideal) (ix1 t)) 16385#32) (val_main_v106 (F := Ideal) (ix1 t)) = _
  rw [hi3]
  exact wrap_word _ (by have := hi_lt (h := 8) (by decide) t.isLt; omega)

theorem loAt3 (t : Fin 16384) : val_main_v123 (F := Ideal) (ix2 t 0) = BitVec.ofNat 32 (lo 8 t.val) := by
  have e : idx_main_v123 (ix2 t 0) = ix1 t := by
    funext a
    match a with
    | ⟨0, _⟩ => rfl
  rw [val_main_v123_apply, e]
  show Scalar.select (IntOp.cmpi .slt (val_main_v103 (F := Ideal) (ix1 t)) 0#32) (IntOp.addi (val_main_v103 (F := Ideal) (ix1 t)) 16385#32) (val_main_v103 (F := Ideal) (ix1 t)) = _
  rw [lo3]
  exact wrap_word _ (by have := lo_lt (h := 8) (by decide) t.isLt; omega)

theorem sumsAt3 (b : Fin 2) (n : Fin 16385) (q : Fin 64) :
    val_main_v110 (F := Ideal) x4 (ix3 b n q) = prefixSum (fun s => x4 (ix3 b s (chan 3 q))) n.val := by
  have e : idx_main_v110 (ix3 b n q) = ix3 b n (chan 3 q) := by
    funext a
    match a with
    | ⟨0, _⟩ => rfl
    | ⟨1, _⟩ => rfl
    | ⟨2, _⟩ => exact Fin.ext (by show 192 + q.val = 3 * 64 + q.val; omega)
  rw [val_main_v110_apply, e, sums_apply]

theorem centred3 (b : Fin 2) (t : Fin 16384) (q : Fin 64) :
    val_main_v129 (F := Ideal) x4 (ix3 b t q) = centred x4 b t 3 (chan 3 q) := by
  have e1 : val_main_v117 (F := Ideal) x4 (ix3 b t q) = prefixSum (fun s => x4 (ix3 b s (chan 3 q))) (hi 8 t.val) := by
    unfold val_main_v117
    exact (gather_apply _ _ b t q _ (hi_lt (by decide) t.isLt) (hiAt3 t)).trans (sumsAt3 x4 b _ q)
  have e2 : val_main_v124 (F := Ideal) x4 (ix3 b t q) = prefixSum (fun s => x4 (ix3 b s (chan 3 q))) (lo 8 t.val) := by
    unfold val_main_v124
    exact (gather_apply _ _ b t q _ (lo_lt (by decide) t.isLt) (loAt3 t)).trans (sumsAt3 x4 b _ q)
  have e3 : val_main_v126 (F := Ideal) (ix3 b t q) = cnt 8 t.val := by
    have e : idx_main_v109 (idx_main_v126 (ix3 b t q)) = ix1 t := by
      funext a
      match a with
      | ⟨0, _⟩ => rfl
    rw [val_main_v126_apply, val_main_v109_apply, e, val_main_v108_apply, val_main_v107_apply, hi3, lo3]
    rfl
  have e4 : val_main_v128 (F := Ideal) x4 (ix3 b t q) = x4 (ix3 b t (chan 3 q)) := by
    rw [val_main_v128_apply]
    refine congrArg x4 (funext fun a => ?_)
    match a with
    | ⟨0, _⟩ => rfl
    | ⟨1, _⟩ => rfl
    | ⟨2, _⟩ => exact Fin.ext (by show 192 + q.val = 3 * 64 + q.val; omega)
  rw [val_main_v129_apply, val_main_v127_apply, val_main_v125_apply, e1, e2, e3, e4]
  rfl

theorem weight3 (q j : Fin 64) : val_main_v131 (F := Ideal) x7 (ix2 q j) = x7 (ix3 3 q j) := by
  rw [val_main_v131_apply, val_main_v130_apply]
  refine congrArg x7 (funext fun a => ?_)
  match a with
  | ⟨0, _⟩ => rfl
  | ⟨1, _⟩ => exact Fin.ext (by show (q.val * 64 + j.val) / 64 % 64 = q.val; omega)
  | ⟨2, _⟩ => exact Fin.ext (by show (q.val * 64 + j.val) % 64 = j.val; omega)

theorem group3 (b : Fin 2) (t : Fin 16384) (j : Fin 64) :
    val_main_v132 (F := Ideal) x4 x7 (ix3 b t j) = ∑ q : Fin 64, centred x4 b t 3 (chan 3 q) * x7 (ix3 3 q j) := by
  rw [val_main_v132_apply]
  refine Finset.sum_congr rfl fun q _ => ?_
  rw [← centred3, ← weight3 x7]
  refine congrArg₂ (fun a b : EReal => a * b) (congrArg (val_main_v129 (F := Ideal) x4) (funext fun a => ?_)) (congrArg (val_main_v131 (F := Ideal) x7) (funext fun a => ?_))
  · match a with
    | ⟨0, _⟩ => rfl
    | ⟨1, _⟩ => rfl
    | ⟨2, _⟩ => rfl
  · match a with
    | ⟨0, _⟩ => rfl
    | ⟨1, _⟩ => rfl

theorem joined (y0 y1 y2 y3 : FVec Ideal S2x16384x64 .f32) (b : Fin 2) (t : Fin 16384) (j : Fin 256) :
    concatenate S2x16384x256 2 [⟨S2x16384x64, y0⟩, ⟨S2x16384x64, y1⟩, ⟨S2x16384x64, y2⟩, ⟨S2x16384x64, y3⟩]
        concatenates_S2x16384x64_S2x16384x64_S2x16384x64_S2x16384x64_S2x16384x256_d2 (ix3 b t j)
      = (![y0, y1, y2, y3] : Fin 4 → FVec Ideal S2x16384x64 .f32) (grp j) (ix3 b t ⟨j.val % 64, by omega⟩) := by
  pointwise []
  have hj := j.isLt
  have pick (y : FVec Ideal S2x16384x64 .f32) {p q : Fin 64} (h : p.val = q.val) : y (ix3 b t p) = y (ix3 b t q) := by
    rw [Fin.ext h]
  rcases (show j.val / 64 = 0 ∨ j.val / 64 = 1 ∨ j.val / 64 = 2 ∨ j.val / 64 = 3 by omega) with e | e | e | e
  · rw [show grp j = 0 from Fin.ext e]
    split_ifs <;> first
      | (exfalso; omega)
      | exact pick y0 (by dsimp only; omega)
  · rw [show grp j = 1 from Fin.ext e]
    split_ifs <;> first
      | (exfalso; omega)
      | exact pick y1 (by dsimp only; omega)
  · rw [show grp j = 2 from Fin.ext e]
    split_ifs <;> first
      | (exfalso; omega)
      | exact pick y2 (by dsimp only; omega)
  · rw [show grp j = 3 from Fin.ext e]
    split_ifs <;> first
      | (exfalso; omega)
      | exact pick y3 (by dsimp only; omega)

theorem groups (b : Fin 2) (t : Fin 16384) (j : Fin 256) :
    val_main_v133 (F := Ideal) x4 x7 (ix3 b t j)
      = ∑ q : Fin 64, centred x4 b t (grp j) (chan (grp j) q) * x7 (ix3 (grp j) q ⟨j.val % 64, by omega⟩) := by
  unfold val_main_v133
  refine (joined _ _ _ _ b t j).trans ?_
  generalize grp j = g
  match g with
  | 0 => exact group0 x4 x7 b t _
  | 1 => exact group1 x4 x7 b t _
  | 2 => exact group2 x4 x7 b t _
  | 3 => exact group3 x4 x7 b t _

/-- The groups' sums over their windows are the running sums' differences where the values are finite. -/
theorem centred_eq (hx : ∀ i, ∃ r : ℝ, x4 i = (r : EReal)) (b : Fin 2) (t : Fin 16384) (k : Fin 256) :
    centred x4 b t (grp k) k = mean (grp k) t.val (around (fun s => x4 (ix3 b s k)) t.val) - x4 (ix3 b t k) := by
  unfold centred mean
  rw [win_prefix _ (fun s => hx (ix3 b s k))]

theorem pooled_eq (hx : ∀ i, ∃ r : ℝ, x4 i = (r : EReal)) (b : Fin 2) (t : Fin 16384) (j : Fin 256) :
    val_main_v136 (F := Ideal) x4 x7 x8 (ix3 b t j)
      = pooled (fun k => mean (grp k) t.val (around (fun s => x4 (ix3 b s k)) t.val) - x4 (ix3 b t k)) (fun g q l => x7 (ix3 g q l)) (fun l => x8 (ix1 l)) j := by
  have e : val_main_v135 (F := Ideal) x8 (ix3 b t j) = x8 (ix1 j) := by
    rw [val_main_v135_apply, val_main_v134_apply]
    refine congrArg x8 (funext fun a => ?_)
    match a with
    | ⟨0, _⟩ => rfl
  rw [val_main_v136_apply, groups, e]
  unfold pooled
  refine congrArg (fun a : EReal => a * x8 (ix1 j)) (Finset.sum_congr rfl fun q _ => ?_)
  have h1 : grp (chan (grp j) q) = grp j := Fin.ext (by show ((grp j).val * 64 + q.val) / 64 = (grp j).val; omega)
  have h2 := centred_eq x4 hx b t (chan (grp j) q)
  rw [h1] at h2
  rw [h2]
  dsimp only
  rw [h1]

theorem fourier_eq (b : Fin 2) (t : Fin 16384) (l : Fin 256) :
    val_main_v137 (F := Ideal) x5 x9 (ix3 b t l) = ∑ k : Fin 256, x5 (ix3 b t k) * x9 (ix2 k l) := by
  rw [val_main_v137_apply]
  refine Finset.sum_congr rfl fun k _ => congrArg₂ (fun a b : EReal => a * b) (congrArg x5 (funext fun a => ?_)) (congrArg x9 (funext fun a => ?_))
  · match a with
    | ⟨0, _⟩ => rfl
    | ⟨1, _⟩ => rfl
    | ⟨2, _⟩ => rfl
  · match a with
    | ⟨0, _⟩ => rfl
    | ⟨1, _⟩ => rfl

theorem gate0 (b : Fin 2) (t : Fin 16384) (k : Fin 1024) : val_main_v138 (F := Ideal) x6 (ix3 b t k) = x6 (ix3 b t (gateAt 0 k)) := by
  rw [val_main_v138_apply]
  refine congrArg x6 (funext fun a => ?_)
  match a with
  | ⟨0, _⟩ => rfl
  | ⟨1, _⟩ => rfl
  | ⟨2, _⟩ => exact Fin.ext (by show k.val = 0 * 1024 + k.val; omega)

theorem branchWeight0 (l : Fin 256) (k : Fin 1024) : val_main_v140 (F := Ideal) x10 (ix2 l k) = x10 (ix3 0 l k) := by
  rw [val_main_v140_apply, val_main_v139_apply]
  refine congrArg x10 (funext fun a => ?_)
  match a with
  | ⟨0, _⟩ => rfl
  | ⟨1, _⟩ => exact Fin.ext (by show (l.val * 1024 + k.val) / 1024 % 256 = l.val; omega)
  | ⟨2, _⟩ => exact Fin.ext (by show (l.val * 1024 + k.val) % 1024 = k.val; omega)

theorem branch0 (b : Fin 2) (t : Fin 16384) (k : Fin 1024) :
    val_main_v141 (F := Ideal) x2 x10 (ix3 b t k) = ∑ l : Fin 256, (x2) (ix3 b t l) * x10 (ix3 0 l k) := by
  rw [val_main_v141_apply]
  refine Finset.sum_congr rfl fun l _ => ?_
  rw [← branchWeight0 x10]
  refine congrArg₂ (fun a b : EReal => a * b) (congrArg (x2) (funext fun a => ?_)) (congrArg (val_main_v140 (F := Ideal) x10) (funext fun a => ?_))
  · match a with
    | ⟨0, _⟩ => rfl
    | ⟨1, _⟩ => rfl
    | ⟨2, _⟩ => rfl
  · match a with
    | ⟨0, _⟩ => rfl
    | ⟨1, _⟩ => rfl

theorem gate1 (b : Fin 2) (t : Fin 16384) (k : Fin 1024) : val_main_v143 (F := Ideal) x6 (ix3 b t k) = x6 (ix3 b t (gateAt 1 k)) := by
  rw [val_main_v143_apply]
  refine congrArg x6 (funext fun a => ?_)
  match a with
  | ⟨0, _⟩ => rfl
  | ⟨1, _⟩ => rfl
  | ⟨2, _⟩ => exact Fin.ext (by show 1024 + k.val = 1 * 1024 + k.val; omega)

theorem branchWeight1 (l : Fin 256) (k : Fin 1024) : val_main_v145 (F := Ideal) x10 (ix2 l k) = x10 (ix3 1 l k) := by
  rw [val_main_v145_apply, val_main_v144_apply]
  refine congrArg x10 (funext fun a => ?_)
  match a with
  | ⟨0, _⟩ => rfl
  | ⟨1, _⟩ => exact Fin.ext (by show (l.val * 1024 + k.val) / 1024 % 256 = l.val; omega)
  | ⟨2, _⟩ => exact Fin.ext (by show (l.val * 1024 + k.val) % 1024 = k.val; omega)

theorem branch1 (b : Fin 2) (t : Fin 16384) (k : Fin 1024) :
    val_main_v146 (F := Ideal) x3 x10 (ix3 b t k) = ∑ l : Fin 256, (x3) (ix3 b t l) * x10 (ix3 1 l k) := by
  rw [val_main_v146_apply]
  refine Finset.sum_congr rfl fun l _ => ?_
  rw [← branchWeight1 x10]
  refine congrArg₂ (fun a b : EReal => a * b) (congrArg (x3) (funext fun a => ?_)) (congrArg (val_main_v145 (F := Ideal) x10) (funext fun a => ?_))
  · match a with
    | ⟨0, _⟩ => rfl
    | ⟨1, _⟩ => rfl
    | ⟨2, _⟩ => rfl
  · match a with
    | ⟨0, _⟩ => rfl
    | ⟨1, _⟩ => rfl

theorem gate2 (b : Fin 2) (t : Fin 16384) (k : Fin 1024) : val_main_v149 (F := Ideal) x6 (ix3 b t k) = x6 (ix3 b t (gateAt 2 k)) := by
  rw [val_main_v149_apply]
  refine congrArg x6 (funext fun a => ?_)
  match a with
  | ⟨0, _⟩ => rfl
  | ⟨1, _⟩ => rfl
  | ⟨2, _⟩ => exact Fin.ext (by show 2048 + k.val = 2 * 1024 + k.val; omega)

theorem branchWeight2 (l : Fin 256) (k : Fin 1024) : val_main_v151 (F := Ideal) x10 (ix2 l k) = x10 (ix3 2 l k) := by
  rw [val_main_v151_apply, val_main_v150_apply]
  refine congrArg x10 (funext fun a => ?_)
  match a with
  | ⟨0, _⟩ => rfl
  | ⟨1, _⟩ => exact Fin.ext (by show (l.val * 1024 + k.val) / 1024 % 256 = l.val; omega)
  | ⟨2, _⟩ => exact Fin.ext (by show (l.val * 1024 + k.val) % 1024 = k.val; omega)

theorem branch2 (b : Fin 2) (t : Fin 16384) (k : Fin 1024) :
    val_main_v152 (F := Ideal) x4 x7 x8 x10 (ix3 b t k) = ∑ l : Fin 256, (val_main_v136 (F := Ideal) x4 x7 x8) (ix3 b t l) * x10 (ix3 2 l k) := by
  rw [val_main_v152_apply]
  refine Finset.sum_congr rfl fun l _ => ?_
  rw [← branchWeight2 x10]
  refine congrArg₂ (fun a b : EReal => a * b) (congrArg (val_main_v136 (F := Ideal) x4 x7 x8) (funext fun a => ?_)) (congrArg (val_main_v151 (F := Ideal) x10) (funext fun a => ?_))
  · match a with
    | ⟨0, _⟩ => rfl
    | ⟨1, _⟩ => rfl
    | ⟨2, _⟩ => rfl
  · match a with
    | ⟨0, _⟩ => rfl
    | ⟨1, _⟩ => rfl

theorem gate3 (b : Fin 2) (t : Fin 16384) (k : Fin 1024) : val_main_v155 (F := Ideal) x6 (ix3 b t k) = x6 (ix3 b t (gateAt 3 k)) := by
  rw [val_main_v155_apply]
  refine congrArg x6 (funext fun a => ?_)
  match a with
  | ⟨0, _⟩ => rfl
  | ⟨1, _⟩ => rfl
  | ⟨2, _⟩ => exact Fin.ext (by show 3072 + k.val = 3 * 1024 + k.val; omega)

theorem branchWeight3 (l : Fin 256) (k : Fin 1024) : val_main_v157 (F := Ideal) x10 (ix2 l k) = x10 (ix3 3 l k) := by
  rw [val_main_v157_apply, val_main_v156_apply]
  refine congrArg x10 (funext fun a => ?_)
  match a with
  | ⟨0, _⟩ => rfl
  | ⟨1, _⟩ => exact Fin.ext (by show (l.val * 1024 + k.val) / 1024 % 256 = l.val; omega)
  | ⟨2, _⟩ => exact Fin.ext (by show (l.val * 1024 + k.val) % 1024 = k.val; omega)

theorem branch3 (b : Fin 2) (t : Fin 16384) (k : Fin 1024) :
    val_main_v158 (F := Ideal) x5 x9 x10 (ix3 b t k) = ∑ l : Fin 256, (val_main_v137 (F := Ideal) x5 x9) (ix3 b t l) * x10 (ix3 3 l k) := by
  rw [val_main_v158_apply]
  refine Finset.sum_congr rfl fun l _ => ?_
  rw [← branchWeight3 x10]
  refine congrArg₂ (fun a b : EReal => a * b) (congrArg (val_main_v137 (F := Ideal) x5 x9) (funext fun a => ?_)) (congrArg (val_main_v157 (F := Ideal) x10) (funext fun a => ?_))
  · match a with
    | ⟨0, _⟩ => rfl
    | ⟨1, _⟩ => rfl
    | ⟨2, _⟩ => rfl
  · match a with
    | ⟨0, _⟩ => rfl
    | ⟨1, _⟩ => rfl

theorem result_apply (hx : ∀ i, ∃ r : ℝ, x4 i = (r : EReal)) (b : Fin 2) (t : Fin 16384) (j : Fin 1024) :
    val_main_v164 (F := Ideal) x0 x1 x2 x3 x4 x5 x6 x7 x8 x9 x10 x11 (ix3 b t j) = result x0 x1 x2 x3 x4 x5 x6 x7 x8 x9 x10 x11 b t j := by
  have e1 : val_main_v162 (F := Ideal) x1 (ix3 b t j) = x1 (ix3 b 0 j) := by
    rw [val_main_v162_apply]
    refine congrArg x1 (funext fun a => ?_)
    match a with
    | ⟨0, _⟩ => rfl
    | ⟨1, _⟩ => rfl
    | ⟨2, _⟩ => rfl
  have e2 (k : Fin 1024) : lidx_main_v161 (ix3 b t j) k = ix3 b t k := by
    funext a
    match a with
    | ⟨0, _⟩ => rfl
    | ⟨1, _⟩ => rfl
    | ⟨2, _⟩ => rfl
  have e3 (k : Fin 1024) : ridx_main_v161 (ix3 b t j) k = ix2 k j := by
    funext a
    match a with
    | ⟨0, _⟩ => rfl
    | ⟨1, _⟩ => rfl
  rw [val_main_v164_apply, val_main_v163_apply, e1, val_main_v161_apply]
  unfold result merged
  refine congrArg (fun a : EReal => x0 (ix3 b t j) + x1 (ix3 b 0 j) * a) (Finset.sum_congr rfl fun k _ => ?_)
  rw [e2, e3]
  refine congrArg (fun a : EReal => a * x11 (ix2 k j)) ?_
  rw [val_main_v160_apply, val_main_v154_apply, val_main_v148_apply, val_main_v142_apply, val_main_v147_apply, val_main_v153_apply,
    val_main_v159_apply, gate0, gate1, gate2, gate3, branch0, branch1, branch2, branch3]
  refine congrArg₂ (fun p f : EReal => x6 (ix3 b t (gateAt 0 k)) * (∑ l : Fin 256, x2 (ix3 b t l) * x10 (ix3 0 l k))
      + x6 (ix3 b t (gateAt 1 k)) * (∑ l : Fin 256, x3 (ix3 b t l) * x10 (ix3 1 l k)) + x6 (ix3 b t (gateAt 2 k)) * p
      + x6 (ix3 b t (gateAt 3 k)) * f) (Finset.sum_congr rfl fun l _ => ?_) (Finset.sum_congr rfl fun l _ => ?_)
  · rw [pooled_eq x4 x7 x8 hx]
  · rw [fourier_eq]

end Cert.Merge.Ref
-- ==== Proof.Merge.Array.lean ====
/-
  The blocks of the merge read from its arguments, and its whole result.
-/
module

public import proofs.«01_k».proof.Proof.Merge.Block
public import proofs.«01_k».proof.Proof.Merge.Host
public import proofs.«01_k».proof.Proof.Merge.Pool
public import proofs.«01_k».proof.Proof.Merge.Ref
public import Idealize.ShloMosaic.Lib.Claim

@[expose] public section

set_option maxRecDepth 16384

noncomputable section

namespace Cert.Merge

open Cert.Kernel4Ideal Cert.Kernel4Ideal.Gen Idealize.ShloMosaic Idealize.ShloMosaic.TcCoe Idealize.SL.Sem

variable (m : (ℓ : Loc nD τ sig) → Buf (Elt Ideal) ℓ) (c : Dev nD) (t : Fin cfg0.N)

/-- The blocks that grid point `(b, i)` is given: sample `b`, tile `i` of the tokens, and of the pooling input the eight
rows on either side. -/
theorem idx : ∀ t : Fin grid0.N, win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, 0, (grid0.coords t 1).val]
    ∧ win0_4.index t = ![(grid0.coords t 0).val, (grid0.coords t 1).val, 0]
    ∧ win0_5.index t = ![(grid0.coords t 0).val, (grid0.coords t 1).val * 128 - 1, 0]
    ∧ win0_6.index t = ![(grid0.coords t 0).val, min ((grid0.coords t 1).val * 128 + 128) 2047, 0]
    ∧ win0_7.index t = ![(grid0.coords t 0).val, (grid0.coords t 1).val, 0]
    ∧ win0_8.index t = ![(grid0.coords t 0).val, (grid0.coords t 1).val, 0]
    ∧ win0_9.index t = ![0, 0, 0]
    ∧ win0_10.index t = ![0, 0]
    ∧ win0_11.index t = ![0, 0]
    ∧ win0_12.index t = ![0, 0]
    ∧ win0_13.index t = ![0, 0]
    ∧ win0_14.index t = ![(grid0.coords t 0).val, (grid0.coords t 1).val, 0] := by
  decide +kernel

/-- The point's sample and tile, and the token in row `r` of the tile. -/
abbrev pb (t : Fin cfg0.N) : Fin 2 := ⟨(grid0.coords t 0).val, (grid0.coords t 0).isLt⟩
abbrev pi (t : Fin cfg0.N) : Fin 16 := ⟨(grid0.coords t 1).val, (grid0.coords t 1).isLt⟩
abbrev tok (t : Fin cfg0.N) (r : Fin 1024) : Fin 16384 := ⟨(pi t).val * 1024 + r.val, by omega⟩

/-- The tokens in row `r` of the eight before the tile, and of the eight after it. -/
abbrev tokBefore (t : Fin cfg0.N) (r : Fin 8) : Fin 16384 := ⟨((pi t).val * 128 - 1) * 8 + r.val, by omega⟩
abbrev tokAfter (t : Fin cfg0.N) (r : Fin 8) : Fin 16384 := ⟨min ((pi t).val * 128 + 128) 2047 * 8 + r.val, by omega⟩

/-- The arguments. -/
abbrev a0 : Vec Ideal S2x16384x1024 .f32 := m ((c : Thread nD τ).loc main_arg0)
abbrev a1 : Vec Ideal S2x1x1024 .f32 := m ((c : Thread nD τ).loc main_arg1)
abbrev a2 : Vec Ideal S2x16384x256 .f32 := m ((c : Thread nD τ).loc main_arg2)
abbrev a3 : Vec Ideal S2x16384x256 .f32 := m ((c : Thread nD τ).loc main_arg3)
abbrev a4 : Vec Ideal S2x16384x256 .f32 := m ((c : Thread nD τ).loc main_arg4)
abbrev a5 : Vec Ideal S2x16384x256 .f32 := m ((c : Thread nD τ).loc main_arg5)
abbrev a6 : Vec Ideal S2x16384x4096 .f32 := m ((c : Thread nD τ).loc main_arg6)
abbrev a7 : Vec Ideal S4x64x64 .f32 := m ((c : Thread nD τ).loc main_arg7)
abbrev a8 : Vec Ideal S256 .f32 := m ((c : Thread nD τ).loc main_arg8)
abbrev a9 : Vec Ideal S256x256 .f32 := m ((c : Thread nD τ).loc main_arg9)
abbrev a10 : Vec Ideal S4x256x1024 .f32 := m ((c : Thread nD τ).loc main_arg10)
abbrev a11 : Vec Ideal S1024x1024 .f32 := m ((c : Thread nD τ).loc main_arg11)

theorem blk0 (r j : Fin 1024) : iblk m c 0 t (ix3 0 r j) = a0 m c (ix3 (pb t) (tok t r) j) := by
  blk_ext [iblk, V, idx t]

theorem blk1 (j : Fin 1024) : iblk m c 1 t (ix3 0 0 j) = a1 m c (ix3 (pb t) 0 j) := by
  blk_ext [iblk, V, idx t]

theorem blk2 (r : Fin 1024) (l : Fin 256) : iblk m c 2 t (ix3 0 r l) = a2 m c (ix3 (pb t) (tok t r) l) := by
  blk_ext [iblk, V, idx t]

theorem blk3 (r : Fin 1024) (l : Fin 256) : iblk m c 3 t (ix3 0 l r) = a3 m c (ix3 (pb t) (tok t r) l) := by
  have e : iblk m c 3 t (ix3 0 l r) = V m c main_v14 (ix3 (pb t) l (tok t r)) := by blk_ext [iblk, idx t]
  rw [e, v14]
  pointwise
  rfl

theorem blk4 (r : Fin 1024) (l : Fin 256) : iblk m c 4 t (ix3 0 r l) = a4 m c (ix3 (pb t) (tok t r) l) := by
  blk_ext [iblk, V, idx t]

theorem blk5 (r : Fin 8) (l : Fin 256) : iblk m c 5 t (ix3 0 r l) = a4 m c (ix3 (pb t) (tokBefore t r) l) := by
  blk_ext [iblk, V, idx t]

theorem blk6 (r : Fin 8) (l : Fin 256) : iblk m c 6 t (ix3 0 r l) = a4 m c (ix3 (pb t) (tokAfter t r) l) := by
  blk_ext [iblk, V, idx t]

theorem blk7 (r : Fin 1024) (l : Fin 256) : iblk m c 7 t (ix3 0 r l) = a5 m c (ix3 (pb t) (tok t r) l) := by
  blk_ext [iblk, V, idx t]

theorem blk8 (r : Fin 1024) (k : Fin 4096) : iblk m c 8 t (ix3 0 r k) = a6 m c (ix3 (pb t) (tok t r) k) := by
  have e : iblk m c 8 t (ix3 0 r k) = V m c main_v15 (ix3 (pb t) (tok t r) k) := by blk_ext [iblk, idx t]
  rw [e, v15]
  pointwise

theorem blk9 (g : Fin 4) (l : Fin 256) (k : Fin 1024) : iblk m c 9 t (ix3 g l k) = a10 m c (ix3 g l k) := by
  have e : iblk m c 9 t (ix3 g l k) = V m c main_v0 (ix3 g l k) := by blk_ext [iblk, idx t]
  rw [e, v0]
  pointwise

theorem blk10 (k j : Fin 256) : iblk m c 10 t (ix2 k j)
    = if grp k = grp j then a7 m c (ix3 (grp k) ⟨k.val % 64, by omega⟩ ⟨j.val % 64, by omega⟩) else 0 := by
  have e : iblk m c 10 t (ix2 k j) = V m c main_v11 (ix2 k j) := by blk_ext [iblk, idx t]
  rw [e, v11]
  exact diag_apply (a7 m c) k j

theorem blk11 (j : Fin 256) : iblk m c 11 t (ix2 0 j) = a8 m c (ix1 j) := by
  have e : iblk m c 11 t (ix2 0 j) = V m c main_v12 (ix2 0 j) := by blk_ext [iblk, idx t]
  rw [e, v12]
  pointwise

theorem blk12 (k l : Fin 256) : iblk m c 12 t (ix2 k l) = a9 m c (ix2 k l) := by
  have e : iblk m c 12 t (ix2 k l) = V m c main_v1 (ix2 k l) := by blk_ext [iblk, idx t]
  rw [e, v1]
  pointwise

theorem blk13 (k j : Fin 1024) : iblk m c 13 t (ix2 k j) = a11 m c (ix2 k j) := by
  have e : iblk m c 13 t (ix2 k j) = V m c main_v13 (ix2 k j) := by blk_ext [iblk, idx t]
  rw [e, v13]
  pointwise

theorem outside_at (u : Fin 16384 → EReal) {z : Int} (s : Fin 16384) (h : z = s.val) : outside u z = u s := by
  unfold outside
  rw [dif_pos (by omega)]
  exact congrArg u (Fin.ext (by show z.toNat = s.val; omega))

theorem outside_zero (u : Fin 16384 → EReal) {z : Int} (h : z < 0 ∨ 16384 ≤ z) : outside u z = 0 := by
  unfold outside
  rw [dif_neg (by omega)]

/-- The tile's rows with the eight on either side are the channel around the row's token. -/
theorem rows_eq (r : Fin 1024) (k : Fin 256) (o : Nat) (ho : o < 16) :
    rows (grid0.coords t 1).val (iblk m c 4 t) (iblk m c 5 t) (iblk m c 6 t) k (o + r.val)
      = around (fun s => a4 m c (ix3 (pb t) s k)) (tok t r).val o := by
  have hi := (pi t).isLt
  have hr := r.isLt
  change rows (pi t).val _ _ _ _ _ = _
  unfold rows around
  by_cases h1 : o + r.val < 8
  · rw [dif_pos h1]
    by_cases h2 : 0 < (pi t).val
    · rw [if_pos h2]
      refine (blk5 m c t _ k).trans (outside_at (fun s => a4 m c (ix3 (pb t) s k)) (tokBefore t ⟨o + r.val, h1⟩) ?_).symm
      show (((pi t).val * 1024 + r.val : Nat) : Int) + o - 8 = ((((pi t).val * 128 - 1) * 8 + (o + r.val) : Nat) : Int)
      omega
    · rw [if_neg h2]
      refine (outside_zero _ (Or.inl ?_)).symm
      show (((pi t).val * 1024 + r.val : Nat) : Int) + o - 8 < 0
      omega
  · rw [dif_neg h1]
    by_cases h2 : o + r.val - 8 < 1024
    · rw [dif_pos h2]
      refine (blk4 m c t _ k).trans (outside_at (fun s => a4 m c (ix3 (pb t) s k)) (tok t ⟨o + r.val - 8, h2⟩) ?_).symm
      show (((pi t).val * 1024 + r.val : Nat) : Int) + o - 8 = (((pi t).val * 1024 + (o + r.val - 8) : Nat) : Int)
      omega
    · rw [dif_neg h2]
      have h3 : o + r.val - 8 - 1024 < 8 := by omega
      rw [dif_pos h3]
      by_cases h4 : (pi t).val < 15
      · rw [if_pos h4]
        refine (blk6 m c t _ k).trans (outside_at (fun s => a4 m c (ix3 (pb t) s k)) (tokAfter t ⟨o + r.val - 8 - 1024, h3⟩) ?_).symm
        show (((pi t).val * 1024 + r.val : Nat) : Int) + o - 8 = ((min ((pi t).val * 128 + 128) 2047 * 8 + (o + r.val - 8 - 1024) : Nat) : Int)
        omega
      · rw [if_neg h4]
        refine (outside_zero _ (Or.inr ?_)).symm
        show 16384 ≤ (((pi t).val * 1024 + r.val : Nat) : Int) + o - 8
        omega

/-- A window's sum takes sixteen values at most. -/
theorem win_congr (g : Fin 4) {f f' : Nat → EReal} (h : ∀ o, o < 16 → f o = f' o) : win g f = win g f' := by
  match g with
  | 0 => simp only [win]; rw [h 8 (by decide), h 7 (by decide)]
  | 1 => simp only [win]; rw [h 8 (by decide), h 7 (by decide), h 9 (by decide), h 6 (by decide)]
  | 2 =>
    simp only [win]
    rw [h 8 (by decide), h 7 (by decide), h 9 (by decide), h 6 (by decide), h 10 (by decide), h 5 (by decide), h 11 (by decide), h 4 (by decide)]
  | 3 =>
    simp only [win]
    rw [h 8 (by decide), h 7 (by decide), h 9 (by decide), h 6 (by decide), h 10 (by decide), h 5 (by decide), h 11 (by decide), h 4 (by decide),
      h 12 (by decide), h 3 (by decide), h 13 (by decide), h 2 (by decide), h 14 (by decide), h 1 (by decide), h 15 (by decide), h 0 (by decide)]

/-- The pooled channels of a row. -/
theorem pool_eq (r : Fin 1024) (l : Fin 256) :
    (∑ k : Fin 256, (mean (grp k) ((grid0.coords t 1).val * 1024 + r.val)
        (fun o => rows (grid0.coords t 1).val (iblk m c 4 t) (iblk m c 5 t) (iblk m c 6 t) k (o + r.val)) - iblk m c 4 t (ix3 0 r k))
          * iblk m c 10 t (ix2 k l)) * iblk m c 11 t (ix2 0 l)
      = pooled (fun k => mean (grp k) (tok t r).val (around (fun s => a4 m c (ix3 (pb t) s k)) (tok t r).val) - a4 m c (ix3 (pb t) (tok t r) k))
          (fun g q j => a7 m c (ix3 g q j)) (fun j => a8 m c (ix1 j)) l := by
  unfold pooled
  refine congrArg₂ (fun a b : EReal => a * b) (Eq.trans (Finset.sum_congr rfl fun k _ => ?_)
    (diag_sum (fun k => mean (grp k) (tok t r).val (around (fun s => a4 m c (ix3 (pb t) s k)) (tok t r).val) - a4 m c (ix3 (pb t) (tok t r) k))
      (fun g q j => a7 m c (ix3 g q j)) l)) (blk11 m c t l)
  refine congrArg₂ (fun a b : EReal => a * b) (congrArg₂ (fun a b : EReal => a - b) ?_ (blk4 m c t r k)) (blk10 m c t k l)
  unfold mean
  exact congrArg (fun a => Ideal.div a (cnt (half (grp k)) (tok t r).val)) (win_congr _ fun o ho => rows_eq m c t r k o ho)

theorem block_eq (r j : Fin 1024) :
    out0_14 (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix3 0 r j)
      = result (a0 m c) (a1 m c) (a2 m c) (a3 m c) (a4 m c) (a5 m c) (a6 m c) (a7 m c) (a8 m c) (a9 m c) (a10 m c) (a11 m c) (pb t) (tok t r) j := by
  rw [out14_apply]
  unfold result
  have e2 : (fun l => iblk m c 2 t (ix3 0 r l)) = fun l => a2 m c (ix3 (pb t) (tok t r) l) := funext fun l => blk2 m c t r l
  have e3 : (fun l => iblk m c 3 t (ix3 0 l r)) = fun l => a3 m c (ix3 (pb t) (tok t r) l) := funext fun l => blk3 m c t r l
  have e6 : (fun k => iblk m c 8 t (ix3 0 r k)) = fun k => a6 m c (ix3 (pb t) (tok t r) k) := funext fun k => blk8 m c t r k
  have e10 : (fun g l k => iblk m c 9 t (ix3 g l k)) = fun g l k => a10 m c (ix3 g l k) :=
    funext fun g => funext fun l => funext fun k => blk9 m c t g l k
  have e11 : (fun k => iblk m c 13 t (ix2 k j)) = fun k => a11 m c (ix2 k j) := funext fun k => blk13 m c t k j
  rw [blk0, blk1, e2, e3, e6, e10, e11]
  exact congrArg₂ (fun p f : Fin 256 → EReal => merged _ _ _ _ p f _ _ _) (funext fun l => pool_eq m c t r l)
    (funext fun l => Finset.sum_congr rfl fun k _ => congrArg₂ (fun a b : EReal => a * b) (blk7 m c t r k) (blk12 m c t k l))

/-- The call's whole result. -/
abbrev whole (x0 : Vec Ideal S2x16384x1024 .f32) (x1 : Vec Ideal S2x1x1024 .f32) (x2 x3 x4 x5 : Vec Ideal S2x16384x256 .f32)
    (x6 : Vec Ideal S2x16384x4096 .f32) (x7 : Vec Ideal S4x64x64 .f32) (x8 : Vec Ideal S256 .f32) (x9 : Vec Ideal S256x256 .f32)
    (x10 : Vec Ideal S4x256x1024 .f32) (x11 : Vec Ideal S1024x1024 .f32) : Vec Ideal S2x16384x1024 .f32 :=
  fun y => result x0 x1 x2 x3 x4 x5 x6 x7 x8 x9 x10 x11 (y 0) (y 1) (y 2)

theorem array_eq : (dats m 0 c).arrAt 14 cfg0.N
    = whole (a0 m c) (a1 m c) (a2 m c) (a3 m c) (a4 m c) (a5 m c) (a6 m c) (a7 m c) (a8 m c) (a9 m c) (a10 m c) (a11 m c) := by
  refine (dats m 0 c).arrAt_eq_of_covers 14 _ (by decide +kernel) fun t hf y => ?_
  obtain ⟨z, r, j, rfl⟩ : ∃ z r j, y = ix3 z r j := ⟨y 0, y 1, y 2, eq_ix3 y⟩
  obtain rfl : z = 0 := Subsingleton.elim _ _
  blk_simp
  rw [after0_14]
  have e : (win0_14.blk t).view.emb (ix3 0 r j) = (ix3 (pb t) (tok t r) j : S2x16384x1024.Idx) := by
    blk_ext [idx t]
  rw [e]
  exact block_eq m c t r j

end Cert.Merge

end
-- ==== Proof.Merge.Algebraic.lean ====
/-
  The five claims about the merge.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_finite_pool
public import proofs.«01_k».proof.Proof.Equal
public import proofs.«01_k».proof.Proof.Merge.Array
public import Idealize.ShloMosaic.Lib.Quiescent

@[expose] public section

noncomputable section

namespace Cert.Merge

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ideal_finite : Cert.quiescent_Kernel4Ideal_pre_finite_pool := fun m ρ _ => Cert.Kernel4Ideal.Gen.frame m ρ

theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_reference_finite : Cert.quiescent_Reference4Ideal_pre_finite_pool := fun m ρ _ => frame_reference m ρ trivial

theorem preserved : Cert.preserves_Kernel4_Kernel4Ideal := trivial

section
open Cert.Pre_finite_pool
variable (x0 : FVec Ideal S2x16384x1024 .f32) (x1 : FVec Ideal S2x1x1024 .f32) (x2 x3 x4 x5 : FVec Ideal S2x16384x256 .f32)
  (x6 : FVec Ideal S2x16384x4096 .f32) (x7 : FVec Ideal S4x64x64 .f32) (x8 : FVec Ideal S256 .f32) (x9 : FVec Ideal S256x256 .f32)
  (x10 : FVec Ideal S4x256x1024 .f32) (x11 : FVec Ideal S1024x1024 .f32)

theorem finite (h : fn (F := Ideal) x0 x1 x2 x3 x4 x5 x6 x7 x8 x9 x10 x11 = fun _ => 1#1) (i) : ∃ r : ℝ, x4 i = r :=
  Cert.Equal.real_of_bits _ ((congrFun h i).symm.trans rfl).symm

end

/-- The reference's whole result, where the pooling input is finite. -/
theorem reference_eq (x0 : Vec Ideal ⟨3, ![2, 16384, 1024]⟩ .f32) (x1 : Vec Ideal ⟨3, ![2, 1, 1024]⟩ .f32)
    (x2 x3 x4 x5 : Vec Ideal ⟨3, ![2, 16384, 256]⟩ .f32) (x6 : Vec Ideal ⟨3, ![2, 16384, 4096]⟩ .f32)
    (x7 : Vec Ideal ⟨3, ![4, 64, 64]⟩ .f32) (x8 : Vec Ideal ⟨1, ![256]⟩ .f32) (x9 : Vec Ideal ⟨2, ![256, 256]⟩ .f32)
    (x10 : Vec Ideal ⟨3, ![4, 256, 1024]⟩ .f32) (x11 : Vec Ideal ⟨2, ![1024, 1024]⟩ .f32) (hx : ∀ i, ∃ r : ℝ, x4 i = (r : EReal)) :
    Cert.Reference4Ideal.Read.val_main_v164 (F := Ideal) x0 x1 x2 x3 x4 x5 x6 x7 x8 x9 x10 x11 = whole x0 x1 x2 x3 x4 x5 x6 x7 x8 x9 x10 x11 := by
  funext y
  obtain ⟨b, t, j, rfl⟩ : ∃ b t j, y = ix3 b t j := ⟨y 0, y 1, y 2, eq_ix3 y⟩
  exact Ref.result_apply x0 x1 x2 x3 x4 x5 x6 x7 x8 x9 x10 x11 hx b t j

/-- Where the pooling input is finite, the kernel and the reference end at the same array. -/
theorem agree : Cert.algebraic_Kernel4Ideal_Reference4Ideal_pre_finite_pool := by
  intro m ρ m' ρ' hpre hag
  refine ⟨fun c => whole (a0 m c) (a1 m c) (a2 m c) (a3 m c) (a4 m c) (a5 m c) (a6 m c) (a7 m c) (a8 m c) (a9 m c) (a10 m c) (a11 m c),
    (θ_run _ _ _).mono (fun r h c => ⟨(h c).1.trans (array_eq m c), (h c).2⟩) (Cert.Kernel4Ideal.Value.run_blocks m ρ),
    (θ_run _ _ _).mono (fun r h c => ⟨(h c).1.trans ?_, (h c).2⟩) (Cert.Reference4Ideal.Value.run (F := Ideal) m' ρ')⟩
  obtain ⟨e0, e1, e2, e3, e4, e5, e6, e7, e8, e9, e10, e11⟩ := hag c
  refine (Cert.Reference4Ideal.Read.val_main_v164_eq _).trans ?_
  show Cert.Reference4Ideal.Read.val_main_v164 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10))
      (m' ((c.tc : Thread Cert.Reference4Ideal.nD Cert.Reference4Ideal.τ).loc Cert.Reference4Ideal.main_arg11)) = _
  rw [e0, e1, e2, e3, e4, e5, e6, e7, e8, e9, e10, e11]
  exact reference_eq _ _ _ _ _ _ _ _ _ _ _ _ (finite _ _ _ _ _ _ _ _ _ _ _ _ (hpre c))

end Cert.Merge

end
-- ==== Proof.Router.Block.lean ====
/-
  One grid point of the router's call, over the extended reals: an entry of each block it writes, from its blocks.
-/
module

public import proofs.«01_k».proof.Proof.Gen.Kernel5Ideal.Value
public import proofs.«01_k».proof.Proof.InProj.Spec
public import Idealize.ShloMosaic.Lib.Pointwise
public import Idealize.ShloMosaic.Lib.Pipeline.ValueKit

@[expose] public section

set_option maxRecDepth 16384

noncomputable section

namespace Cert.Router

open Cert.Kernel5Ideal Cert.Kernel5Ideal.Gen Idealize.ShloMosaic Idealize.ShloMosaic.TcCoe
open Cert.InProj (hid eps)

/-- The greatest of an expert's scores, from minus infinity on. -/
def best (z : Fin 16 → EReal) : EReal := Finset.univ.fold max (Ideal.ofBits .f32 0xFF800000#32) z

/-- The softmax over the experts. -/
def soft (z : Fin 16 → EReal) (e : Fin 16) : EReal :=
  Ideal.div (Ideal.exp (z e - best z)) (∑ k, Ideal.exp (z k - best z))

/-- The token's channels after the norm and the modulation. -/
theorem pay7_apply (x : Vec Ideal S1x2048x1024 .f32) (g : Vec Ideal S1x1024 .f32) (sc sh : Vec Ideal S1x1x1024 .f32) (r : Fin 2048) (k : Fin 1024) :
    k0_pay7 x g sc sh (ix2 r k)
      = hid (fun k => x (ix3 0 r k)) (fun k => g (ix2 0 k)) (fun k => sh (ix3 0 0 k)) (fun k => sc (ix3 0 0 k)) k := by
  unfold k0_pay7
  pointwise [hid, eps]

theorem pay8_apply (x : Vec Ideal S1x2048x1024 .f32) (g : Vec Ideal S1x1024 .f32) (sc sh : Vec Ideal S1x1x1024 .f32) (r : Fin 2048) (k : Fin 1024) :
    k0_pay8 x g sc sh (ix3 0 r k) = k0_pay7 x g sc sh (ix2 r k) := by
  unfold k0_pay8
  generalize k0_pay7 x g sc sh = q
  pointwise

theorem pay9_apply (x : Vec Ideal S1x2048x1024 .f32) (g : Vec Ideal S1x1024 .f32) (sc sh : Vec Ideal S1x1x1024 .f32) (r : Fin 2048) (k : Fin 1024) :
    k0_pay9 x g sc sh (ix2 r k) = k0_pay7 x g sc sh (ix2 r k) := by
  unfold k0_pay9
  generalize k0_pay7 x g sc sh = q
  pointwise

/-- What the cast leaves behind: over the extended reals a number less itself. -/
theorem pay10_apply (x : Vec Ideal S1x2048x1024 .f32) (g : Vec Ideal S1x1024 .f32) (sc sh : Vec Ideal S1x1x1024 .f32) (r : Fin 2048) (k : Fin 1024) :
    k0_pay10 x g sc sh (ix2 r k) = (k0_pay7 x g sc sh (ix2 r k) - k0_pay7 x g sc sh (ix2 r k) : EReal) := by
  unfold k0_pay10 k0_pay9
  generalize k0_pay7 x g sc sh = q
  pointwise

/-- The experts' scores, as three products. -/
def scores (h l : FVec Ideal S2048x1024 .bf16) (a b d : FVec Ideal S16x1024 .bf16) : FVec Ideal S16x2048 .f32 :=
  addf (addf (matmul dot_S16x1024_S2048x1024_S16x2048_1_1_0_0_n_n none a h (constant S16x2048 .f32 0x00000000#32))
      (matmul dot_S16x1024_S2048x1024_S16x2048_1_1_0_0_n_n none b l (constant S16x2048 .f32 0x00000000#32)))
    (matmul dot_S16x1024_S2048x1024_S16x2048_1_1_0_0_n_n none d h (constant S16x2048 .f32 0x00000000#32))

theorem scores_apply (h l : FVec Ideal S2048x1024 .bf16) (a b d : FVec Ideal S16x1024 .bf16) (e : Fin 16) (r : Fin 2048) :
    scores h l a b d (ix2 e r)
      = ∑ k : Fin 1024, a (ix2 e k) * h (ix2 r k) + ∑ k : Fin 1024, b (ix2 e k) * l (ix2 r k) + ∑ k : Fin 1024, d (ix2 e k) * h (ix2 r k) := by
  unfold scores
  pointwise

/-- The softmax over the rows. -/
def softs (z : FVec Ideal S16x2048 .f32) : FVec Ideal S16x2048 .f32 :=
  divf (exp (subf z (broadcastTo S16x2048 (shapeCast S1x2048 (multiReduction .maximumf [0] S2048 z 0xFF800000#32 reduces_S16x2048_S2048 (.inl rfl) rfl) shapeCasts_S2048_S1x2048) broadcasts_S1x2048_S16x2048)))
    (broadcastTo S16x2048 (shapeCast S1x2048 (multiReduction .add [0] S2048
      (exp (subf z (broadcastTo S16x2048 (shapeCast S1x2048 (multiReduction .maximumf [0] S2048 z 0xFF800000#32 reduces_S16x2048_S2048 (.inl rfl) rfl) shapeCasts_S2048_S1x2048) broadcasts_S1x2048_S16x2048)))
      0x00000000#32 reduces_S16x2048_S2048 (.inl rfl) rfl) shapeCasts_S2048_S1x2048) broadcasts_S1x2048_S16x2048)

theorem softs_apply (z : FVec Ideal S16x2048 .f32) (e : Fin 16) (r : Fin 2048) :
    softs z (ix2 e r) = soft (fun e => z (ix2 e r)) e := by
  unfold softs
  pointwise [soft, best]

theorem pay12_eq (h l : FVec Ideal S2048x1024 .bf16) (a b d : Vec Ideal S16x1024 .bf16) :
    k0_pay12 h l (k0_pay11 a) (constant S16x2048 .f32 0x00000000#32) b d = softs (scores h l a b d) := by
  have e1 : k0_pay11 a = a := shapeCast_self _ _
  have e2 : shapeCast S16x1024 b shapeCasts_S16x1024_S16x1024 = b := shapeCast_self _ _
  have e3 : shapeCast S16x1024 d shapeCasts_S16x1024_S16x1024 = d := shapeCast_self _ _
  rw [e1]
  unfold k0_pay12
  rw [e2, e3]
  rfl

/-- The columns from `o`, laid as the store takes them. -/
theorem piece_apply (z : FVec Ideal S16x2048 .f32) (o : Nat) (ho : o + 128 ≤ 2048) (h : S16x2048.Slices ![0, o] S16x128) (e : Fin 16) (l : Fin 128) :
    shapeCast S1x16x1x128 (extractStridedSlice S16x128 ![0, o] z h) shapeCasts_S16x128_S1x16x1x128 (ix4 0 e 0 l)
      = z (ix2 e ⟨o + l.val, by omega⟩) := by
  pointwise

/-- The sixteen pieces as one block. -/
def tile (z : FVec Ideal S16x2048 .f32) (y : S1x16x16x128.Idx) : EReal :=
  z (ix2 (y 1) ⟨(y 2).val * 128 + (y 3).val, by
    have h2 : (y 2).val < 16 := (y 2).isLt
    have h3 : (y 3).val < 128 := (y 3).isLt
    omega⟩)

theorem piece_block (z : FVec Ideal S16x2048 .f32) (j o : Nat) (hj : j < 16) (ho : o = j * 128) (h : S16x2048.Slices ![0, o] S16x128)
    (inb : ∀ a, (![0, 0, j, 0] : Fin 4 → Nat) a + S1x16x1x128.size a ≤ S1x16x16x128.size a) (x : S1x16x1x128.Idx) :
    shapeCast S1x16x1x128 (extractStridedSlice S16x128 ![0, o] z h) shapeCasts_S16x128_S1x16x1x128 x
      = tile z ((Rect.unit (s := S1x16x16x128) ![0, 0, j, 0] S1x16x1x128.size inb).emb x) := by
  obtain ⟨a, e, d, l, rfl⟩ : ∃ a e d l, x = ix4 a e d l := ⟨x 0, x 1, x 2, x 3, eq_ix4 x⟩
  obtain rfl : a = 0 := Subsingleton.elim _ _
  obtain rfl : d = 0 := Subsingleton.elim _ _
  have he : (Rect.unit (s := S1x16x16x128) ![0, 0, j, 0] S1x16x1x128.size inb).emb (ix4 0 e 0 l) = (ix4 0 e ⟨j, hj⟩ l : S1x16x16x128.Idx) :=
    funext fun a => Fin.ext (by fin_cases a <;> simp)
  rw [he, piece_apply z o (by omega) h e l]
  subst ho
  rfl

variable (x0 : Vec Ideal S1x2048x1024 .f32) (x1 : Vec Ideal S1x1024 .f32) (x2 x3 : Vec Ideal S1x1x1024 .f32)
  (x4 x5 : Vec Ideal S16x1024 .bf16) (r : Fin 2048)

/-- The token in row `r`, normed and modulated. -/
abbrev bh : Fin 1024 → EReal :=
  hid (fun k => x0 (ix3 0 r k)) (fun k => x1 (ix2 0 k)) (fun k => x2 (ix3 0 0 k)) (fun k => x3 (ix3 0 0 k))

theorem ld_x0 : View.ld x0 r0_0 = x0 := View.ld_unit_zero (by funext a; fin_cases a <;> rfl) _ _
theorem ld_x1 : View.ld x1 r0_1 = x1 := View.ld_unit_zero (by funext a; fin_cases a <;> rfl) _ _
theorem ld_x2 : View.ld x2 r0_2 = x2 := View.ld_unit_zero (by funext a; fin_cases a <;> rfl) _ _
theorem ld_x4 : View.ld x4 r0_3 = x4 := View.ld_unit_zero (by funext a; fin_cases a <;> rfl) _ _

theorem out6_apply (k : Fin 1024) : out0_6 x0 x1 x2 x3 x4 x5 (ix3 0 r k) = bh x0 x1 x2 x3 r k := by
  unfold out0_6
  rw [View.canon_unit_zero (by funext a; fin_cases a <;> rfl), ld_x0, ld_x1, ld_x2, ld_x2, pay8_apply]
  exact pay7_apply x0 x1 x3 x2 r k

/-- The scores of the token in row `r`: the weight and what its cast leaves, and what the token's cast leaves. -/
abbrev bz (e : Fin 16) : EReal :=
  ∑ k : Fin 1024, x4 (ix2 e k) * bh x0 x1 x2 x3 r k + ∑ k : Fin 1024, x4 (ix2 e k) * (bh x0 x1 x2 x3 r k - bh x0 x1 x2 x3 r k)
    + ∑ k : Fin 1024, x5 (ix2 e k) * bh x0 x1 x2 x3 r k

theorem pay29_apply (e : Fin 16) : k0_pay29 x0 x1 x2 x3 x4 x5 (ix2 e r) = soft (bz x0 x1 x2 x3 x4 x5 r) e := by
  unfold k0_pay29 k0_pay28 k0_pay27 k0_pay26 k0_pay25
  rw [ld_x0, ld_x1, ld_x2, ld_x2, ld_x4, ld_x4, pay12_eq, softs_apply]
  refine congrArg (fun z => soft z e) (funext fun e => (scores_apply _ _ _ _ _ e r).trans ?_)
  have hh : ∀ k, k0_pay9 x0 x1 x3 x2 (ix2 r k) = bh x0 x1 x2 x3 r k := fun k => (pay9_apply x0 x1 x3 x2 r k).trans (pay7_apply x0 x1 x3 x2 r k)
  have hl : ∀ k, k0_pay10 x0 x1 x3 x2 (ix2 r k) = (bh x0 x1 x2 x3 r k - bh x0 x1 x2 x3 r k : EReal) := fun k => by
    rw [pay10_apply, pay7_apply]
  refine congrArg₂ (fun a b : EReal => a + b) (congrArg₂ (fun a b : EReal => a + b) ?_ ?_) ?_
  · exact Finset.sum_congr rfl fun k _ => congrArg (fun b : EReal => x4 (ix2 e k) * b) (hh k)
  · exact Finset.sum_congr rfl fun k _ => congrArg (fun b : EReal => x4 (ix2 e k) * b) (hl k)
  · exact Finset.sum_congr rfl fun k _ => congrArg (fun b : EReal => x5 (ix2 e k) * b) (hh k)

theorem out7_apply (e j : Fin 16) (l : Fin 128) : out0_7 x0 x1 x2 x3 x4 x5 (ix4 0 e j l)
    = soft (bz x0 x1 x2 x3 x4 x5 ⟨j.val * 128 + l.val, by omega⟩) e := by
  rw [← pay29_apply]
  unfold out0_7
  refine View.canon_apply_of_pieces (Val := Elt Ideal) (e := .f32) (tile (k0_pay29 x0 x1 x2 x3 x4 x5)) _ ?_ (ix4 0 e j l) ?_
  case refine_2 => exact cover0_7 (F := Ideal) (k0_pay6 (k0_pay29 x0 x1 x2 x3 x4 x5)) _ _ _ _ _ _ _ _ _ _ _ _ _ _ _ (ix4 0 e j l)
  intro pc hpc
  rcases List.mem_cons.mp hpc with rfl | hpc
  · exact fun x => piece_block (k0_pay29 x0 x1 x2 x3 x4 x5) 15 1920 (by norm_num) (by norm_num) slices_S16x2048_o0_1920_S16x128 inb_S1x16x16x128_S1x16x1x128_0_0_15_0 x
  rcases List.mem_cons.mp hpc with rfl | hpc
  · exact fun x => piece_block (k0_pay29 x0 x1 x2 x3 x4 x5) 14 1792 (by norm_num) (by norm_num) slices_S16x2048_o0_1792_S16x128 inb_S1x16x16x128_S1x16x1x128_0_0_14_0 x
  rcases List.mem_cons.mp hpc with rfl | hpc
  · exact fun x => piece_block (k0_pay29 x0 x1 x2 x3 x4 x5) 13 1664 (by norm_num) (by norm_num) slices_S16x2048_o0_1664_S16x128 inb_S1x16x16x128_S1x16x1x128_0_0_13_0 x
  rcases List.mem_cons.mp hpc with rfl | hpc
  · exact fun x => piece_block (k0_pay29 x0 x1 x2 x3 x4 x5) 12 1536 (by norm_num) (by norm_num) slices_S16x2048_o0_1536_S16x128 inb_S1x16x16x128_S1x16x1x128_0_0_12_0 x
  rcases List.mem_cons.mp hpc with rfl | hpc
  · exact fun x => piece_block (k0_pay29 x0 x1 x2 x3 x4 x5) 11 1408 (by norm_num) (by norm_num) slices_S16x2048_o0_1408_S16x128 inb_S1x16x16x128_S1x16x1x128_0_0_11_0 x
  rcases List.mem_cons.mp hpc with rfl | hpc
  · exact fun x => piece_block (k0_pay29 x0 x1 x2 x3 x4 x5) 10 1280 (by norm_num) (by norm_num) slices_S16x2048_o0_1280_S16x128 inb_S1x16x16x128_S1x16x1x128_0_0_10_0 x
  rcases List.mem_cons.mp hpc with rfl | hpc
  · exact fun x => piece_block (k0_pay29 x0 x1 x2 x3 x4 x5) 9 1152 (by norm_num) (by norm_num) slices_S16x2048_o0_1152_S16x128 inb_S1x16x16x128_S1x16x1x128_0_0_9_0 x
  rcases List.mem_cons.mp hpc with rfl | hpc
  · exact fun x => piece_block (k0_pay29 x0 x1 x2 x3 x4 x5) 8 1024 (by norm_num) (by norm_num) slices_S16x2048_o0_1024_S16x128 inb_S1x16x16x128_S1x16x1x128_0_0_8_0 x
  rcases List.mem_cons.mp hpc with rfl | hpc
  · exact fun x => piece_block (k0_pay29 x0 x1 x2 x3 x4 x5) 7 896 (by norm_num) (by norm_num) slices_S16x2048_o0_896_S16x128 inb_S1x16x16x128_S1x16x1x128_0_0_7_0 x
  rcases List.mem_cons.mp hpc with rfl | hpc
  · exact fun x => piece_block (k0_pay29 x0 x1 x2 x3 x4 x5) 6 768 (by norm_num) (by norm_num) slices_S16x2048_o0_768_S16x128 inb_S1x16x16x128_S1x16x1x128_0_0_6_0 x
  rcases List.mem_cons.mp hpc with rfl | hpc
  · exact fun x => piece_block (k0_pay29 x0 x1 x2 x3 x4 x5) 5 640 (by norm_num) (by norm_num) slices_S16x2048_o0_640_S16x128 inb_S1x16x16x128_S1x16x1x128_0_0_5_0 x
  rcases List.mem_cons.mp hpc with rfl | hpc
  · exact fun x => piece_block (k0_pay29 x0 x1 x2 x3 x4 x5) 4 512 (by norm_num) (by norm_num) slices_S16x2048_o0_512_S16x128 inb_S1x16x16x128_S1x16x1x128_0_0_4_0 x
  rcases List.mem_cons.mp hpc with rfl | hpc
  · exact fun x => piece_block (k0_pay29 x0 x1 x2 x3 x4 x5) 3 384 (by norm_num) (by norm_num) slices_S16x2048_o0_384_S16x128 inb_S1x16x16x128_S1x16x1x128_0_0_3_0 x
  rcases List.mem_cons.mp hpc with rfl | hpc
  · exact fun x => piece_block (k0_pay29 x0 x1 x2 x3 x4 x5) 2 256 (by norm_num) (by norm_num) slices_S16x2048_o0_256_S16x128 inb_S1x16x16x128_S1x16x1x128_0_0_2_0 x
  rcases List.mem_cons.mp hpc with rfl | hpc
  · exact fun x => piece_block (k0_pay29 x0 x1 x2 x3 x4 x5) 1 128 (by norm_num) (by norm_num) slices_S16x2048_o0_128_S16x128 inb_S1x16x16x128_S1x16x1x128_0_0_1_0 x
  rcases List.mem_cons.mp hpc with rfl | hpc
  · exact fun x => piece_block (k0_pay29 x0 x1 x2 x3 x4 x5) 0 0 (by norm_num) (by norm_num) slices_S16x2048_o0_0_S16x128 inb_S1x16x16x128_S1x16x1x128_0_0_0_0 x
  cases hpc

end Cert.Router

end
-- ==== Proof.Router.Ref.lean ====
/-
  The reference's normed tokens and affinities at an index.
-/
module

public import proofs.«01_k».proof.Proof.Gen.Reference5Ideal.Read
public import proofs.«01_k».proof.Proof.Router.Block

@[expose] public section

set_option maxRecDepth 16384

noncomputable section

namespace Cert.Router

open Cert.Reference5Ideal Cert.Reference5Ideal.Gen Cert.Reference5Ideal.Read Idealize.ShloMosaic Idealize.ShloMosaic.TcCoe
open Cert.InProj (hid eps)

variable (x0 : Vec Ideal S2x16384x1024 .f32) (x1 x2 : Vec Ideal S2x1x1024 .f32) (x3 : Vec Ideal S1024 .f32) (x4 : Vec Ideal S1024x16 .f32)
  (b : Fin 2) (t : Fin 16384)

/-- The token, normed and modulated, and its scores. -/
abbrev rh : Fin 1024 → EReal :=
  hid (fun k => x0 (ix3 b t k)) (fun k => x3 (ix1 k)) (fun k => x1 (ix3 b 0 k)) (fun k => x2 (ix3 b 0 k))
abbrev rz (e : Fin 16) : EReal := ∑ k : Fin 1024, rh x0 x1 x2 x3 b t k * x4 (ix2 k e)

theorem v18_apply (k : Fin 1024) : val_main_v18 (F := Ideal) x0 x1 x2 x3 (ix3 b t k) = rh x0 x1 x2 x3 b t k := by
  pointwise [val_main_v18, val_main_v17, val_main_v16, val_main_v15, val_main_v14, val_main_v13, val_main_cst_2, val_main_v12, val_main_v11,
    val_main_v10, val_main_v9, val_main_v8, val_main_v7, val_main_v6, val_main_v5, val_main_cst_1, val_main_v4, val_main_v3, val_main_cst_0,
    val_main_v2, val_main_v1, val_main_cst, val_main_v0, hid, eps]

theorem v19_apply (e : Fin 16) : val_main_v19 (F := Ideal) x0 x1 x2 x3 x4 (ix3 b t e) = rz x0 x1 x2 x3 x4 b t e := by
  have h : val_main_v19 (F := Ideal) x0 x1 x2 x3 x4 (ix3 b t e) = ∑ k : Fin 1024, val_main_v18 (F := Ideal) x0 x1 x2 x3 (ix3 b t k) * x4 (ix2 k e) := by
    unfold val_main_v19
    generalize val_main_v18 (F := Ideal) x0 x1 x2 x3 = q
    pointwise
  exact h.trans (Finset.sum_congr rfl fun k _ => congrArg (fun a : EReal => a * x4 (ix2 k e)) (v18_apply x0 x1 x2 x3 b t k))

theorem v22_apply : val_main_v22 (F := Ideal) x0 x1 x2 x3 x4 (ix2 b t) = best (rz x0 x1 x2 x3 x4 b t) := by
  have h : val_main_v22 (F := Ideal) x0 x1 x2 x3 x4 (ix2 b t)
      = max (Ideal.ofBits .f32 0xFF800000#32) (best fun e => val_main_v19 (F := Ideal) x0 x1 x2 x3 x4 (ix3 b t e)) := by
    unfold val_main_v22 val_main_v20
    generalize val_main_v19 (F := Ideal) x0 x1 x2 x3 x4 = q
    pointwise [val_main_v21, val_main_cst_3, val_main_cst_4, best]
  have e : (fun e => val_main_v19 (F := Ideal) x0 x1 x2 x3 x4 (ix3 b t e)) = rz x0 x1 x2 x3 x4 b t := funext fun e => v19_apply x0 x1 x2 x3 x4 b t e
  have hb : Ideal.ofBits .f32 0xFF800000#32 = (⊥ : EReal) := by simp [Ideal.ofBits, Ideal.ieee]
  rw [h, e, hb, max_eq_right bot_le]

theorem v30_apply (e : Fin 16) : val_main_v30 (F := Ideal) x0 x1 x2 x3 x4 (ix3 b t e) = soft (rz x0 x1 x2 x3 x4 b t) e := by
  have h : val_main_v30 (F := Ideal) x0 x1 x2 x3 x4 (ix3 b t e)
      = Ideal.div (Ideal.exp (val_main_v19 (F := Ideal) x0 x1 x2 x3 x4 (ix3 b t e) - val_main_v22 (F := Ideal) x0 x1 x2 x3 x4 (ix2 b t)))
        (∑ k : Fin 16, Ideal.exp (val_main_v19 (F := Ideal) x0 x1 x2 x3 x4 (ix3 b t k) - val_main_v22 (F := Ideal) x0 x1 x2 x3 x4 (ix2 b t))) := by
    unfold val_main_v30 val_main_v29 val_main_v28 val_main_v27 val_main_v26 val_main_v25 val_main_v24 val_main_v23
    generalize val_main_v19 (F := Ideal) x0 x1 x2 x3 x4 = q
    generalize val_main_v22 (F := Ideal) x0 x1 x2 x3 x4 = p
    pointwise [val_main_cst_5]
  rw [h, v22_apply, v19_apply]
  unfold soft
  exact congrArg (Ideal.div _) (Finset.sum_congr rfl fun k _ => congrArg (fun a : EReal => Ideal.exp (a - best (rz x0 x1 x2 x3 x4 b t))) (v19_apply x0 x1 x2 x3 x4 b t k))

theorem ref0_apply (k : Fin 1024) : val_main_v31 (F := Ideal) x0 x1 x2 x3 (ix3 b t k) = rh x0 x1 x2 x3 b t k := by
  rw [← v18_apply]
  unfold val_main_v31
  generalize val_main_v18 (F := Ideal) x0 x1 x2 x3 = q
  pointwise

theorem ref1_apply (e : Fin 16) (j l : Fin 128) :
    val_main_v33 (F := Ideal) x0 x1 x2 x3 x4 (ix4 b e j l) = soft (rz x0 x1 x2 x3 x4 b ⟨j.val * 128 + l.val, by omega⟩) e := by
  rw [← v30_apply]
  unfold val_main_v33 val_main_v32
  generalize val_main_v30 (F := Ideal) x0 x1 x2 x3 x4 = q
  pointwise

end Cert.Router

end
-- ==== Proof.Router.Array.lean ====
/-
  The blocks of the router read from its arguments, and its whole results: for finite modulation and weights, the
  reference's.
-/
module

public import proofs.«01_k».proof.Proof.Router.Block
public import proofs.«01_k».proof.Proof.Router.Ref
public import proofs.«01_k».proof.Proof.InProj.Norm
public import Idealize.ShloMosaic.Lib.Claim

@[expose] public section

set_option maxRecDepth 16384

noncomputable section

namespace Cert.Router

open Cert.Kernel5Ideal Cert.Kernel5Ideal.Gen Idealize.ShloMosaic Idealize.ShloMosaic.TcCoe Idealize.SL.Sem

variable (m : (ℓ : Loc nD τ sig) → Buf (Elt Ideal) ℓ) (c : Dev nD) (t : Fin cfg0.N)

/-- The blocks that grid point `(b, i)` is given: sample `b`, tile `i` of the tokens. -/
theorem idx : ∀ t : Fin grid0.N, win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![0, 0]
    ∧ win0_5.index t = ![0, 0]
    ∧ win0_6.index t = ![(grid0.coords t 0).val, (grid0.coords t 1).val, 0]
    ∧ win0_7.index t = ![(grid0.coords t 0).val, 0, (grid0.coords t 1).val, 0] := by
  decide +kernel

/-- The point's sample and tile, and the token in row `r` of the tile. -/
abbrev pb (t : Fin cfg0.N) : Fin 2 := ⟨(grid0.coords t 0).val, (grid0.coords t 0).isLt⟩
abbrev pi (t : Fin cfg0.N) : Fin 8 := ⟨(grid0.coords t 1).val, (grid0.coords t 1).isLt⟩
abbrev tok (t : Fin cfg0.N) (r : Fin 2048) : Fin 16384 := ⟨(pi t).val * 2048 + r.val, by omega⟩

/-- The arguments. -/
abbrev a0 : Vec Ideal S2x16384x1024 .f32 := m ((c : Thread nD τ).loc main_arg0)
abbrev a1 : Vec Ideal S2x1x1024 .f32 := m ((c : Thread nD τ).loc main_arg1)
abbrev a2 : Vec Ideal S2x1x1024 .f32 := m ((c : Thread nD τ).loc main_arg2)
abbrev a3 : Vec Ideal S1024 .f32 := m ((c : Thread nD τ).loc main_arg3)
abbrev a4 : Vec Ideal S1024x16 .f32 := m ((c : Thread nD τ).loc main_arg4)

theorem v0 : V m c main_v0 = broadcastInDim S1x1024 ![1] bcast_S1024_S1x1024_1 (a3 m c) := by
  simp only [V, hostOps0]
  entry_read
  rfl

/-- The weight's cast, and what the cast leaves. -/
theorem v2 : V m c main_v2 = truncf (F := Ideal) .bf16 (transpose S16x1024 [1, 0] (a4 m c) transposes_S1024x16_S16x1024_1_0) bitsLt_bf16_f32 := by
  simp only [V, hostOps0]
  entry_read
  rfl

theorem v5 : V m c main_v5 = truncf (F := Ideal) .bf16 (subf (F := Ideal) (transpose S16x1024 [1, 0] (a4 m c) transposes_S1024x16_S16x1024_1_0)
      (extf (F := Ideal) .f32 (truncf (F := Ideal) .bf16 (transpose S16x1024 [1, 0] (a4 m c) transposes_S1024x16_S16x1024_1_0) bitsLt_bf16_f32) bitsLt_bf16_f32)) bitsLt_bf16_f32 := by
  simp only [V, hostOps0]
  entry_read
  rfl

theorem blk0 (r : Fin 2048) (k : Fin 1024) : iblk m c 0 t (ix3 0 r k) = a0 m c (ix3 (pb t) (tok t r) k) := by
  blk_ext [iblk, V, idx t]

theorem blk1 (k : Fin 1024) : iblk m c 1 t (ix2 0 k) = a3 m c (ix1 k) := by
  have e : iblk m c 1 t (ix2 0 k) = V m c main_v0 (ix2 0 k) := by blk_ext [iblk, idx t]
  rw [e, v0]
  pointwise

theorem blk2 (k : Fin 1024) : iblk m c 2 t (ix3 0 0 k) = a1 m c (ix3 (pb t) 0 k) := by
  blk_ext [iblk, V, idx t]

theorem blk3 (k : Fin 1024) : iblk m c 3 t (ix3 0 0 k) = a2 m c (ix3 (pb t) 0 k) := by
  blk_ext [iblk, V, idx t]

theorem blk4 (e : Fin 16) (k : Fin 1024) : iblk m c 4 t (ix2 e k) = a4 m c (ix2 k e) := by
  have h : iblk m c 4 t (ix2 e k) = V m c main_v2 (ix2 e k) := by blk_ext [iblk, idx t]
  rw [h, v2]
  pointwise

theorem blk5 (e : Fin 16) (k : Fin 1024) : iblk m c 5 t (ix2 e k) = (a4 m c (ix2 k e) - a4 m c (ix2 k e) : EReal) := by
  have h : iblk m c 5 t (ix2 e k) = V m c main_v5 (ix2 e k) := by blk_ext [iblk, idx t]
  rw [h, v5]
  pointwise

/-- A tile's rows are the tokens, normed and modulated. -/
theorem rows_eq (r : Fin 2048) : bh (iblk m c 0 t) (iblk m c 1 t) (iblk m c 2 t) (iblk m c 3 t) r
    = rh (a0 m c) (a1 m c) (a2 m c) (a3 m c) (pb t) (tok t r) := by
  have e0 : (fun k => iblk m c 0 t (ix3 0 r k)) = fun k => a0 m c (ix3 (pb t) (tok t r) k) := funext fun k => blk0 m c t r k
  have e1 : (fun k => iblk m c 1 t (ix2 0 k)) = fun k => a3 m c (ix1 k) := funext fun k => blk1 m c t k
  have e2 : (fun k => iblk m c 2 t (ix3 0 0 k)) = fun k => a1 m c (ix3 (pb t) 0 k) := funext fun k => blk2 m c t k
  have e3 : (fun k => iblk m c 3 t (ix3 0 0 k)) = fun k => a2 m c (ix3 (pb t) 0 k) := funext fun k => blk3 m c t k
  rw [bh, e0, e1, e2, e3]

/-- Every argument that the router takes, but for the tokens, holds real numbers. -/
structure Finite : Prop where
  h1 : ∀ i, ∃ r : ℝ, a1 m c i = r
  h2 : ∀ i, ∃ r : ℝ, a2 m c i = r
  h3 : ∀ i, ∃ r : ℝ, a3 m c i = r
  h4 : ∀ i, ∃ r : ℝ, a4 m c i = r

/-- Of real factors the casts leave nothing. -/
theorem split_eq (h w : Fin 1024 → EReal) (hh : ∀ k, ∃ r : ℝ, h k = r) (hw : ∀ k, ∃ r : ℝ, w k = r) :
    ∑ k, w k * h k + ∑ k, w k * (h k - h k) + ∑ k, (w k - w k) * h k = ∑ k, h k * w k := by
  have z : ∀ x : EReal, (∃ r : ℝ, x = r) → x - x = 0 := by
    rintro x ⟨r, rfl⟩
    rw [← EReal.coe_sub, sub_self, EReal.coe_zero]
  have z1 : ∑ k, w k * (h k - h k) = 0 := Finset.sum_eq_zero fun k _ => by rw [z _ (hh k), mul_zero]
  have z2 : ∑ k, (w k - w k) * h k = 0 := Finset.sum_eq_zero fun k _ => by rw [z _ (hw k), zero_mul]
  rw [z1, z2, add_zero, add_zero]
  exact Finset.sum_congr rfl fun k _ => mul_comm _ _

theorem scores_eq (hf : Finite m c) (r : Fin 2048) :
    bz (iblk m c 0 t) (iblk m c 1 t) (iblk m c 2 t) (iblk m c 3 t) (iblk m c 4 t) (iblk m c 5 t) r
      = rz (a0 m c) (a1 m c) (a2 m c) (a3 m c) (a4 m c) (pb t) (tok t r) := by
  funext e
  refine Eq.trans ?_ (split_eq (rh (a0 m c) (a1 m c) (a2 m c) (a3 m c) (pb t) (tok t r)) (fun k => a4 m c (ix2 k e))
    (fun k => Cert.InProj.hid_real _ _ _ _ (fun k => hf.h3 _) (fun k => hf.h1 _) (fun k => hf.h2 _) k) (fun k => hf.h4 _))
  show ∑ k : Fin 1024, (fun a b : EReal => a * b) (iblk m c 4 t (ix2 e k)) (bh (iblk m c 0 t) (iblk m c 1 t) (iblk m c 2 t) (iblk m c 3 t) r k)
    + ∑ k : Fin 1024, (fun a b : EReal => a * b) (iblk m c 4 t (ix2 e k)) (bh (iblk m c 0 t) (iblk m c 1 t) (iblk m c 2 t) (iblk m c 3 t) r k - bh (iblk m c 0 t) (iblk m c 1 t) (iblk m c 2 t) (iblk m c 3 t) r k)
    + ∑ k : Fin 1024, (fun a b : EReal => a * b) (iblk m c 5 t (ix2 e k)) (bh (iblk m c 0 t) (iblk m c 1 t) (iblk m c 2 t) (iblk m c 3 t) r k) = _
  rw [rows_eq]
  refine congrArg₂ (fun a b : EReal => a + b) (congrArg₂ (fun a b : EReal => a + b) ?_ ?_) ?_
  · exact Finset.sum_congr rfl fun k _ => congrArg (fun a : EReal => a * _) (blk4 m c t e k)
  · exact Finset.sum_congr rfl fun k _ => congrArg (fun a : EReal => a * _) (blk4 m c t e k)
  · exact Finset.sum_congr rfl fun k _ => congrArg (fun a : EReal => a * _) (blk5 m c t e k)

theorem array6 : (dats m 0 c).arrAt 6 cfg0.N = Cert.Reference5Ideal.Read.val_main_v31 (F := Ideal) (a0 m c) (a1 m c) (a2 m c) (a3 m c) := by
  refine (dats m 0 c).arrAt_eq_of_covers 6 _ (by decide +kernel) fun t hf y => ?_
  obtain ⟨z, r, k, rfl⟩ : ∃ z r k, y = ix3 z r k := ⟨y 0, y 1, y 2, eq_ix3 y⟩
  obtain rfl : z = 0 := Subsingleton.elim _ _
  blk_simp
  rw [after0_6]
  have e : (win0_6.blk t).view.emb (ix3 0 r k) = (ix3 (pb t) (tok t r) k : S2x16384x1024.Idx) := by
    blk_ext [idx t]
  rw [e]
  refine (out6_apply _ _ _ _ _ _ r k).trans ((congrFun (rows_eq m c t r) k).trans ?_)
  exact (ref0_apply (a0 m c) (a1 m c) (a2 m c) (a3 m c) (pb t) (tok t r) k).symm

theorem array7 (hf : Finite m c) :
    (dats m 0 c).arrAt 7 cfg0.N = Cert.Reference5Ideal.Read.val_main_v33 (F := Ideal) (a0 m c) (a1 m c) (a2 m c) (a3 m c) (a4 m c) := by
  refine (dats m 0 c).arrAt_eq_of_covers 7 _ (by decide +kernel) fun t h y => ?_
  obtain ⟨z, e, j, l, rfl⟩ : ∃ z e j l, y = ix4 z e j l := ⟨y 0, y 1, y 2, y 3, eq_ix4 y⟩
  obtain rfl : z = 0 := Subsingleton.elim _ _
  blk_simp
  rw [after0_7]
  have hi := (pi t).isLt
  have he : (win0_7.blk t).view.emb (ix4 0 e j l) = (ix4 (pb t) e ⟨(pi t).val * 16 + j.val, by omega⟩ l : S2x16x128x128.Idx) := by
    blk_ext [idx t]
  rw [he]
  refine (out7_apply _ _ _ _ _ _ e j l).trans ((congrArg (fun z => soft z e) (scores_eq m c t hf _)).trans ?_)
  refine Eq.trans ?_ (ref1_apply (a0 m c) (a1 m c) (a2 m c) (a3 m c) (a4 m c) (pb t) e _ l).symm
  refine congrArg (fun s => soft (rz (a0 m c) (a1 m c) (a2 m c) (a3 m c) (a4 m c) (pb t) s) e) (Fin.ext ?_)
  show (pi t).val * 2048 + (j.val * 128 + l.val) = ((pi t).val * 16 + j.val) * 128 + l.val
  omega

end Cert.Router

end
-- ==== Proof.Router.Algebraic.lean ====
/-
  The five claims about the router.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Pre_finite_router
public import proofs.«01_k».proof.Proof.Equal
public import proofs.«01_k».proof.Proof.Router.Array
public import Idealize.ShloMosaic.Lib.Quiescent

@[expose] public section

noncomputable section

namespace Cert.Router

open Idealize.ShloMosaic Idealize.ShloMosaic.TcCoe Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_ideal_finite : Cert.quiescent_Kernel5Ideal_pre_finite_router := fun m ρ _ => Cert.Kernel5Ideal.Gen.frame m ρ

theorem frame_reference : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

theorem frame_reference_finite : Cert.quiescent_Reference5Ideal_pre_finite_router := fun m ρ _ => frame_reference m ρ trivial

theorem preserved : Cert.preserves_Kernel5_Kernel5Ideal := trivial

section
open Cert.Pre_finite_router
variable (x0 : FVec Ideal S2x16384x1024 .f32) (x1 x2 : FVec Ideal S2x1x1024 .f32) (x3 : FVec Ideal S1024 .f32) (x4 : FVec Ideal S1024x16 .f32)

theorem finite1 (h : (fn (F := Ideal) x0 x1 x2 x3 x4).1 = fun _ => 1#1) (i) : ∃ r : ℝ, x1 i = r :=
  Cert.Equal.real_of_bits _ ((congrFun h i).symm.trans rfl).symm

theorem finite2 (h : (fn (F := Ideal) x0 x1 x2 x3 x4).2.1 = fun _ => 1#1) (i) : ∃ r : ℝ, x2 i = r :=
  Cert.Equal.real_of_bits _ ((congrFun h i).symm.trans rfl).symm

theorem finite3 (h : (fn (F := Ideal) x0 x1 x2 x3 x4).2.2.1 = fun _ => 1#1) (i) : ∃ r : ℝ, x3 i = r :=
  Cert.Equal.real_of_bits _ ((congrFun h i).symm.trans rfl).symm

theorem finite4 (h : (fn (F := Ideal) x0 x1 x2 x3 x4).2.2.2 = fun _ => 1#1) (i) : ∃ r : ℝ, x4 i = r :=
  Cert.Equal.real_of_bits _ ((congrFun h i).symm.trans rfl).symm

end

/-- For finite modulation and weights the kernel and the reference end at the same arrays. -/
theorem agree : Cert.algebraic_Kernel5Ideal_Reference5Ideal_pre_finite_router := by
  intro m ρ m' ρ' hpre hag
  have hf : ∀ c, Finite m c := fun c =>
    ⟨finite1 _ _ _ _ _ (hpre c).1, finite2 _ _ _ _ _ (hpre c).2.1, finite3 _ _ _ _ _ (hpre c).2.2.1, finite4 _ _ _ _ _ (hpre c).2.2.2⟩
  refine ⟨fun c => Cert.Reference5Ideal.Read.val_main_v31 (F := Ideal) (a0 m c) (a1 m c) (a2 m c) (a3 m c),
    fun c => Cert.Reference5Ideal.Read.val_main_v33 (F := Ideal) (a0 m c) (a1 m c) (a2 m c) (a3 m c) (a4 m c),
    (θ_run _ _ _).mono (fun r h c => ?_) (Cert.Kernel5Ideal.Value.run_blocks m ρ),
    (θ_run _ _ _).mono (fun r h c => ?_) (Cert.Reference5Ideal.Value.run (F := Ideal) m' ρ')⟩
  · obtain ⟨h0, h1, hr⟩ := h c
    exact ⟨h0.trans (array6 m c), h1.trans (array7 m c (hf c)), hr⟩
  · obtain ⟨h0, h1, hr⟩ := h c
    obtain ⟨e0, e1, e2, e3, e4⟩ := hag c
    refine ⟨h0.trans ?_, h1.trans ?_, hr⟩
    · refine (Cert.Reference5Ideal.Read.val_main_v31_eq _ _ _ _).trans ?_
      show Cert.Reference5Ideal.Read.val_main_v31 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = Cert.Reference5Ideal.Read.val_main_v31 (F := Ideal) (a0 m c) (a1 m c) (a2 m c) (a3 m c)
      rw [e0, e1, e2, e3]
    · refine (Cert.Reference5Ideal.Read.val_main_v33_eq _ _).trans ?_
      show Cert.Reference5Ideal.Read.val_main_v33 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = Cert.Reference5Ideal.Read.val_main_v33 (F := Ideal) (a0 m c) (a1 m c) (a2 m c) (a3 m c) (a4 m c)
      rw [e0, e1, e2, e3, e4]

end Cert.Router

end
-- ==== Proof.Ada.Block.lean ====
/-
  The modulation's numbers, and one grid point of its call over the extended reals.
-/
module

public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Ada

open Cert.Kernel6Ideal Cert.Kernel6Ideal.Gen Idealize.ShloMosaic Idealize.ShloMosaic.TcCoe

/-- A number times its logistic. -/
def silu (x : EReal) : EReal := x * Ideal.logistic x

theorem silu_zero : silu 0 = 0 := zero_mul _

theorem silu_real (x : EReal) (h : ∃ r : ℝ, x = r) : ∃ r : ℝ, silu x = r := by
  obtain ⟨r, rfl⟩ := h
  exact ⟨r * (1 + Real.exp (-r))⁻¹, by rw [silu, Ideal.logistic_coe, ← EReal.coe_mul]⟩

/-- A row of the conditioning: the two samples', then the context's, then zeros. -/
def cond (c : Fin 2 → Fin 1024 → EReal) (d : Fin 1024 → EReal) (r : Fin 8) (k : Fin 1024) : EReal :=
  if h : r.val < 2 then c ⟨r.val, h⟩ k else if r.val = 2 then d k else 0

/-- A channel of a row's modulation. -/
def modul (c : Fin 2 → Fin 1024 → EReal) (d : Fin 1024 → EReal) (w : Fin 1024 → EReal) (b : EReal) (r : Fin 8) : EReal :=
  ∑ k, silu (cond c d r k) * w k + b

theorem pay1_apply (x : Vec Ideal S8x1024 .f32) (w : Vec Ideal S1x1024x512 .f32) (b : Vec Ideal S1x1x512 .f32) (r : Fin 8) (j : Fin 512) :
    k0_pay1 x w b (ix2 r j)
      = ∑ k : Fin 1024, silu (x (ix2 r k)) * w (ix3 0 k j)
        + ∑ k : Fin 1024, (silu (x (ix2 r k)) - silu (x (ix2 r k))) * w (ix3 0 k j)
        + ∑ k : Fin 1024, silu (x (ix2 r k)) * (w (ix3 0 k j) - w (ix3 0 k j) : EReal) + b (ix3 0 0 j) := by
  unfold k0_pay1
  pointwise [silu]

theorem out3_apply (x : Vec Ideal S8x1024 .f32) (w : Vec Ideal S1x1024x512 .f32) (b : Vec Ideal S1x1x512 .f32) (r : Fin 8) (j : Fin 512) :
    out0_3 x w b (ix2 r j)
      = ∑ k : Fin 1024, silu (x (ix2 r k)) * w (ix3 0 k j)
        + ∑ k : Fin 1024, (silu (x (ix2 r k)) - silu (x (ix2 r k))) * w (ix3 0 k j)
        + ∑ k : Fin 1024, silu (x (ix2 r k)) * (w (ix3 0 k j) - w (ix3 0 k j) : EReal) + b (ix3 0 0 j) := by
  have hx : View.ld x r0_0 = x := View.ld_unit_zero (by funext a; fin_cases a <;> rfl) _ _
  have hw : View.ld w r0_1 = w := View.ld_unit_zero (by funext a; fin_cases a <;> rfl) _ _
  have hb : View.ld b r0_2 = b := View.ld_unit_zero (by funext a; fin_cases a <;> rfl) _ _
  unfold out0_3
  rw [View.canon_unit_zero (by funext a; fin_cases a <;> rfl), hx, hw, hb, pay1_apply]

end Cert.Ada

end
-- ==== Proof.Ada.Ref.lean ====
/-
  The entries of the modulation's reference.
-/
module

public import proofs.«01_k».proof.Proof.Gen.Reference6Ideal.Read
public import proofs.«01_k».proof.Proof.Ada.Block
public import proofs.«01_k».proof.Proof.InProj.Norm

@[expose] public section

set_option maxRecDepth 16384

noncomputable section

namespace Cert.Ada

open Cert.Reference6Ideal Cert.Reference6Ideal.Gen Cert.Reference6Ideal.Read Idealize.ShloMosaic Idealize.ShloMosaic.TcCoe

variable (x0 : FVec Ideal S2x1024 .f32) (x1 : FVec Ideal S1024 .f32) (x2 : FVec Ideal S2x1024x6144 .f32) (x3 : FVec Ideal S2x6144 .f32)

theorem one : Ideal.ofBits .f32 0x3F800000#32 = 1 := Cert.InProj.word_one.trans EReal.coe_one

theorem silu0 (i : S2x1024.Idx) : val_main_v0 (F := Ideal) x0 i = silu (x0 i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show x0 i * Ideal.div (Ideal.ofBits .f32 0x3F800000#32) (Ideal.ofBits .f32 0x3F800000#32 + Ideal.exp (-(x0 i))) = silu (x0 i)
  rw [one]
  rfl

theorem silu1 (i : S1024.Idx) : val_main_v1 (F := Ideal) x1 i = silu (x1 i) := by
  rw [val_main_v1_apply, val_main_call1_v5_apply, val_main_call1_v4_apply, val_main_call1_cst_0_apply, val_main_call1_v3_apply,
    val_main_call1_v2_apply, val_main_call1_cst_apply, val_main_call1_v1_apply, val_main_call1_v0_apply]
  show x1 i * Ideal.div (Ideal.ofBits .f32 0x3F800000#32) (Ideal.ofBits .f32 0x3F800000#32 + Ideal.exp (-(x1 i))) = silu (x1 i)
  rw [one]
  rfl

theorem samples_apply (b : Fin 2) (j : Fin 6144) : val_main_v9 (F := Ideal) x0 x2 x3 (ix2 b j)
    = ∑ k : Fin 1024, silu (x0 (ix2 b k)) * x2 (ix3 0 k j) + x3 (ix2 0 j) := by
  simp only [← silu0 x0]
  unfold val_main_v9 val_main_v8 val_main_v7 val_main_v6 val_main_v5 val_main_v4 val_main_v3 val_main_v2
  generalize val_main_v0 (F := Ideal) x0 = s
  pointwise

theorem context_apply (j : Fin 6144) : val_main_v16 (F := Ideal) x1 x2 x3 (ix2 0 j)
    = ∑ k : Fin 1024, silu (x1 (ix1 k)) * x2 (ix3 0 k j) + x3 (ix2 0 j) := by
  simp only [← silu1 x1]
  unfold val_main_v16 val_main_v15 val_main_v14 val_main_v13 val_main_v12 val_main_v11 val_main_v10
  generalize val_main_v1 (F := Ideal) x1 = s
  pointwise

theorem under_apply (r : Fin 5) (j : Fin 6144) : val_main_v19 (F := Ideal) x3 (ix2 r j) = x3 (ix2 0 j) := by
  unfold val_main_v19 val_main_v18 val_main_v17
  pointwise

theorem ref_apply (r : Fin 8) (j : Fin 6144) : val_main_v20 (F := Ideal) x0 x1 x2 x3 (ix2 r j)
    = modul (fun b k => x0 (ix2 b k)) (fun k => x1 (ix1 k)) (fun k => x2 (ix3 0 k j)) (x3 (ix2 0 j)) r := by
  unfold val_main_v20 modul
  by_cases h : r.val < 2
  · refine (concatenate_apply_piece (t := S8x6144) 0 _ _ (ix2 r j) 0 (by show 0 < 3; omega) S2x6144 _ rfl rfl 0 rfl (ix2 ⟨r.val, h⟩ j) ?_ ?_).trans ?_
    · intro b hb
      fin_cases b
      · exact absurd rfl hb
      · rfl
    · exact Nat.zero_add _
    · rw [samples_apply]
      refine congrArg (fun s : EReal => s + _) (Finset.sum_congr rfl fun k _ => ?_)
      rw [cond, dif_pos h]
  · by_cases h2 : r.val = 2
    · refine (concatenate_apply_piece (t := S8x6144) 0 _ _ (ix2 r j) 1 (by show 1 < 3; omega) S1x6144 _ rfl rfl 2 rfl (ix2 0 j) ?_ ?_).trans ?_
      · intro b hb
        fin_cases b
        · exact absurd rfl hb
        · rfl
      · exact h2.symm
      · rw [context_apply]
        refine congrArg (fun s : EReal => s + _) (Finset.sum_congr rfl fun k _ => ?_)
        rw [cond, dif_neg h, if_pos h2]
    · refine (concatenate_apply_piece (t := S8x6144) 0 _ _ (ix2 r j) 2 (by show 2 < 3; omega) S5x6144 _ rfl rfl 3 rfl (ix2 ⟨r.val - 3, by omega⟩ j) ?_ ?_).trans ?_
      · intro b hb
        fin_cases b
        · exact absurd rfl hb
        · rfl
      · show 3 + (r.val - 3) = r.val
        omega
      · rw [under_apply]
        have z : ∑ k : Fin 1024, silu (cond (fun b k => x0 (ix2 b k)) (fun k => x1 (ix1 k)) r k) * x2 (ix3 0 k j) = 0 :=
          Finset.sum_eq_zero fun k _ => by rw [cond, dif_neg h, if_neg h2, silu_zero]; exact zero_mul _
        exact (congrArg (fun s : EReal => s + x3 (ix2 0 j)) z).trans (zero_add _) |>.symm

end Cert.Ada

end
-- ==== Proof.Ada.Array.lean ====
/-
  The blocks of the modulation read from its arguments, and its whole result: for finite conditioning and weight, the
  reference's.
-/
module

public import proofs.«01_k».proof.Proof.Ada.Block
public import proofs.«01_k».proof.Proof.Ada.Ref
public import Idealize.ShloMosaic.Lib.Claim

@[expose] public section

set_option maxRecDepth 16384

noncomputable section

namespace Cert.Ada

open Cert.Kernel6Ideal Cert.Kernel6Ideal.Gen Idealize.ShloMosaic Idealize.ShloMosaic.TcCoe Idealize.SL.Sem

variable (m : (ℓ : Loc nD τ sig) → Buf (Elt Ideal) ℓ) (c : Dev nD) (t : Fin cfg0.N)

/-- The blocks that grid point `j` is given: all rows, the first layer, tile `j` of the channels. -/
theorem idx : ∀ t : Fin grid0.N, win0_0.index t = ![0, 0]
    ∧ win0_1.index t = ![0, 0, (grid0.coords t 0).val]
    ∧ win0_2.index t = ![0, 0, (grid0.coords t 0).val]
    ∧ win0_3.index t = ![0, (grid0.coords t 0).val] := by
  decide +kernel

/-- The point's tile, and the channel in column `j` of it. -/
abbrev pj (t : Fin cfg0.N) : Fin 12 := ⟨(grid0.coords t 0).val, (grid0.coords t 0).isLt⟩
abbrev chan (t : Fin cfg0.N) (j : Fin 512) : Fin 6144 := ⟨(pj t).val * 512 + j.val, by omega⟩

/-- The arguments. -/
abbrev a0 : Vec Ideal S2x1024 .f32 := m ((c : Thread nD τ).loc main_arg0)
abbrev a1 : Vec Ideal S1024 .f32 := m ((c : Thread nD τ).loc main_arg1)
abbrev a2 : Vec Ideal S2x1024x6144 .f32 := m ((c : Thread nD τ).loc main_arg2)
abbrev a3 : Vec Ideal S2x6144 .f32 := m ((c : Thread nD τ).loc main_arg3)

/-- Rows stacked as the host code does. -/
def stack (x : Vec Ideal S2x1024 .f32) (y : Vec Ideal S1x1024 .f32) (z : Vec Ideal S5x1024 .f32) : Vec Ideal S8x1024 .f32 :=
  concatenate S8x1024 0 [⟨S2x1024, x⟩, ⟨S1x1024, y⟩, ⟨S5x1024, z⟩] concatenates_S2x1024_S1x1024_S5x1024_S8x1024_d0

abbrev rows : Vec Ideal S8x1024 .f32 :=
  stack (a0 m c) (broadcastInDim S1x1024 ![1] bcast_S1024_S1x1024_1 (a1 m c))
    (broadcastInDim S5x1024 ![] bcast_S_S5x1024 (constant (F := Ideal) S_ .f32 0x00000000#32))

theorem stack_read (G : Valuation τ sig (Elt Ideal)) :
    StableHlo.after (((hostOps0 (F := Ideal)).drop 3).take 1) G main_v2 = stack (G main_arg0) (G main_v0) (G main_v1) := by
  change StableHlo.after [_] G main_v2 = _
  rw [StableHlo.after_cons, StableHlo.after_nil]
  refine (StableHlo.nary_result _ _ _ _ _ _).trans ?_
  rfl

theorem last_read (G : Valuation τ sig (Elt Ideal)) : StableHlo.after ((hostOps0 (F := Ideal)).drop 4) G main_v2 = G main_v2 := by
  simp only [hostOps0, List.drop_succ_cons, List.drop_zero]
  entry_read
  rfl

/-- The buffers before the rows are stacked. -/
abbrev before : Valuation τ sig (Elt Ideal) := StableHlo.after ((hostOps0 (F := Ideal)).take 3) (fun b => m (c, b))

theorem before0 : before m c main_arg0 = a0 m c := by
  simp only [before, hostOps0, List.take_succ_cons, List.take_zero]
  entry_read
  rfl

theorem before1 : before m c main_v0 = broadcastInDim S1x1024 ![1] bcast_S1024_S1x1024_1 (a1 m c) := by
  simp only [before, hostOps0, List.take_succ_cons, List.take_zero]
  entry_read
  rfl

theorem before2 : before m c main_v1 = broadcastInDim S5x1024 ![] bcast_S_S5x1024 (constant (F := Ideal) S_ .f32 0x00000000#32) := by
  simp only [before, hostOps0, List.take_succ_cons, List.take_zero]
  entry_read
  rfl

theorem v2 : V m c main_v2 = rows m c := by
  have e : V m c main_v2 = StableHlo.after ((hostOps0 (F := Ideal)).drop 4) (StableHlo.after (((hostOps0 (F := Ideal)).drop 3).take 1) (before m c)) main_v2 := rfl
  rw [e, last_read, stack_read, before0, before1, before2]

theorem v3 : V m c main_v3 = broadcastInDim S2x1x6144 ![0, 2] bcast_S2x6144_S2x1x6144_0_2 (a3 m c) := by
  simp only [V, hostOps0]
  entry_read
  rfl

theorem rows_apply (r : Fin 8) (k : Fin 1024) :
    rows m c (ix2 r k) = cond (fun b k => a0 m c (ix2 b k)) (fun k => a1 m c (ix1 k)) r k := by
  unfold rows stack cond
  by_cases h : r.val < 2
  · rw [dif_pos h]
    refine concatenate_apply_piece (t := S8x1024) 0 _ _ (ix2 r k) 0 (by show 0 < 3; omega) S2x1024 _ rfl rfl 0 rfl (ix2 ⟨r.val, h⟩ k) ?_ ?_
    · intro b hb
      fin_cases b
      · exact absurd rfl hb
      · rfl
    · exact Nat.zero_add _
  · rw [dif_neg h]
    by_cases h2 : r.val = 2
    · rw [if_pos h2]
      refine (concatenate_apply_piece (t := S8x1024) 0 _ _ (ix2 r k) 1 (by show 1 < 3; omega) S1x1024 _ rfl rfl 2 rfl (ix2 0 k) ?_ ?_).trans ?_
      · intro b hb
        fin_cases b
        · exact absurd rfl hb
        · rfl
      · exact h2.symm
      · pointwise
    · rw [if_neg h2]
      refine (concatenate_apply_piece (t := S8x1024) 0 _ _ (ix2 r k) 2 (by show 2 < 3; omega) S5x1024 _ rfl rfl 3 rfl (ix2 ⟨r.val - 3, by omega⟩ k) ?_ ?_).trans ?_
      · intro b hb
        fin_cases b
        · exact absurd rfl hb
        · rfl
      · show 3 + (r.val - 3) = r.val
        omega
      · exact Cert.InProj.word_zero.trans EReal.coe_zero

theorem blk0 (r : Fin 8) (k : Fin 1024) :
    iblk m c 0 t (ix2 r k) = cond (fun b k => a0 m c (ix2 b k)) (fun k => a1 m c (ix1 k)) r k := by
  have e : iblk m c 0 t (ix2 r k) = V m c main_v2 (ix2 r k) := by blk_ext [iblk, idx t]
  rw [e, v2, rows_apply]

theorem blk1 (k : Fin 1024) (j : Fin 512) : iblk m c 1 t (ix3 0 k j) = a2 m c (ix3 0 k (chan t j)) := by
  blk_ext [iblk, V, idx t]

theorem blk2 (j : Fin 512) : iblk m c 2 t (ix3 0 0 j) = a3 m c (ix2 0 (chan t j)) := by
  have e : iblk m c 2 t (ix3 0 0 j) = V m c main_v3 (ix3 0 0 (chan t j)) := by blk_ext [iblk, idx t]
  rw [e, v3]
  pointwise

/-- The conditioning, and the first layer of the weight, hold real numbers. -/
structure Finite : Prop where
  h0 : ∀ i, ∃ r : ℝ, a0 m c i = r
  h1 : ∀ i, ∃ r : ℝ, a1 m c i = r
  h2 : ∀ k j, ∃ r : ℝ, a2 m c (ix3 0 k j) = r

theorem cond_real (hf : Finite m c) (r : Fin 8) (k : Fin 1024) :
    ∃ x : ℝ, cond (fun b k => a0 m c (ix2 b k)) (fun k => a1 m c (ix1 k)) r k = x := by
  unfold cond
  split
  · exact hf.h0 _
  · split
    · exact hf.h1 _
    · exact ⟨0, EReal.coe_zero.symm⟩

/-- Of real factors the casts leave nothing. -/
theorem split_eq (s w : Fin 1024 → EReal) (hs : ∀ k, ∃ r : ℝ, s k = r) (hw : ∀ k, ∃ r : ℝ, w k = r) :
    ∑ k, s k * w k + ∑ k, (s k - s k) * w k + ∑ k, s k * (w k - w k) = ∑ k, s k * w k := by
  have z : ∀ x : EReal, (∃ r : ℝ, x = r) → x - x = 0 := by
    rintro x ⟨r, rfl⟩
    rw [← EReal.coe_sub, sub_self, EReal.coe_zero]
  have z1 : ∑ k, (s k - s k) * w k = 0 := Finset.sum_eq_zero fun k _ => by rw [z _ (hs k), zero_mul]
  have z2 : ∑ k, s k * (w k - w k) = 0 := Finset.sum_eq_zero fun k _ => by rw [z _ (hw k), mul_zero]
  rw [z1, z2, add_zero, add_zero]

theorem array3 (hf : Finite m c) :
    (dats m 0 c).arrAt 3 cfg0.N = Cert.Reference6Ideal.Read.val_main_v20 (F := Ideal) (a0 m c) (a1 m c) (a2 m c) (a3 m c) := by
  refine (dats m 0 c).arrAt_eq_of_covers 3 _ (by decide +kernel) fun t h y => ?_
  obtain ⟨r, j, rfl⟩ : ∃ r j, y = ix2 r j := ⟨y 0, y 1, eq_ix2 y⟩
  blk_simp
  rw [after0_3]
  have e : (win0_3.blk t).view.emb (ix2 r j) = (ix2 r (chan t j) : S8x6144.Idx) := by
    blk_ext [idx t]
  rw [e]
  refine Eq.trans ?_ (ref_apply (a0 m c) (a1 m c) (a2 m c) (a3 m c) r (chan t j)).symm
  refine (out3_apply _ _ _ r j).trans ?_
  refine congrArg₂ (fun a b : EReal => a + b) (Eq.trans ?_ (split_eq
    (fun k => silu (cond (fun b k => a0 m c (ix2 b k)) (fun k => a1 m c (ix1 k)) r k)) (fun k => a2 m c (ix3 0 k (chan t j)))
    (fun k => silu_real _ (cond_real m c hf r k)) (fun k => hf.h2 _ _))) (blk2 m c t j)
  have p : (fun k => iblk m c 0 t (ix2 r k)) = fun k => cond (fun b k => a0 m c (ix2 b k)) (fun k => a1 m c (ix1 k)) r k := funext fun k => blk0 m c t r k
  have q : (fun k => iblk m c 1 t (ix3 0 k j)) = fun k => a2 m c (ix3 0 k (chan t j)) := funext fun k => blk1 m c t k j
  exact congrArg₂ (fun s w : Fin 1024 → EReal =>
    ∑ k, silu (s k) * w k + ∑ k, (silu (s k) - silu (s k)) * w k + ∑ k, silu (s k) * (w k - w k)) p q

end Cert.Ada

end
-- ==== Proof.Ada.Algebraic.lean ====
/-
  The five claims about the modulation.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Pre_finite_conditioning
public import proofs.«01_k».proof.Proof.Equal
public import proofs.«01_k».proof.Proof.Ada.Array
public import Idealize.ShloMosaic.Lib.Quiescent

@[expose] public section

noncomputable section

namespace Cert.Ada

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_ideal_finite : Cert.quiescent_Kernel6Ideal_pre_finite_conditioning := fun m ρ _ => Cert.Kernel6Ideal.Gen.frame m ρ

theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem frame_reference_finite : Cert.quiescent_Reference6Ideal_pre_finite_conditioning := fun m ρ _ => frame_reference m ρ trivial

theorem preserved : Cert.preserves_Kernel6_Kernel6Ideal := trivial

section
open Cert.Pre_finite_conditioning Cert.Pre_finite_conditioning.Gen
variable (x0 : FVec Ideal S2x1024 .f32) (x1 : FVec Ideal S1024 .f32) (x2 : FVec Ideal S2x1024x6144 .f32) (x3 : FVec Ideal S2x6144 .f32)

theorem finite0 (h : (fn (F := Ideal) x0 x1 x2 x3).1 = fun _ => 1#1) (i) : ∃ r : ℝ, x0 i = r :=
  Cert.Equal.real_of_bits _ ((congrFun h i).symm.trans rfl).symm

theorem finite1 (h : (fn (F := Ideal) x0 x1 x2 x3).2.1 = fun _ => 1#1) (i) : ∃ r : ℝ, x1 i = r :=
  Cert.Equal.real_of_bits _ ((congrFun h i).symm.trans rfl).symm

/-- The first layer of the weight. -/
theorem finite2 (h : (fn (F := Ideal) x0 x1 x2 x3).2.2 = fun _ => 1#1) (k : Fin 1024) (j : Fin 6144) : ∃ r : ℝ, x2 (ix3 0 k j) = r := by
  have e : shapeCast S1024x6144 (extractStridedSlice S1x1024x6144 ![0, 0, 0] x2 slices_S2x1024x6144_S1x1024x6144_0_0_0)
      shapeCasts_S1x1024x6144_S1024x6144 (ix2 k j) = x2 (ix3 0 k j) := by pointwise
  rw [← e]
  exact Cert.Equal.real_of_bits _ ((congrFun h (ix2 k j)).symm.trans rfl).symm

end

/-- For finite conditioning and weight the kernel and the reference end at the same array. -/
theorem agree : Cert.algebraic_Kernel6Ideal_Reference6Ideal_pre_finite_conditioning := by
  intro m ρ m' ρ' hpre hag
  have hf : ∀ c, Finite m c := fun c => ⟨finite0 _ _ _ _ (hpre c).1, finite1 _ _ _ _ (hpre c).2.1, finite2 _ _ _ _ (hpre c).2.2⟩
  refine ⟨fun c => Cert.Reference6Ideal.Read.val_main_v20 (F := Ideal) (a0 m c) (a1 m c) (a2 m c) (a3 m c),
    (θ_run _ _ _).mono (fun r h c => ?_) (Cert.Kernel6Ideal.Value.run_blocks m ρ),
    (θ_run _ _ _).mono (fun r h c => ?_) (Cert.Reference6Ideal.Value.run (F := Ideal) m' ρ')⟩
  · obtain ⟨h0, hr⟩ := h c
    exact ⟨h0.trans (array3 m c (hf c)), hr⟩
  · obtain ⟨h0, hr⟩ := h c
    obtain ⟨e0, e1, e2, e3⟩ := hag c
    refine ⟨h0.trans ?_, hr⟩
    refine (Cert.Reference6Ideal.Read.val_main_v20_eq _ _ _ _).trans ?_
    show Cert.Reference6Ideal.Read.val_main_v20 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) = Cert.Reference6Ideal.Read.val_main_v20 (F := Ideal) (a0 m c) (a1 m c) (a2 m c) (a3 m c)
    rw [e0, e1, e2, e3]

end Cert.Ada

end
-- ==== Proof.lean ====
/-
  The differential attention: its bounded call, block by block, against the plain softmax. The experts' feed-forward: its
  call, tile by tile, against the plain products over the selected tokens. The in-projection, the merge, the router and
  the modulation: their calls, tile by tile, against the reference's lines.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Pre_in_sample
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_projection
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_pool
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_router
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_conditioning
public import proofs.«01_k».proof.Proof.Algebraic
public import proofs.«01_k».proof.Proof.Experts.Algebraic
public import proofs.«01_k».proof.Proof.InProj.Algebraic
public import proofs.«01_k».proof.Proof.Merge.Algebraic
public import proofs.«01_k».proof.Proof.Router.Algebraic
public import proofs.«01_k».proof.Proof.Ada.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_in_sample.Gen.facts, Cert.Pre_finite_projection.Gen.facts,
  Cert.Pre_finite_pool.Gen.facts, Cert.Pre_finite_router.Gen.facts, Cert.Pre_finite_conditioning.Gen.facts, by
  exact ⟨Cert.Attention.frame_kernel, Cert.Attention.frame_ideal, Cert.Attention.frame_ideal_finite, Cert.Attention.frame_reference,
    Cert.Attention.frame_reference_finite, Cert.Experts.frame_kernel, Cert.Experts.frame_ideal, Cert.Experts.frame_ideal_sample,
    Cert.Experts.frame_reference, Cert.Experts.frame_reference_sample, Cert.InProj.frame_kernel, Cert.InProj.frame_ideal,
    Cert.InProj.frame_ideal_finite, Cert.InProj.frame_reference, Cert.InProj.frame_reference_finite, Cert.Merge.frame_kernel, Cert.Merge.frame_ideal,
    Cert.Merge.frame_ideal_finite, Cert.Merge.frame_reference, Cert.Merge.frame_reference_finite,
    Cert.Router.frame_kernel, Cert.Router.frame_ideal, Cert.Router.frame_ideal_finite, Cert.Router.frame_reference,
    Cert.Router.frame_reference_finite,
    Cert.Ada.frame_kernel, Cert.Ada.frame_ideal, Cert.Ada.frame_ideal_finite, Cert.Ada.frame_reference,
    Cert.Ada.frame_reference_finite, Cert.Attention.preserved, Cert.Attention.agree,
    Cert.Experts.preserved, Cert.Experts.agree, Cert.InProj.preserved, Cert.InProj.agree, Cert.Merge.preserved, Cert.Merge.agree,
    Cert.Router.preserved, Cert.Router.agree, Cert.Ada.preserved, Cert.Ada.agree⟩⟩

end Cert.Proof

end
